-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite3 [hPre_finite3 : Cert.Pre_finite3.Facts] (m : (ℓ : Loc Cert.GateIdeal.nD Cert.GateIdeal.τ Cert.GateIdeal.sig) → Buf (Elt Ideal) ℓ) : Prop :=
  ∀ c : Dev Cert.GateIdeal.nD,
    (Cert.Pre_finite3.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite3 [hPre_finite3 : Cert.Pre_finite3.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite3.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Lift (m : (ℓ : Loc Cert.Lift.nD Cert.Lift.τ Cert.Lift.sig) → Buf (Elt Bits) ℓ) : Prop :=
  True

def Pre_LiftIdeal (m : (ℓ : Loc Cert.LiftIdeal.nD Cert.LiftIdeal.τ Cert.LiftIdeal.sig) → Buf (Elt Ideal) ℓ) : Prop :=
  True

def Pre_LiftRefIdeal (m : (ℓ : Loc Cert.LiftRefIdeal.nD Cert.LiftRefIdeal.τ Cert.LiftRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_gate [hPre_finite_gate : Cert.Pre_finite_gate.Facts] (m : (ℓ : Loc Cert.MixIdeal.nD Cert.MixIdeal.τ Cert.MixIdeal.sig) → Buf (Elt Ideal) ℓ) : Prop :=
  ∀ c : Dev Cert.MixIdeal.nD,
    (Cert.Pre_finite_gate.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_gate [hPre_finite_gate : Cert.Pre_finite_gate.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_gate.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2))) = (fun _ => 1#1)

def Pre_GateFirst (m : (ℓ : Loc Cert.GateFirst.nD Cert.GateFirst.τ Cert.GateFirst.sig) → Buf (Elt Bits) ℓ) : Prop :=
  True

def Pre_GateFirstIdeal (m : (ℓ : Loc Cert.GateFirstIdeal.nD Cert.GateFirstIdeal.τ Cert.GateFirstIdeal.sig) → Buf (Elt Ideal) ℓ) : Prop :=
  True

def Pre_GateFirstIdeal_finite3_first [hPre_finite3_first : Cert.Pre_finite3_first.Facts] (m : (ℓ : Loc Cert.GateFirstIdeal.nD Cert.GateFirstIdeal.τ Cert.GateFirstIdeal.sig) → Buf (Elt Ideal) ℓ) : Prop :=
  ∀ c : Dev Cert.GateFirstIdeal.nD,
    (Cert.Pre_finite3_first.fn (F := Ideal) (m ((c.tc : Thread Cert.GateFirstIdeal.nD Cert.GateFirstIdeal.τ).loc Cert.GateFirstIdeal.main_arg0)) (m ((c.tc : Thread Cert.GateFirstIdeal.nD Cert.GateFirstIdeal.τ).loc Cert.GateFirstIdeal.main_arg1)) (m ((c.tc : Thread Cert.GateFirstIdeal.nD Cert.GateFirstIdeal.τ).loc Cert.GateFirstIdeal.main_arg2))) = (fun _ => 1#1)

def Pre_GateFirstRefIdeal (m : (ℓ : Loc Cert.GateFirstRefIdeal.nD Cert.GateFirstRefIdeal.τ Cert.GateFirstRefIdeal.sig) → Buf (Elt Ideal) ℓ) : Prop :=
  True

def Pre_GateFirstRefIdeal_finite3_first [hPre_finite3_first : Cert.Pre_finite3_first.Facts] (m : (ℓ : Loc Cert.GateFirstRefIdeal.nD Cert.GateFirstRefIdeal.τ Cert.GateFirstRefIdeal.sig) → Buf (Elt Ideal) ℓ) : Prop :=
  ∀ c : Dev Cert.GateFirstRefIdeal.nD,
    (Cert.Pre_finite3_first.fn (F := Ideal) (m ((c.tc : Thread Cert.GateFirstRefIdeal.nD Cert.GateFirstRefIdeal.τ).loc Cert.GateFirstRefIdeal.main_arg0)) (m ((c.tc : Thread Cert.GateFirstRefIdeal.nD Cert.GateFirstRefIdeal.τ).loc Cert.GateFirstRefIdeal.main_arg1)) (m ((c.tc : Thread Cert.GateFirstRefIdeal.nD Cert.GateFirstRefIdeal.τ).loc Cert.GateFirstRefIdeal.main_arg2))) = (fun _ => 1#1)

def Pre_DownFirst (m : (ℓ : Loc Cert.DownFirst.nD Cert.DownFirst.τ Cert.DownFirst.sig) → Buf (Elt Bits) ℓ) : Prop :=
  True

def Pre_DownFirstIdeal (m : (ℓ : Loc Cert.DownFirstIdeal.nD Cert.DownFirstIdeal.τ Cert.DownFirstIdeal.sig) → Buf (Elt Ideal) ℓ) : Prop :=
  True

def Pre_DownFirstRefIdeal (m : (ℓ : Loc Cert.DownFirstRefIdeal.nD Cert.DownFirstRefIdeal.τ Cert.DownFirstRefIdeal.sig) → Buf (Elt Ideal) ℓ) : Prop :=
  True

def Pre_NormFirst (m : (ℓ : Loc Cert.NormFirst.nD Cert.NormFirst.τ Cert.NormFirst.sig) → Buf (Elt Bits) ℓ) : Prop :=
  True

def Pre_NormFirstIdeal (m : (ℓ : Loc Cert.NormFirstIdeal.nD Cert.NormFirstIdeal.τ Cert.NormFirstIdeal.sig) → Buf (Elt Ideal) ℓ) : Prop :=
  True

def Pre_NormFirstRefIdeal (m : (ℓ : Loc Cert.NormFirstRefIdeal.nD Cert.NormFirstRefIdeal.τ Cert.NormFirstRefIdeal.sig) → Buf (Elt Ideal) ℓ) : Prop :=
  True

def Pre_UpFirst (m : (ℓ : Loc Cert.UpFirst.nD Cert.UpFirst.τ Cert.UpFirst.sig) → Buf (Elt Bits) ℓ) : Prop :=
  True

def Pre_UpFirstIdeal (m : (ℓ : Loc Cert.UpFirstIdeal.nD Cert.UpFirstIdeal.τ Cert.UpFirstIdeal.sig) → Buf (Elt Ideal) ℓ) : Prop :=
  True

def Pre_UpFirstRefIdeal (m : (ℓ : Loc Cert.UpFirstRefIdeal.nD Cert.UpFirstRefIdeal.τ Cert.UpFirstRefIdeal.sig) → Buf (Elt Ideal) ℓ) : Prop :=
  True

def Pre_LiftFirst (m : (ℓ : Loc Cert.LiftFirst.nD Cert.LiftFirst.τ Cert.LiftFirst.sig) → Buf (Elt Bits) ℓ) : Prop :=
  True

def Pre_LiftFirstIdeal (m : (ℓ : Loc Cert.LiftFirstIdeal.nD Cert.LiftFirstIdeal.τ Cert.LiftFirstIdeal.sig) → Buf (Elt Ideal) ℓ) : Prop :=
  True

def Pre_LiftFirstRefIdeal (m : (ℓ : Loc Cert.LiftFirstRefIdeal.nD Cert.LiftFirstRefIdeal.τ Cert.LiftFirstRefIdeal.sig) → Buf (Elt Ideal) ℓ) : Prop :=
  True

def Pre_MixFirst (m : (ℓ : Loc Cert.MixFirst.nD Cert.MixFirst.τ Cert.MixFirst.sig) → Buf (Elt Bits) ℓ) : Prop :=
  True

def Pre_MixFirstIdeal (m : (ℓ : Loc Cert.MixFirstIdeal.nD Cert.MixFirstIdeal.τ Cert.MixFirstIdeal.sig) → Buf (Elt Ideal) ℓ) : Prop :=
  True

def Pre_MixFirstIdeal_finite_gate_first [hPre_finite_gate_first : Cert.Pre_finite_gate_first.Facts] (m : (ℓ : Loc Cert.MixFirstIdeal.nD Cert.MixFirstIdeal.τ Cert.MixFirstIdeal.sig) → Buf (Elt Ideal) ℓ) : Prop :=
  ∀ c : Dev Cert.MixFirstIdeal.nD,
    (Cert.Pre_finite_gate_first.fn (F := Ideal) (m ((c.tc : Thread Cert.MixFirstIdeal.nD Cert.MixFirstIdeal.τ).loc Cert.MixFirstIdeal.main_arg0)) (m ((c.tc : Thread Cert.MixFirstIdeal.nD Cert.MixFirstIdeal.τ).loc Cert.MixFirstIdeal.main_arg1)) (m ((c.tc : Thread Cert.MixFirstIdeal.nD Cert.MixFirstIdeal.τ).loc Cert.MixFirstIdeal.main_arg2))) = (fun _ => 1#1)

def Pre_MixFirstRefIdeal (m : (ℓ : Loc Cert.MixFirstRefIdeal.nD Cert.MixFirstRefIdeal.τ Cert.MixFirstRefIdeal.sig) → Buf (Elt Ideal) ℓ) : Prop :=
  True

def Pre_MixFirstRefIdeal_finite_gate_first [hPre_finite_gate_first : Cert.Pre_finite_gate_first.Facts] (m : (ℓ : Loc Cert.MixFirstRefIdeal.nD Cert.MixFirstRefIdeal.τ Cert.MixFirstRefIdeal.sig) → Buf (Elt Ideal) ℓ) : Prop :=
  ∀ c : Dev Cert.MixFirstRefIdeal.nD,
    (Cert.Pre_finite_gate_first.fn (F := Ideal) (m ((c.tc : Thread Cert.MixFirstRefIdeal.nD Cert.MixFirstRefIdeal.τ).loc Cert.MixFirstRefIdeal.main_arg0)) (m ((c.tc : Thread Cert.MixFirstRefIdeal.nD Cert.MixFirstRefIdeal.τ).loc Cert.MixFirstRefIdeal.main_arg1)) (m ((c.tc : Thread Cert.MixFirstRefIdeal.nD Cert.MixFirstRefIdeal.τ).loc Cert.MixFirstRefIdeal.main_arg2))) = (fun _ => 1#1)

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_finite_scan [hPre_finite_scan : Cert.Pre_finite_scan.Facts] (m : (ℓ : Loc Cert.ScanIdeal.nD Cert.ScanIdeal.τ Cert.ScanIdeal.sig) → Buf (Elt Ideal) ℓ) : Prop :=
  ∀ c : Dev Cert.ScanIdeal.nD,
    (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3))) = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_finite_scan [hPre_finite_scan : Cert.Pre_finite_scan.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3))) = (fun _ => 1#1)

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Entry (m : (ℓ : Loc Cert.Entry.nD Cert.Entry.τ Cert.Entry.sig) → Buf (Elt Bits) ℓ) : Prop :=
  True

def Pre_EntryIdeal (m : (ℓ : Loc Cert.EntryIdeal.nD Cert.EntryIdeal.τ Cert.EntryIdeal.sig) → Buf (Elt Ideal) ℓ) : Prop :=
  True

def Pre_EntryRefIdeal (m : (ℓ : Loc Cert.EntryRefIdeal.nD Cert.EntryRefIdeal.τ Cert.EntryRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsRefIdeal (m : (ℓ : Loc Cert.HeadsRefIdeal.nD Cert.HeadsRefIdeal.τ Cert.HeadsRefIdeal.sig) → Buf (Elt Ideal) ℓ) : Prop :=
  True

def Pre_Inlet (m : (ℓ : Loc Cert.Inlet.nD Cert.Inlet.τ Cert.Inlet.sig) → Buf (Elt Bits) ℓ) : Prop :=
  True

def Pre_InletIdeal (m : (ℓ : Loc Cert.InletIdeal.nD Cert.InletIdeal.τ Cert.InletIdeal.sig) → Buf (Elt Ideal) ℓ) : Prop :=
  True

def Pre_InletRefIdeal (m : (ℓ : Loc Cert.InletRefIdeal.nD Cert.InletRefIdeal.τ Cert.InletRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateIdeal_pre_finite3 [hGateIdeal : Cert.GateIdeal.Facts] [hPre_finite3 : Cert.Pre_finite3.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite3 m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GateRefIdeal_pre_finite3 [hGateRefIdeal : Cert.GateRefIdeal.Facts] [hPre_finite3 : Cert.Pre_finite3.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite3 m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Lift [hLift : Cert.Lift.Facts] : Prop :=
  ∀ (m : (ℓ : Loc Cert.Lift.nD Cert.Lift.τ Cert.Lift.sig) → Buf (Elt Bits) ℓ) (g : Dev Cert.Lift.nD → PrngReg), Pre_Lift m →
    θ_run (Cert.Lift.defs (F := Bits)) (onTc (τ := Cert.Lift.τ) (Cert.Lift.main (F := Bits))) ⟨m, fun _ => 0, g⟩ (fun r => (∀ c : Dev Cert.Lift.nD,
      r.2.mem ((c.tc : Thread Cert.Lift.nD Cert.Lift.τ).loc Cert.Lift.main_arg0) = m ((c.tc : Thread Cert.Lift.nD Cert.Lift.τ).loc Cert.Lift.main_arg0)
      ∧ r.2.mem ((c.tc : Thread Cert.Lift.nD Cert.Lift.τ).loc Cert.Lift.main_arg1) = m ((c.tc : Thread Cert.Lift.nD Cert.Lift.τ).loc Cert.Lift.main_arg1)
      ∧ r.2.mem ((c.tc : Thread Cert.Lift.nD Cert.Lift.τ).loc Cert.Lift.main_arg2) = m ((c.tc : Thread Cert.Lift.nD Cert.Lift.τ).loc Cert.Lift.main_arg2))
      ∧ r.2.sem = fun _ => 0)

def quiescent_LiftIdeal [hLiftIdeal : Cert.LiftIdeal.Facts] : Prop :=
  ∀ (m : (ℓ : Loc Cert.LiftIdeal.nD Cert.LiftIdeal.τ Cert.LiftIdeal.sig) → Buf (Elt Ideal) ℓ) (g : Dev Cert.LiftIdeal.nD → PrngReg), Pre_LiftIdeal m →
    θ_run (Cert.LiftIdeal.defs (F := Ideal)) (onTc (τ := Cert.LiftIdeal.τ) (Cert.LiftIdeal.main (F := Ideal))) ⟨m, fun _ => 0, g⟩ (fun r => (∀ c : Dev Cert.LiftIdeal.nD,
      r.2.mem ((c.tc : Thread Cert.LiftIdeal.nD Cert.LiftIdeal.τ).loc Cert.LiftIdeal.main_arg0) = m ((c.tc : Thread Cert.LiftIdeal.nD Cert.LiftIdeal.τ).loc Cert.LiftIdeal.main_arg0)
      ∧ r.2.mem ((c.tc : Thread Cert.LiftIdeal.nD Cert.LiftIdeal.τ).loc Cert.LiftIdeal.main_arg1) = m ((c.tc : Thread Cert.LiftIdeal.nD Cert.LiftIdeal.τ).loc Cert.LiftIdeal.main_arg1)
      ∧ r.2.mem ((c.tc : Thread Cert.LiftIdeal.nD Cert.LiftIdeal.τ).loc Cert.LiftIdeal.main_arg2) = m ((c.tc : Thread Cert.LiftIdeal.nD Cert.LiftIdeal.τ).loc Cert.LiftIdeal.main_arg2))
      ∧ r.2.sem = fun _ => 0)

def quiescent_LiftRefIdeal [hLiftRefIdeal : Cert.LiftRefIdeal.Facts] : Prop :=
  ∀ (m : (ℓ : Loc Cert.LiftRefIdeal.nD Cert.LiftRefIdeal.τ Cert.LiftRefIdeal.sig) → Buf (Elt Ideal) ℓ) (g : Dev Cert.LiftRefIdeal.nD → PrngReg), Pre_LiftRefIdeal m →
    θ_run (Cert.LiftRefIdeal.defs (F := Ideal)) (onTc (τ := Cert.LiftRefIdeal.τ) (Cert.LiftRefIdeal.main (F := Ideal))) ⟨m, fun _ => 0, g⟩ (fun r => (∀ c : Dev Cert.LiftRefIdeal.nD,
      r.2.mem ((c.tc : Thread Cert.LiftRefIdeal.nD Cert.LiftRefIdeal.τ).loc Cert.LiftRefIdeal.main_arg0) = m ((c.tc : Thread Cert.LiftRefIdeal.nD Cert.LiftRefIdeal.τ).loc Cert.LiftRefIdeal.main_arg0)
      ∧ r.2.mem ((c.tc : Thread Cert.LiftRefIdeal.nD Cert.LiftRefIdeal.τ).loc Cert.LiftRefIdeal.main_arg1) = m ((c.tc : Thread Cert.LiftRefIdeal.nD Cert.LiftRefIdeal.τ).loc Cert.LiftRefIdeal.main_arg1)
      ∧ r.2.mem ((c.tc : Thread Cert.LiftRefIdeal.nD Cert.LiftRefIdeal.τ).loc Cert.LiftRefIdeal.main_arg2) = m ((c.tc : Thread Cert.LiftRefIdeal.nD Cert.LiftRefIdeal.τ).loc Cert.LiftRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixIdeal_pre_finite_gate [hMixIdeal : Cert.MixIdeal.Facts] [hPre_finite_gate : Cert.Pre_finite_gate.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_gate m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def quiescent_MixRefIdeal_pre_finite_gate [hMixRefIdeal : Cert.MixRefIdeal.Facts] [hPre_finite_gate : Cert.Pre_finite_gate.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_gate m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def quiescent_GateFirst [hGateFirst : Cert.GateFirst.Facts] : Prop :=
  ∀ (m : (ℓ : Loc Cert.GateFirst.nD Cert.GateFirst.τ Cert.GateFirst.sig) → Buf (Elt Bits) ℓ) (g : Dev Cert.GateFirst.nD → PrngReg), Pre_GateFirst m →
    θ_run (Cert.GateFirst.defs (F := Bits)) (onTc (τ := Cert.GateFirst.τ) (Cert.GateFirst.main (F := Bits))) ⟨m, fun _ => 0, g⟩ (fun r => (∀ c : Dev Cert.GateFirst.nD,
      r.2.mem ((c.tc : Thread Cert.GateFirst.nD Cert.GateFirst.τ).loc Cert.GateFirst.main_arg0) = m ((c.tc : Thread Cert.GateFirst.nD Cert.GateFirst.τ).loc Cert.GateFirst.main_arg0)
      ∧ r.2.mem ((c.tc : Thread Cert.GateFirst.nD Cert.GateFirst.τ).loc Cert.GateFirst.main_arg1) = m ((c.tc : Thread Cert.GateFirst.nD Cert.GateFirst.τ).loc Cert.GateFirst.main_arg1)
      ∧ r.2.mem ((c.tc : Thread Cert.GateFirst.nD Cert.GateFirst.τ).loc Cert.GateFirst.main_arg2) = m ((c.tc : Thread Cert.GateFirst.nD Cert.GateFirst.τ).loc Cert.GateFirst.main_arg2))
      ∧ r.2.sem = fun _ => 0)

def quiescent_GateFirstIdeal [hGateFirstIdeal : Cert.GateFirstIdeal.Facts] : Prop :=
  ∀ (m : (ℓ : Loc Cert.GateFirstIdeal.nD Cert.GateFirstIdeal.τ Cert.GateFirstIdeal.sig) → Buf (Elt Ideal) ℓ) (g : Dev Cert.GateFirstIdeal.nD → PrngReg), Pre_GateFirstIdeal m →
    θ_run (Cert.GateFirstIdeal.defs (F := Ideal)) (onTc (τ := Cert.GateFirstIdeal.τ) (Cert.GateFirstIdeal.main (F := Ideal))) ⟨m, fun _ => 0, g⟩ (fun r => (∀ c : Dev Cert.GateFirstIdeal.nD,
      r.2.mem ((c.tc : Thread Cert.GateFirstIdeal.nD Cert.GateFirstIdeal.τ).loc Cert.GateFirstIdeal.main_arg0) = m ((c.tc : Thread Cert.GateFirstIdeal.nD Cert.GateFirstIdeal.τ).loc Cert.GateFirstIdeal.main_arg0)
      ∧ r.2.mem ((c.tc : Thread Cert.GateFirstIdeal.nD Cert.GateFirstIdeal.τ).loc Cert.GateFirstIdeal.main_arg1) = m ((c.tc : Thread Cert.GateFirstIdeal.nD Cert.GateFirstIdeal.τ).loc Cert.GateFirstIdeal.main_arg1)
      ∧ r.2.mem ((c.tc : Thread Cert.GateFirstIdeal.nD Cert.GateFirstIdeal.τ).loc Cert.GateFirstIdeal.main_arg2) = m ((c.tc : Thread Cert.GateFirstIdeal.nD Cert.GateFirstIdeal.τ).loc Cert.GateFirstIdeal.main_arg2))
      ∧ r.2.sem = fun _ => 0)

def quiescent_GateFirstIdeal_pre_finite3_first [hGateFirstIdeal : Cert.GateFirstIdeal.Facts] [hPre_finite3_first : Cert.Pre_finite3_first.Facts] : Prop :=
  ∀ (m : (ℓ : Loc Cert.GateFirstIdeal.nD Cert.GateFirstIdeal.τ Cert.GateFirstIdeal.sig) → Buf (Elt Ideal) ℓ) (g : Dev Cert.GateFirstIdeal.nD → PrngReg), Pre_GateFirstIdeal_finite3_first m →
    θ_run (Cert.GateFirstIdeal.defs (F := Ideal)) (onTc (τ := Cert.GateFirstIdeal.τ) (Cert.GateFirstIdeal.main (F := Ideal))) ⟨m, fun _ => 0, g⟩ (fun r => (∀ c : Dev Cert.GateFirstIdeal.nD,
      r.2.mem ((c.tc : Thread Cert.GateFirstIdeal.nD Cert.GateFirstIdeal.τ).loc Cert.GateFirstIdeal.main_arg0) = m ((c.tc : Thread Cert.GateFirstIdeal.nD Cert.GateFirstIdeal.τ).loc Cert.GateFirstIdeal.main_arg0)
      ∧ r.2.mem ((c.tc : Thread Cert.GateFirstIdeal.nD Cert.GateFirstIdeal.τ).loc Cert.GateFirstIdeal.main_arg1) = m ((c.tc : Thread Cert.GateFirstIdeal.nD Cert.GateFirstIdeal.τ).loc Cert.GateFirstIdeal.main_arg1)
      ∧ r.2.mem ((c.tc : Thread Cert.GateFirstIdeal.nD Cert.GateFirstIdeal.τ).loc Cert.GateFirstIdeal.main_arg2) = m ((c.tc : Thread Cert.GateFirstIdeal.nD Cert.GateFirstIdeal.τ).loc Cert.GateFirstIdeal.main_arg2))
      ∧ r.2.sem = fun _ => 0)

def quiescent_GateFirstRefIdeal [hGateFirstRefIdeal : Cert.GateFirstRefIdeal.Facts] : Prop :=
  ∀ (m : (ℓ : Loc Cert.GateFirstRefIdeal.nD Cert.GateFirstRefIdeal.τ Cert.GateFirstRefIdeal.sig) → Buf (Elt Ideal) ℓ) (g : Dev Cert.GateFirstRefIdeal.nD → PrngReg), Pre_GateFirstRefIdeal m →
    θ_run (Cert.GateFirstRefIdeal.defs (F := Ideal)) (onTc (τ := Cert.GateFirstRefIdeal.τ) (Cert.GateFirstRefIdeal.main (F := Ideal))) ⟨m, fun _ => 0, g⟩ (fun r => (∀ c : Dev Cert.GateFirstRefIdeal.nD,
      r.2.mem ((c.tc : Thread Cert.GateFirstRefIdeal.nD Cert.GateFirstRefIdeal.τ).loc Cert.GateFirstRefIdeal.main_arg0) = m ((c.tc : Thread Cert.GateFirstRefIdeal.nD Cert.GateFirstRefIdeal.τ).loc Cert.GateFirstRefIdeal.main_arg0)
      ∧ r.2.mem ((c.tc : Thread Cert.GateFirstRefIdeal.nD Cert.GateFirstRefIdeal.τ).loc Cert.GateFirstRefIdeal.main_arg1) = m ((c.tc : Thread Cert.GateFirstRefIdeal.nD Cert.GateFirstRefIdeal.τ).loc Cert.GateFirstRefIdeal.main_arg1)
      ∧ r.2.mem ((c.tc : Thread Cert.GateFirstRefIdeal.nD Cert.GateFirstRefIdeal.τ).loc Cert.GateFirstRefIdeal.main_arg2) = m ((c.tc : Thread Cert.GateFirstRefIdeal.nD Cert.GateFirstRefIdeal.τ).loc Cert.GateFirstRefIdeal.main_arg2))
      ∧ r.2.sem = fun _ => 0)

def quiescent_GateFirstRefIdeal_pre_finite3_first [hGateFirstRefIdeal : Cert.GateFirstRefIdeal.Facts] [hPre_finite3_first : Cert.Pre_finite3_first.Facts] : Prop :=
  ∀ (m : (ℓ : Loc Cert.GateFirstRefIdeal.nD Cert.GateFirstRefIdeal.τ Cert.GateFirstRefIdeal.sig) → Buf (Elt Ideal) ℓ) (g : Dev Cert.GateFirstRefIdeal.nD → PrngReg), Pre_GateFirstRefIdeal_finite3_first m →
    θ_run (Cert.GateFirstRefIdeal.defs (F := Ideal)) (onTc (τ := Cert.GateFirstRefIdeal.τ) (Cert.GateFirstRefIdeal.main (F := Ideal))) ⟨m, fun _ => 0, g⟩ (fun r => (∀ c : Dev Cert.GateFirstRefIdeal.nD,
      r.2.mem ((c.tc : Thread Cert.GateFirstRefIdeal.nD Cert.GateFirstRefIdeal.τ).loc Cert.GateFirstRefIdeal.main_arg0) = m ((c.tc : Thread Cert.GateFirstRefIdeal.nD Cert.GateFirstRefIdeal.τ).loc Cert.GateFirstRefIdeal.main_arg0)
      ∧ r.2.mem ((c.tc : Thread Cert.GateFirstRefIdeal.nD Cert.GateFirstRefIdeal.τ).loc Cert.GateFirstRefIdeal.main_arg1) = m ((c.tc : Thread Cert.GateFirstRefIdeal.nD Cert.GateFirstRefIdeal.τ).loc Cert.GateFirstRefIdeal.main_arg1)
      ∧ r.2.mem ((c.tc : Thread Cert.GateFirstRefIdeal.nD Cert.GateFirstRefIdeal.τ).loc Cert.GateFirstRefIdeal.main_arg2) = m ((c.tc : Thread Cert.GateFirstRefIdeal.nD Cert.GateFirstRefIdeal.τ).loc Cert.GateFirstRefIdeal.main_arg2))
      ∧ r.2.sem = fun _ => 0)

def quiescent_DownFirst [hDownFirst : Cert.DownFirst.Facts] : Prop :=
  ∀ (m : (ℓ : Loc Cert.DownFirst.nD Cert.DownFirst.τ Cert.DownFirst.sig) → Buf (Elt Bits) ℓ) (g : Dev Cert.DownFirst.nD → PrngReg), Pre_DownFirst m →
    θ_run (Cert.DownFirst.defs (F := Bits)) (onTc (τ := Cert.DownFirst.τ) (Cert.DownFirst.main (F := Bits))) ⟨m, fun _ => 0, g⟩ (fun r => (∀ c : Dev Cert.DownFirst.nD,
      r.2.mem ((c.tc : Thread Cert.DownFirst.nD Cert.DownFirst.τ).loc Cert.DownFirst.main_arg0) = m ((c.tc : Thread Cert.DownFirst.nD Cert.DownFirst.τ).loc Cert.DownFirst.main_arg0)
      ∧ r.2.mem ((c.tc : Thread Cert.DownFirst.nD Cert.DownFirst.τ).loc Cert.DownFirst.main_arg1) = m ((c.tc : Thread Cert.DownFirst.nD Cert.DownFirst.τ).loc Cert.DownFirst.main_arg1)
      ∧ r.2.mem ((c.tc : Thread Cert.DownFirst.nD Cert.DownFirst.τ).loc Cert.DownFirst.main_arg2) = m ((c.tc : Thread Cert.DownFirst.nD Cert.DownFirst.τ).loc Cert.DownFirst.main_arg2))
      ∧ r.2.sem = fun _ => 0)

def quiescent_DownFirstIdeal [hDownFirstIdeal : Cert.DownFirstIdeal.Facts] : Prop :=
  ∀ (m : (ℓ : Loc Cert.DownFirstIdeal.nD Cert.DownFirstIdeal.τ Cert.DownFirstIdeal.sig) → Buf (Elt Ideal) ℓ) (g : Dev Cert.DownFirstIdeal.nD → PrngReg), Pre_DownFirstIdeal m →
    θ_run (Cert.DownFirstIdeal.defs (F := Ideal)) (onTc (τ := Cert.DownFirstIdeal.τ) (Cert.DownFirstIdeal.main (F := Ideal))) ⟨m, fun _ => 0, g⟩ (fun r => (∀ c : Dev Cert.DownFirstIdeal.nD,
      r.2.mem ((c.tc : Thread Cert.DownFirstIdeal.nD Cert.DownFirstIdeal.τ).loc Cert.DownFirstIdeal.main_arg0) = m ((c.tc : Thread Cert.DownFirstIdeal.nD Cert.DownFirstIdeal.τ).loc Cert.DownFirstIdeal.main_arg0)
      ∧ r.2.mem ((c.tc : Thread Cert.DownFirstIdeal.nD Cert.DownFirstIdeal.τ).loc Cert.DownFirstIdeal.main_arg1) = m ((c.tc : Thread Cert.DownFirstIdeal.nD Cert.DownFirstIdeal.τ).loc Cert.DownFirstIdeal.main_arg1)
      ∧ r.2.mem ((c.tc : Thread Cert.DownFirstIdeal.nD Cert.DownFirstIdeal.τ).loc Cert.DownFirstIdeal.main_arg2) = m ((c.tc : Thread Cert.DownFirstIdeal.nD Cert.DownFirstIdeal.τ).loc Cert.DownFirstIdeal.main_arg2))
      ∧ r.2.sem = fun _ => 0)

def quiescent_DownFirstRefIdeal [hDownFirstRefIdeal : Cert.DownFirstRefIdeal.Facts] : Prop :=
  ∀ (m : (ℓ : Loc Cert.DownFirstRefIdeal.nD Cert.DownFirstRefIdeal.τ Cert.DownFirstRefIdeal.sig) → Buf (Elt Ideal) ℓ) (g : Dev Cert.DownFirstRefIdeal.nD → PrngReg), Pre_DownFirstRefIdeal m →
    θ_run (Cert.DownFirstRefIdeal.defs (F := Ideal)) (onTc (τ := Cert.DownFirstRefIdeal.τ) (Cert.DownFirstRefIdeal.main (F := Ideal))) ⟨m, fun _ => 0, g⟩ (fun r => (∀ c : Dev Cert.DownFirstRefIdeal.nD,
      r.2.mem ((c.tc : Thread Cert.DownFirstRefIdeal.nD Cert.DownFirstRefIdeal.τ).loc Cert.DownFirstRefIdeal.main_arg0) = m ((c.tc : Thread Cert.DownFirstRefIdeal.nD Cert.DownFirstRefIdeal.τ).loc Cert.DownFirstRefIdeal.main_arg0)
      ∧ r.2.mem ((c.tc : Thread Cert.DownFirstRefIdeal.nD Cert.DownFirstRefIdeal.τ).loc Cert.DownFirstRefIdeal.main_arg1) = m ((c.tc : Thread Cert.DownFirstRefIdeal.nD Cert.DownFirstRefIdeal.τ).loc Cert.DownFirstRefIdeal.main_arg1)
      ∧ r.2.mem ((c.tc : Thread Cert.DownFirstRefIdeal.nD Cert.DownFirstRefIdeal.τ).loc Cert.DownFirstRefIdeal.main_arg2) = m ((c.tc : Thread Cert.DownFirstRefIdeal.nD Cert.DownFirstRefIdeal.τ).loc Cert.DownFirstRefIdeal.main_arg2))
      ∧ r.2.sem = fun _ => 0)

def quiescent_NormFirst [hNormFirst : Cert.NormFirst.Facts] : Prop :=
  ∀ (m : (ℓ : Loc Cert.NormFirst.nD Cert.NormFirst.τ Cert.NormFirst.sig) → Buf (Elt Bits) ℓ) (g : Dev Cert.NormFirst.nD → PrngReg), Pre_NormFirst m →
    θ_run (Cert.NormFirst.defs (F := Bits)) (onTc (τ := Cert.NormFirst.τ) (Cert.NormFirst.main (F := Bits))) ⟨m, fun _ => 0, g⟩ (fun r => (∀ c : Dev Cert.NormFirst.nD,
      r.2.mem ((c.tc : Thread Cert.NormFirst.nD Cert.NormFirst.τ).loc Cert.NormFirst.main_arg0) = m ((c.tc : Thread Cert.NormFirst.nD Cert.NormFirst.τ).loc Cert.NormFirst.main_arg0)
      ∧ r.2.mem ((c.tc : Thread Cert.NormFirst.nD Cert.NormFirst.τ).loc Cert.NormFirst.main_arg1) = m ((c.tc : Thread Cert.NormFirst.nD Cert.NormFirst.τ).loc Cert.NormFirst.main_arg1)
      ∧ r.2.mem ((c.tc : Thread Cert.NormFirst.nD Cert.NormFirst.τ).loc Cert.NormFirst.main_arg2) = m ((c.tc : Thread Cert.NormFirst.nD Cert.NormFirst.τ).loc Cert.NormFirst.main_arg2)
      ∧ r.2.mem ((c.tc : Thread Cert.NormFirst.nD Cert.NormFirst.τ).loc Cert.NormFirst.main_arg3) = m ((c.tc : Thread Cert.NormFirst.nD Cert.NormFirst.τ).loc Cert.NormFirst.main_arg3)
      ∧ r.2.mem ((c.tc : Thread Cert.NormFirst.nD Cert.NormFirst.τ).loc Cert.NormFirst.main_arg4) = m ((c.tc : Thread Cert.NormFirst.nD Cert.NormFirst.τ).loc Cert.NormFirst.main_arg4))
      ∧ r.2.sem = fun _ => 0)

def quiescent_NormFirstIdeal [hNormFirstIdeal : Cert.NormFirstIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
      ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
      ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3)
      ∧ r.2.mem ((c.tc : Thread Cert.NormFirstIdeal.nD Cert.NormFirstIdeal.τ).loc Cert.NormFirstIdeal.main_arg4) = m ((c.tc : Thread Cert.NormFirstIdeal.nD Cert.NormFirstIdeal.τ).loc Cert.NormFirstIdeal.main_arg4))
      ∧ r.2.sem = fun _ => 0)

def quiescent_NormFirstRefIdeal [hNormFirstRefIdeal : Cert.NormFirstRefIdeal.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1)
      ∧ r.2.mem ((c.tc : Thread Cert.NormFirstRefIdeal.nD Cert.NormFirstRefIdeal.τ).loc Cert.NormFirstRefIdeal.main_arg2) = m ((c.tc : Thread Cert.NormFirstRefIdeal.nD Cert.NormFirstRefIdeal.τ).loc Cert.NormFirstRefIdeal.main_arg2)
      ∧ r.2.mem ((c.tc : Thread Cert.NormFirstRefIdeal.nD Cert.NormFirstRefIdeal.τ).loc Cert.NormFirstRefIdeal.main_arg3) = m ((c.tc : Thread Cert.NormFirstRefIdeal.nD Cert.NormFirstRefIdeal.τ).loc Cert.NormFirstRefIdeal.main_arg3)
      ∧ r.2.mem ((c.tc : Thread Cert.NormFirstRefIdeal.nD Cert.NormFirstRefIdeal.τ).loc Cert.NormFirstRefIdeal.main_arg4) = m ((c.tc : Thread Cert.NormFirstRefIdeal.nD Cert.NormFirstRefIdeal.τ).loc Cert.NormFirstRefIdeal.main_arg4))
      ∧ r.2.sem = fun _ => 0)

def quiescent_UpFirst [hUpFirst : Cert.UpFirst.Facts] : Prop :=
  ∀ (m : (ℓ : Loc Cert.UpFirst.nD Cert.UpFirst.τ Cert.UpFirst.sig) → Buf (Elt Bits) ℓ) (g : Dev Cert.UpFirst.nD → PrngReg), Pre_UpFirst m →
    θ_run (Cert.UpFirst.defs (F := Bits)) (onTc (τ := Cert.UpFirst.τ) (Cert.UpFirst.main (F := Bits))) ⟨m, fun _ => 0, g⟩ (fun r => (∀ c : Dev Cert.UpFirst.nD,
      r.2.mem ((c.tc : Thread Cert.UpFirst.nD Cert.UpFirst.τ).loc Cert.UpFirst.main_arg0) = m ((c.tc : Thread Cert.UpFirst.nD Cert.UpFirst.τ).loc Cert.UpFirst.main_arg0)
      ∧ r.2.mem ((c.tc : Thread Cert.UpFirst.nD Cert.UpFirst.τ).loc Cert.UpFirst.main_arg1) = m ((c.tc : Thread Cert.UpFirst.nD Cert.UpFirst.τ).loc Cert.UpFirst.main_arg1)
      ∧ r.2.mem ((c.tc : Thread Cert.UpFirst.nD Cert.UpFirst.τ).loc Cert.UpFirst.main_arg2) = m ((c.tc : Thread Cert.UpFirst.nD Cert.UpFirst.τ).loc Cert.UpFirst.main_arg2)
      ∧ r.2.mem ((c.tc : Thread Cert.UpFirst.nD Cert.UpFirst.τ).loc Cert.UpFirst.main_arg3) = m ((c.tc : Thread Cert.UpFirst.nD Cert.UpFirst.τ).loc Cert.UpFirst.main_arg3))
      ∧ r.2.sem = fun _ => 0)

def quiescent_UpFirstIdeal [hUpFirstIdeal : Cert.UpFirstIdeal.Facts] : Prop :=
  ∀ (m : (ℓ : Loc Cert.UpFirstIdeal.nD Cert.UpFirstIdeal.τ Cert.UpFirstIdeal.sig) → Buf (Elt Ideal) ℓ) (g : Dev Cert.UpFirstIdeal.nD → PrngReg), Pre_UpFirstIdeal m →
    θ_run (Cert.UpFirstIdeal.defs (F := Ideal)) (onTc (τ := Cert.UpFirstIdeal.τ) (Cert.UpFirstIdeal.main (F := Ideal))) ⟨m, fun _ => 0, g⟩ (fun r => (∀ c : Dev Cert.UpFirstIdeal.nD,
      r.2.mem ((c.tc : Thread Cert.UpFirstIdeal.nD Cert.UpFirstIdeal.τ).loc Cert.UpFirstIdeal.main_arg0) = m ((c.tc : Thread Cert.UpFirstIdeal.nD Cert.UpFirstIdeal.τ).loc Cert.UpFirstIdeal.main_arg0)
      ∧ r.2.mem ((c.tc : Thread Cert.UpFirstIdeal.nD Cert.UpFirstIdeal.τ).loc Cert.UpFirstIdeal.main_arg1) = m ((c.tc : Thread Cert.UpFirstIdeal.nD Cert.UpFirstIdeal.τ).loc Cert.UpFirstIdeal.main_arg1)
      ∧ r.2.mem ((c.tc : Thread Cert.UpFirstIdeal.nD Cert.UpFirstIdeal.τ).loc Cert.UpFirstIdeal.main_arg2) = m ((c.tc : Thread Cert.UpFirstIdeal.nD Cert.UpFirstIdeal.τ).loc Cert.UpFirstIdeal.main_arg2)
      ∧ r.2.mem ((c.tc : Thread Cert.UpFirstIdeal.nD Cert.UpFirstIdeal.τ).loc Cert.UpFirstIdeal.main_arg3) = m ((c.tc : Thread Cert.UpFirstIdeal.nD Cert.UpFirstIdeal.τ).loc Cert.UpFirstIdeal.main_arg3))
      ∧ r.2.sem = fun _ => 0)

def quiescent_UpFirstRefIdeal [hUpFirstRefIdeal : Cert.UpFirstRefIdeal.Facts] : Prop :=
  ∀ (m : (ℓ : Loc Cert.UpFirstRefIdeal.nD Cert.UpFirstRefIdeal.τ Cert.UpFirstRefIdeal.sig) → Buf (Elt Ideal) ℓ) (g : Dev Cert.UpFirstRefIdeal.nD → PrngReg), Pre_UpFirstRefIdeal m →
    θ_run (Cert.UpFirstRefIdeal.defs (F := Ideal)) (onTc (τ := Cert.UpFirstRefIdeal.τ) (Cert.UpFirstRefIdeal.main (F := Ideal))) ⟨m, fun _ => 0, g⟩ (fun r => (∀ c : Dev Cert.UpFirstRefIdeal.nD,
      r.2.mem ((c.tc : Thread Cert.UpFirstRefIdeal.nD Cert.UpFirstRefIdeal.τ).loc Cert.UpFirstRefIdeal.main_arg0) = m ((c.tc : Thread Cert.UpFirstRefIdeal.nD Cert.UpFirstRefIdeal.τ).loc Cert.UpFirstRefIdeal.main_arg0)
      ∧ r.2.mem ((c.tc : Thread Cert.UpFirstRefIdeal.nD Cert.UpFirstRefIdeal.τ).loc Cert.UpFirstRefIdeal.main_arg1) = m ((c.tc : Thread Cert.UpFirstRefIdeal.nD Cert.UpFirstRefIdeal.τ).loc Cert.UpFirstRefIdeal.main_arg1)
      ∧ r.2.mem ((c.tc : Thread Cert.UpFirstRefIdeal.nD Cert.UpFirstRefIdeal.τ).loc Cert.UpFirstRefIdeal.main_arg2) = m ((c.tc : Thread Cert.UpFirstRefIdeal.nD Cert.UpFirstRefIdeal.τ).loc Cert.UpFirstRefIdeal.main_arg2)
      ∧ r.2.mem ((c.tc : Thread Cert.UpFirstRefIdeal.nD Cert.UpFirstRefIdeal.τ).loc Cert.UpFirstRefIdeal.main_arg3) = m ((c.tc : Thread Cert.UpFirstRefIdeal.nD Cert.UpFirstRefIdeal.τ).loc Cert.UpFirstRefIdeal.main_arg3))
      ∧ r.2.sem = fun _ => 0)

def quiescent_LiftFirst [hLiftFirst : Cert.LiftFirst.Facts] : Prop :=
  ∀ (m : (ℓ : Loc Cert.LiftFirst.nD Cert.LiftFirst.τ Cert.LiftFirst.sig) → Buf (Elt Bits) ℓ) (g : Dev Cert.LiftFirst.nD → PrngReg), Pre_LiftFirst m →
    θ_run (Cert.LiftFirst.defs (F := Bits)) (onTc (τ := Cert.LiftFirst.τ) (Cert.LiftFirst.main (F := Bits))) ⟨m, fun _ => 0, g⟩ (fun r => (∀ c : Dev Cert.LiftFirst.nD,
      r.2.mem ((c.tc : Thread Cert.LiftFirst.nD Cert.LiftFirst.τ).loc Cert.LiftFirst.main_arg0) = m ((c.tc : Thread Cert.LiftFirst.nD Cert.LiftFirst.τ).loc Cert.LiftFirst.main_arg0)
      ∧ r.2.mem ((c.tc : Thread Cert.LiftFirst.nD Cert.LiftFirst.τ).loc Cert.LiftFirst.main_arg1) = m ((c.tc : Thread Cert.LiftFirst.nD Cert.LiftFirst.τ).loc Cert.LiftFirst.main_arg1)
      ∧ r.2.mem ((c.tc : Thread Cert.LiftFirst.nD Cert.LiftFirst.τ).loc Cert.LiftFirst.main_arg2) = m ((c.tc : Thread Cert.LiftFirst.nD Cert.LiftFirst.τ).loc Cert.LiftFirst.main_arg2))
      ∧ r.2.sem = fun _ => 0)

def quiescent_LiftFirstIdeal [hLiftFirstIdeal : Cert.LiftFirstIdeal.Facts] : Prop :=
  ∀ (m : (ℓ : Loc Cert.LiftFirstIdeal.nD Cert.LiftFirstIdeal.τ Cert.LiftFirstIdeal.sig) → Buf (Elt Ideal) ℓ) (g : Dev Cert.LiftFirstIdeal.nD → PrngReg), Pre_LiftFirstIdeal m →
    θ_run (Cert.LiftFirstIdeal.defs (F := Ideal)) (onTc (τ := Cert.LiftFirstIdeal.τ) (Cert.LiftFirstIdeal.main (F := Ideal))) ⟨m, fun _ => 0, g⟩ (fun r => (∀ c : Dev Cert.LiftFirstIdeal.nD,
      r.2.mem ((c.tc : Thread Cert.LiftFirstIdeal.nD Cert.LiftFirstIdeal.τ).loc Cert.LiftFirstIdeal.main_arg0) = m ((c.tc : Thread Cert.LiftFirstIdeal.nD Cert.LiftFirstIdeal.τ).loc Cert.LiftFirstIdeal.main_arg0)
      ∧ r.2.mem ((c.tc : Thread Cert.LiftFirstIdeal.nD Cert.LiftFirstIdeal.τ).loc Cert.LiftFirstIdeal.main_arg1) = m ((c.tc : Thread Cert.LiftFirstIdeal.nD Cert.LiftFirstIdeal.τ).loc Cert.LiftFirstIdeal.main_arg1)
      ∧ r.2.mem ((c.tc : Thread Cert.LiftFirstIdeal.nD Cert.LiftFirstIdeal.τ).loc Cert.LiftFirstIdeal.main_arg2) = m ((c.tc : Thread Cert.LiftFirstIdeal.nD Cert.LiftFirstIdeal.τ).loc Cert.LiftFirstIdeal.main_arg2))
      ∧ r.2.sem = fun _ => 0)

def quiescent_LiftFirstRefIdeal [hLiftFirstRefIdeal : Cert.LiftFirstRefIdeal.Facts] : Prop :=
  ∀ (m : (ℓ : Loc Cert.LiftFirstRefIdeal.nD Cert.LiftFirstRefIdeal.τ Cert.LiftFirstRefIdeal.sig) → Buf (Elt Ideal) ℓ) (g : Dev Cert.LiftFirstRefIdeal.nD → PrngReg), Pre_LiftFirstRefIdeal m →
    θ_run (Cert.LiftFirstRefIdeal.defs (F := Ideal)) (onTc (τ := Cert.LiftFirstRefIdeal.τ) (Cert.LiftFirstRefIdeal.main (F := Ideal))) ⟨m, fun _ => 0, g⟩ (fun r => (∀ c : Dev Cert.LiftFirstRefIdeal.nD,
      r.2.mem ((c.tc : Thread Cert.LiftFirstRefIdeal.nD Cert.LiftFirstRefIdeal.τ).loc Cert.LiftFirstRefIdeal.main_arg0) = m ((c.tc : Thread Cert.LiftFirstRefIdeal.nD Cert.LiftFirstRefIdeal.τ).loc Cert.LiftFirstRefIdeal.main_arg0)
      ∧ r.2.mem ((c.tc : Thread Cert.LiftFirstRefIdeal.nD Cert.LiftFirstRefIdeal.τ).loc Cert.LiftFirstRefIdeal.main_arg1) = m ((c.tc : Thread Cert.LiftFirstRefIdeal.nD Cert.LiftFirstRefIdeal.τ).loc Cert.LiftFirstRefIdeal.main_arg1)
      ∧ r.2.mem ((c.tc : Thread Cert.LiftFirstRefIdeal.nD Cert.LiftFirstRefIdeal.τ).loc Cert.LiftFirstRefIdeal.main_arg2) = m ((c.tc : Thread Cert.LiftFirstRefIdeal.nD Cert.LiftFirstRefIdeal.τ).loc Cert.LiftFirstRefIdeal.main_arg2))
      ∧ r.2.sem = fun _ => 0)

def quiescent_MixFirst [hMixFirst : Cert.MixFirst.Facts] : Prop :=
  ∀ (m : (ℓ : Loc Cert.MixFirst.nD Cert.MixFirst.τ Cert.MixFirst.sig) → Buf (Elt Bits) ℓ) (g : Dev Cert.MixFirst.nD → PrngReg), Pre_MixFirst m →
    θ_run (Cert.MixFirst.defs (F := Bits)) (onTc (τ := Cert.MixFirst.τ) (Cert.MixFirst.main (F := Bits))) ⟨m, fun _ => 0, g⟩ (fun r => (∀ c : Dev Cert.MixFirst.nD,
      r.2.mem ((c.tc : Thread Cert.MixFirst.nD Cert.MixFirst.τ).loc Cert.MixFirst.main_arg0) = m ((c.tc : Thread Cert.MixFirst.nD Cert.MixFirst.τ).loc Cert.MixFirst.main_arg0)
      ∧ r.2.mem ((c.tc : Thread Cert.MixFirst.nD Cert.MixFirst.τ).loc Cert.MixFirst.main_arg1) = m ((c.tc : Thread Cert.MixFirst.nD Cert.MixFirst.τ).loc Cert.MixFirst.main_arg1)
      ∧ r.2.mem ((c.tc : Thread Cert.MixFirst.nD Cert.MixFirst.τ).loc Cert.MixFirst.main_arg2) = m ((c.tc : Thread Cert.MixFirst.nD Cert.MixFirst.τ).loc Cert.MixFirst.main_arg2))
      ∧ r.2.sem = fun _ => 0)

def quiescent_MixFirstIdeal [hMixFirstIdeal : Cert.MixFirstIdeal.Facts] : Prop :=
  ∀ (m : (ℓ : Loc Cert.MixFirstIdeal.nD Cert.MixFirstIdeal.τ Cert.MixFirstIdeal.sig) → Buf (Elt Ideal) ℓ) (g : Dev Cert.MixFirstIdeal.nD → PrngReg), Pre_MixFirstIdeal m →
    θ_run (Cert.MixFirstIdeal.defs (F := Ideal)) (onTc (τ := Cert.MixFirstIdeal.τ) (Cert.MixFirstIdeal.main (F := Ideal))) ⟨m, fun _ => 0, g⟩ (fun r => (∀ c : Dev Cert.MixFirstIdeal.nD,
      r.2.mem ((c.tc : Thread Cert.MixFirstIdeal.nD Cert.MixFirstIdeal.τ).loc Cert.MixFirstIdeal.main_arg0) = m ((c.tc : Thread Cert.MixFirstIdeal.nD Cert.MixFirstIdeal.τ).loc Cert.MixFirstIdeal.main_arg0)
      ∧ r.2.mem ((c.tc : Thread Cert.MixFirstIdeal.nD Cert.MixFirstIdeal.τ).loc Cert.MixFirstIdeal.main_arg1) = m ((c.tc : Thread Cert.MixFirstIdeal.nD Cert.MixFirstIdeal.τ).loc Cert.MixFirstIdeal.main_arg1)
      ∧ r.2.mem ((c.tc : Thread Cert.MixFirstIdeal.nD Cert.MixFirstIdeal.τ).loc Cert.MixFirstIdeal.main_arg2) = m ((c.tc : Thread Cert.MixFirstIdeal.nD Cert.MixFirstIdeal.τ).loc Cert.MixFirstIdeal.main_arg2))
      ∧ r.2.sem = fun _ => 0)

def quiescent_MixFirstIdeal_pre_finite_gate_first [hMixFirstIdeal : Cert.MixFirstIdeal.Facts] [hPre_finite_gate_first : Cert.Pre_finite_gate_first.Facts] : Prop :=
  ∀ (m : (ℓ : Loc Cert.MixFirstIdeal.nD Cert.MixFirstIdeal.τ Cert.MixFirstIdeal.sig) → Buf (Elt Ideal) ℓ) (g : Dev Cert.MixFirstIdeal.nD → PrngReg), Pre_MixFirstIdeal_finite_gate_first m →
    θ_run (Cert.MixFirstIdeal.defs (F := Ideal)) (onTc (τ := Cert.MixFirstIdeal.τ) (Cert.MixFirstIdeal.main (F := Ideal))) ⟨m, fun _ => 0, g⟩ (fun r => (∀ c : Dev Cert.MixFirstIdeal.nD,
      r.2.mem ((c.tc : Thread Cert.MixFirstIdeal.nD Cert.MixFirstIdeal.τ).loc Cert.MixFirstIdeal.main_arg0) = m ((c.tc : Thread Cert.MixFirstIdeal.nD Cert.MixFirstIdeal.τ).loc Cert.MixFirstIdeal.main_arg0)
      ∧ r.2.mem ((c.tc : Thread Cert.MixFirstIdeal.nD Cert.MixFirstIdeal.τ).loc Cert.MixFirstIdeal.main_arg1) = m ((c.tc : Thread Cert.MixFirstIdeal.nD Cert.MixFirstIdeal.τ).loc Cert.MixFirstIdeal.main_arg1)
      ∧ r.2.mem ((c.tc : Thread Cert.MixFirstIdeal.nD Cert.MixFirstIdeal.τ).loc Cert.MixFirstIdeal.main_arg2) = m ((c.tc : Thread Cert.MixFirstIdeal.nD Cert.MixFirstIdeal.τ).loc Cert.MixFirstIdeal.main_arg2))
      ∧ r.2.sem = fun _ => 0)

def quiescent_MixFirstRefIdeal [hMixFirstRefIdeal : Cert.MixFirstRefIdeal.Facts] : Prop :=
  ∀ (m : (ℓ : Loc Cert.MixFirstRefIdeal.nD Cert.MixFirstRefIdeal.τ Cert.MixFirstRefIdeal.sig) → Buf (Elt Ideal) ℓ) (g : Dev Cert.MixFirstRefIdeal.nD → PrngReg), Pre_MixFirstRefIdeal m →
    θ_run (Cert.MixFirstRefIdeal.defs (F := Ideal)) (onTc (τ := Cert.MixFirstRefIdeal.τ) (Cert.MixFirstRefIdeal.main (F := Ideal))) ⟨m, fun _ => 0, g⟩ (fun r => (∀ c : Dev Cert.MixFirstRefIdeal.nD,
      r.2.mem ((c.tc : Thread Cert.MixFirstRefIdeal.nD Cert.MixFirstRefIdeal.τ).loc Cert.MixFirstRefIdeal.main_arg0) = m ((c.tc : Thread Cert.MixFirstRefIdeal.nD Cert.MixFirstRefIdeal.τ).loc Cert.MixFirstRefIdeal.main_arg0)
      ∧ r.2.mem ((c.tc : Thread Cert.MixFirstRefIdeal.nD Cert.MixFirstRefIdeal.τ).loc Cert.MixFirstRefIdeal.main_arg1) = m ((c.tc : Thread Cert.MixFirstRefIdeal.nD Cert.MixFirstRefIdeal.τ).loc Cert.MixFirstRefIdeal.main_arg1)
      ∧ r.2.mem ((c.tc : Thread Cert.MixFirstRefIdeal.nD Cert.MixFirstRefIdeal.τ).loc Cert.MixFirstRefIdeal.main_arg2) = m ((c.tc : Thread Cert.MixFirstRefIdeal.nD Cert.MixFirstRefIdeal.τ).loc Cert.MixFirstRefIdeal.main_arg2))
      ∧ r.2.sem = fun _ => 0)

def quiescent_MixFirstRefIdeal_pre_finite_gate_first [hMixFirstRefIdeal : Cert.MixFirstRefIdeal.Facts] [hPre_finite_gate_first : Cert.Pre_finite_gate_first.Facts] : Prop :=
  ∀ (m : (ℓ : Loc Cert.MixFirstRefIdeal.nD Cert.MixFirstRefIdeal.τ Cert.MixFirstRefIdeal.sig) → Buf (Elt Ideal) ℓ) (g : Dev Cert.MixFirstRefIdeal.nD → PrngReg), Pre_MixFirstRefIdeal_finite_gate_first m →
    θ_run (Cert.MixFirstRefIdeal.defs (F := Ideal)) (onTc (τ := Cert.MixFirstRefIdeal.τ) (Cert.MixFirstRefIdeal.main (F := Ideal))) ⟨m, fun _ => 0, g⟩ (fun r => (∀ c : Dev Cert.MixFirstRefIdeal.nD,
      r.2.mem ((c.tc : Thread Cert.MixFirstRefIdeal.nD Cert.MixFirstRefIdeal.τ).loc Cert.MixFirstRefIdeal.main_arg0) = m ((c.tc : Thread Cert.MixFirstRefIdeal.nD Cert.MixFirstRefIdeal.τ).loc Cert.MixFirstRefIdeal.main_arg0)
      ∧ r.2.mem ((c.tc : Thread Cert.MixFirstRefIdeal.nD Cert.MixFirstRefIdeal.τ).loc Cert.MixFirstRefIdeal.main_arg1) = m ((c.tc : Thread Cert.MixFirstRefIdeal.nD Cert.MixFirstRefIdeal.τ).loc Cert.MixFirstRefIdeal.main_arg1)
      ∧ r.2.mem ((c.tc : Thread Cert.MixFirstRefIdeal.nD Cert.MixFirstRefIdeal.τ).loc Cert.MixFirstRefIdeal.main_arg2) = m ((c.tc : Thread Cert.MixFirstRefIdeal.nD Cert.MixFirstRefIdeal.τ).loc Cert.MixFirstRefIdeal.main_arg2))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3))
      ∧ r.2.sem = fun _ => 0)

def quiescent_ScanIdeal_pre_finite_scan [hScanIdeal : Cert.ScanIdeal.Facts] [hPre_finite_scan : Cert.Pre_finite_scan.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_finite_scan m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3))
      ∧ r.2.sem = fun _ => 0)

def quiescent_ScanRefIdeal_pre_finite_scan [hScanRefIdeal : Cert.ScanRefIdeal.Facts] [hPre_finite_scan : Cert.Pre_finite_scan.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_finite_scan m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3))
      ∧ r.2.sem = fun _ => 0)

def quiescent_Entry [hEntry : Cert.Entry.Facts] : Prop :=
  ∀ (m : (ℓ : Loc Cert.Entry.nD Cert.Entry.τ Cert.Entry.sig) → Buf (Elt Bits) ℓ) (g : Dev Cert.Entry.nD → PrngReg), Pre_Entry m →
    θ_run (Cert.Entry.defs (F := Bits)) (onTc (τ := Cert.Entry.τ) (Cert.Entry.main (F := Bits))) ⟨m, fun _ => 0, g⟩ (fun r => (∀ c : Dev Cert.Entry.nD,
      r.2.mem ((c.tc : Thread Cert.Entry.nD Cert.Entry.τ).loc Cert.Entry.main_arg0) = m ((c.tc : Thread Cert.Entry.nD Cert.Entry.τ).loc Cert.Entry.main_arg0)
      ∧ r.2.mem ((c.tc : Thread Cert.Entry.nD Cert.Entry.τ).loc Cert.Entry.main_arg1) = m ((c.tc : Thread Cert.Entry.nD Cert.Entry.τ).loc Cert.Entry.main_arg1)
      ∧ r.2.mem ((c.tc : Thread Cert.Entry.nD Cert.Entry.τ).loc Cert.Entry.main_arg2) = m ((c.tc : Thread Cert.Entry.nD Cert.Entry.τ).loc Cert.Entry.main_arg2)
      ∧ r.2.mem ((c.tc : Thread Cert.Entry.nD Cert.Entry.τ).loc Cert.Entry.main_arg3) = m ((c.tc : Thread Cert.Entry.nD Cert.Entry.τ).loc Cert.Entry.main_arg3))
      ∧ r.2.sem = fun _ => 0)

def quiescent_EntryIdeal [hEntryIdeal : Cert.EntryIdeal.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
      ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
      ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3))
      ∧ r.2.sem = fun _ => 0)

def quiescent_EntryRefIdeal [hEntryRefIdeal : Cert.EntryRefIdeal.Facts] : Prop :=
  ∀ (m : (ℓ : Loc Cert.EntryRefIdeal.nD Cert.EntryRefIdeal.τ Cert.EntryRefIdeal.sig) → Buf (Elt Ideal) ℓ) (g : Dev Cert.EntryRefIdeal.nD → PrngReg), Pre_EntryRefIdeal m →
    θ_run (Cert.EntryRefIdeal.defs (F := Ideal)) (onTc (τ := Cert.EntryRefIdeal.τ) (Cert.EntryRefIdeal.main (F := Ideal))) ⟨m, fun _ => 0, g⟩ (fun r => (∀ c : Dev Cert.EntryRefIdeal.nD,
      r.2.mem ((c.tc : Thread Cert.EntryRefIdeal.nD Cert.EntryRefIdeal.τ).loc Cert.EntryRefIdeal.main_arg0) = m ((c.tc : Thread Cert.EntryRefIdeal.nD Cert.EntryRefIdeal.τ).loc Cert.EntryRefIdeal.main_arg0)
      ∧ r.2.mem ((c.tc : Thread Cert.EntryRefIdeal.nD Cert.EntryRefIdeal.τ).loc Cert.EntryRefIdeal.main_arg1) = m ((c.tc : Thread Cert.EntryRefIdeal.nD Cert.EntryRefIdeal.τ).loc Cert.EntryRefIdeal.main_arg1)
      ∧ r.2.mem ((c.tc : Thread Cert.EntryRefIdeal.nD Cert.EntryRefIdeal.τ).loc Cert.EntryRefIdeal.main_arg2) = m ((c.tc : Thread Cert.EntryRefIdeal.nD Cert.EntryRefIdeal.τ).loc Cert.EntryRefIdeal.main_arg2)
      ∧ r.2.mem ((c.tc : Thread Cert.EntryRefIdeal.nD Cert.EntryRefIdeal.τ).loc Cert.EntryRefIdeal.main_arg3) = m ((c.tc : Thread Cert.EntryRefIdeal.nD Cert.EntryRefIdeal.τ).loc Cert.EntryRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2))
      ∧ r.2.sem = fun _ => 0)

def quiescent_Inlet [hInlet : Cert.Inlet.Facts] : Prop :=
  ∀ (m : (ℓ : Loc Cert.Inlet.nD Cert.Inlet.τ Cert.Inlet.sig) → Buf (Elt Bits) ℓ) (g : Dev Cert.Inlet.nD → PrngReg), Pre_Inlet m →
    θ_run (Cert.Inlet.defs (F := Bits)) (onTc (τ := Cert.Inlet.τ) (Cert.Inlet.main (F := Bits))) ⟨m, fun _ => 0, g⟩ (fun r => (∀ c : Dev Cert.Inlet.nD,
      r.2.mem ((c.tc : Thread Cert.Inlet.nD Cert.Inlet.τ).loc Cert.Inlet.main_arg0) = m ((c.tc : Thread Cert.Inlet.nD Cert.Inlet.τ).loc Cert.Inlet.main_arg0)
      ∧ r.2.mem ((c.tc : Thread Cert.Inlet.nD Cert.Inlet.τ).loc Cert.Inlet.main_arg1) = m ((c.tc : Thread Cert.Inlet.nD Cert.Inlet.τ).loc Cert.Inlet.main_arg1)
      ∧ r.2.mem ((c.tc : Thread Cert.Inlet.nD Cert.Inlet.τ).loc Cert.Inlet.main_arg2) = m ((c.tc : Thread Cert.Inlet.nD Cert.Inlet.τ).loc Cert.Inlet.main_arg2)
      ∧ r.2.mem ((c.tc : Thread Cert.Inlet.nD Cert.Inlet.τ).loc Cert.Inlet.main_arg3) = m ((c.tc : Thread Cert.Inlet.nD Cert.Inlet.τ).loc Cert.Inlet.main_arg3)
      ∧ r.2.mem ((c.tc : Thread Cert.Inlet.nD Cert.Inlet.τ).loc Cert.Inlet.main_arg4) = m ((c.tc : Thread Cert.Inlet.nD Cert.Inlet.τ).loc Cert.Inlet.main_arg4)
      ∧ r.2.mem ((c.tc : Thread Cert.Inlet.nD Cert.Inlet.τ).loc Cert.Inlet.main_arg5) = m ((c.tc : Thread Cert.Inlet.nD Cert.Inlet.τ).loc Cert.Inlet.main_arg5)
      ∧ r.2.mem ((c.tc : Thread Cert.Inlet.nD Cert.Inlet.τ).loc Cert.Inlet.main_arg6) = m ((c.tc : Thread Cert.Inlet.nD Cert.Inlet.τ).loc Cert.Inlet.main_arg6)
      ∧ r.2.mem ((c.tc : Thread Cert.Inlet.nD Cert.Inlet.τ).loc Cert.Inlet.main_arg7) = m ((c.tc : Thread Cert.Inlet.nD Cert.Inlet.τ).loc Cert.Inlet.main_arg7)
      ∧ r.2.mem ((c.tc : Thread Cert.Inlet.nD Cert.Inlet.τ).loc Cert.Inlet.main_arg8) = m ((c.tc : Thread Cert.Inlet.nD Cert.Inlet.τ).loc Cert.Inlet.main_arg8))
      ∧ r.2.sem = fun _ => 0)

def quiescent_InletIdeal [hInletIdeal : Cert.InletIdeal.Facts] : Prop :=
  ∀ (m : (ℓ : Loc Cert.InletIdeal.nD Cert.InletIdeal.τ Cert.InletIdeal.sig) → Buf (Elt Ideal) ℓ) (g : Dev Cert.InletIdeal.nD → PrngReg), Pre_InletIdeal m →
    θ_run (Cert.InletIdeal.defs (F := Ideal)) (onTc (τ := Cert.InletIdeal.τ) (Cert.InletIdeal.main (F := Ideal))) ⟨m, fun _ => 0, g⟩ (fun r => (∀ c : Dev Cert.InletIdeal.nD,
      r.2.mem ((c.tc : Thread Cert.InletIdeal.nD Cert.InletIdeal.τ).loc Cert.InletIdeal.main_arg0) = m ((c.tc : Thread Cert.InletIdeal.nD Cert.InletIdeal.τ).loc Cert.InletIdeal.main_arg0)
      ∧ r.2.mem ((c.tc : Thread Cert.InletIdeal.nD Cert.InletIdeal.τ).loc Cert.InletIdeal.main_arg1) = m ((c.tc : Thread Cert.InletIdeal.nD Cert.InletIdeal.τ).loc Cert.InletIdeal.main_arg1)
      ∧ r.2.mem ((c.tc : Thread Cert.InletIdeal.nD Cert.InletIdeal.τ).loc Cert.InletIdeal.main_arg2) = m ((c.tc : Thread Cert.InletIdeal.nD Cert.InletIdeal.τ).loc Cert.InletIdeal.main_arg2)
      ∧ r.2.mem ((c.tc : Thread Cert.InletIdeal.nD Cert.InletIdeal.τ).loc Cert.InletIdeal.main_arg3) = m ((c.tc : Thread Cert.InletIdeal.nD Cert.InletIdeal.τ).loc Cert.InletIdeal.main_arg3)
      ∧ r.2.mem ((c.tc : Thread Cert.InletIdeal.nD Cert.InletIdeal.τ).loc Cert.InletIdeal.main_arg4) = m ((c.tc : Thread Cert.InletIdeal.nD Cert.InletIdeal.τ).loc Cert.InletIdeal.main_arg4)
      ∧ r.2.mem ((c.tc : Thread Cert.InletIdeal.nD Cert.InletIdeal.τ).loc Cert.InletIdeal.main_arg5) = m ((c.tc : Thread Cert.InletIdeal.nD Cert.InletIdeal.τ).loc Cert.InletIdeal.main_arg5)
      ∧ r.2.mem ((c.tc : Thread Cert.InletIdeal.nD Cert.InletIdeal.τ).loc Cert.InletIdeal.main_arg6) = m ((c.tc : Thread Cert.InletIdeal.nD Cert.InletIdeal.τ).loc Cert.InletIdeal.main_arg6)
      ∧ r.2.mem ((c.tc : Thread Cert.InletIdeal.nD Cert.InletIdeal.τ).loc Cert.InletIdeal.main_arg7) = m ((c.tc : Thread Cert.InletIdeal.nD Cert.InletIdeal.τ).loc Cert.InletIdeal.main_arg7)
      ∧ r.2.mem ((c.tc : Thread Cert.InletIdeal.nD Cert.InletIdeal.τ).loc Cert.InletIdeal.main_arg8) = m ((c.tc : Thread Cert.InletIdeal.nD Cert.InletIdeal.τ).loc Cert.InletIdeal.main_arg8))
      ∧ r.2.sem = fun _ => 0)

def quiescent_InletRefIdeal [hInletRefIdeal : Cert.InletRefIdeal.Facts] : Prop :=
  ∀ (m : (ℓ : Loc Cert.InletRefIdeal.nD Cert.InletRefIdeal.τ Cert.InletRefIdeal.sig) → Buf (Elt Ideal) ℓ) (g : Dev Cert.InletRefIdeal.nD → PrngReg), Pre_InletRefIdeal m →
    θ_run (Cert.InletRefIdeal.defs (F := Ideal)) (onTc (τ := Cert.InletRefIdeal.τ) (Cert.InletRefIdeal.main (F := Ideal))) ⟨m, fun _ => 0, g⟩ (fun r => (∀ c : Dev Cert.InletRefIdeal.nD,
      r.2.mem ((c.tc : Thread Cert.InletRefIdeal.nD Cert.InletRefIdeal.τ).loc Cert.InletRefIdeal.main_arg0) = m ((c.tc : Thread Cert.InletRefIdeal.nD Cert.InletRefIdeal.τ).loc Cert.InletRefIdeal.main_arg0)
      ∧ r.2.mem ((c.tc : Thread Cert.InletRefIdeal.nD Cert.InletRefIdeal.τ).loc Cert.InletRefIdeal.main_arg1) = m ((c.tc : Thread Cert.InletRefIdeal.nD Cert.InletRefIdeal.τ).loc Cert.InletRefIdeal.main_arg1)
      ∧ r.2.mem ((c.tc : Thread Cert.InletRefIdeal.nD Cert.InletRefIdeal.τ).loc Cert.InletRefIdeal.main_arg2) = m ((c.tc : Thread Cert.InletRefIdeal.nD Cert.InletRefIdeal.τ).loc Cert.InletRefIdeal.main_arg2)
      ∧ r.2.mem ((c.tc : Thread Cert.InletRefIdeal.nD Cert.InletRefIdeal.τ).loc Cert.InletRefIdeal.main_arg3) = m ((c.tc : Thread Cert.InletRefIdeal.nD Cert.InletRefIdeal.τ).loc Cert.InletRefIdeal.main_arg3)
      ∧ r.2.mem ((c.tc : Thread Cert.InletRefIdeal.nD Cert.InletRefIdeal.τ).loc Cert.InletRefIdeal.main_arg4) = m ((c.tc : Thread Cert.InletRefIdeal.nD Cert.InletRefIdeal.τ).loc Cert.InletRefIdeal.main_arg4)
      ∧ r.2.mem ((c.tc : Thread Cert.InletRefIdeal.nD Cert.InletRefIdeal.τ).loc Cert.InletRefIdeal.main_arg5) = m ((c.tc : Thread Cert.InletRefIdeal.nD Cert.InletRefIdeal.τ).loc Cert.InletRefIdeal.main_arg5)
      ∧ r.2.mem ((c.tc : Thread Cert.InletRefIdeal.nD Cert.InletRefIdeal.τ).loc Cert.InletRefIdeal.main_arg6) = m ((c.tc : Thread Cert.InletRefIdeal.nD Cert.InletRefIdeal.τ).loc Cert.InletRefIdeal.main_arg6)
      ∧ r.2.mem ((c.tc : Thread Cert.InletRefIdeal.nD Cert.InletRefIdeal.τ).loc Cert.InletRefIdeal.main_arg7) = m ((c.tc : Thread Cert.InletRefIdeal.nD Cert.InletRefIdeal.τ).loc Cert.InletRefIdeal.main_arg7)
      ∧ r.2.mem ((c.tc : Thread Cert.InletRefIdeal.nD Cert.InletRefIdeal.τ).loc Cert.InletRefIdeal.main_arg8) = m ((c.tc : Thread Cert.InletRefIdeal.nD Cert.InletRefIdeal.τ).loc Cert.InletRefIdeal.main_arg8))
      ∧ r.2.sem = fun _ => 0)

def preserves_Gate_GateIdeal : Prop :=
  True

def algebraic_GateIdeal_GateRefIdeal_pre_finite3 [hGateIdeal : Cert.GateIdeal.Facts] [hGateRefIdeal : Cert.GateRefIdeal.Facts] [hPre_finite3 : Cert.Pre_finite3.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite3 m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v14) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v11) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v5_0)) (v1 : (c : Dev Cert.NormIdeal.nD) → Buf (Elt Ideal) ((c.tc : Thread Cert.NormIdeal.nD Cert.NormIdeal.τ).loc Cert.NormIdeal.main_v5_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v5_0) = v0 c
          ∧ r.2.mem ((c.tc : Thread Cert.NormIdeal.nD Cert.NormIdeal.τ).loc Cert.NormIdeal.main_v5_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v38) = v0 c
          ∧ r.2.mem ((c.tc : Thread Cert.NormRefIdeal.nD Cert.NormRefIdeal.τ).loc Cert.NormRefIdeal.main_v39) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v15)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v15) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v18) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Lift_LiftIdeal : Prop :=
  True

def algebraic_LiftIdeal_LiftRefIdeal [hLiftIdeal : Cert.LiftIdeal.Facts] [hLiftRefIdeal : Cert.LiftRefIdeal.Facts] : Prop :=
  ∀ (m : (ℓ : Loc Cert.LiftIdeal.nD Cert.LiftIdeal.τ Cert.LiftIdeal.sig) → Buf (Elt Ideal) ℓ) (g : Dev Cert.LiftIdeal.nD → PrngReg)
    (m' : (ℓ : Loc Cert.LiftRefIdeal.nD Cert.LiftRefIdeal.τ Cert.LiftRefIdeal.sig) → Buf (Elt Ideal) ℓ) (g' : Dev Cert.LiftRefIdeal.nD → PrngReg), Pre_LiftIdeal m →
    (∀ c : Dev Cert.LiftIdeal.nD,
      m' ((c.tc : Thread Cert.LiftRefIdeal.nD Cert.LiftRefIdeal.τ).loc Cert.LiftRefIdeal.main_arg0) = m ((c.tc : Thread Cert.LiftIdeal.nD Cert.LiftIdeal.τ).loc Cert.LiftIdeal.main_arg0)
      ∧ m' ((c.tc : Thread Cert.LiftRefIdeal.nD Cert.LiftRefIdeal.τ).loc Cert.LiftRefIdeal.main_arg1) = m ((c.tc : Thread Cert.LiftIdeal.nD Cert.LiftIdeal.τ).loc Cert.LiftIdeal.main_arg1)
      ∧ m' ((c.tc : Thread Cert.LiftRefIdeal.nD Cert.LiftRefIdeal.τ).loc Cert.LiftRefIdeal.main_arg2) = m ((c.tc : Thread Cert.LiftIdeal.nD Cert.LiftIdeal.τ).loc Cert.LiftIdeal.main_arg2)) →
    ∃ (v0 : (c : Dev Cert.LiftIdeal.nD) → Buf (Elt Ideal) ((c.tc : Thread Cert.LiftIdeal.nD Cert.LiftIdeal.τ).loc Cert.LiftIdeal.main_v4_0)) (v1 : (c : Dev Cert.LiftIdeal.nD) → Buf (Elt Ideal) ((c.tc : Thread Cert.LiftIdeal.nD Cert.LiftIdeal.τ).loc Cert.LiftIdeal.main_v4_1)),
      θ_run (Cert.LiftIdeal.defs (F := Ideal)) (onTc (τ := Cert.LiftIdeal.τ) (Cert.LiftIdeal.main (F := Ideal))) ⟨m, fun _ => 0, g⟩ (fun r => ∀ c : Dev Cert.LiftIdeal.nD,
          r.2.mem ((c.tc : Thread Cert.LiftIdeal.nD Cert.LiftIdeal.τ).loc Cert.LiftIdeal.main_v4_0) = v0 c
          ∧ r.2.mem ((c.tc : Thread Cert.LiftIdeal.nD Cert.LiftIdeal.τ).loc Cert.LiftIdeal.main_v4_1) = v1 c
          ∧ r.2.mem ((c.tc : Thread Cert.LiftIdeal.nD Cert.LiftIdeal.τ).loc Cert.LiftIdeal.main_arg0) = m ((c.tc : Thread Cert.LiftIdeal.nD Cert.LiftIdeal.τ).loc Cert.LiftIdeal.main_arg0)
          ∧ r.2.mem ((c.tc : Thread Cert.LiftIdeal.nD Cert.LiftIdeal.τ).loc Cert.LiftIdeal.main_arg1) = m ((c.tc : Thread Cert.LiftIdeal.nD Cert.LiftIdeal.τ).loc Cert.LiftIdeal.main_arg1)
          ∧ r.2.mem ((c.tc : Thread Cert.LiftIdeal.nD Cert.LiftIdeal.τ).loc Cert.LiftIdeal.main_arg2) = m ((c.tc : Thread Cert.LiftIdeal.nD Cert.LiftIdeal.τ).loc Cert.LiftIdeal.main_arg2))
      ∧ θ_run (Cert.LiftRefIdeal.defs (F := Ideal)) (onTc (τ := Cert.LiftRefIdeal.τ) (Cert.LiftRefIdeal.main (F := Ideal))) ⟨m', fun _ => 0, g'⟩ (fun r => ∀ c : Dev Cert.LiftRefIdeal.nD,
          r.2.mem ((c.tc : Thread Cert.LiftRefIdeal.nD Cert.LiftRefIdeal.τ).loc Cert.LiftRefIdeal.main_v14) = v0 c
          ∧ r.2.mem ((c.tc : Thread Cert.LiftRefIdeal.nD Cert.LiftRefIdeal.τ).loc Cert.LiftRefIdeal.main_v28) = v1 c
          ∧ r.2.mem ((c.tc : Thread Cert.LiftRefIdeal.nD Cert.LiftRefIdeal.τ).loc Cert.LiftRefIdeal.main_arg0) = m' ((c.tc : Thread Cert.LiftRefIdeal.nD Cert.LiftRefIdeal.τ).loc Cert.LiftRefIdeal.main_arg0)
          ∧ r.2.mem ((c.tc : Thread Cert.LiftRefIdeal.nD Cert.LiftRefIdeal.τ).loc Cert.LiftRefIdeal.main_arg1) = m' ((c.tc : Thread Cert.LiftRefIdeal.nD Cert.LiftRefIdeal.τ).loc Cert.LiftRefIdeal.main_arg1)
          ∧ r.2.mem ((c.tc : Thread Cert.LiftRefIdeal.nD Cert.LiftRefIdeal.τ).loc Cert.LiftRefIdeal.main_arg2) = m' ((c.tc : Thread Cert.LiftRefIdeal.nD Cert.LiftRefIdeal.τ).loc Cert.LiftRefIdeal.main_arg2))

def preserves_Mix_MixIdeal : Prop :=
  True

def algebraic_MixIdeal_MixRefIdeal_pre_finite_gate [hMixIdeal : Cert.MixIdeal.Facts] [hMixRefIdeal : Cert.MixRefIdeal.Facts] [hPre_finite_gate : Cert.Pre_finite_gate.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_gate m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v2_0)) (v1 : (c : Dev Cert.MixIdeal.nD) → Buf (Elt Ideal) ((c.tc : Thread Cert.MixIdeal.nD Cert.MixIdeal.τ).loc Cert.MixIdeal.main_v2_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2_0) = v0 c
          ∧ r.2.mem ((c.tc : Thread Cert.MixIdeal.nD Cert.MixIdeal.τ).loc Cert.MixIdeal.main_v2_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v7) = v0 c
          ∧ r.2.mem ((c.tc : Thread Cert.MixRefIdeal.nD Cert.MixRefIdeal.τ).loc Cert.MixRefIdeal.main_v12) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2))

def preserves_GateFirst_GateFirstIdeal : Prop :=
  True

def algebraic_GateFirstIdeal_GateFirstRefIdeal_pre_finite3_first [hGateFirstIdeal : Cert.GateFirstIdeal.Facts] [hGateFirstRefIdeal : Cert.GateFirstRefIdeal.Facts] [hPre_finite3_first : Cert.Pre_finite3_first.Facts] : Prop :=
  ∀ (m : (ℓ : Loc Cert.GateFirstIdeal.nD Cert.GateFirstIdeal.τ Cert.GateFirstIdeal.sig) → Buf (Elt Ideal) ℓ) (g : Dev Cert.GateFirstIdeal.nD → PrngReg)
    (m' : (ℓ : Loc Cert.GateFirstRefIdeal.nD Cert.GateFirstRefIdeal.τ Cert.GateFirstRefIdeal.sig) → Buf (Elt Ideal) ℓ) (g' : Dev Cert.GateFirstRefIdeal.nD → PrngReg), Pre_GateFirstIdeal_finite3_first m →
    (∀ c : Dev Cert.GateFirstIdeal.nD,
      m' ((c.tc : Thread Cert.GateFirstRefIdeal.nD Cert.GateFirstRefIdeal.τ).loc Cert.GateFirstRefIdeal.main_arg0) = m ((c.tc : Thread Cert.GateFirstIdeal.nD Cert.GateFirstIdeal.τ).loc Cert.GateFirstIdeal.main_arg0)
      ∧ m' ((c.tc : Thread Cert.GateFirstRefIdeal.nD Cert.GateFirstRefIdeal.τ).loc Cert.GateFirstRefIdeal.main_arg1) = m ((c.tc : Thread Cert.GateFirstIdeal.nD Cert.GateFirstIdeal.τ).loc Cert.GateFirstIdeal.main_arg1)
      ∧ m' ((c.tc : Thread Cert.GateFirstRefIdeal.nD Cert.GateFirstRefIdeal.τ).loc Cert.GateFirstRefIdeal.main_arg2) = m ((c.tc : Thread Cert.GateFirstIdeal.nD Cert.GateFirstIdeal.τ).loc Cert.GateFirstIdeal.main_arg2)) →
    ∃ (v0 : (c : Dev Cert.GateFirstIdeal.nD) → Buf (Elt Ideal) ((c.tc : Thread Cert.GateFirstIdeal.nD Cert.GateFirstIdeal.τ).loc Cert.GateFirstIdeal.main_v2)),
      θ_run (Cert.GateFirstIdeal.defs (F := Ideal)) (onTc (τ := Cert.GateFirstIdeal.τ) (Cert.GateFirstIdeal.main (F := Ideal))) ⟨m, fun _ => 0, g⟩ (fun r => ∀ c : Dev Cert.GateFirstIdeal.nD,
          r.2.mem ((c.tc : Thread Cert.GateFirstIdeal.nD Cert.GateFirstIdeal.τ).loc Cert.GateFirstIdeal.main_v2) = v0 c
          ∧ r.2.mem ((c.tc : Thread Cert.GateFirstIdeal.nD Cert.GateFirstIdeal.τ).loc Cert.GateFirstIdeal.main_arg0) = m ((c.tc : Thread Cert.GateFirstIdeal.nD Cert.GateFirstIdeal.τ).loc Cert.GateFirstIdeal.main_arg0)
          ∧ r.2.mem ((c.tc : Thread Cert.GateFirstIdeal.nD Cert.GateFirstIdeal.τ).loc Cert.GateFirstIdeal.main_arg1) = m ((c.tc : Thread Cert.GateFirstIdeal.nD Cert.GateFirstIdeal.τ).loc Cert.GateFirstIdeal.main_arg1)
          ∧ r.2.mem ((c.tc : Thread Cert.GateFirstIdeal.nD Cert.GateFirstIdeal.τ).loc Cert.GateFirstIdeal.main_arg2) = m ((c.tc : Thread Cert.GateFirstIdeal.nD Cert.GateFirstIdeal.τ).loc Cert.GateFirstIdeal.main_arg2))
      ∧ θ_run (Cert.GateFirstRefIdeal.defs (F := Ideal)) (onTc (τ := Cert.GateFirstRefIdeal.τ) (Cert.GateFirstRefIdeal.main (F := Ideal))) ⟨m', fun _ => 0, g'⟩ (fun r => ∀ c : Dev Cert.GateFirstRefIdeal.nD,
          r.2.mem ((c.tc : Thread Cert.GateFirstRefIdeal.nD Cert.GateFirstRefIdeal.τ).loc Cert.GateFirstRefIdeal.main_v14) = v0 c
          ∧ r.2.mem ((c.tc : Thread Cert.GateFirstRefIdeal.nD Cert.GateFirstRefIdeal.τ).loc Cert.GateFirstRefIdeal.main_arg0) = m' ((c.tc : Thread Cert.GateFirstRefIdeal.nD Cert.GateFirstRefIdeal.τ).loc Cert.GateFirstRefIdeal.main_arg0)
          ∧ r.2.mem ((c.tc : Thread Cert.GateFirstRefIdeal.nD Cert.GateFirstRefIdeal.τ).loc Cert.GateFirstRefIdeal.main_arg1) = m' ((c.tc : Thread Cert.GateFirstRefIdeal.nD Cert.GateFirstRefIdeal.τ).loc Cert.GateFirstRefIdeal.main_arg1)
          ∧ r.2.mem ((c.tc : Thread Cert.GateFirstRefIdeal.nD Cert.GateFirstRefIdeal.τ).loc Cert.GateFirstRefIdeal.main_arg2) = m' ((c.tc : Thread Cert.GateFirstRefIdeal.nD Cert.GateFirstRefIdeal.τ).loc Cert.GateFirstRefIdeal.main_arg2))

def preserves_DownFirst_DownFirstIdeal : Prop :=
  True

def algebraic_DownFirstIdeal_DownFirstRefIdeal [hDownFirstIdeal : Cert.DownFirstIdeal.Facts] [hDownFirstRefIdeal : Cert.DownFirstRefIdeal.Facts] : Prop :=
  ∀ (m : (ℓ : Loc Cert.DownFirstIdeal.nD Cert.DownFirstIdeal.τ Cert.DownFirstIdeal.sig) → Buf (Elt Ideal) ℓ) (g : Dev Cert.DownFirstIdeal.nD → PrngReg)
    (m' : (ℓ : Loc Cert.DownFirstRefIdeal.nD Cert.DownFirstRefIdeal.τ Cert.DownFirstRefIdeal.sig) → Buf (Elt Ideal) ℓ) (g' : Dev Cert.DownFirstRefIdeal.nD → PrngReg), Pre_DownFirstIdeal m →
    (∀ c : Dev Cert.DownFirstIdeal.nD,
      m' ((c.tc : Thread Cert.DownFirstRefIdeal.nD Cert.DownFirstRefIdeal.τ).loc Cert.DownFirstRefIdeal.main_arg0) = m ((c.tc : Thread Cert.DownFirstIdeal.nD Cert.DownFirstIdeal.τ).loc Cert.DownFirstIdeal.main_arg0)
      ∧ m' ((c.tc : Thread Cert.DownFirstRefIdeal.nD Cert.DownFirstRefIdeal.τ).loc Cert.DownFirstRefIdeal.main_arg1) = m ((c.tc : Thread Cert.DownFirstIdeal.nD Cert.DownFirstIdeal.τ).loc Cert.DownFirstIdeal.main_arg1)
      ∧ m' ((c.tc : Thread Cert.DownFirstRefIdeal.nD Cert.DownFirstRefIdeal.τ).loc Cert.DownFirstRefIdeal.main_arg2) = m ((c.tc : Thread Cert.DownFirstIdeal.nD Cert.DownFirstIdeal.τ).loc Cert.DownFirstIdeal.main_arg2)) →
    ∃ (v0 : (c : Dev Cert.DownFirstIdeal.nD) → Buf (Elt Ideal) ((c.tc : Thread Cert.DownFirstIdeal.nD Cert.DownFirstIdeal.τ).loc Cert.DownFirstIdeal.main_v5)),
      θ_run (Cert.DownFirstIdeal.defs (F := Ideal)) (onTc (τ := Cert.DownFirstIdeal.τ) (Cert.DownFirstIdeal.main (F := Ideal))) ⟨m, fun _ => 0, g⟩ (fun r => ∀ c : Dev Cert.DownFirstIdeal.nD,
          r.2.mem ((c.tc : Thread Cert.DownFirstIdeal.nD Cert.DownFirstIdeal.τ).loc Cert.DownFirstIdeal.main_v5) = v0 c
          ∧ r.2.mem ((c.tc : Thread Cert.DownFirstIdeal.nD Cert.DownFirstIdeal.τ).loc Cert.DownFirstIdeal.main_arg0) = m ((c.tc : Thread Cert.DownFirstIdeal.nD Cert.DownFirstIdeal.τ).loc Cert.DownFirstIdeal.main_arg0)
          ∧ r.2.mem ((c.tc : Thread Cert.DownFirstIdeal.nD Cert.DownFirstIdeal.τ).loc Cert.DownFirstIdeal.main_arg1) = m ((c.tc : Thread Cert.DownFirstIdeal.nD Cert.DownFirstIdeal.τ).loc Cert.DownFirstIdeal.main_arg1)
          ∧ r.2.mem ((c.tc : Thread Cert.DownFirstIdeal.nD Cert.DownFirstIdeal.τ).loc Cert.DownFirstIdeal.main_arg2) = m ((c.tc : Thread Cert.DownFirstIdeal.nD Cert.DownFirstIdeal.τ).loc Cert.DownFirstIdeal.main_arg2))
      ∧ θ_run (Cert.DownFirstRefIdeal.defs (F := Ideal)) (onTc (τ := Cert.DownFirstRefIdeal.τ) (Cert.DownFirstRefIdeal.main (F := Ideal))) ⟨m', fun _ => 0, g'⟩ (fun r => ∀ c : Dev Cert.DownFirstRefIdeal.nD,
          r.2.mem ((c.tc : Thread Cert.DownFirstRefIdeal.nD Cert.DownFirstRefIdeal.τ).loc Cert.DownFirstRefIdeal.main_v11) = v0 c
          ∧ r.2.mem ((c.tc : Thread Cert.DownFirstRefIdeal.nD Cert.DownFirstRefIdeal.τ).loc Cert.DownFirstRefIdeal.main_arg0) = m' ((c.tc : Thread Cert.DownFirstRefIdeal.nD Cert.DownFirstRefIdeal.τ).loc Cert.DownFirstRefIdeal.main_arg0)
          ∧ r.2.mem ((c.tc : Thread Cert.DownFirstRefIdeal.nD Cert.DownFirstRefIdeal.τ).loc Cert.DownFirstRefIdeal.main_arg1) = m' ((c.tc : Thread Cert.DownFirstRefIdeal.nD Cert.DownFirstRefIdeal.τ).loc Cert.DownFirstRefIdeal.main_arg1)
          ∧ r.2.mem ((c.tc : Thread Cert.DownFirstRefIdeal.nD Cert.DownFirstRefIdeal.τ).loc Cert.DownFirstRefIdeal.main_arg2) = m' ((c.tc : Thread Cert.DownFirstRefIdeal.nD Cert.DownFirstRefIdeal.τ).loc Cert.DownFirstRefIdeal.main_arg2))

def preserves_NormFirst_NormFirstIdeal : Prop :=
  True

def algebraic_NormFirstIdeal_NormFirstRefIdeal [hNormFirstIdeal : Cert.NormFirstIdeal.Facts] [hNormFirstRefIdeal : Cert.NormFirstRefIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg)
    (m' : (ℓ : Loc Cert.NormFirstRefIdeal.nD Cert.NormFirstRefIdeal.τ Cert.NormFirstRefIdeal.sig) → Buf (Elt Ideal) ℓ) (g' : Dev Cert.NormFirstRefIdeal.nD → PrngReg), Pre_NormFirstIdeal m →
    (∀ c : Dev Cert.NormFirstIdeal.nD,
      m' ((c.tc : Thread Cert.NormFirstRefIdeal.nD Cert.NormFirstRefIdeal.τ).loc Cert.NormFirstRefIdeal.main_arg0) = m ((c.tc : Thread Cert.NormFirstIdeal.nD Cert.NormFirstIdeal.τ).loc Cert.NormFirstIdeal.main_arg0)
      ∧ m' ((c.tc : Thread Cert.NormFirstRefIdeal.nD Cert.NormFirstRefIdeal.τ).loc Cert.NormFirstRefIdeal.main_arg1) = m ((c.tc : Thread Cert.NormFirstIdeal.nD Cert.NormFirstIdeal.τ).loc Cert.NormFirstIdeal.main_arg1)
      ∧ m' ((c.tc : Thread Cert.NormFirstRefIdeal.nD Cert.NormFirstRefIdeal.τ).loc Cert.NormFirstRefIdeal.main_arg2) = m ((c.tc : Thread Cert.NormFirstIdeal.nD Cert.NormFirstIdeal.τ).loc Cert.NormFirstIdeal.main_arg2)
      ∧ m' ((c.tc : Thread Cert.NormFirstRefIdeal.nD Cert.NormFirstRefIdeal.τ).loc Cert.NormFirstRefIdeal.main_arg3) = m ((c.tc : Thread Cert.NormFirstIdeal.nD Cert.NormFirstIdeal.τ).loc Cert.NormFirstIdeal.main_arg3)
      ∧ m' ((c.tc : Thread Cert.NormFirstRefIdeal.nD Cert.NormFirstRefIdeal.τ).loc Cert.NormFirstRefIdeal.main_arg4) = m ((c.tc : Thread Cert.NormFirstIdeal.nD Cert.NormFirstIdeal.τ).loc Cert.NormFirstIdeal.main_arg4)) →
    ∃ (v0 : (c : Dev Cert.NormFirstIdeal.nD) → Buf (Elt Ideal) ((c.tc : Thread Cert.NormFirstIdeal.nD Cert.NormFirstIdeal.τ).loc Cert.NormFirstIdeal.main_v5_0)) (v1 : (c : Dev Cert.NormFirstIdeal.nD) → Buf (Elt Ideal) ((c.tc : Thread Cert.NormFirstIdeal.nD Cert.NormFirstIdeal.τ).loc Cert.NormFirstIdeal.main_v5_1)),
      θ_run (Cert.NormFirstIdeal.defs (F := Ideal)) (onTc (τ := Cert.NormFirstIdeal.τ) (Cert.NormFirstIdeal.main (F := Ideal))) ⟨m, fun _ => 0, g⟩ (fun r => ∀ c : Dev Cert.NormFirstIdeal.nD,
          r.2.mem ((c.tc : Thread Cert.NormFirstIdeal.nD Cert.NormFirstIdeal.τ).loc Cert.NormFirstIdeal.main_v5_0) = v0 c
          ∧ r.2.mem ((c.tc : Thread Cert.NormFirstIdeal.nD Cert.NormFirstIdeal.τ).loc Cert.NormFirstIdeal.main_v5_1) = v1 c
          ∧ r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
          ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
          ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
          ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3)
          ∧ r.2.mem ((c.tc : Thread Cert.NormFirstIdeal.nD Cert.NormFirstIdeal.τ).loc Cert.NormFirstIdeal.main_arg4) = m ((c.tc : Thread Cert.NormFirstIdeal.nD Cert.NormFirstIdeal.τ).loc Cert.NormFirstIdeal.main_arg4))
      ∧ θ_run (Cert.NormFirstRefIdeal.defs (F := Ideal)) (onTc (τ := Cert.NormFirstRefIdeal.τ) (Cert.NormFirstRefIdeal.main (F := Ideal))) ⟨m', fun _ => 0, g'⟩ (fun r => ∀ c : Dev Cert.NormFirstRefIdeal.nD,
          r.2.mem ((c.tc : Thread Cert.NormFirstRefIdeal.nD Cert.NormFirstRefIdeal.τ).loc Cert.NormFirstRefIdeal.main_v38) = v0 c
          ∧ r.2.mem ((c.tc : Thread Cert.NormFirstRefIdeal.nD Cert.NormFirstRefIdeal.τ).loc Cert.NormFirstRefIdeal.main_v39) = v1 c
          ∧ r.2.mem ((c.tc : Thread Cert.NormFirstRefIdeal.nD Cert.NormFirstRefIdeal.τ).loc Cert.NormFirstRefIdeal.main_arg0) = m' ((c.tc : Thread Cert.NormFirstRefIdeal.nD Cert.NormFirstRefIdeal.τ).loc Cert.NormFirstRefIdeal.main_arg0)
          ∧ r.2.mem ((c.tc : Thread Cert.NormFirstRefIdeal.nD Cert.NormFirstRefIdeal.τ).loc Cert.NormFirstRefIdeal.main_arg1) = m' ((c.tc : Thread Cert.NormFirstRefIdeal.nD Cert.NormFirstRefIdeal.τ).loc Cert.NormFirstRefIdeal.main_arg1)
          ∧ r.2.mem ((c.tc : Thread Cert.NormFirstRefIdeal.nD Cert.NormFirstRefIdeal.τ).loc Cert.NormFirstRefIdeal.main_arg2) = m' ((c.tc : Thread Cert.NormFirstRefIdeal.nD Cert.NormFirstRefIdeal.τ).loc Cert.NormFirstRefIdeal.main_arg2)
          ∧ r.2.mem ((c.tc : Thread Cert.NormFirstRefIdeal.nD Cert.NormFirstRefIdeal.τ).loc Cert.NormFirstRefIdeal.main_arg3) = m' ((c.tc : Thread Cert.NormFirstRefIdeal.nD Cert.NormFirstRefIdeal.τ).loc Cert.NormFirstRefIdeal.main_arg3)
          ∧ r.2.mem ((c.tc : Thread Cert.NormFirstRefIdeal.nD Cert.NormFirstRefIdeal.τ).loc Cert.NormFirstRefIdeal.main_arg4) = m' ((c.tc : Thread Cert.NormFirstRefIdeal.nD Cert.NormFirstRefIdeal.τ).loc Cert.NormFirstRefIdeal.main_arg4))

def preserves_UpFirst_UpFirstIdeal : Prop :=
  True

def algebraic_UpFirstIdeal_UpFirstRefIdeal [hUpFirstIdeal : Cert.UpFirstIdeal.Facts] [hUpFirstRefIdeal : Cert.UpFirstRefIdeal.Facts] : Prop :=
  ∀ (m : (ℓ : Loc Cert.UpFirstIdeal.nD Cert.UpFirstIdeal.τ Cert.UpFirstIdeal.sig) → Buf (Elt Ideal) ℓ) (g : Dev Cert.UpFirstIdeal.nD → PrngReg)
    (m' : (ℓ : Loc Cert.UpFirstRefIdeal.nD Cert.UpFirstRefIdeal.τ Cert.UpFirstRefIdeal.sig) → Buf (Elt Ideal) ℓ) (g' : Dev Cert.UpFirstRefIdeal.nD → PrngReg), Pre_UpFirstIdeal m →
    (∀ c : Dev Cert.UpFirstIdeal.nD,
      m' ((c.tc : Thread Cert.UpFirstRefIdeal.nD Cert.UpFirstRefIdeal.τ).loc Cert.UpFirstRefIdeal.main_arg0) = m ((c.tc : Thread Cert.UpFirstIdeal.nD Cert.UpFirstIdeal.τ).loc Cert.UpFirstIdeal.main_arg0)
      ∧ m' ((c.tc : Thread Cert.UpFirstRefIdeal.nD Cert.UpFirstRefIdeal.τ).loc Cert.UpFirstRefIdeal.main_arg1) = m ((c.tc : Thread Cert.UpFirstIdeal.nD Cert.UpFirstIdeal.τ).loc Cert.UpFirstIdeal.main_arg1)
      ∧ m' ((c.tc : Thread Cert.UpFirstRefIdeal.nD Cert.UpFirstRefIdeal.τ).loc Cert.UpFirstRefIdeal.main_arg2) = m ((c.tc : Thread Cert.UpFirstIdeal.nD Cert.UpFirstIdeal.τ).loc Cert.UpFirstIdeal.main_arg2)
      ∧ m' ((c.tc : Thread Cert.UpFirstRefIdeal.nD Cert.UpFirstRefIdeal.τ).loc Cert.UpFirstRefIdeal.main_arg3) = m ((c.tc : Thread Cert.UpFirstIdeal.nD Cert.UpFirstIdeal.τ).loc Cert.UpFirstIdeal.main_arg3)) →
    ∃ (v0 : (c : Dev Cert.UpFirstIdeal.nD) → Buf (Elt Ideal) ((c.tc : Thread Cert.UpFirstIdeal.nD Cert.UpFirstIdeal.τ).loc Cert.UpFirstIdeal.main_v15)),
      θ_run (Cert.UpFirstIdeal.defs (F := Ideal)) (onTc (τ := Cert.UpFirstIdeal.τ) (Cert.UpFirstIdeal.main (F := Ideal))) ⟨m, fun _ => 0, g⟩ (fun r => ∀ c : Dev Cert.UpFirstIdeal.nD,
          r.2.mem ((c.tc : Thread Cert.UpFirstIdeal.nD Cert.UpFirstIdeal.τ).loc Cert.UpFirstIdeal.main_v15) = v0 c
          ∧ r.2.mem ((c.tc : Thread Cert.UpFirstIdeal.nD Cert.UpFirstIdeal.τ).loc Cert.UpFirstIdeal.main_arg0) = m ((c.tc : Thread Cert.UpFirstIdeal.nD Cert.UpFirstIdeal.τ).loc Cert.UpFirstIdeal.main_arg0)
          ∧ r.2.mem ((c.tc : Thread Cert.UpFirstIdeal.nD Cert.UpFirstIdeal.τ).loc Cert.UpFirstIdeal.main_arg1) = m ((c.tc : Thread Cert.UpFirstIdeal.nD Cert.UpFirstIdeal.τ).loc Cert.UpFirstIdeal.main_arg1)
          ∧ r.2.mem ((c.tc : Thread Cert.UpFirstIdeal.nD Cert.UpFirstIdeal.τ).loc Cert.UpFirstIdeal.main_arg2) = m ((c.tc : Thread Cert.UpFirstIdeal.nD Cert.UpFirstIdeal.τ).loc Cert.UpFirstIdeal.main_arg2)
          ∧ r.2.mem ((c.tc : Thread Cert.UpFirstIdeal.nD Cert.UpFirstIdeal.τ).loc Cert.UpFirstIdeal.main_arg3) = m ((c.tc : Thread Cert.UpFirstIdeal.nD Cert.UpFirstIdeal.τ).loc Cert.UpFirstIdeal.main_arg3))
      ∧ θ_run (Cert.UpFirstRefIdeal.defs (F := Ideal)) (onTc (τ := Cert.UpFirstRefIdeal.τ) (Cert.UpFirstRefIdeal.main (F := Ideal))) ⟨m', fun _ => 0, g'⟩ (fun r => ∀ c : Dev Cert.UpFirstRefIdeal.nD,
          r.2.mem ((c.tc : Thread Cert.UpFirstRefIdeal.nD Cert.UpFirstRefIdeal.τ).loc Cert.UpFirstRefIdeal.main_v18) = v0 c
          ∧ r.2.mem ((c.tc : Thread Cert.UpFirstRefIdeal.nD Cert.UpFirstRefIdeal.τ).loc Cert.UpFirstRefIdeal.main_arg0) = m' ((c.tc : Thread Cert.UpFirstRefIdeal.nD Cert.UpFirstRefIdeal.τ).loc Cert.UpFirstRefIdeal.main_arg0)
          ∧ r.2.mem ((c.tc : Thread Cert.UpFirstRefIdeal.nD Cert.UpFirstRefIdeal.τ).loc Cert.UpFirstRefIdeal.main_arg1) = m' ((c.tc : Thread Cert.UpFirstRefIdeal.nD Cert.UpFirstRefIdeal.τ).loc Cert.UpFirstRefIdeal.main_arg1)
          ∧ r.2.mem ((c.tc : Thread Cert.UpFirstRefIdeal.nD Cert.UpFirstRefIdeal.τ).loc Cert.UpFirstRefIdeal.main_arg2) = m' ((c.tc : Thread Cert.UpFirstRefIdeal.nD Cert.UpFirstRefIdeal.τ).loc Cert.UpFirstRefIdeal.main_arg2)
          ∧ r.2.mem ((c.tc : Thread Cert.UpFirstRefIdeal.nD Cert.UpFirstRefIdeal.τ).loc Cert.UpFirstRefIdeal.main_arg3) = m' ((c.tc : Thread Cert.UpFirstRefIdeal.nD Cert.UpFirstRefIdeal.τ).loc Cert.UpFirstRefIdeal.main_arg3))

def preserves_LiftFirst_LiftFirstIdeal : Prop :=
  True

def algebraic_LiftFirstIdeal_LiftFirstRefIdeal [hLiftFirstIdeal : Cert.LiftFirstIdeal.Facts] [hLiftFirstRefIdeal : Cert.LiftFirstRefIdeal.Facts] : Prop :=
  ∀ (m : (ℓ : Loc Cert.LiftFirstIdeal.nD Cert.LiftFirstIdeal.τ Cert.LiftFirstIdeal.sig) → Buf (Elt Ideal) ℓ) (g : Dev Cert.LiftFirstIdeal.nD → PrngReg)
    (m' : (ℓ : Loc Cert.LiftFirstRefIdeal.nD Cert.LiftFirstRefIdeal.τ Cert.LiftFirstRefIdeal.sig) → Buf (Elt Ideal) ℓ) (g' : Dev Cert.LiftFirstRefIdeal.nD → PrngReg), Pre_LiftFirstIdeal m →
    (∀ c : Dev Cert.LiftFirstIdeal.nD,
      m' ((c.tc : Thread Cert.LiftFirstRefIdeal.nD Cert.LiftFirstRefIdeal.τ).loc Cert.LiftFirstRefIdeal.main_arg0) = m ((c.tc : Thread Cert.LiftFirstIdeal.nD Cert.LiftFirstIdeal.τ).loc Cert.LiftFirstIdeal.main_arg0)
      ∧ m' ((c.tc : Thread Cert.LiftFirstRefIdeal.nD Cert.LiftFirstRefIdeal.τ).loc Cert.LiftFirstRefIdeal.main_arg1) = m ((c.tc : Thread Cert.LiftFirstIdeal.nD Cert.LiftFirstIdeal.τ).loc Cert.LiftFirstIdeal.main_arg1)
      ∧ m' ((c.tc : Thread Cert.LiftFirstRefIdeal.nD Cert.LiftFirstRefIdeal.τ).loc Cert.LiftFirstRefIdeal.main_arg2) = m ((c.tc : Thread Cert.LiftFirstIdeal.nD Cert.LiftFirstIdeal.τ).loc Cert.LiftFirstIdeal.main_arg2)) →
    ∃ (v0 : (c : Dev Cert.LiftFirstIdeal.nD) → Buf (Elt Ideal) ((c.tc : Thread Cert.LiftFirstIdeal.nD Cert.LiftFirstIdeal.τ).loc Cert.LiftFirstIdeal.main_v4_0)) (v1 : (c : Dev Cert.LiftFirstIdeal.nD) → Buf (Elt Ideal) ((c.tc : Thread Cert.LiftFirstIdeal.nD Cert.LiftFirstIdeal.τ).loc Cert.LiftFirstIdeal.main_v4_1)),
      θ_run (Cert.LiftFirstIdeal.defs (F := Ideal)) (onTc (τ := Cert.LiftFirstIdeal.τ) (Cert.LiftFirstIdeal.main (F := Ideal))) ⟨m, fun _ => 0, g⟩ (fun r => ∀ c : Dev Cert.LiftFirstIdeal.nD,
          r.2.mem ((c.tc : Thread Cert.LiftFirstIdeal.nD Cert.LiftFirstIdeal.τ).loc Cert.LiftFirstIdeal.main_v4_0) = v0 c
          ∧ r.2.mem ((c.tc : Thread Cert.LiftFirstIdeal.nD Cert.LiftFirstIdeal.τ).loc Cert.LiftFirstIdeal.main_v4_1) = v1 c
          ∧ r.2.mem ((c.tc : Thread Cert.LiftFirstIdeal.nD Cert.LiftFirstIdeal.τ).loc Cert.LiftFirstIdeal.main_arg0) = m ((c.tc : Thread Cert.LiftFirstIdeal.nD Cert.LiftFirstIdeal.τ).loc Cert.LiftFirstIdeal.main_arg0)
          ∧ r.2.mem ((c.tc : Thread Cert.LiftFirstIdeal.nD Cert.LiftFirstIdeal.τ).loc Cert.LiftFirstIdeal.main_arg1) = m ((c.tc : Thread Cert.LiftFirstIdeal.nD Cert.LiftFirstIdeal.τ).loc Cert.LiftFirstIdeal.main_arg1)
          ∧ r.2.mem ((c.tc : Thread Cert.LiftFirstIdeal.nD Cert.LiftFirstIdeal.τ).loc Cert.LiftFirstIdeal.main_arg2) = m ((c.tc : Thread Cert.LiftFirstIdeal.nD Cert.LiftFirstIdeal.τ).loc Cert.LiftFirstIdeal.main_arg2))
      ∧ θ_run (Cert.LiftFirstRefIdeal.defs (F := Ideal)) (onTc (τ := Cert.LiftFirstRefIdeal.τ) (Cert.LiftFirstRefIdeal.main (F := Ideal))) ⟨m', fun _ => 0, g'⟩ (fun r => ∀ c : Dev Cert.LiftFirstRefIdeal.nD,
          r.2.mem ((c.tc : Thread Cert.LiftFirstRefIdeal.nD Cert.LiftFirstRefIdeal.τ).loc Cert.LiftFirstRefIdeal.main_v14) = v0 c
          ∧ r.2.mem ((c.tc : Thread Cert.LiftFirstRefIdeal.nD Cert.LiftFirstRefIdeal.τ).loc Cert.LiftFirstRefIdeal.main_v28) = v1 c
          ∧ r.2.mem ((c.tc : Thread Cert.LiftFirstRefIdeal.nD Cert.LiftFirstRefIdeal.τ).loc Cert.LiftFirstRefIdeal.main_arg0) = m' ((c.tc : Thread Cert.LiftFirstRefIdeal.nD Cert.LiftFirstRefIdeal.τ).loc Cert.LiftFirstRefIdeal.main_arg0)
          ∧ r.2.mem ((c.tc : Thread Cert.LiftFirstRefIdeal.nD Cert.LiftFirstRefIdeal.τ).loc Cert.LiftFirstRefIdeal.main_arg1) = m' ((c.tc : Thread Cert.LiftFirstRefIdeal.nD Cert.LiftFirstRefIdeal.τ).loc Cert.LiftFirstRefIdeal.main_arg1)
          ∧ r.2.mem ((c.tc : Thread Cert.LiftFirstRefIdeal.nD Cert.LiftFirstRefIdeal.τ).loc Cert.LiftFirstRefIdeal.main_arg2) = m' ((c.tc : Thread Cert.LiftFirstRefIdeal.nD Cert.LiftFirstRefIdeal.τ).loc Cert.LiftFirstRefIdeal.main_arg2))

def preserves_MixFirst_MixFirstIdeal : Prop :=
  True

def algebraic_MixFirstIdeal_MixFirstRefIdeal_pre_finite_gate_first [hMixFirstIdeal : Cert.MixFirstIdeal.Facts] [hMixFirstRefIdeal : Cert.MixFirstRefIdeal.Facts] [hPre_finite_gate_first : Cert.Pre_finite_gate_first.Facts] : Prop :=
  ∀ (m : (ℓ : Loc Cert.MixFirstIdeal.nD Cert.MixFirstIdeal.τ Cert.MixFirstIdeal.sig) → Buf (Elt Ideal) ℓ) (g : Dev Cert.MixFirstIdeal.nD → PrngReg)
    (m' : (ℓ : Loc Cert.MixFirstRefIdeal.nD Cert.MixFirstRefIdeal.τ Cert.MixFirstRefIdeal.sig) → Buf (Elt Ideal) ℓ) (g' : Dev Cert.MixFirstRefIdeal.nD → PrngReg), Pre_MixFirstIdeal_finite_gate_first m →
    (∀ c : Dev Cert.MixFirstIdeal.nD,
      m' ((c.tc : Thread Cert.MixFirstRefIdeal.nD Cert.MixFirstRefIdeal.τ).loc Cert.MixFirstRefIdeal.main_arg0) = m ((c.tc : Thread Cert.MixFirstIdeal.nD Cert.MixFirstIdeal.τ).loc Cert.MixFirstIdeal.main_arg0)
      ∧ m' ((c.tc : Thread Cert.MixFirstRefIdeal.nD Cert.MixFirstRefIdeal.τ).loc Cert.MixFirstRefIdeal.main_arg1) = m ((c.tc : Thread Cert.MixFirstIdeal.nD Cert.MixFirstIdeal.τ).loc Cert.MixFirstIdeal.main_arg1)
      ∧ m' ((c.tc : Thread Cert.MixFirstRefIdeal.nD Cert.MixFirstRefIdeal.τ).loc Cert.MixFirstRefIdeal.main_arg2) = m ((c.tc : Thread Cert.MixFirstIdeal.nD Cert.MixFirstIdeal.τ).loc Cert.MixFirstIdeal.main_arg2)) →
    ∃ (v0 : (c : Dev Cert.MixFirstIdeal.nD) → Buf (Elt Ideal) ((c.tc : Thread Cert.MixFirstIdeal.nD Cert.MixFirstIdeal.τ).loc Cert.MixFirstIdeal.main_v2_0)) (v1 : (c : Dev Cert.MixFirstIdeal.nD) → Buf (Elt Ideal) ((c.tc : Thread Cert.MixFirstIdeal.nD Cert.MixFirstIdeal.τ).loc Cert.MixFirstIdeal.main_v2_1)),
      θ_run (Cert.MixFirstIdeal.defs (F := Ideal)) (onTc (τ := Cert.MixFirstIdeal.τ) (Cert.MixFirstIdeal.main (F := Ideal))) ⟨m, fun _ => 0, g⟩ (fun r => ∀ c : Dev Cert.MixFirstIdeal.nD,
          r.2.mem ((c.tc : Thread Cert.MixFirstIdeal.nD Cert.MixFirstIdeal.τ).loc Cert.MixFirstIdeal.main_v2_0) = v0 c
          ∧ r.2.mem ((c.tc : Thread Cert.MixFirstIdeal.nD Cert.MixFirstIdeal.τ).loc Cert.MixFirstIdeal.main_v2_1) = v1 c
          ∧ r.2.mem ((c.tc : Thread Cert.MixFirstIdeal.nD Cert.MixFirstIdeal.τ).loc Cert.MixFirstIdeal.main_arg0) = m ((c.tc : Thread Cert.MixFirstIdeal.nD Cert.MixFirstIdeal.τ).loc Cert.MixFirstIdeal.main_arg0)
          ∧ r.2.mem ((c.tc : Thread Cert.MixFirstIdeal.nD Cert.MixFirstIdeal.τ).loc Cert.MixFirstIdeal.main_arg1) = m ((c.tc : Thread Cert.MixFirstIdeal.nD Cert.MixFirstIdeal.τ).loc Cert.MixFirstIdeal.main_arg1)
          ∧ r.2.mem ((c.tc : Thread Cert.MixFirstIdeal.nD Cert.MixFirstIdeal.τ).loc Cert.MixFirstIdeal.main_arg2) = m ((c.tc : Thread Cert.MixFirstIdeal.nD Cert.MixFirstIdeal.τ).loc Cert.MixFirstIdeal.main_arg2))
      ∧ θ_run (Cert.MixFirstRefIdeal.defs (F := Ideal)) (onTc (τ := Cert.MixFirstRefIdeal.τ) (Cert.MixFirstRefIdeal.main (F := Ideal))) ⟨m', fun _ => 0, g'⟩ (fun r => ∀ c : Dev Cert.MixFirstRefIdeal.nD,
          r.2.mem ((c.tc : Thread Cert.MixFirstRefIdeal.nD Cert.MixFirstRefIdeal.τ).loc Cert.MixFirstRefIdeal.main_v7) = v0 c
          ∧ r.2.mem ((c.tc : Thread Cert.MixFirstRefIdeal.nD Cert.MixFirstRefIdeal.τ).loc Cert.MixFirstRefIdeal.main_v12) = v1 c
          ∧ r.2.mem ((c.tc : Thread Cert.MixFirstRefIdeal.nD Cert.MixFirstRefIdeal.τ).loc Cert.MixFirstRefIdeal.main_arg0) = m' ((c.tc : Thread Cert.MixFirstRefIdeal.nD Cert.MixFirstRefIdeal.τ).loc Cert.MixFirstRefIdeal.main_arg0)
          ∧ r.2.mem ((c.tc : Thread Cert.MixFirstRefIdeal.nD Cert.MixFirstRefIdeal.τ).loc Cert.MixFirstRefIdeal.main_arg1) = m' ((c.tc : Thread Cert.MixFirstRefIdeal.nD Cert.MixFirstRefIdeal.τ).loc Cert.MixFirstRefIdeal.main_arg1)
          ∧ r.2.mem ((c.tc : Thread Cert.MixFirstRefIdeal.nD Cert.MixFirstRefIdeal.τ).loc Cert.MixFirstRefIdeal.main_arg2) = m' ((c.tc : Thread Cert.MixFirstRefIdeal.nD Cert.MixFirstRefIdeal.τ).loc Cert.MixFirstRefIdeal.main_arg2))

def preserves_Scan_ScanIdeal : Prop :=
  True

def algebraic_ScanIdeal_ScanRefIdeal_pre_finite_scan [hScanIdeal : Cert.ScanIdeal.Facts] [hScanRefIdeal : Cert.ScanRefIdeal.Facts] [hPre_finite_scan : Cert.Pre_finite_scan.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_finite_scan m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)) →
    ∃ (v0 : (c : Dev Cert.ScanIdeal.nD) → Buf (Elt Ideal) ((c.tc : Thread Cert.ScanIdeal.nD Cert.ScanIdeal.τ).loc Cert.ScanIdeal.main_v84_0)) (v1 : (c : Dev Cert.ScanIdeal.nD) → Buf (Elt Ideal) ((c.tc : Thread Cert.ScanIdeal.nD Cert.ScanIdeal.τ).loc Cert.ScanIdeal.main_v84_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v84_0) = v0 c
          ∧ r.2.mem ((c.tc : Thread Cert.ScanIdeal.nD Cert.ScanIdeal.τ).loc Cert.ScanIdeal.main_v84_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v63) = v0 c
          ∧ r.2.mem ((c.tc : Thread Cert.ScanRefIdeal.nD Cert.ScanRefIdeal.τ).loc Cert.ScanRefIdeal.main_v65) = v1 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)) →
    ∃ (v0 : (c : Dev Cert.QueryIdeal.nD) → Buf (Elt Ideal) ((c.tc : Thread Cert.QueryIdeal.nD Cert.QueryIdeal.τ).loc Cert.QueryIdeal.main_v2)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v2) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v17) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3))

def preserves_Entry_EntryIdeal : Prop :=
  True

def algebraic_EntryIdeal_EntryRefIdeal [hEntryIdeal : Cert.EntryIdeal.Facts] [hEntryRefIdeal : Cert.EntryRefIdeal.Facts] : Prop :=
  ∀ (m : (ℓ : Loc Cert.EntryIdeal.nD Cert.EntryIdeal.τ Cert.EntryIdeal.sig) → Buf (Elt Ideal) ℓ) (g : Dev Cert.EntryIdeal.nD → PrngReg)
    (m' : (ℓ : Loc Cert.EntryRefIdeal.nD Cert.EntryRefIdeal.τ Cert.EntryRefIdeal.sig) → Buf (Elt Ideal) ℓ) (g' : Dev Cert.EntryRefIdeal.nD → PrngReg), Pre_EntryIdeal m →
    (∀ c : Dev Cert.EntryIdeal.nD,
      m' ((c.tc : Thread Cert.EntryRefIdeal.nD Cert.EntryRefIdeal.τ).loc Cert.EntryRefIdeal.main_arg0) = m ((c.tc : Thread Cert.EntryIdeal.nD Cert.EntryIdeal.τ).loc Cert.EntryIdeal.main_arg0)
      ∧ m' ((c.tc : Thread Cert.EntryRefIdeal.nD Cert.EntryRefIdeal.τ).loc Cert.EntryRefIdeal.main_arg1) = m ((c.tc : Thread Cert.EntryIdeal.nD Cert.EntryIdeal.τ).loc Cert.EntryIdeal.main_arg1)
      ∧ m' ((c.tc : Thread Cert.EntryRefIdeal.nD Cert.EntryRefIdeal.τ).loc Cert.EntryRefIdeal.main_arg2) = m ((c.tc : Thread Cert.EntryIdeal.nD Cert.EntryIdeal.τ).loc Cert.EntryIdeal.main_arg2)
      ∧ m' ((c.tc : Thread Cert.EntryRefIdeal.nD Cert.EntryRefIdeal.τ).loc Cert.EntryRefIdeal.main_arg3) = m ((c.tc : Thread Cert.EntryIdeal.nD Cert.EntryIdeal.τ).loc Cert.EntryIdeal.main_arg3)) →
    ∃ (v0 : (c : Dev Cert.EntryIdeal.nD) → Buf (Elt Ideal) ((c.tc : Thread Cert.EntryIdeal.nD Cert.EntryIdeal.τ).loc Cert.EntryIdeal.main_v2)),
      θ_run (Cert.EntryIdeal.defs (F := Ideal)) (onTc (τ := Cert.EntryIdeal.τ) (Cert.EntryIdeal.main (F := Ideal))) ⟨m, fun _ => 0, g⟩ (fun r => ∀ c : Dev Cert.EntryIdeal.nD,
          r.2.mem ((c.tc : Thread Cert.EntryIdeal.nD Cert.EntryIdeal.τ).loc Cert.EntryIdeal.main_v2) = v0 c
          ∧ r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
          ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
          ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
          ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3))
      ∧ θ_run (Cert.EntryRefIdeal.defs (F := Ideal)) (onTc (τ := Cert.EntryRefIdeal.τ) (Cert.EntryRefIdeal.main (F := Ideal))) ⟨m', fun _ => 0, g'⟩ (fun r => ∀ c : Dev Cert.EntryRefIdeal.nD,
          r.2.mem ((c.tc : Thread Cert.EntryRefIdeal.nD Cert.EntryRefIdeal.τ).loc Cert.EntryRefIdeal.main_v17) = v0 c
          ∧ r.2.mem ((c.tc : Thread Cert.EntryRefIdeal.nD Cert.EntryRefIdeal.τ).loc Cert.EntryRefIdeal.main_arg0) = m' ((c.tc : Thread Cert.EntryRefIdeal.nD Cert.EntryRefIdeal.τ).loc Cert.EntryRefIdeal.main_arg0)
          ∧ r.2.mem ((c.tc : Thread Cert.EntryRefIdeal.nD Cert.EntryRefIdeal.τ).loc Cert.EntryRefIdeal.main_arg1) = m' ((c.tc : Thread Cert.EntryRefIdeal.nD Cert.EntryRefIdeal.τ).loc Cert.EntryRefIdeal.main_arg1)
          ∧ r.2.mem ((c.tc : Thread Cert.EntryRefIdeal.nD Cert.EntryRefIdeal.τ).loc Cert.EntryRefIdeal.main_arg2) = m' ((c.tc : Thread Cert.EntryRefIdeal.nD Cert.EntryRefIdeal.τ).loc Cert.EntryRefIdeal.main_arg2)
          ∧ r.2.mem ((c.tc : Thread Cert.EntryRefIdeal.nD Cert.EntryRefIdeal.τ).loc Cert.EntryRefIdeal.main_arg3) = m' ((c.tc : Thread Cert.EntryRefIdeal.nD Cert.EntryRefIdeal.τ).loc Cert.EntryRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v4) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_Heads_HeadsIdeal : Prop :=
  True

def algebraic_HeadsIdeal_HeadsRefIdeal [hHeadsIdeal : Cert.HeadsIdeal.Facts] [hHeadsRefIdeal : Cert.HeadsRefIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)
      ∧ m' ((c.tc : Thread Cert.HeadsRefIdeal.nD Cert.HeadsRefIdeal.τ).loc Cert.HeadsRefIdeal.main_arg2) = m ((c.tc : Thread Cert.HeadsIdeal.nD Cert.HeadsIdeal.τ).loc Cert.HeadsIdeal.main_arg2)) →
    ∃ (v0 : (c : Dev Cert.HeadsIdeal.nD) → Buf (Elt Ideal) ((c.tc : Thread Cert.HeadsIdeal.nD Cert.HeadsIdeal.τ).loc Cert.HeadsIdeal.main_v1)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v1) = v0 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v2) = v0 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1)
          ∧ r.2.mem ((c.tc : Thread Cert.HeadsRefIdeal.nD Cert.HeadsRefIdeal.τ).loc Cert.HeadsRefIdeal.main_arg2) = m' ((c.tc : Thread Cert.HeadsRefIdeal.nD Cert.HeadsRefIdeal.τ).loc Cert.HeadsRefIdeal.main_arg2))

def preserves_Inlet_InletIdeal : Prop :=
  True

def algebraic_InletIdeal_InletRefIdeal [hInletIdeal : Cert.InletIdeal.Facts] [hInletRefIdeal : Cert.InletRefIdeal.Facts] : Prop :=
  ∀ (m : (ℓ : Loc Cert.InletIdeal.nD Cert.InletIdeal.τ Cert.InletIdeal.sig) → Buf (Elt Ideal) ℓ) (g : Dev Cert.InletIdeal.nD → PrngReg)
    (m' : (ℓ : Loc Cert.InletRefIdeal.nD Cert.InletRefIdeal.τ Cert.InletRefIdeal.sig) → Buf (Elt Ideal) ℓ) (g' : Dev Cert.InletRefIdeal.nD → PrngReg), Pre_InletIdeal m →
    (∀ c : Dev Cert.InletIdeal.nD,
      m' ((c.tc : Thread Cert.InletRefIdeal.nD Cert.InletRefIdeal.τ).loc Cert.InletRefIdeal.main_arg0) = m ((c.tc : Thread Cert.InletIdeal.nD Cert.InletIdeal.τ).loc Cert.InletIdeal.main_arg0)
      ∧ m' ((c.tc : Thread Cert.InletRefIdeal.nD Cert.InletRefIdeal.τ).loc Cert.InletRefIdeal.main_arg1) = m ((c.tc : Thread Cert.InletIdeal.nD Cert.InletIdeal.τ).loc Cert.InletIdeal.main_arg1)
      ∧ m' ((c.tc : Thread Cert.InletRefIdeal.nD Cert.InletRefIdeal.τ).loc Cert.InletRefIdeal.main_arg2) = m ((c.tc : Thread Cert.InletIdeal.nD Cert.InletIdeal.τ).loc Cert.InletIdeal.main_arg2)
      ∧ m' ((c.tc : Thread Cert.InletRefIdeal.nD Cert.InletRefIdeal.τ).loc Cert.InletRefIdeal.main_arg3) = m ((c.tc : Thread Cert.InletIdeal.nD Cert.InletIdeal.τ).loc Cert.InletIdeal.main_arg3)
      ∧ m' ((c.tc : Thread Cert.InletRefIdeal.nD Cert.InletRefIdeal.τ).loc Cert.InletRefIdeal.main_arg4) = m ((c.tc : Thread Cert.InletIdeal.nD Cert.InletIdeal.τ).loc Cert.InletIdeal.main_arg4)
      ∧ m' ((c.tc : Thread Cert.InletRefIdeal.nD Cert.InletRefIdeal.τ).loc Cert.InletRefIdeal.main_arg5) = m ((c.tc : Thread Cert.InletIdeal.nD Cert.InletIdeal.τ).loc Cert.InletIdeal.main_arg5)
      ∧ m' ((c.tc : Thread Cert.InletRefIdeal.nD Cert.InletRefIdeal.τ).loc Cert.InletRefIdeal.main_arg6) = m ((c.tc : Thread Cert.InletIdeal.nD Cert.InletIdeal.τ).loc Cert.InletIdeal.main_arg6)
      ∧ m' ((c.tc : Thread Cert.InletRefIdeal.nD Cert.InletRefIdeal.τ).loc Cert.InletRefIdeal.main_arg7) = m ((c.tc : Thread Cert.InletIdeal.nD Cert.InletIdeal.τ).loc Cert.InletIdeal.main_arg7)
      ∧ m' ((c.tc : Thread Cert.InletRefIdeal.nD Cert.InletRefIdeal.τ).loc Cert.InletRefIdeal.main_arg8) = m ((c.tc : Thread Cert.InletIdeal.nD Cert.InletIdeal.τ).loc Cert.InletIdeal.main_arg8)) →
    ∃ (v0 : (c : Dev Cert.InletIdeal.nD) → Buf (Elt Ideal) ((c.tc : Thread Cert.InletIdeal.nD Cert.InletIdeal.τ).loc Cert.InletIdeal.main_v28_0)) (v1 : (c : Dev Cert.InletIdeal.nD) → Buf (Elt Ideal) ((c.tc : Thread Cert.InletIdeal.nD Cert.InletIdeal.τ).loc Cert.InletIdeal.main_v28_1)) (v2 : (c : Dev Cert.InletIdeal.nD) → Buf (Elt Ideal) ((c.tc : Thread Cert.InletIdeal.nD Cert.InletIdeal.τ).loc Cert.InletIdeal.main_v28_2)),
      θ_run (Cert.InletIdeal.defs (F := Ideal)) (onTc (τ := Cert.InletIdeal.τ) (Cert.InletIdeal.main (F := Ideal))) ⟨m, fun _ => 0, g⟩ (fun r => ∀ c : Dev Cert.InletIdeal.nD,
          r.2.mem ((c.tc : Thread Cert.InletIdeal.nD Cert.InletIdeal.τ).loc Cert.InletIdeal.main_v28_0) = v0 c
          ∧ r.2.mem ((c.tc : Thread Cert.InletIdeal.nD Cert.InletIdeal.τ).loc Cert.InletIdeal.main_v28_1) = v1 c
          ∧ r.2.mem ((c.tc : Thread Cert.InletIdeal.nD Cert.InletIdeal.τ).loc Cert.InletIdeal.main_v28_2) = v2 c
          ∧ r.2.mem ((c.tc : Thread Cert.InletIdeal.nD Cert.InletIdeal.τ).loc Cert.InletIdeal.main_arg0) = m ((c.tc : Thread Cert.InletIdeal.nD Cert.InletIdeal.τ).loc Cert.InletIdeal.main_arg0)
          ∧ r.2.mem ((c.tc : Thread Cert.InletIdeal.nD Cert.InletIdeal.τ).loc Cert.InletIdeal.main_arg1) = m ((c.tc : Thread Cert.InletIdeal.nD Cert.InletIdeal.τ).loc Cert.InletIdeal.main_arg1)
          ∧ r.2.mem ((c.tc : Thread Cert.InletIdeal.nD Cert.InletIdeal.τ).loc Cert.InletIdeal.main_arg2) = m ((c.tc : Thread Cert.InletIdeal.nD Cert.InletIdeal.τ).loc Cert.InletIdeal.main_arg2)
          ∧ r.2.mem ((c.tc : Thread Cert.InletIdeal.nD Cert.InletIdeal.τ).loc Cert.InletIdeal.main_arg3) = m ((c.tc : Thread Cert.InletIdeal.nD Cert.InletIdeal.τ).loc Cert.InletIdeal.main_arg3)
          ∧ r.2.mem ((c.tc : Thread Cert.InletIdeal.nD Cert.InletIdeal.τ).loc Cert.InletIdeal.main_arg4) = m ((c.tc : Thread Cert.InletIdeal.nD Cert.InletIdeal.τ).loc Cert.InletIdeal.main_arg4)
          ∧ r.2.mem ((c.tc : Thread Cert.InletIdeal.nD Cert.InletIdeal.τ).loc Cert.InletIdeal.main_arg5) = m ((c.tc : Thread Cert.InletIdeal.nD Cert.InletIdeal.τ).loc Cert.InletIdeal.main_arg5)
          ∧ r.2.mem ((c.tc : Thread Cert.InletIdeal.nD Cert.InletIdeal.τ).loc Cert.InletIdeal.main_arg6) = m ((c.tc : Thread Cert.InletIdeal.nD Cert.InletIdeal.τ).loc Cert.InletIdeal.main_arg6)
          ∧ r.2.mem ((c.tc : Thread Cert.InletIdeal.nD Cert.InletIdeal.τ).loc Cert.InletIdeal.main_arg7) = m ((c.tc : Thread Cert.InletIdeal.nD Cert.InletIdeal.τ).loc Cert.InletIdeal.main_arg7)
          ∧ r.2.mem ((c.tc : Thread Cert.InletIdeal.nD Cert.InletIdeal.τ).loc Cert.InletIdeal.main_arg8) = m ((c.tc : Thread Cert.InletIdeal.nD Cert.InletIdeal.τ).loc Cert.InletIdeal.main_arg8))
      ∧ θ_run (Cert.InletRefIdeal.defs (F := Ideal)) (onTc (τ := Cert.InletRefIdeal.τ) (Cert.InletRefIdeal.main (F := Ideal))) ⟨m', fun _ => 0, g'⟩ (fun r => ∀ c : Dev Cert.InletRefIdeal.nD,
          r.2.mem ((c.tc : Thread Cert.InletRefIdeal.nD Cert.InletRefIdeal.τ).loc Cert.InletRefIdeal.main_v79) = v0 c
          ∧ r.2.mem ((c.tc : Thread Cert.InletRefIdeal.nD Cert.InletRefIdeal.τ).loc Cert.InletRefIdeal.main_v78) = v1 c
          ∧ r.2.mem ((c.tc : Thread Cert.InletRefIdeal.nD Cert.InletRefIdeal.τ).loc Cert.InletRefIdeal.main_v80) = v2 c
          ∧ r.2.mem ((c.tc : Thread Cert.InletRefIdeal.nD Cert.InletRefIdeal.τ).loc Cert.InletRefIdeal.main_arg0) = m' ((c.tc : Thread Cert.InletRefIdeal.nD Cert.InletRefIdeal.τ).loc Cert.InletRefIdeal.main_arg0)
          ∧ r.2.mem ((c.tc : Thread Cert.InletRefIdeal.nD Cert.InletRefIdeal.τ).loc Cert.InletRefIdeal.main_arg1) = m' ((c.tc : Thread Cert.InletRefIdeal.nD Cert.InletRefIdeal.τ).loc Cert.InletRefIdeal.main_arg1)
          ∧ r.2.mem ((c.tc : Thread Cert.InletRefIdeal.nD Cert.InletRefIdeal.τ).loc Cert.InletRefIdeal.main_arg2) = m' ((c.tc : Thread Cert.InletRefIdeal.nD Cert.InletRefIdeal.τ).loc Cert.InletRefIdeal.main_arg2)
          ∧ r.2.mem ((c.tc : Thread Cert.InletRefIdeal.nD Cert.InletRefIdeal.τ).loc Cert.InletRefIdeal.main_arg3) = m' ((c.tc : Thread Cert.InletRefIdeal.nD Cert.InletRefIdeal.τ).loc Cert.InletRefIdeal.main_arg3)
          ∧ r.2.mem ((c.tc : Thread Cert.InletRefIdeal.nD Cert.InletRefIdeal.τ).loc Cert.InletRefIdeal.main_arg4) = m' ((c.tc : Thread Cert.InletRefIdeal.nD Cert.InletRefIdeal.τ).loc Cert.InletRefIdeal.main_arg4)
          ∧ r.2.mem ((c.tc : Thread Cert.InletRefIdeal.nD Cert.InletRefIdeal.τ).loc Cert.InletRefIdeal.main_arg5) = m' ((c.tc : Thread Cert.InletRefIdeal.nD Cert.InletRefIdeal.τ).loc Cert.InletRefIdeal.main_arg5)
          ∧ r.2.mem ((c.tc : Thread Cert.InletRefIdeal.nD Cert.InletRefIdeal.τ).loc Cert.InletRefIdeal.main_arg6) = m' ((c.tc : Thread Cert.InletRefIdeal.nD Cert.InletRefIdeal.τ).loc Cert.InletRefIdeal.main_arg6)
          ∧ r.2.mem ((c.tc : Thread Cert.InletRefIdeal.nD Cert.InletRefIdeal.τ).loc Cert.InletRefIdeal.main_arg7) = m' ((c.tc : Thread Cert.InletRefIdeal.nD Cert.InletRefIdeal.τ).loc Cert.InletRefIdeal.main_arg7)
          ∧ r.2.mem ((c.tc : Thread Cert.InletRefIdeal.nD Cert.InletRefIdeal.τ).loc Cert.InletRefIdeal.main_arg8) = m' ((c.tc : Thread Cert.InletRefIdeal.nD Cert.InletRefIdeal.τ).loc Cert.InletRefIdeal.main_arg8))

def Claim : Prop :=
  ∃ (hGate : Cert.Gate.Facts) (hGateIdeal : Cert.GateIdeal.Facts) (hGateRefIdeal : Cert.GateRefIdeal.Facts) (hDown : Cert.Down.Facts) (hDownIdeal : Cert.DownIdeal.Facts) (hDownRefIdeal : Cert.DownRefIdeal.Facts) (hNorm : Cert.Norm.Facts) (hNormIdeal : Cert.NormIdeal.Facts) (hNormRefIdeal : Cert.NormRefIdeal.Facts) (hUp : Cert.Up.Facts) (hUpIdeal : Cert.UpIdeal.Facts) (hUpRefIdeal : Cert.UpRefIdeal.Facts) (hLift : Cert.Lift.Facts) (hLiftIdeal : Cert.LiftIdeal.Facts) (hLiftRefIdeal : Cert.LiftRefIdeal.Facts) (hMix : Cert.Mix.Facts) (hMixIdeal : Cert.MixIdeal.Facts) (hMixRefIdeal : Cert.MixRefIdeal.Facts) (hGateFirst : Cert.GateFirst.Facts) (hGateFirstIdeal : Cert.GateFirstIdeal.Facts) (hGateFirstRefIdeal : Cert.GateFirstRefIdeal.Facts) (hDownFirst : Cert.DownFirst.Facts) (hDownFirstIdeal : Cert.DownFirstIdeal.Facts) (hDownFirstRefIdeal : Cert.DownFirstRefIdeal.Facts) (hNormFirst : Cert.NormFirst.Facts) (hNormFirstIdeal : Cert.NormFirstIdeal.Facts) (hNormFirstRefIdeal : Cert.NormFirstRefIdeal.Facts) (hUpFirst : Cert.UpFirst.Facts) (hUpFirstIdeal : Cert.UpFirstIdeal.Facts) (hUpFirstRefIdeal : Cert.UpFirstRefIdeal.Facts) (hLiftFirst : Cert.LiftFirst.Facts) (hLiftFirstIdeal : Cert.LiftFirstIdeal.Facts) (hLiftFirstRefIdeal : Cert.LiftFirstRefIdeal.Facts) (hMixFirst : Cert.MixFirst.Facts) (hMixFirstIdeal : Cert.MixFirstIdeal.Facts) (hMixFirstRefIdeal : Cert.MixFirstRefIdeal.Facts) (hScan : Cert.Scan.Facts) (hScanIdeal : Cert.ScanIdeal.Facts) (hScanRefIdeal : Cert.ScanRefIdeal.Facts) (hQuery : Cert.Query.Facts) (hQueryIdeal : Cert.QueryIdeal.Facts) (hQueryRefIdeal : Cert.QueryRefIdeal.Facts) (hEntry : Cert.Entry.Facts) (hEntryIdeal : Cert.EntryIdeal.Facts) (hEntryRefIdeal : Cert.EntryRefIdeal.Facts) (hMerge : Cert.Merge.Facts) (hMergeIdeal : Cert.MergeIdeal.Facts) (hMergeRefIdeal : Cert.MergeRefIdeal.Facts) (hHeads : Cert.Heads.Facts) (hHeadsIdeal : Cert.HeadsIdeal.Facts) (hHeadsRefIdeal : Cert.HeadsRefIdeal.Facts) (hInlet : Cert.Inlet.Facts) (hInletIdeal : Cert.InletIdeal.Facts) (hInletRefIdeal : Cert.InletRefIdeal.Facts) (hPre_finite3 : Cert.Pre_finite3.Facts) (hPre_finite_gate : Cert.Pre_finite_gate.Facts) (hPre_finite3_first : Cert.Pre_finite3_first.Facts) (hPre_finite_gate_first : Cert.Pre_finite_gate_first.Facts) (hPre_finite_scan : Cert.Pre_finite_scan.Facts),
    quiescent_Gate (hGate := hGate)
    ∧ quiescent_GateIdeal (hGateIdeal := hGateIdeal)
    ∧ quiescent_GateIdeal_pre_finite3 (hGateIdeal := hGateIdeal) (hPre_finite3 := hPre_finite3)
    ∧ quiescent_GateRefIdeal (hGateRefIdeal := hGateRefIdeal)
    ∧ quiescent_GateRefIdeal_pre_finite3 (hGateRefIdeal := hGateRefIdeal) (hPre_finite3 := hPre_finite3)
    ∧ quiescent_Down (hDown := hDown)
    ∧ quiescent_DownIdeal (hDownIdeal := hDownIdeal)
    ∧ quiescent_DownRefIdeal (hDownRefIdeal := hDownRefIdeal)
    ∧ quiescent_Norm (hNorm := hNorm)
    ∧ quiescent_NormIdeal (hNormIdeal := hNormIdeal)
    ∧ quiescent_NormRefIdeal (hNormRefIdeal := hNormRefIdeal)
    ∧ quiescent_Up (hUp := hUp)
    ∧ quiescent_UpIdeal (hUpIdeal := hUpIdeal)
    ∧ quiescent_UpRefIdeal (hUpRefIdeal := hUpRefIdeal)
    ∧ quiescent_Lift (hLift := hLift)
    ∧ quiescent_LiftIdeal (hLiftIdeal := hLiftIdeal)
    ∧ quiescent_LiftRefIdeal (hLiftRefIdeal := hLiftRefIdeal)
    ∧ quiescent_Mix (hMix := hMix)
    ∧ quiescent_MixIdeal (hMixIdeal := hMixIdeal)
    ∧ quiescent_MixIdeal_pre_finite_gate (hMixIdeal := hMixIdeal) (hPre_finite_gate := hPre_finite_gate)
    ∧ quiescent_MixRefIdeal (hMixRefIdeal := hMixRefIdeal)
    ∧ quiescent_MixRefIdeal_pre_finite_gate (hMixRefIdeal := hMixRefIdeal) (hPre_finite_gate := hPre_finite_gate)
    ∧ quiescent_GateFirst (hGateFirst := hGateFirst)
    ∧ quiescent_GateFirstIdeal (hGateFirstIdeal := hGateFirstIdeal)
    ∧ quiescent_GateFirstIdeal_pre_finite3_first (hGateFirstIdeal := hGateFirstIdeal) (hPre_finite3_first := hPre_finite3_first)
    ∧ quiescent_GateFirstRefIdeal (hGateFirstRefIdeal := hGateFirstRefIdeal)
    ∧ quiescent_GateFirstRefIdeal_pre_finite3_first (hGateFirstRefIdeal := hGateFirstRefIdeal) (hPre_finite3_first := hPre_finite3_first)
    ∧ quiescent_DownFirst (hDownFirst := hDownFirst)
    ∧ quiescent_DownFirstIdeal (hDownFirstIdeal := hDownFirstIdeal)
    ∧ quiescent_DownFirstRefIdeal (hDownFirstRefIdeal := hDownFirstRefIdeal)
    ∧ quiescent_NormFirst (hNormFirst := hNormFirst)
    ∧ quiescent_NormFirstIdeal (hNormFirstIdeal := hNormFirstIdeal)
    ∧ quiescent_NormFirstRefIdeal (hNormFirstRefIdeal := hNormFirstRefIdeal)
    ∧ quiescent_UpFirst (hUpFirst := hUpFirst)
    ∧ quiescent_UpFirstIdeal (hUpFirstIdeal := hUpFirstIdeal)
    ∧ quiescent_UpFirstRefIdeal (hUpFirstRefIdeal := hUpFirstRefIdeal)
    ∧ quiescent_LiftFirst (hLiftFirst := hLiftFirst)
    ∧ quiescent_LiftFirstIdeal (hLiftFirstIdeal := hLiftFirstIdeal)
    ∧ quiescent_LiftFirstRefIdeal (hLiftFirstRefIdeal := hLiftFirstRefIdeal)
    ∧ quiescent_MixFirst (hMixFirst := hMixFirst)
    ∧ quiescent_MixFirstIdeal (hMixFirstIdeal := hMixFirstIdeal)
    ∧ quiescent_MixFirstIdeal_pre_finite_gate_first (hMixFirstIdeal := hMixFirstIdeal) (hPre_finite_gate_first := hPre_finite_gate_first)
    ∧ quiescent_MixFirstRefIdeal (hMixFirstRefIdeal := hMixFirstRefIdeal)
    ∧ quiescent_MixFirstRefIdeal_pre_finite_gate_first (hMixFirstRefIdeal := hMixFirstRefIdeal) (hPre_finite_gate_first := hPre_finite_gate_first)
    ∧ quiescent_Scan (hScan := hScan)
    ∧ quiescent_ScanIdeal (hScanIdeal := hScanIdeal)
    ∧ quiescent_ScanIdeal_pre_finite_scan (hScanIdeal := hScanIdeal) (hPre_finite_scan := hPre_finite_scan)
    ∧ quiescent_ScanRefIdeal (hScanRefIdeal := hScanRefIdeal)
    ∧ quiescent_ScanRefIdeal_pre_finite_scan (hScanRefIdeal := hScanRefIdeal) (hPre_finite_scan := hPre_finite_scan)
    ∧ quiescent_Query (hQuery := hQuery)
    ∧ quiescent_QueryIdeal (hQueryIdeal := hQueryIdeal)
    ∧ quiescent_QueryRefIdeal (hQueryRefIdeal := hQueryRefIdeal)
    ∧ quiescent_Entry (hEntry := hEntry)
    ∧ quiescent_EntryIdeal (hEntryIdeal := hEntryIdeal)
    ∧ quiescent_EntryRefIdeal (hEntryRefIdeal := hEntryRefIdeal)
    ∧ quiescent_Merge (hMerge := hMerge)
    ∧ quiescent_MergeIdeal (hMergeIdeal := hMergeIdeal)
    ∧ quiescent_MergeRefIdeal (hMergeRefIdeal := hMergeRefIdeal)
    ∧ quiescent_Heads (hHeads := hHeads)
    ∧ quiescent_HeadsIdeal (hHeadsIdeal := hHeadsIdeal)
    ∧ quiescent_HeadsRefIdeal (hHeadsRefIdeal := hHeadsRefIdeal)
    ∧ quiescent_Inlet (hInlet := hInlet)
    ∧ quiescent_InletIdeal (hInletIdeal := hInletIdeal)
    ∧ quiescent_InletRefIdeal (hInletRefIdeal := hInletRefIdeal)
    ∧ preserves_Gate_GateIdeal
    ∧ algebraic_GateIdeal_GateRefIdeal_pre_finite3 (hGateIdeal := hGateIdeal) (hGateRefIdeal := hGateRefIdeal) (hPre_finite3 := hPre_finite3)
    ∧ preserves_Down_DownIdeal
    ∧ algebraic_DownIdeal_DownRefIdeal (hDownIdeal := hDownIdeal) (hDownRefIdeal := hDownRefIdeal)
    ∧ preserves_Norm_NormIdeal
    ∧ algebraic_NormIdeal_NormRefIdeal (hNormIdeal := hNormIdeal) (hNormRefIdeal := hNormRefIdeal)
    ∧ preserves_Up_UpIdeal
    ∧ algebraic_UpIdeal_UpRefIdeal (hUpIdeal := hUpIdeal) (hUpRefIdeal := hUpRefIdeal)
    ∧ preserves_Lift_LiftIdeal
    ∧ algebraic_LiftIdeal_LiftRefIdeal (hLiftIdeal := hLiftIdeal) (hLiftRefIdeal := hLiftRefIdeal)
    ∧ preserves_Mix_MixIdeal
    ∧ algebraic_MixIdeal_MixRefIdeal_pre_finite_gate (hMixIdeal := hMixIdeal) (hMixRefIdeal := hMixRefIdeal) (hPre_finite_gate := hPre_finite_gate)
    ∧ preserves_GateFirst_GateFirstIdeal
    ∧ algebraic_GateFirstIdeal_GateFirstRefIdeal_pre_finite3_first (hGateFirstIdeal := hGateFirstIdeal) (hGateFirstRefIdeal := hGateFirstRefIdeal) (hPre_finite3_first := hPre_finite3_first)
    ∧ preserves_DownFirst_DownFirstIdeal
    ∧ algebraic_DownFirstIdeal_DownFirstRefIdeal (hDownFirstIdeal := hDownFirstIdeal) (hDownFirstRefIdeal := hDownFirstRefIdeal)
    ∧ preserves_NormFirst_NormFirstIdeal
    ∧ algebraic_NormFirstIdeal_NormFirstRefIdeal (hNormFirstIdeal := hNormFirstIdeal) (hNormFirstRefIdeal := hNormFirstRefIdeal)
    ∧ preserves_UpFirst_UpFirstIdeal
    ∧ algebraic_UpFirstIdeal_UpFirstRefIdeal (hUpFirstIdeal := hUpFirstIdeal) (hUpFirstRefIdeal := hUpFirstRefIdeal)
    ∧ preserves_LiftFirst_LiftFirstIdeal
    ∧ algebraic_LiftFirstIdeal_LiftFirstRefIdeal (hLiftFirstIdeal := hLiftFirstIdeal) (hLiftFirstRefIdeal := hLiftFirstRefIdeal)
    ∧ preserves_MixFirst_MixFirstIdeal
    ∧ algebraic_MixFirstIdeal_MixFirstRefIdeal_pre_finite_gate_first (hMixFirstIdeal := hMixFirstIdeal) (hMixFirstRefIdeal := hMixFirstRefIdeal) (hPre_finite_gate_first := hPre_finite_gate_first)
    ∧ preserves_Scan_ScanIdeal
    ∧ algebraic_ScanIdeal_ScanRefIdeal_pre_finite_scan (hScanIdeal := hScanIdeal) (hScanRefIdeal := hScanRefIdeal) (hPre_finite_scan := hPre_finite_scan)
    ∧ preserves_Query_QueryIdeal
    ∧ algebraic_QueryIdeal_QueryRefIdeal (hQueryIdeal := hQueryIdeal) (hQueryRefIdeal := hQueryRefIdeal)
    ∧ preserves_Entry_EntryIdeal
    ∧ algebraic_EntryIdeal_EntryRefIdeal (hEntryIdeal := hEntryIdeal) (hEntryRefIdeal := hEntryRefIdeal)
    ∧ preserves_Merge_MergeIdeal
    ∧ algebraic_MergeIdeal_MergeRefIdeal (hMergeIdeal := hMergeIdeal) (hMergeRefIdeal := hMergeRefIdeal)
    ∧ preserves_Heads_HeadsIdeal
    ∧ algebraic_HeadsIdeal_HeadsRefIdeal (hHeadsIdeal := hHeadsIdeal) (hHeadsRefIdeal := hHeadsRefIdeal)
    ∧ preserves_Inlet_InletIdeal
    ∧ algebraic_InletIdeal_InletRefIdeal (hInletIdeal := hInletIdeal) (hInletRefIdeal := hInletRefIdeal)
-- ==== Pre_finite3.lean ====
abbrev S8192x5632 : Shape := ⟨2, ![8192, 5632]⟩
abbrev S2816x1024 : Shape := ⟨2, ![2816, 1024]⟩
abbrev S8192x1024 : Shape := ⟨2, ![8192, 1024]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x5632 .f32) (main_arg1 : FVec F S2816x1024 .f32) (main_arg2 : FVec F S8192x1024 .f32) : IVec S_ 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_finite3_first.lean ====
abbrev S8448x5632 : Shape := ⟨2, ![8448, 5632]⟩
abbrev S2816x1024 : Shape := ⟨2, ![2816, 1024]⟩
abbrev S8448x1024 : Shape := ⟨2, ![8448, 1024]⟩
abbrev S_ : Shape := ⟨0, ![]⟩

class Facts : Prop where
  bcast_S_S8448x5632 : S_.BroadcastsInDim S8448x5632 (![] : Fin 0 → Fin S8448x5632.rank)
  reducesTo_S8448x5632_S_d0_1 : S8448x5632.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8448x1024 : S_.BroadcastsInDim S8448x1024 (![] : Fin 0 → Fin S8448x1024.rank)
  reducesTo_S8448x1024_S_d0_1 : S8448x1024.ReducesTo [0, 1] S_

variable [Facts]

def fn {F : FTy → Type} [FloatOps F] (main_arg0 : FVec F S8448x5632 .f32) (main_arg1 : FVec F S2816x1024 .f32) (main_arg2 : FVec F S8448x1024 .f32) : IVec S_ 1 :=
  let main_v0 : FVec F S8448x5632 .f32 := Host.absf main_arg0
  let main_cst : FVec F S_ .f32 := constant S_ .f32 0x7F800000#32
  let main_v1 : FVec F S8448x5632 .f32 := broadcastInDim S8448x5632 ![] bcast_S_S8448x5632 main_cst
  let main_v2 : IVec S8448x5632 1 := cmpf .olt main_v0 main_v1
  let main_c : IVec S_ 1 := constantI S_ 1 1#1
  let main_v3 : IVec S_ 1 := (fun x v => Host.reduce IntOp.andi x v reducesTo_S8448x5632_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8448x1024 .f32 := Host.absf main_arg2
  let main_cst_2 : FVec F S_ .f32 := constant S_ .f32 0x7F800000#32
  let main_v10 : FVec F S8448x1024 .f32 := broadcastInDim S8448x1024 ![] bcast_S_S8448x1024 main_cst_2
  let main_v11 : IVec S8448x1024 1 := cmpf .olt main_v9 main_v10
  let main_c_3 : IVec S_ 1 := constantI S_ 1 1#1
  let main_v12 : IVec S_ 1 := (fun x v => Host.reduce IntOp.andi x v reducesTo_S8448x1024_S_d0_1 h_S_) main_v11 main_c_3
  let main_v13 : IVec S_ 1 := andi main_v8 main_v12
  main_v13
-- ==== Pre_finite_gate.lean ====
abbrev S8192x5632 : Shape := ⟨2, ![8192, 5632]⟩
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  slices_S8192x5632_S8192x2816_0_0 : S8192x5632.Slices ![0, 0] S8192x2816
  bcast_S_S8192x2816 : S_.BroadcastsInDim S8192x2816 (![] : Fin 0 → Fin S8192x2816.rank)
  reducesTo_S8192x2816_S_d0_1 : S8192x2816.ReducesTo [0, 1] S_
  h_S_ : 0 < S_.numel

variable [Facts]

def fn {F : FTy → Type} [FloatOps F] (main_arg0 : FVec F S8192x5632 .f32) (main_arg1 : FVec F S8192x1024 .f32) (main_arg2 : FVec F S2816x1024 .f32) : IVec S_ 1 :=
  let main_v0 : FVec F S8192x2816 .f32 := (extractStridedSlice S8192x2816 ![0, 0] · slices_S8192x5632_S8192x2816_0_0) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_c : IVec S_ 1 := constantI S_ 1 1#1
  let main_v4 : IVec S_ 1 := (fun x v => Host.reduce IntOp.andi x v reducesTo_S8192x2816_S_d0_1 h_S_) main_v3 main_c
  main_v4
-- ==== Pre_finite_gate_first.lean ====
abbrev S8448x5632 : Shape := ⟨2, ![8448, 5632]⟩
abbrev S8448x1024 : Shape := ⟨2, ![8448, 1024]⟩
abbrev S2816x1024 : Shape := ⟨2, ![2816, 1024]⟩
abbrev S8448x2816 : Shape := ⟨2, ![8448, 2816]⟩
abbrev S_ : Shape := ⟨0, ![]⟩

class Facts : Prop where
  slices_S8448x5632_S8448x2816_0_0 : S8448x5632.Slices ![0, 0] S8448x2816
  bcast_S_S8448x2816 : S_.BroadcastsInDim S8448x2816 (![] : Fin 0 → Fin S8448x2816.rank)
  reducesTo_S8448x2816_S_d0_1 : S8448x2816.ReducesTo [0, 1] S_
  h_S_ : 0 < S_.numel

variable [Facts]

def fn {F : FTy → Type} [FloatOps F] (main_arg0 : FVec F S8448x5632 .f32) (main_arg1 : FVec F S8448x1024 .f32) (main_arg2 : FVec F S2816x1024 .f32) : IVec S_ 1 :=
  let main_v0 : FVec F S8448x2816 .f32 := (extractStridedSlice S8448x2816 ![0, 0] · slices_S8448x5632_S8448x2816_0_0) main_arg0
  let main_v1 : FVec F S8448x2816 .f32 := Host.absf main_v0
  let main_cst : FVec F S_ .f32 := constant S_ .f32 0x7F800000#32
  let main_v2 : FVec F S8448x2816 .f32 := broadcastInDim S8448x2816 ![] bcast_S_S8448x2816 main_cst
  let main_v3 : IVec S8448x2816 1 := cmpf .olt main_v1 main_v2
  let main_c : IVec S_ 1 := constantI S_ 1 1#1
  let main_v4 : IVec S_ 1 := (fun x v => Host.reduce IntOp.andi x v reducesTo_S8448x2816_S_d0_1 h_S_) main_v3 main_c
  main_v4
-- ==== Pre_finite_scan.lean ====
abbrev S8448x4096 : Shape := ⟨2, ![8448, 4096]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S8448x4096 : S_.BroadcastsInDim S8448x4096 (![] : Fin 0 → Fin S8448x4096.rank)
  reducesTo_S8448x4096_S_d0_1 : S8448x4096.ReducesTo [0, 1] S_

variable [Facts]

def fn {F : FTy → Type} [FloatOps F] (main_arg0 : FVec F S8448x4096 .f32) (main_arg1 : FVec F S2048 .f32) (main_arg2 : FVec F S2048 .f32) (main_arg3 : FVec F S8448x4096 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S8448x4096 .f32 := Host.absf main_arg3
  let main_cst_2 : FVec F S_ .f32 := constant S_ .f32 0x7F800000#32
  let main_v10 : FVec F S8448x4096 .f32 := broadcastInDim S8448x4096 ![] bcast_S_S8448x4096 main_cst_2
  let main_v11 : IVec S8448x4096 1 := cmpf .olt main_v9 main_v10
  let main_c_3 : IVec S_ 1 := constantI S_ 1 1#1
  let main_v12 : IVec S_ 1 := (fun x v => Host.reduce IntOp.andi x v reducesTo_S8448x4096_S_d0_1 h_S_) main_v11 main_c_3
  let main_v13 : IVec S_ 1 := andi main_v8 main_v12
  main_v13
-- ==== Gate.lean ====
abbrev S8192x5632 : Shape := ⟨2, ![8192, 5632]⟩
abbrev S2816x1024 : Shape := ⟨2, ![2816, 1024]⟩
abbrev S8192x1024 : Shape := ⟨2, ![8192, 1024]⟩
abbrev S256x1024 : Shape := ⟨2, ![256, 1024]⟩
abbrev S256x5632 : Shape := ⟨2, ![256, 5632]⟩
abbrev S3x256x5632 : Shape := ⟨3, ![3, 256, 5632]⟩
abbrev S3 : Shape := ⟨1, ![3]⟩
abbrev S1 : Shape := ⟨1, ![1]⟩
abbrev S_ : Shape := ⟨0, ![]⟩
abbrev S1x256x5632 : Shape := ⟨3, ![1, 256, 5632]⟩
abbrev S256x2816 : Shape := ⟨2, ![256, 2816]⟩

abbrev nBuf : Space → Nat
  | .hbm => 6
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x5632, .bf16⟩
  | .hbm, ⟨4, _⟩ => ⟨S2816x1024, .bf16⟩
  | .hbm, ⟨5, _⟩ => ⟨S8192x5632, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x5632, .bf16⟩
  | .local _ .vmem, ⟨4, _⟩ => ⟨S256x5632, .bf16⟩
  | .local _ .vmem, ⟨5, _⟩ => ⟨S3x256x5632, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c256_i32_26 : BitVec 32 := 256#32
  let v50 : BitVec 32 := Scalar.muli arg0 c256_i32_26
  v50
def k0_off1 (i : grid0.Coords) : Fin 1 → Nat :=
  let arg0 : BitVec 32 := BitVec.ofNat 32 (i 0).val
  let c3_i32_25 : BitVec 32 := 3#32
  let v49 : BitVec 32 := Scalar.remsi arg0 c3_i32_25
  ![v49.toNat]
def k0_off2 (i : grid0.Coords) : Fin 3 → Nat :=
  let arg0 : BitVec 32 := BitVec.ofNat 32 (i 0).val
  let c3_i32_25 : BitVec 32 := 3#32
  let v49 : BitVec 32 := Scalar.remsi arg0 c3_i32_25
  let c0_i32_27 : BitVec 32 := 0#32
  let c0_i32_28 : BitVec 32 := 0#32
  ![v49.toNat, 0, 0]
def k0_off3 (i : grid0.Coords) : Fin 2 → Nat :=
  let arg0 : BitVec 32 := BitVec.ofNat 32 (i 0).val
  let c256_i32_26 : BitVec 32 := 256#32
  let v50 : BitVec 32 := Scalar.muli arg0 c256_i32_26
  let v51 : BitVec 32 := v50
  let c0_i32_29 : BitVec 32 := 0#32
  ![v51.toNat, 0]
def k0_mult2 (i : grid0.Coords) : BitVec 32 :=
  let arg0 : BitVec 32 := BitVec.ofNat 32 (i 0).val
  let c1_i32 : BitVec 32 := 1#32
  let v57 : BitVec 32 := Scalar.addi arg0 c1_i32
  let c256_i32_31 : BitVec 32 := 256#32
  let v59 : BitVec 32 := Scalar.muli v57 c256_i32_31
  v59
def k0_off4 (i : grid0.Coords) : Fin 1 → Nat :=
  let arg0 : BitVec 32 := BitVec.ofNat 32 (i 0).val
  let c1_i32 : BitVec 32 := 1#32
  let v57 : BitVec 32 := Scalar.addi arg0 c1_i32
  let c3_i32_30 : BitVec 32 := 3#32
  let v58 : BitVec 32 := Scalar.remsi v57 c3_i32_30
  ![v58.toNat]
def k0_off5 (i : grid0.Coords) : Fin 3 → Nat :=
  let arg0 : BitVec 32 := BitVec.ofNat 32 (i 0).val
  let c1_i32 : BitVec 32 := 1#32
  let v57 : BitVec 32 := Scalar.addi arg0 c1_i32
  let c3_i32_30 : BitVec 32 := 3#32
  let v58 : BitVec 32 := Scalar.remsi v57 c3_i32_30
  let c0_i32_32 : BitVec 32 := 0#32
  let c0_i32_33 : BitVec 32 := 0#32
  ![v58.toNat, 0, 0]
def k0_off6 (i : grid0.Coords) : Fin 2 → Nat :=
  let arg0 : BitVec 32 := BitVec.ofNat 32 (i 0).val
  let c1_i32 : BitVec 32 := 1#32
  let v57 : BitVec 32 := Scalar.addi arg0 c1_i32
  let c256_i32_31 : BitVec 32 := 256#32
  let v59 : BitVec 32 := Scalar.muli v57 c256_i32_31
  let v60 : BitVec 32 := v59
  let c0_i32_34 : BitVec 32 := 0#32
  ![v60.toNat, 0]
def k0_cond2 (i : grid0.Coords) : BitVec 1 :=
  let arg0 : BitVec 32 := BitVec.ofNat 32 (i 0).val
  let c2_i32 : BitVec 32 := 2#32
  let v3 : BitVec 32 := Scalar.addi arg0 c2_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32_25 : BitVec 32 := 2#32
  let v49 : BitVec 32 := Scalar.addi arg0 c2_i32_25
  let c256_i32_27 : BitVec 32 := 256#32
  let v51 : BitVec 32 := Scalar.muli v49 c256_i32_27
  v51
def k0_off7 (i : grid0.Coords) : Fin 1 → Nat :=
  let arg0 : BitVec 32 := BitVec.ofNat 32 (i 0).val
  let c2_i32_25 : BitVec 32 := 2#32
  let v49 : BitVec 32 := Scalar.addi arg0 c2_i32_25
  let c3_i32_26 : BitVec 32 := 3#32
  let v50 : BitVec 32 := Scalar.remsi v49 c3_i32_26
  ![v50.toNat]
def k0_off8 (i : grid0.Coords) : Fin 3 → Nat :=
  let arg0 : BitVec 32 := BitVec.ofNat 32 (i 0).val
  let c2_i32_25 : BitVec 32 := 2#32
  let v49 : BitVec 32 := Scalar.addi arg0 c2_i32_25
  let c3_i32_26 : BitVec 32 := 3#32
  let v50 : BitVec 32 := Scalar.remsi v49 c3_i32_26
  let c0_i32_28 : BitVec 32 := 0#32
  let c0_i32_29 : BitVec 32 := 0#32
  ![v50.toNat, 0, 0]
def k0_off9 (i : grid0.Coords) : Fin 2 → Nat :=
  let arg0 : BitVec 32 := BitVec.ofNat 32 (i 0).val
  let c2_i32_25 : BitVec 32 := 2#32
  let v49 : BitVec 32 := Scalar.addi arg0 c2_i32_25
  let c256_i32_27 : BitVec 32 := 256#32
  let v51 : BitVec 32 := Scalar.muli v49 c256_i32_27
  let v52 : BitVec 32 := v51
  let c0_i32_30 : BitVec 32 := 0#32
  ![v52.toNat, 0]
def k0_mult4 (i : grid0.Coords) : BitVec 32 :=
  let arg0 : BitVec 32 := BitVec.ofNat 32 (i 0).val
  let c256_i32 : BitVec 32 := 256#32
  let v8 : BitVec 32 := Scalar.muli arg0 c256_i32
  v8
def k0_off10 (i : grid0.Coords) : Fin 1 → Nat :=
  let arg0 : BitVec 32 := BitVec.ofNat 32 (i 0).val
  let c3_i32 : BitVec 32 := 3#32
  let v7 : BitVec 32 := Scalar.remsi arg0 c3_i32
  ![v7.toNat]
def k0_off11 (i : grid0.Coords) : Fin 3 → Nat :=
  let arg0 : BitVec 32 := BitVec.ofNat 32 (i 0).val
  let c3_i32 : BitVec 32 := 3#32
  let v7 : BitVec 32 := Scalar.remsi arg0 c3_i32
  let c0_i32_2 : BitVec 32 := 0#32
  let c0_i32_3 : BitVec 32 := 0#32
  ![v7.toNat, 0, 0]
def k0_off12 (i : grid0.Coords) : Fin 2 → Nat :=
  let arg0 : BitVec 32 := BitVec.ofNat 32 (i 0).val
  let c256_i32 : BitVec 32 := 256#32
  let v8 : BitVec 32 := Scalar.muli arg0 c256_i32
  let v9 : BitVec 32 := v8
  let c0_i32_4 : BitVec 32 := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateIdeal.lean ====
abbrev S8192x5632 : Shape := ⟨2, ![8192, 5632]⟩
abbrev S2816x1024 : Shape := ⟨2, ![2816, 1024]⟩
abbrev S8192x1024 : Shape := ⟨2, ![8192, 1024]⟩
abbrev S256x1024 : Shape := ⟨2, ![256, 1024]⟩
abbrev S256x5632 : Shape := ⟨2, ![256, 5632]⟩
abbrev S3x256x5632 : Shape := ⟨3, ![3, 256, 5632]⟩
abbrev S3 : Shape := ⟨1, ![3]⟩
abbrev S1 : Shape := ⟨1, ![1]⟩
abbrev S_ : Shape := ⟨0, ![]⟩
abbrev S1x256x5632 : Shape := ⟨3, ![1, 256, 5632]⟩
abbrev S256x2816 : Shape := ⟨2, ![256, 2816]⟩

abbrev nBuf : Space → Nat
  | .hbm => 6
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x5632, .bf16⟩
  | .hbm, ⟨4, _⟩ => ⟨S2816x1024, .bf16⟩
  | .hbm, ⟨5, _⟩ => ⟨S8192x5632, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x5632, .bf16⟩
  | .local _ .vmem, ⟨4, _⟩ => ⟨S256x5632, .bf16⟩
  | .local _ .vmem, ⟨5, _⟩ => ⟨S3x256x5632, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c256_i32_26 : BitVec 32 := 256#32
  let v50 : BitVec 32 := Scalar.muli arg0 c256_i32_26
  v50
def k0_off1 (i : grid0.Coords) : Fin 1 → Nat :=
  let arg0 : BitVec 32 := BitVec.ofNat 32 (i 0).val
  let c3_i32_25 : BitVec 32 := 3#32
  let v49 : BitVec 32 := Scalar.remsi arg0 c3_i32_25
  ![v49.toNat]
def k0_off2 (i : grid0.Coords) : Fin 3 → Nat :=
  let arg0 : BitVec 32 := BitVec.ofNat 32 (i 0).val
  let c3_i32_25 : BitVec 32 := 3#32
  let v49 : BitVec 32 := Scalar.remsi arg0 c3_i32_25
  let c0_i32_27 : BitVec 32 := 0#32
  let c0_i32_28 : BitVec 32 := 0#32
  ![v49.toNat, 0, 0]
def k0_off3 (i : grid0.Coords) : Fin 2 → Nat :=
  let arg0 : BitVec 32 := BitVec.ofNat 32 (i 0).val
  let c256_i32_26 : BitVec 32 := 256#32
  let v50 : BitVec 32 := Scalar.muli arg0 c256_i32_26
  let v51 : BitVec 32 := v50
  let c0_i32_29 : BitVec 32 := 0#32
  ![v51.toNat, 0]
def k0_mult2 (i : grid0.Coords) : BitVec 32 :=
  let arg0 : BitVec 32 := BitVec.ofNat 32 (i 0).val
  let c1_i32 : BitVec 32 := 1#32
  let v57 : BitVec 32 := Scalar.addi arg0 c1_i32
  let c256_i32_31 : BitVec 32 := 256#32
  let v59 : BitVec 32 := Scalar.muli v57 c256_i32_31
  v59
def k0_off4 (i : grid0.Coords) : Fin 1 → Nat :=
  let arg0 : BitVec 32 := BitVec.ofNat 32 (i 0).val
  let c1_i32 : BitVec 32 := 1#32
  let v57 : BitVec 32 := Scalar.addi arg0 c1_i32
  let c3_i32_30 : BitVec 32 := 3#32
  let v58 : BitVec 32 := Scalar.remsi v57 c3_i32_30
  ![v58.toNat]
def k0_off5 (i : grid0.Coords) : Fin 3 → Nat :=
  let arg0 : BitVec 32 := BitVec.ofNat 32 (i 0).val
  let c1_i32 : BitVec 32 := 1#32
  let v57 : BitVec 32 := Scalar.addi arg0 c1_i32
  let c3_i32_30 : BitVec 32 := 3#32
  let v58 : BitVec 32 := Scalar.remsi v57 c3_i32_30
  let c0_i32_32 : BitVec 32 := 0#32
  let c0_i32_33 : BitVec 32 := 0#32
  ![v58.toNat, 0, 0]
def k0_off6 (i : grid0.Coords) : Fin 2 → Nat :=
  let arg0 : BitVec 32 := BitVec.ofNat 32 (i 0).val
  let c1_i32 : BitVec 32 := 1#32
  let v57 : BitVec 32 := Scalar.addi arg0 c1_i32
  let c256_i32_31 : BitVec 32 := 256#32
  let v59 : BitVec 32 := Scalar.muli v57 c256_i32_31
  let v60 : BitVec 32 := v59
  let c0_i32_34 : BitVec 32 := 0#32
  ![v60.toNat, 0]
def k0_cond2 (i : grid0.Coords) : BitVec 1 :=
  let arg0 : BitVec 32 := BitVec.ofNat 32 (i 0).val
  let c2_i32 : BitVec 32 := 2#32
  let v3 : BitVec 32 := Scalar.addi arg0 c2_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32_25 : BitVec 32 := 2#32
  let v49 : BitVec 32 := Scalar.addi arg0 c2_i32_25
  let c256_i32_27 : BitVec 32 := 256#32
  let v51 : BitVec 32 := Scalar.muli v49 c256_i32_27
  v51
def k0_off7 (i : grid0.Coords) : Fin 1 → Nat :=
  let arg0 : BitVec 32 := BitVec.ofNat 32 (i 0).val
  let c2_i32_25 : BitVec 32 := 2#32
  let v49 : BitVec 32 := Scalar.addi arg0 c2_i32_25
  let c3_i32_26 : BitVec 32 := 3#32
  let v50 : BitVec 32 := Scalar.remsi v49 c3_i32_26
  ![v50.toNat]
def k0_off8 (i : grid0.Coords) : Fin 3 → Nat :=
  let arg0 : BitVec 32 := BitVec.ofNat 32 (i 0).val
  let c2_i32_25 : BitVec 32 := 2#32
  let v49 : BitVec 32 := Scalar.addi arg0 c2_i32_25
  let c3_i32_26 : BitVec 32 := 3#32
  let v50 : BitVec 32 := Scalar.remsi v49 c3_i32_26
  let c0_i32_28 : BitVec 32 := 0#32
  let c0_i32_29 : BitVec 32 := 0#32
  ![v50.toNat, 0, 0]
def k0_off9 (i : grid0.Coords) : Fin 2 → Nat :=
  let arg0 : BitVec 32 := BitVec.ofNat 32 (i 0).val
  let c2_i32_25 : BitVec 32 := 2#32
  let v49 : BitVec 32 := Scalar.addi arg0 c2_i32_25
  let c256_i32_27 : BitVec 32 := 256#32
  let v51 : BitVec 32 := Scalar.muli v49 c256_i32_27
  let v52 : BitVec 32 := v51
  let c0_i32_30 : BitVec 32 := 0#32
  ![v52.toNat, 0]
def k0_mult4 (i : grid0.Coords) : BitVec 32 :=
  let arg0 : BitVec 32 := BitVec.ofNat 32 (i 0).val
  let c256_i32 : BitVec 32 := 256#32
  let v8 : BitVec 32 := Scalar.muli arg0 c256_i32
  v8
def k0_off10 (i : grid0.Coords) : Fin 1 → Nat :=
  let arg0 : BitVec 32 := BitVec.ofNat 32 (i 0).val
  let c3_i32 : BitVec 32 := 3#32
  let v7 : BitVec 32 := Scalar.remsi arg0 c3_i32
  ![v7.toNat]
def k0_off11 (i : grid0.Coords) : Fin 3 → Nat :=
  let arg0 : BitVec 32 := BitVec.ofNat 32 (i 0).val
  let c3_i32 : BitVec 32 := 3#32
  let v7 : BitVec 32 := Scalar.remsi arg0 c3_i32
  let c0_i32_2 : BitVec 32 := 0#32
  let c0_i32_3 : BitVec 32 := 0#32
  ![v7.toNat, 0, 0]
def k0_off12 (i : grid0.Coords) : Fin 2 → Nat :=
  let arg0 : BitVec 32 := BitVec.ofNat 32 (i 0).val
  let c256_i32 : BitVec 32 := 256#32
  let v8 : BitVec 32 := Scalar.muli arg0 c256_i32
  let v9 : BitVec 32 := v8
  let c0_i32_4 : BitVec 32 := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateRefIdeal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x5632, .f32⟩
  | .hbm, ⟨34, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Down.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 17
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .bf16⟩
  | .hbm, ⟨16, _⟩ => ⟨S2816x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2048x512, .f32⟩
  | .local _ .vmem, ⟨3, _⟩ => ⟨S2048x512, .f32⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownIdeal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 17
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .bf16⟩
  | .hbm, ⟨16, _⟩ => ⟨S2816x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2048x512, .f32⟩
  | .local _ .vmem, ⟨3, _⟩ => ⟨S2048x512, .f32⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownRefIdeal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩

abbrev nBuf : Space → Nat
  | .hbm => 25
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S1024x2816, .f32⟩
  | .hbm, ⟨23, _⟩ => ⟨S2816x1024, .f32⟩
  | .hbm, ⟨24, _⟩ => ⟨S2816x1024, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S1024x4x1408 : Shape := ⟨3, ![1024, 4, 1408]⟩
abbrev S4x1024x1408 : Shape := ⟨3, ![4, 1024, 1408]⟩
abbrev S1x1024 : Shape := ⟨2, ![1, 1024]⟩
abbrev S512x5632 : Shape := ⟨2, ![512, 5632]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S8192x5632, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S8192x5632, .bf16⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S4x1024x1408, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormIdeal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S1024x4x1408 : Shape := ⟨3, ![1024, 4, 1408]⟩
abbrev S4x1024x1408 : Shape := ⟨3, ![4, 1024, 1408]⟩
abbrev S1x1024 : Shape := ⟨2, ![1, 1024]⟩
abbrev S512x5632 : Shape := ⟨2, ![512, 5632]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S8192x5632, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S8192x5632, .bf16⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S4x1024x1408, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S8192x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Up.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x1408x1024 : Shape := ⟨3, ![4, 1408, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 23
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x5632, .bf16⟩
  | .hbm, ⟨22, _⟩ => ⟨S4x1408x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UpIdeal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x1408x1024 : Shape := ⟨3, ![4, 1408, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 23
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x5632, .bf16⟩
  | .hbm, ⟨22, _⟩ => ⟨S4x1408x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UpRefIdeal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5632x1024 : Shape := ⟨2, ![5632, 1024]⟩
abbrev S4x1408x1024 : Shape := ⟨3, ![4, 1408, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S5632x1024, .f32⟩
  | .hbm, ⟨22, _⟩ => ⟨S1024x5632, .f32⟩
  | .hbm, ⟨23, _⟩ => ⟨S5632x1024, .f32⟩
  | .hbm, ⟨24, _⟩ => ⟨S4x1408x1024, .f32⟩
  | .hbm, ⟨25, _⟩ => ⟨S4x1408x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Lift.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S1024x4x1408 : Shape := ⟨3, ![1024, 4, 1408]⟩
abbrev S4x1024x1408 : Shape := ⟨3, ![4, 1024, 1408]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S1024x4x1408, .f32⟩
  | .hbm, ⟨5, _⟩ => ⟨S4x1024x1408, .f32⟩
  | .hbm, ⟨6, _⟩ => ⟨S4x1024x1408, .bf16⟩
  | .hbm, ⟨7, _⟩ => ⟨S8192x5632, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S512x5632, .bf16⟩
  | .local _ .vmem, ⟨5, _⟩ => ⟨S512x5632, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LiftIdeal.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S1024x4x1408 : Shape := ⟨3, ![1024, 4, 1408]⟩
abbrev S4x1024x1408 : Shape := ⟨3, ![4, 1024, 1408]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S1024x4x1408, .f32⟩
  | .hbm, ⟨5, _⟩ => ⟨S4x1024x1408, .f32⟩
  | .hbm, ⟨6, _⟩ => ⟨S4x1024x1408, .bf16⟩
  | .hbm, ⟨7, _⟩ => ⟨S8192x5632, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S512x5632, .bf16⟩
  | .local _ .vmem, ⟨5, _⟩ => ⟨S512x5632, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LiftRefIdeal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x5632, .f32⟩
  | .hbm, ⟨20, _⟩ => ⟨S8192x5632, .bf16⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Mix.lean ====
abbrev S8192x5632 : Shape := ⟨2, ![8192, 5632]⟩
abbrev S8192x1024 : Shape := ⟨2, ![8192, 1024]⟩
abbrev S2816x1024 : Shape := ⟨2, ![2816, 1024]⟩
abbrev S8192x2816 : Shape := ⟨2, ![8192, 2816]⟩
abbrev S256x1024 : Shape := ⟨2, ![256, 1024]⟩
abbrev S256x2816 : Shape := ⟨2, ![256, 2816]⟩
abbrev S3x256x5632 : Shape := ⟨3, ![3, 256, 5632]⟩
abbrev S3 : Shape := ⟨1, ![3]⟩
abbrev S1 : Shape := ⟨1, ![1]⟩
abbrev S_ : Shape := ⟨0, ![]⟩
abbrev S1x256x5632 : Shape := ⟨3, ![1, 256, 5632]⟩
abbrev S256x5632 : Shape := ⟨2, ![256, 5632]⟩

abbrev nBuf : Space → Nat
  | .hbm => 7
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S2816x1024, .f32⟩
  | .hbm, ⟨3, _⟩ => ⟨S8192x5632, .bf16⟩
  | .hbm, ⟨4, _⟩ => ⟨S2816x1024, .bf16⟩
  | .hbm, ⟨5, _⟩ => ⟨S8192x1024, .f32⟩
  | .hbm, ⟨6, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S256x2816, .bf16⟩
  | .local _ .vmem, ⟨6, _⟩ => ⟨S256x2816, .bf16⟩
  | .local _ .vmem, ⟨7, _⟩ => ⟨S3x256x5632, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c256_i32_23 : BitVec 32 := 256#32
  let v38 : BitVec 32 := Scalar.muli arg0 c256_i32_23
  v38
def k0_off1 (i : grid0.Coords) : Fin 1 → Nat :=
  let arg0 : BitVec 32 := BitVec.ofNat 32 (i 0).val
  let c3_i32_22 : BitVec 32 := 3#32
  let v37 : BitVec 32 := Scalar.remsi arg0 c3_i32_22
  ![v37.toNat]
def k0_off2 (i : grid0.Coords) : Fin 3 → Nat :=
  let arg0 : BitVec 32 := BitVec.ofNat 32 (i 0).val
  let c3_i32_22 : BitVec 32 := 3#32
  let v37 : BitVec 32 := Scalar.remsi arg0 c3_i32_22
  let c0_i32_24 : BitVec 32 := 0#32
  let c0_i32_25 : BitVec 32 := 0#32
  ![v37.toNat, 0, 0]
def k0_off3 (i : grid0.Coords) : Fin 2 → Nat :=
  let arg0 : BitVec 32 := BitVec.ofNat 32 (i 0).val
  let c256_i32_23 : BitVec 32 := 256#32
  let v38 : BitVec 32 := Scalar.muli arg0 c256_i32_23
  let v39 : BitVec 32 := v38
  let c0_i32_26 : BitVec 32 := 0#32
  ![v39.toNat, 0]
def k0_mult2 (i : grid0.Coords) : BitVec 32 :=
  let arg0 : BitVec 32 := BitVec.ofNat 32 (i 0).val
  let c1_i32 : BitVec 32 := 1#32
  let v45 : BitVec 32 := Scalar.addi arg0 c1_i32
  let c256_i32_28 : BitVec 32 := 256#32
  let v47 : BitVec 32 := Scalar.muli v45 c256_i32_28
  v47
def k0_off4 (i : grid0.Coords) : Fin 1 → Nat :=
  let arg0 : BitVec 32 := BitVec.ofNat 32 (i 0).val
  let c1_i32 : BitVec 32 := 1#32
  let v45 : BitVec 32 := Scalar.addi arg0 c1_i32
  let c3_i32_27 : BitVec 32 := 3#32
  let v46 : BitVec 32 := Scalar.remsi v45 c3_i32_27
  ![v46.toNat]
def k0_off5 (i : grid0.Coords) : Fin 3 → Nat :=
  let arg0 : BitVec 32 := BitVec.ofNat 32 (i 0).val
  let c1_i32 : BitVec 32 := 1#32
  let v45 : BitVec 32 := Scalar.addi arg0 c1_i32
  let c3_i32_27 : BitVec 32 := 3#32
  let v46 : BitVec 32 := Scalar.remsi v45 c3_i32_27
  let c0_i32_29 : BitVec 32 := 0#32
  let c0_i32_30 : BitVec 32 := 0#32
  ![v46.toNat, 0, 0]
def k0_off6 (i : grid0.Coords) : Fin 2 → Nat :=
  let arg0 : BitVec 32 := BitVec.ofNat 32 (i 0).val
  let c1_i32 : BitVec 32 := 1#32
  let v45 : BitVec 32 := Scalar.addi arg0 c1_i32
  let c256_i32_28 : BitVec 32 := 256#32
  let v47 : BitVec 32 := Scalar.muli v45 c256_i32_28
  let v48 : BitVec 32 := v47
  let c0_i32_31 : BitVec 32 := 0#32
  ![v48.toNat, 0]
def k0_cond2 (i : grid0.Coords) : BitVec 1 :=
  let arg0 : BitVec 32 := BitVec.ofNat 32 (i 0).val
  let c2_i32 : BitVec 32 := 2#32
  let v3 : BitVec 32 := Scalar.addi arg0 c2_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32_22 : BitVec 32 := 2#32
  let v37 : BitVec 32 := Scalar.addi arg0 c2_i32_22
  let c256_i32_24 : BitVec 32 := 256#32
  let v39 : BitVec 32 := Scalar.muli v37 c256_i32_24
  v39
def k0_off7 (i : grid0.Coords) : Fin 1 → Nat :=
  let arg0 : BitVec 32 := BitVec.ofNat 32 (i 0).val
  let c2_i32_22 : BitVec 32 := 2#32
  let v37 : BitVec 32 := Scalar.addi arg0 c2_i32_22
  let c3_i32_23 : BitVec 32 := 3#32
  let v38 : BitVec 32 := Scalar.remsi v37 c3_i32_23
  ![v38.toNat]
def k0_off8 (i : grid0.Coords) : Fin 3 → Nat :=
  let arg0 : BitVec 32 := BitVec.ofNat 32 (i 0).val
  let c2_i32_22 : BitVec 32 := 2#32
  let v37 : BitVec 32 := Scalar.addi arg0 c2_i32_22
  let c3_i32_23 : BitVec 32 := 3#32
  let v38 : BitVec 32 := Scalar.remsi v37 c3_i32_23
  let c0_i32_25 : BitVec 32 := 0#32
  let c0_i32_26 : BitVec 32 := 0#32
  ![v38.toNat, 0, 0]
def k0_off9 (i : grid0.Coords) : Fin 2 → Nat :=
  let arg0 : BitVec 32 := BitVec.ofNat 32 (i 0).val
  let c2_i32_22 : BitVec 32 := 2#32
  let v37 : BitVec 32 := Scalar.addi arg0 c2_i32_22
  let c256_i32_24 : BitVec 32 := 256#32
  let v39 : BitVec 32 := Scalar.muli v37 c256_i32_24
  let v40 : BitVec 32 := v39
  let c0_i32_27 : BitVec 32 := 0#32
  ![v40.toNat, 0]
def k0_mult4 (i : grid0.Coords) : BitVec 32 :=
  let arg0 : BitVec 32 := BitVec.ofNat 32 (i 0).val
  let c256_i32 : BitVec 32 := 256#32
  let v8 : BitVec 32 := Scalar.muli arg0 c256_i32
  v8
def k0_off10 (i : grid0.Coords) : Fin 1 → Nat :=
  let arg0 : BitVec 32 := BitVec.ofNat 32 (i 0).val
  let c3_i32 : BitVec 32 := 3#32
  let v7 : BitVec 32 := Scalar.remsi arg0 c3_i32
  ![v7.toNat]
def k0_off11 (i : grid0.Coords) : Fin 3 → Nat :=
  let arg0 : BitVec 32 := BitVec.ofNat 32 (i 0).val
  let c3_i32 : BitVec 32 := 3#32
  let v7 : BitVec 32 := Scalar.remsi arg0 c3_i32
  let c0_i32_2 : BitVec 32 := 0#32
  let c0_i32_3 : BitVec 32 := 0#32
  ![v7.toNat, 0, 0]
def k0_off12 (i : grid0.Coords) : Fin 2 → Nat :=
  let arg0 : BitVec 32 := BitVec.ofNat 32 (i 0).val
  let c256_i32 : BitVec 32 := 256#32
  let v8 : BitVec 32 := Scalar.muli arg0 c256_i32
  let v9 : BitVec 32 := v8
  let c0_i32_4 : BitVec 32 := 0#32
  ![v9.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixIdeal.lean ====
abbrev S8192x5632 : Shape := ⟨2, ![8192, 5632]⟩
abbrev S8192x1024 : Shape := ⟨2, ![8192, 1024]⟩
abbrev S2816x1024 : Shape := ⟨2, ![2816, 1024]⟩
abbrev S8192x2816 : Shape := ⟨2, ![8192, 2816]⟩
abbrev S256x1024 : Shape := ⟨2, ![256, 1024]⟩
abbrev S256x2816 : Shape := ⟨2, ![256, 2816]⟩
abbrev S3x256x5632 : Shape := ⟨3, ![3, 256, 5632]⟩
abbrev S3 : Shape := ⟨1, ![3]⟩
abbrev S1 : Shape := ⟨1, ![1]⟩
abbrev S_ : Shape := ⟨0, ![]⟩
abbrev S1x256x5632 : Shape := ⟨3, ![1, 256, 5632]⟩
abbrev S256x5632 : Shape := ⟨2, ![256, 5632]⟩

abbrev nBuf : Space → Nat
  | .hbm => 7
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S2816x1024, .f32⟩
  | .hbm, ⟨3, _⟩ => ⟨S8192x5632, .bf16⟩
  | .hbm, ⟨4, _⟩ => ⟨S2816x1024, .bf16⟩
  | .hbm, ⟨5, _⟩ => ⟨S8192x1024, .f32⟩
  | .hbm, ⟨6, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S256x2816, .bf16⟩
  | .local _ .vmem, ⟨6, _⟩ => ⟨S256x2816, .bf16⟩
  | .local _ .vmem, ⟨7, _⟩ => ⟨S3x256x5632, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c256_i32_23 : BitVec 32 := 256#32
  let v38 : BitVec 32 := Scalar.muli arg0 c256_i32_23
  v38
def k0_off1 (i : grid0.Coords) : Fin 1 → Nat :=
  let arg0 : BitVec 32 := BitVec.ofNat 32 (i 0).val
  let c3_i32_22 : BitVec 32 := 3#32
  let v37 : BitVec 32 := Scalar.remsi arg0 c3_i32_22
  ![v37.toNat]
def k0_off2 (i : grid0.Coords) : Fin 3 → Nat :=
  let arg0 : BitVec 32 := BitVec.ofNat 32 (i 0).val
  let c3_i32_22 : BitVec 32 := 3#32
  let v37 : BitVec 32 := Scalar.remsi arg0 c3_i32_22
  let c0_i32_24 : BitVec 32 := 0#32
  let c0_i32_25 : BitVec 32 := 0#32
  ![v37.toNat, 0, 0]
def k0_off3 (i : grid0.Coords) : Fin 2 → Nat :=
  let arg0 : BitVec 32 := BitVec.ofNat 32 (i 0).val
  let c256_i32_23 : BitVec 32 := 256#32
  let v38 : BitVec 32 := Scalar.muli arg0 c256_i32_23
  let v39 : BitVec 32 := v38
  let c0_i32_26 : BitVec 32 := 0#32
  ![v39.toNat, 0]
def k0_mult2 (i : grid0.Coords) : BitVec 32 :=
  let arg0 : BitVec 32 := BitVec.ofNat 32 (i 0).val
  let c1_i32 : BitVec 32 := 1#32
  let v45 : BitVec 32 := Scalar.addi arg0 c1_i32
  let c256_i32_28 : BitVec 32 := 256#32
  let v47 : BitVec 32 := Scalar.muli v45 c256_i32_28
  v47
def k0_off4 (i : grid0.Coords) : Fin 1 → Nat :=
  let arg0 : BitVec 32 := BitVec.ofNat 32 (i 0).val
  let c1_i32 : BitVec 32 := 1#32
  let v45 : BitVec 32 := Scalar.addi arg0 c1_i32
  let c3_i32_27 : BitVec 32 := 3#32
  let v46 : BitVec 32 := Scalar.remsi v45 c3_i32_27
  ![v46.toNat]
def k0_off5 (i : grid0.Coords) : Fin 3 → Nat :=
  let arg0 : BitVec 32 := BitVec.ofNat 32 (i 0).val
  let c1_i32 : BitVec 32 := 1#32
  let v45 : BitVec 32 := Scalar.addi arg0 c1_i32
  let c3_i32_27 : BitVec 32 := 3#32
  let v46 : BitVec 32 := Scalar.remsi v45 c3_i32_27
  let c0_i32_29 : BitVec 32 := 0#32
  let c0_i32_30 : BitVec 32 := 0#32
  ![v46.toNat, 0, 0]
def k0_off6 (i : grid0.Coords) : Fin 2 → Nat :=
  let arg0 : BitVec 32 := BitVec.ofNat 32 (i 0).val
  let c1_i32 : BitVec 32 := 1#32
  let v45 : BitVec 32 := Scalar.addi arg0 c1_i32
  let c256_i32_28 : BitVec 32 := 256#32
  let v47 : BitVec 32 := Scalar.muli v45 c256_i32_28
  let v48 : BitVec 32 := v47
  let c0_i32_31 : BitVec 32 := 0#32
  ![v48.toNat, 0]
def k0_cond2 (i : grid0.Coords) : BitVec 1 :=
  let arg0 : BitVec 32 := BitVec.ofNat 32 (i 0).val
  let c2_i32 : BitVec 32 := 2#32
  let v3 : BitVec 32 := Scalar.addi arg0 c2_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32_22 : BitVec 32 := 2#32
  let v37 : BitVec 32 := Scalar.addi arg0 c2_i32_22
  let c256_i32_24 : BitVec 32 := 256#32
  let v39 : BitVec 32 := Scalar.muli v37 c256_i32_24
  v39
def k0_off7 (i : grid0.Coords) : Fin 1 → Nat :=
  let arg0 : BitVec 32 := BitVec.ofNat 32 (i 0).val
  let c2_i32_22 : BitVec 32 := 2#32
  let v37 : BitVec 32 := Scalar.addi arg0 c2_i32_22
  let c3_i32_23 : BitVec 32 := 3#32
  let v38 : BitVec 32 := Scalar.remsi v37 c3_i32_23
  ![v38.toNat]
def k0_off8 (i : grid0.Coords) : Fin 3 → Nat :=
  let arg0 : BitVec 32 := BitVec.ofNat 32 (i 0).val
  let c2_i32_22 : BitVec 32 := 2#32
  let v37 : BitVec 32 := Scalar.addi arg0 c2_i32_22
  let c3_i32_23 : BitVec 32 := 3#32
  let v38 : BitVec 32 := Scalar.remsi v37 c3_i32_23
  let c0_i32_25 : BitVec 32 := 0#32
  let c0_i32_26 : BitVec 32 := 0#32
  ![v38.toNat, 0, 0]
def k0_off9 (i : grid0.Coords) : Fin 2 → Nat :=
  let arg0 : BitVec 32 := BitVec.ofNat 32 (i 0).val
  let c2_i32_22 : BitVec 32 := 2#32
  let v37 : BitVec 32 := Scalar.addi arg0 c2_i32_22
  let c256_i32_24 : BitVec 32 := 256#32
  let v39 : BitVec 32 := Scalar.muli v37 c256_i32_24
  let v40 : BitVec 32 := v39
  let c0_i32_27 : BitVec 32 := 0#32
  ![v40.toNat, 0]
def k0_mult4 (i : grid0.Coords) : BitVec 32 :=
  let arg0 : BitVec 32 := BitVec.ofNat 32 (i 0).val
  let c256_i32 : BitVec 32 := 256#32
  let v8 : BitVec 32 := Scalar.muli arg0 c256_i32
  v8
def k0_off10 (i : grid0.Coords) : Fin 1 → Nat :=
  let arg0 : BitVec 32 := BitVec.ofNat 32 (i 0).val
  let c3_i32 : BitVec 32 := 3#32
  let v7 : BitVec 32 := Scalar.remsi arg0 c3_i32
  ![v7.toNat]
def k0_off11 (i : grid0.Coords) : Fin 3 → Nat :=
  let arg0 : BitVec 32 := BitVec.ofNat 32 (i 0).val
  let c3_i32 : BitVec 32 := 3#32
  let v7 : BitVec 32 := Scalar.remsi arg0 c3_i32
  let c0_i32_2 : BitVec 32 := 0#32
  let c0_i32_3 : BitVec 32 := 0#32
  ![v7.toNat, 0, 0]
def k0_off12 (i : grid0.Coords) : Fin 2 → Nat :=
  let arg0 : BitVec 32 := BitVec.ofNat 32 (i 0).val
  let c256_i32 : BitVec 32 := 256#32
  let v8 : BitVec 32 := Scalar.muli arg0 c256_i32
  let v9 : BitVec 32 := v8
  let c0_i32_4 : BitVec 32 := 0#32
  ![v9.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixRefIdeal.lean ====
abbrev S8192x5632 : Shape := ⟨2, ![8192, 5632]⟩
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S2816x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== GateFirst.lean ====
abbrev S8448x5632 : Shape := ⟨2, ![8448, 5632]⟩
abbrev S2816x1024 : Shape := ⟨2, ![2816, 1024]⟩
abbrev S8448x1024 : Shape := ⟨2, ![8448, 1024]⟩
abbrev S256x1024 : Shape := ⟨2, ![256, 1024]⟩
abbrev S256x5632 : Shape := ⟨2, ![256, 5632]⟩
abbrev S3x256x5632 : Shape := ⟨3, ![3, 256, 5632]⟩
abbrev S3 : Shape := ⟨1, ![3]⟩
abbrev S1 : Shape := ⟨1, ![1]⟩
abbrev S_ : Shape := ⟨0, ![]⟩
abbrev S1x256x5632 : Shape := ⟨3, ![1, 256, 5632]⟩
abbrev S256x2816 : Shape := ⟨2, ![256, 2816]⟩

abbrev nBuf : Space → Nat
  | .hbm => 6
  | .vmem => 6
  | .smem => 0
  | _ => 0

abbrev bufTy : (tb : Table) → Fin (tcTables nBuf tb) → BufTy
  | .hbm, ⟨0, _⟩ => ⟨S8448x5632, .f32⟩
  | .hbm, ⟨1, _⟩ => ⟨S2816x1024, .f32⟩
  | .hbm, ⟨2, _⟩ => ⟨S8448x1024, .f32⟩
  | .hbm, ⟨3, _⟩ => ⟨S8448x5632, .bf16⟩
  | .hbm, ⟨4, _⟩ => ⟨S2816x1024, .bf16⟩
  | .hbm, ⟨5, _⟩ => ⟨S8448x5632, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x5632, .bf16⟩
  | .local _ .vmem, ⟨4, _⟩ => ⟨S256x5632, .bf16⟩
  | .local _ .vmem, ⟨5, _⟩ => ⟨S3x256x5632, .bf16⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c256_i32_26 : BitVec 32 := 256#32
  let v50 : BitVec 32 := Scalar.muli arg0 c256_i32_26
  v50
def k0_off1 (i : grid0.Coords) : Fin 1 → Nat :=
  let arg0 : BitVec 32 := BitVec.ofNat 32 (i 0).val
  let c3_i32_25 : BitVec 32 := 3#32
  let v49 : BitVec 32 := Scalar.remsi arg0 c3_i32_25
  ![v49.toNat]
def k0_off2 (i : grid0.Coords) : Fin 3 → Nat :=
  let arg0 : BitVec 32 := BitVec.ofNat 32 (i 0).val
  let c3_i32_25 : BitVec 32 := 3#32
  let v49 : BitVec 32 := Scalar.remsi arg0 c3_i32_25
  let c0_i32_27 : BitVec 32 := 0#32
  let c0_i32_28 : BitVec 32 := 0#32
  ![v49.toNat, 0, 0]
def k0_off3 (i : grid0.Coords) : Fin 2 → Nat :=
  let arg0 : BitVec 32 := BitVec.ofNat 32 (i 0).val
  let c256_i32_26 : BitVec 32 := 256#32
  let v50 : BitVec 32 := Scalar.muli arg0 c256_i32_26
  let v51 : BitVec 32 := v50
  let c0_i32_29 : BitVec 32 := 0#32
  ![v51.toNat, 0]
def k0_mult2 (i : grid0.Coords) : BitVec 32 :=
  let arg0 : BitVec 32 := BitVec.ofNat 32 (i 0).val
  let c1_i32 : BitVec 32 := 1#32
  let v57 : BitVec 32 := Scalar.addi arg0 c1_i32
  let c256_i32_31 : BitVec 32 := 256#32
  let v59 : BitVec 32 := Scalar.muli v57 c256_i32_31
  v59
def k0_off4 (i : grid0.Coords) : Fin 1 → Nat :=
  let arg0 : BitVec 32 := BitVec.ofNat 32 (i 0).val
  let c1_i32 : BitVec 32 := 1#32
  let v57 : BitVec 32 := Scalar.addi arg0 c1_i32
  let c3_i32_30 : BitVec 32 := 3#32
  let v58 : BitVec 32 := Scalar.remsi v57 c3_i32_30
  ![v58.toNat]
def k0_off5 (i : grid0.Coords) : Fin 3 → Nat :=
  let arg0 : BitVec 32 := BitVec.ofNat 32 (i 0).val
  let c1_i32 : BitVec 32 := 1#32
  let v57 : BitVec 32 := Scalar.addi arg0 c1_i32
  let c3_i32_30 : BitVec 32 := 3#32
  let v58 : BitVec 32 := Scalar.remsi v57 c3_i32_30
  let c0_i32_32 : BitVec 32 := 0#32
  let c0_i32_33 : BitVec 32 := 0#32
  ![v58.toNat, 0, 0]
def k0_off6 (i : grid0.Coords) : Fin 2 → Nat :=
  let arg0 : BitVec 32 := BitVec.ofNat 32 (i 0).val
  let c1_i32 : BitVec 32 := 1#32
  let v57 : BitVec 32 := Scalar.addi arg0 c1_i32
  let c256_i32_31 : BitVec 32 := 256#32
  let v59 : BitVec 32 := Scalar.muli v57 c256_i32_31
  let v60 : BitVec 32 := v59
  let c0_i32_34 : BitVec 32 := 0#32
  ![v60.toNat, 0]
def k0_cond2 (i : grid0.Coords) : BitVec 1 :=
  let arg0 : BitVec 32 := BitVec.ofNat 32 (i 0).val
  let c2_i32 : BitVec 32 := 2#32
  let v3 : BitVec 32 := Scalar.addi arg0 c2_i32
  let c33_i32 : BitVec 32 := 33#32
  let v4 : BitVec 1 := Scalar.cmpi .slt v3 c33_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32_25 : BitVec 32 := 2#32
  let v49 : BitVec 32 := Scalar.addi arg0 c2_i32_25
  let c256_i32_27 : BitVec 32 := 256#32
  let v51 : BitVec 32 := Scalar.muli v49 c256_i32_27
  v51
def k0_off7 (i : grid0.Coords) : Fin 1 → Nat :=
  let arg0 : BitVec 32 := BitVec.ofNat 32 (i 0).val
  let c2_i32_25 : BitVec 32 := 2#32
  let v49 : BitVec 32 := Scalar.addi arg0 c2_i32_25
  let c3_i32_26 : BitVec 32 := 3#32
  let v50 : BitVec 32 := Scalar.remsi v49 c3_i32_26
  ![v50.toNat]
def k0_off8 (i : grid0.Coords) : Fin 3 → Nat :=
  let arg0 : BitVec 32 := BitVec.ofNat 32 (i 0).val
  let c2_i32_25 : BitVec 32 := 2#32
  let v49 : BitVec 32 := Scalar.addi arg0 c2_i32_25
  let c3_i32_26 : BitVec 32 := 3#32
  let v50 : BitVec 32 := Scalar.remsi v49 c3_i32_26
  let c0_i32_28 : BitVec 32 := 0#32
  let c0_i32_29 : BitVec 32 := 0#32
  ![v50.toNat, 0, 0]
def k0_off9 (i : grid0.Coords) : Fin 2 → Nat :=
  let arg0 : BitVec 32 := BitVec.ofNat 32 (i 0).val
  let c2_i32_25 : BitVec 32 := 2#32
  let v49 : BitVec 32 := Scalar.addi arg0 c2_i32_25
  let c256_i32_27 : BitVec 32 := 256#32
  let v51 : BitVec 32 := Scalar.muli v49 c256_i32_27
  let v52 : BitVec 32 := v51
  let c0_i32_30 : BitVec 32 := 0#32
  ![v52.toNat, 0]
def k0_mult4 (i : grid0.Coords) : BitVec 32 :=
  let arg0 : BitVec 32 := BitVec.ofNat 32 (i 0).val
  let c256_i32 : BitVec 32 := 256#32
  let v8 : BitVec 32 := Scalar.muli arg0 c256_i32
  v8
def k0_off10 (i : grid0.Coords) : Fin 1 → Nat :=
  let arg0 : BitVec 32 := BitVec.ofNat 32 (i 0).val
  let c3_i32 : BitVec 32 := 3#32
  let v7 : BitVec 32 := Scalar.remsi arg0 c3_i32
  ![v7.toNat]
def k0_off11 (i : grid0.Coords) : Fin 3 → Nat :=
  let arg0 : BitVec 32 := BitVec.ofNat 32 (i 0).val
  let c3_i32 : BitVec 32 := 3#32
  let v7 : BitVec 32 := Scalar.remsi arg0 c3_i32
  let c0_i32_2 : BitVec 32 := 0#32
  let c0_i32_3 : BitVec 32 := 0#32
  ![v7.toNat, 0, 0]
def k0_off12 (i : grid0.Coords) : Fin 2 → Nat :=
  let arg0 : BitVec 32 := BitVec.ofNat 32 (i 0).val
  let c256_i32 : BitVec 32 := 256#32
  let v8 : BitVec 32 := Scalar.muli arg0 c256_i32
  let v9 : BitVec 32 := v8
  let c0_i32_4 : BitVec 32 := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateFirstRefIdeal.lean ====
abbrev S8448x5632 : Shape := ⟨2, ![8448, 5632]⟩
abbrev S2816x1024 : Shape := ⟨2, ![2816, 1024]⟩
abbrev S8448x1024 : Shape := ⟨2, ![8448, 1024]⟩
abbrev S8448x2816 : Shape := ⟨2, ![8448, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S2816x1024, .f32⟩
  | .hbm, ⟨2, _⟩ => ⟨S8448x1024, .f32⟩
  | .hbm, ⟨3, _⟩ => ⟨S8448x2816, .f32⟩
  | .hbm, ⟨4, _⟩ => ⟨S8448x2816, .f32⟩
  | .hbm, ⟨5, _⟩ => ⟨S8448x2816, .f32⟩
  | .hbm, ⟨6, _⟩ => ⟨S8448x2816, .f32⟩
  | .hbm, ⟨7, _⟩ => ⟨S_, .f32⟩
  | .hbm, ⟨8, _⟩ => ⟨S8448x2816, .f32⟩
  | .hbm, ⟨9, _⟩ => ⟨S8448x2816, .f32⟩
  | .hbm, ⟨10, _⟩ => ⟨S_, .f32⟩
  | .hbm, ⟨11, _⟩ => ⟨S8448x2816, .f32⟩
  | .hbm, ⟨12, _⟩ => ⟨S8448x2816, .f32⟩
  | .hbm, ⟨13, _⟩ => ⟨S_, .f32⟩
  | .hbm, ⟨14, _⟩ => ⟨S8448x2816, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x1024, .f32⟩
  | .hbm, ⟨20, _⟩ => ⟨S_, .f32⟩
  | .hbm, ⟨21, _⟩ => ⟨S8448x1024, .f32⟩
  | .hbm, ⟨22, _⟩ => ⟨S8448x1024, .f32⟩
  | .hbm, ⟨23, _⟩ => ⟨S_, .f32⟩
  | .hbm, ⟨24, _⟩ => ⟨S8448x1024, .f32⟩
  | .hbm, ⟨25, _⟩ => ⟨S8448x1024, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S8448x2816, .f32⟩
  | .hbm, ⟨30, _⟩ => ⟨S8448x2816, .f32⟩
  | .hbm, ⟨31, _⟩ => ⟨S8448x2816, .f32⟩
  | .hbm, ⟨32, _⟩ => ⟨S8448x2816, .f32⟩
  | .hbm, ⟨33, _⟩ => ⟨S8448x5632, .f32⟩
  | .hbm, ⟨34, _⟩ => ⟨S8448x5632, .bf16⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== DownFirst.lean ====
abbrev S8448x5632 : Shape := ⟨2, ![8448, 5632]⟩
abbrev S2816x1024 : Shape := ⟨2, ![2816, 1024]⟩
abbrev S8448x1024 : Shape := ⟨2, ![8448, 1024]⟩
abbrev S8448x2816 : Shape := ⟨2, ![8448, 2816]⟩
abbrev S_ : Shape := ⟨0, ![]⟩
abbrev S768x2816 : Shape := ⟨2, ![768, 2816]⟩
abbrev S768x1024 : Shape := ⟨2, ![768, 1024]⟩

abbrev nBuf : Space → Nat
  | .hbm => 17
  | .vmem => 6
  | .smem => 0
  | _ => 0

abbrev bufTy : (tb : Table) → Fin (tcTables nBuf tb) → BufTy
  | .hbm, ⟨0, _⟩ => ⟨S8448x5632, .f32⟩
  | .hbm, ⟨1, _⟩ => ⟨S2816x1024, .f32⟩
  | .hbm, ⟨2, _⟩ => ⟨S8448x1024, .f32⟩
  | .hbm, ⟨3, _⟩ => ⟨S8448x2816, .f32⟩
  | .hbm, ⟨4, _⟩ => ⟨S8448x2816, .f32⟩
  | .hbm, ⟨5, _⟩ => ⟨S8448x2816, .f32⟩
  | .hbm, ⟨6, _⟩ => ⟨S8448x2816, .f32⟩
  | .hbm, ⟨7, _⟩ => ⟨S_, .f32⟩
  | .hbm, ⟨8, _⟩ => ⟨S8448x2816, .f32⟩
  | .hbm, ⟨9, _⟩ => ⟨S8448x2816, .f32⟩
  | .hbm, ⟨10, _⟩ => ⟨S_, .f32⟩
  | .hbm, ⟨11, _⟩ => ⟨S8448x2816, .f32⟩
  | .hbm, ⟨12, _⟩ => ⟨S8448x2816, .f32⟩
  | .hbm, ⟨13, _⟩ => ⟨S8448x2816, .f32⟩
  | .hbm, ⟨14, _⟩ => ⟨S8448x2816, .f32⟩
  | .hbm, ⟨15, _⟩ => ⟨S8448x2816, .bf16⟩
  | .hbm, ⟨16, _⟩ => ⟨S2816x1024, .bf16⟩
  | .local _ .vmem, ⟨0, _⟩ => ⟨S768x2816, .bf16⟩
  | .local _ .vmem, ⟨1, _⟩ => ⟨S768x2816, .bf16⟩
  | .local _ .vmem, ⟨2, _⟩ => ⟨S768x1024, .f32⟩
  | .local _ .vmem, ⟨3, _⟩ => ⟨S768x1024, .f32⟩
  | .local _ .vmem, ⟨4, _⟩ => ⟨S2816x1024, .bf16⟩
  | .local _ .vmem, ⟨5, _⟩ => ⟨S2816x1024, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v15 : BitVec 1 := Scalar.cmpi .eq arg1 c10_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DownFirstRefIdeal.lean ====
abbrev S8448x5632 : Shape := ⟨2, ![8448, 5632]⟩
abbrev S2816x1024 : Shape := ⟨2, ![2816, 1024]⟩
abbrev S8448x1024 : Shape := ⟨2, ![8448, 1024]⟩
abbrev S8448x2816 : Shape := ⟨2, ![8448, 2816]⟩
abbrev S_ : Shape := ⟨0, ![]⟩
abbrev S1024x2816 : Shape := ⟨2, ![1024, 2816]⟩

abbrev nBuf : Space → Nat
  | .hbm => 25
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S2816x1024, .f32⟩
  | .hbm, ⟨2, _⟩ => ⟨S8448x1024, .f32⟩
  | .hbm, ⟨3, _⟩ => ⟨S8448x2816, .f32⟩
  | .hbm, ⟨4, _⟩ => ⟨S8448x2816, .f32⟩
  | .hbm, ⟨5, _⟩ => ⟨S8448x2816, .f32⟩
  | .hbm, ⟨6, _⟩ => ⟨S8448x2816, .f32⟩
  | .hbm, ⟨7, _⟩ => ⟨S_, .f32⟩
  | .hbm, ⟨8, _⟩ => ⟨S8448x2816, .f32⟩
  | .hbm, ⟨9, _⟩ => ⟨S8448x2816, .f32⟩
  | .hbm, ⟨10, _⟩ => ⟨S_, .f32⟩
  | .hbm, ⟨11, _⟩ => ⟨S8448x2816, .f32⟩
  | .hbm, ⟨12, _⟩ => ⟨S8448x2816, .f32⟩
  | .hbm, ⟨13, _⟩ => ⟨S8448x2816, .f32⟩
  | .hbm, ⟨14, _⟩ => ⟨S8448x2816, .f32⟩
  | .hbm, ⟨15, _⟩ => ⟨S8448x1024, .f32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S_, .f32⟩
  | .hbm, ⟨20, _⟩ => ⟨S8448x1024, .f32⟩
  | .hbm, ⟨21, _⟩ => ⟨S8448x1024, .f32⟩
  | .hbm, ⟨22, _⟩ => ⟨S1024x2816, .f32⟩
  | .hbm, ⟨23, _⟩ => ⟨S2816x1024, .f32⟩
  | .hbm, ⟨24, _⟩ => ⟨S2816x1024, .bf16⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== NormFirst.lean ====
abbrev S8448x1024 : Shape := ⟨2, ![8448, 1024]⟩
abbrev S1024 : Shape := ⟨1, ![1024]⟩
abbrev S1024x5632 : Shape := ⟨2, ![1024, 5632]⟩
abbrev S8448x5632 : Shape := ⟨2, ![8448, 5632]⟩
abbrev S1024x4x1408 : Shape := ⟨3, ![1024, 4, 1408]⟩
abbrev S4x1024x1408 : Shape := ⟨3, ![4, 1024, 1408]⟩
abbrev S1x1024 : Shape := ⟨2, ![1, 1024]⟩
abbrev S384x5632 : Shape := ⟨2, ![384, 5632]⟩
abbrev S384x1024 : Shape := ⟨2, ![384, 1024]⟩
abbrev S384x1408 : Shape := ⟨2, ![384, 1408]⟩
abbrev S1x1024x1408 : Shape := ⟨3, ![1, 1024, 1408]⟩
abbrev S1024x1408 : Shape := ⟨2, ![1024, 1408]⟩
abbrev S384 : Shape := ⟨1, ![384]⟩
abbrev S384x1 : Shape := ⟨2, ![384, 1]⟩

abbrev nBuf : Space → Nat
  | .hbm => 12
  | .vmem => 11
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x5632, .f32⟩
  | .hbm, ⟨3, _⟩ => ⟨S8448x1024, .f32⟩
  | .hbm, ⟨4, _⟩ => ⟨S8448x5632, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S8448x5632, .bf16⟩
  | .hbm, ⟨9, _⟩ => ⟨S1x1024, .f32⟩
  | .hbm, ⟨10, _⟩ => ⟨S8448x1024, .f32⟩
  | .hbm, ⟨11, _⟩ => ⟨S1x1024, .f32⟩
  | .local _ .vmem, ⟨0, _⟩ => ⟨S384x5632, .bf16⟩
  | .local _ .vmem, ⟨1, _⟩ => ⟨S384x5632, .bf16⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S384x1024, .f32⟩
  | .local _ .vmem, ⟨6, _⟩ => ⟨S384x1024, .f32⟩
  | .local _ .vmem, ⟨7, _⟩ => ⟨S4x1024x1408, .bf16⟩
  | .local _ .vmem, ⟨8, _⟩ => ⟨S384x1024, .f32⟩
  | .local _ .vmem, ⟨9, _⟩ => ⟨S384x1024, .f32⟩
  | .local _ .vmem, ⟨10, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormFirstRefIdeal.lean ====
abbrev S8448x1024 : Shape := ⟨2, ![8448, 1024]⟩
abbrev S1024 : Shape := ⟨1, ![1024]⟩
abbrev S1024x5632 : Shape := ⟨2, ![1024, 5632]⟩
abbrev S8448x5632 : Shape := ⟨2, ![8448, 5632]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x5632, .f32⟩
  | .hbm, ⟨3, _⟩ => ⟨S8448x1024, .f32⟩
  | .hbm, ⟨4, _⟩ => ⟨S8448x5632, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x1024, .f32⟩
  | .hbm, ⟨21, _⟩ => ⟨S8448x1024, .f32⟩
  | .hbm, ⟨22, _⟩ => ⟨S1x1024, .f32⟩
  | .hbm, ⟨23, _⟩ => ⟨S8448x1024, .f32⟩
  | .hbm, ⟨24, _⟩ => ⟨S8448x1024, .f32⟩
  | .hbm, ⟨25, _⟩ => ⟨S8448x5632, .f32⟩
  | .hbm, ⟨26, _⟩ => ⟨S8448x1024, .f32⟩
  | .hbm, ⟨27, _⟩ => ⟨S8448x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8448x1024, .f32⟩
  | .hbm, ⟨32, _⟩ => ⟨S8448x1024, .f32⟩
  | .hbm, ⟨33, _⟩ => ⟨S_, .f32⟩
  | .hbm, ⟨34, _⟩ => ⟨S1024, .f32⟩
  | .hbm, ⟨35, _⟩ => ⟨S8448x1024, .f32⟩
  | .hbm, ⟨36, _⟩ => ⟨S_, .f32⟩
  | .hbm, ⟨37, _⟩ => ⟨S8448, .f32⟩
  | .hbm, ⟨38, _⟩ => ⟨S8448x1, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S8448x1, .f32⟩
  | .hbm, ⟨43, _⟩ => ⟨S_, .f32⟩
  | .hbm, ⟨44, _⟩ => ⟨S8448x1, .f32⟩
  | .hbm, ⟨45, _⟩ => ⟨S8448x1, .f32⟩
  | .hbm, ⟨46, _⟩ => ⟨S_, .f32⟩
  | .hbm, ⟨47, _⟩ => ⟨S8448, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S1x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== UpFirst.lean ====
abbrev S8448x1024 : Shape := ⟨2, ![8448, 1024]⟩
abbrev S1024 : Shape := ⟨1, ![1024]⟩
abbrev S1024x5632 : Shape := ⟨2, ![1024, 5632]⟩
abbrev S8448x5632 : Shape := ⟨2, ![8448, 5632]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S4x1408x1024 : Shape := ⟨3, ![4, 1408, 1024]⟩
abbrev S2816x1408 : Shape := ⟨2, ![2816, 1408]⟩
abbrev S2816x1024 : Shape := ⟨2, ![2816, 1024]⟩
abbrev S1x1408x1024 : Shape := ⟨3, ![1, 1408, 1024]⟩
abbrev S1408x1024 : Shape := ⟨2, ![1408, 1024]⟩

abbrev nBuf : Space → Nat
  | .hbm => 23
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x5632, .f32⟩
  | .hbm, ⟨3, _⟩ => ⟨S8448x5632, .f32⟩
  | .hbm, ⟨4, _⟩ => ⟨S8448x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x1024, .f32⟩
  | .hbm, ⟨16, _⟩ => ⟨S8448x1024, .f32⟩
  | .hbm, ⟨17, _⟩ => ⟨S1x1024, .f32⟩
  | .hbm, ⟨18, _⟩ => ⟨S8448x1024, .f32⟩
  | .hbm, ⟨19, _⟩ => ⟨S8448x1024, .f32⟩
  | .hbm, ⟨20, _⟩ => ⟨S8448x1024, .bf16⟩
  | .hbm, ⟨21, _⟩ => ⟨S8448x5632, .bf16⟩
  | .hbm, ⟨22, _⟩ => ⟨S4x1408x1024, .bf16⟩
  | .local _ .vmem, ⟨0, _⟩ => ⟨S2816x1408, .bf16⟩
  | .local _ .vmem, ⟨1, _⟩ => ⟨S2816x1408, .bf16⟩
  | .local _ .vmem, ⟨2, _⟩ => ⟨S2816x1024, .bf16⟩
  | .local _ .vmem, ⟨3, _⟩ => ⟨S2816x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2816x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UpFirstRefIdeal.lean ====
abbrev S8448x1024 : Shape := ⟨2, ![8448, 1024]⟩
abbrev S1024 : Shape := ⟨1, ![1024]⟩
abbrev S1024x5632 : Shape := ⟨2, ![1024, 5632]⟩
abbrev S8448x5632 : Shape := ⟨2, ![8448, 5632]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S5632x1024 : Shape := ⟨2, ![5632, 1024]⟩
abbrev S4x1408x1024 : Shape := ⟨3, ![4, 1408, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x5632, .f32⟩
  | .hbm, ⟨3, _⟩ => ⟨S8448x5632, .f32⟩
  | .hbm, ⟨4, _⟩ => ⟨S8448x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x1024, .f32⟩
  | .hbm, ⟨16, _⟩ => ⟨S8448x1024, .f32⟩
  | .hbm, ⟨17, _⟩ => ⟨S1x1024, .f32⟩
  | .hbm, ⟨18, _⟩ => ⟨S8448x1024, .f32⟩
  | .hbm, ⟨19, _⟩ => ⟨S8448x1024, .f32⟩
  | .hbm, ⟨20, _⟩ => ⟨S8448x5632, .f32⟩
  | .hbm, ⟨21, _⟩ => ⟨S5632x1024, .f32⟩
  | .hbm, ⟨22, _⟩ => ⟨S1024x5632, .f32⟩
  | .hbm, ⟨23, _⟩ => ⟨S5632x1024, .f32⟩
  | .hbm, ⟨24, _⟩ => ⟨S4x1408x1024, .f32⟩
  | .hbm, ⟨25, _⟩ => ⟨S4x1408x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== LiftFirst.lean ====
abbrev S8448x1024 : Shape := ⟨2, ![8448, 1024]⟩
abbrev S1024 : Shape := ⟨1, ![1024]⟩
abbrev S1024x5632 : Shape := ⟨2, ![1024, 5632]⟩
abbrev S1x1024 : Shape := ⟨2, ![1, 1024]⟩
abbrev S1024x4x1408 : Shape := ⟨3, ![1024, 4, 1408]⟩
abbrev S4x1024x1408 : Shape := ⟨3, ![4, 1024, 1408]⟩
abbrev S8448x5632 : Shape := ⟨2, ![8448, 5632]⟩
abbrev S384x1024 : Shape := ⟨2, ![384, 1024]⟩
abbrev S384x5632 : Shape := ⟨2, ![384, 5632]⟩
abbrev S384 : Shape := ⟨1, ![384]⟩
abbrev S384x1 : Shape := ⟨2, ![384, 1]⟩
abbrev S1x1024x1408 : Shape := ⟨3, ![1, 1024, 1408]⟩
abbrev S1024x1408 : Shape := ⟨2, ![1024, 1408]⟩
abbrev S384x1408 : Shape := ⟨2, ![384, 1408]⟩

abbrev nBuf : Space → Nat
  | .hbm => 9
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S1024x4x1408, .f32⟩
  | .hbm, ⟨5, _⟩ => ⟨S4x1024x1408, .f32⟩
  | .hbm, ⟨6, _⟩ => ⟨S4x1024x1408, .bf16⟩
  | .hbm, ⟨7, _⟩ => ⟨S8448x5632, .bf16⟩
  | .hbm, ⟨8, _⟩ => ⟨S8448x1024, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S4x1024x1408, .bf16⟩
  | .local _ .vmem, ⟨4, _⟩ => ⟨S384x5632, .bf16⟩
  | .local _ .vmem, ⟨5, _⟩ => ⟨S384x5632, .bf16⟩
  | .local _ .vmem, ⟨6, _⟩ => ⟨S384x1024, .bf16⟩
  | .local _ .vmem, ⟨7, _⟩ => ⟨S384x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LiftFirstRefIdeal.lean ====
abbrev S8448x1024 : Shape := ⟨2, ![8448, 1024]⟩
abbrev S1024 : Shape := ⟨1, ![1024]⟩
abbrev S1024x5632 : Shape := ⟨2, ![1024, 5632]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8448x5632 : Shape := ⟨2, ![8448, 5632]⟩

abbrev nBuf : Space → Nat
  | .hbm => 38
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x5632, .f32⟩
  | .hbm, ⟨3, _⟩ => ⟨S8448x1024, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x1024, .f32⟩
  | .hbm, ⟨15, _⟩ => ⟨S8448x1024, .f32⟩
  | .hbm, ⟨16, _⟩ => ⟨S1x1024, .f32⟩
  | .hbm, ⟨17, _⟩ => ⟨S8448x1024, .f32⟩
  | .hbm, ⟨18, _⟩ => ⟨S8448x1024, .f32⟩
  | .hbm, ⟨19, _⟩ => ⟨S8448x5632, .f32⟩
  | .hbm, ⟨20, _⟩ => ⟨S8448x5632, .bf16⟩
  | .hbm, ⟨21, _⟩ => ⟨S8448x1024, .f32⟩
  | .hbm, ⟨22, _⟩ => ⟨S_, .f32⟩
  | .hbm, ⟨23, _⟩ => ⟨S8448, .f32⟩
  | .hbm, ⟨24, _⟩ => ⟨S8448x1, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S_, .f32⟩
  | .hbm, ⟨29, _⟩ => ⟨S8448x1, .f32⟩
  | .hbm, ⟨30, _⟩ => ⟨S8448x1, .f32⟩
  | .hbm, ⟨31, _⟩ => ⟨S8448x1, .f32⟩
  | .hbm, ⟨32, _⟩ => ⟨S8448x1024, .f32⟩
  | .hbm, ⟨33, _⟩ => ⟨S8448x1024, .f32⟩
  | .hbm, ⟨34, _⟩ => ⟨S1x1024, .f32⟩
  | .hbm, ⟨35, _⟩ => ⟨S8448x1024, .f32⟩
  | .hbm, ⟨36, _⟩ => ⟨S8448x1024, .f32⟩
  | .hbm, ⟨37, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== MixFirst.lean ====
abbrev S8448x5632 : Shape := ⟨2, ![8448, 5632]⟩
abbrev S8448x1024 : Shape := ⟨2, ![8448, 1024]⟩
abbrev S2816x1024 : Shape := ⟨2, ![2816, 1024]⟩
abbrev S8448x2816 : Shape := ⟨2, ![8448, 2816]⟩
abbrev S256x1024 : Shape := ⟨2, ![256, 1024]⟩
abbrev S256x2816 : Shape := ⟨2, ![256, 2816]⟩
abbrev S3x256x5632 : Shape := ⟨3, ![3, 256, 5632]⟩
abbrev S3 : Shape := ⟨1, ![3]⟩
abbrev S1 : Shape := ⟨1, ![1]⟩
abbrev S_ : Shape := ⟨0, ![]⟩
abbrev S1x256x5632 : Shape := ⟨3, ![1, 256, 5632]⟩
abbrev S256x5632 : Shape := ⟨2, ![256, 5632]⟩

abbrev nBuf : Space → Nat
  | .hbm => 7
  | .vmem => 8
  | .smem => 0
  | _ => 0

abbrev bufTy : (tb : Table) → Fin (tcTables nBuf tb) → BufTy
  | .hbm, ⟨0, _⟩ => ⟨S8448x5632, .f32⟩
  | .hbm, ⟨1, _⟩ => ⟨S8448x1024, .f32⟩
  | .hbm, ⟨2, _⟩ => ⟨S2816x1024, .f32⟩
  | .hbm, ⟨3, _⟩ => ⟨S8448x5632, .bf16⟩
  | .hbm, ⟨4, _⟩ => ⟨S2816x1024, .bf16⟩
  | .hbm, ⟨5, _⟩ => ⟨S8448x1024, .f32⟩
  | .hbm, ⟨6, _⟩ => ⟨S8448x2816, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S256x2816, .bf16⟩
  | .local _ .vmem, ⟨6, _⟩ => ⟨S256x2816, .bf16⟩
  | .local _ .vmem, ⟨7, _⟩ => ⟨S3x256x5632, .bf16⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c256_i32_23 : BitVec 32 := 256#32
  let v38 : BitVec 32 := Scalar.muli arg0 c256_i32_23
  v38
def k0_off1 (i : grid0.Coords) : Fin 1 → Nat :=
  let arg0 : BitVec 32 := BitVec.ofNat 32 (i 0).val
  let c3_i32_22 : BitVec 32 := 3#32
  let v37 : BitVec 32 := Scalar.remsi arg0 c3_i32_22
  ![v37.toNat]
def k0_off2 (i : grid0.Coords) : Fin 3 → Nat :=
  let arg0 : BitVec 32 := BitVec.ofNat 32 (i 0).val
  let c3_i32_22 : BitVec 32 := 3#32
  let v37 : BitVec 32 := Scalar.remsi arg0 c3_i32_22
  let c0_i32_24 : BitVec 32 := 0#32
  let c0_i32_25 : BitVec 32 := 0#32
  ![v37.toNat, 0, 0]
def k0_off3 (i : grid0.Coords) : Fin 2 → Nat :=
  let arg0 : BitVec 32 := BitVec.ofNat 32 (i 0).val
  let c256_i32_23 : BitVec 32 := 256#32
  let v38 : BitVec 32 := Scalar.muli arg0 c256_i32_23
  let v39 : BitVec 32 := v38
  let c0_i32_26 : BitVec 32 := 0#32
  ![v39.toNat, 0]
def k0_mult2 (i : grid0.Coords) : BitVec 32 :=
  let arg0 : BitVec 32 := BitVec.ofNat 32 (i 0).val
  let c1_i32 : BitVec 32 := 1#32
  let v45 : BitVec 32 := Scalar.addi arg0 c1_i32
  let c256_i32_28 : BitVec 32 := 256#32
  let v47 : BitVec 32 := Scalar.muli v45 c256_i32_28
  v47
def k0_off4 (i : grid0.Coords) : Fin 1 → Nat :=
  let arg0 : BitVec 32 := BitVec.ofNat 32 (i 0).val
  let c1_i32 : BitVec 32 := 1#32
  let v45 : BitVec 32 := Scalar.addi arg0 c1_i32
  let c3_i32_27 : BitVec 32 := 3#32
  let v46 : BitVec 32 := Scalar.remsi v45 c3_i32_27
  ![v46.toNat]
def k0_off5 (i : grid0.Coords) : Fin 3 → Nat :=
  let arg0 : BitVec 32 := BitVec.ofNat 32 (i 0).val
  let c1_i32 : BitVec 32 := 1#32
  let v45 : BitVec 32 := Scalar.addi arg0 c1_i32
  let c3_i32_27 : BitVec 32 := 3#32
  let v46 : BitVec 32 := Scalar.remsi v45 c3_i32_27
  let c0_i32_29 : BitVec 32 := 0#32
  let c0_i32_30 : BitVec 32 := 0#32
  ![v46.toNat, 0, 0]
def k0_off6 (i : grid0.Coords) : Fin 2 → Nat :=
  let arg0 : BitVec 32 := BitVec.ofNat 32 (i 0).val
  let c1_i32 : BitVec 32 := 1#32
  let v45 : BitVec 32 := Scalar.addi arg0 c1_i32
  let c256_i32_28 : BitVec 32 := 256#32
  let v47 : BitVec 32 := Scalar.muli v45 c256_i32_28
  let v48 : BitVec 32 := v47
  let c0_i32_31 : BitVec 32 := 0#32
  ![v48.toNat, 0]
def k0_cond2 (i : grid0.Coords) : BitVec 1 :=
  let arg0 : BitVec 32 := BitVec.ofNat 32 (i 0).val
  let c2_i32 : BitVec 32 := 2#32
  let v3 : BitVec 32 := Scalar.addi arg0 c2_i32
  let c33_i32 : BitVec 32 := 33#32
  let v4 : BitVec 1 := Scalar.cmpi .slt v3 c33_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32_22 : BitVec 32 := 2#32
  let v37 : BitVec 32 := Scalar.addi arg0 c2_i32_22
  let c256_i32_24 : BitVec 32 := 256#32
  let v39 : BitVec 32 := Scalar.muli v37 c256_i32_24
  v39
def k0_off7 (i : grid0.Coords) : Fin 1 → Nat :=
  let arg0 : BitVec 32 := BitVec.ofNat 32 (i 0).val
  let c2_i32_22 : BitVec 32 := 2#32
  let v37 : BitVec 32 := Scalar.addi arg0 c2_i32_22
  let c3_i32_23 : BitVec 32 := 3#32
  let v38 : BitVec 32 := Scalar.remsi v37 c3_i32_23
  ![v38.toNat]
def k0_off8 (i : grid0.Coords) : Fin 3 → Nat :=
  let arg0 : BitVec 32 := BitVec.ofNat 32 (i 0).val
  let c2_i32_22 : BitVec 32 := 2#32
  let v37 : BitVec 32 := Scalar.addi arg0 c2_i32_22
  let c3_i32_23 : BitVec 32 := 3#32
  let v38 : BitVec 32 := Scalar.remsi v37 c3_i32_23
  let c0_i32_25 : BitVec 32 := 0#32
  let c0_i32_26 : BitVec 32 := 0#32
  ![v38.toNat, 0, 0]
def k0_off9 (i : grid0.Coords) : Fin 2 → Nat :=
  let arg0 : BitVec 32 := BitVec.ofNat 32 (i 0).val
  let c2_i32_22 : BitVec 32 := 2#32
  let v37 : BitVec 32 := Scalar.addi arg0 c2_i32_22
  let c256_i32_24 : BitVec 32 := 256#32
  let v39 : BitVec 32 := Scalar.muli v37 c256_i32_24
  let v40 : BitVec 32 := v39
  let c0_i32_27 : BitVec 32 := 0#32
  ![v40.toNat, 0]
def k0_mult4 (i : grid0.Coords) : BitVec 32 :=
  let arg0 : BitVec 32 := BitVec.ofNat 32 (i 0).val
  let c256_i32 : BitVec 32 := 256#32
  let v8 : BitVec 32 := Scalar.muli arg0 c256_i32
  v8
def k0_off10 (i : grid0.Coords) : Fin 1 → Nat :=
  let arg0 : BitVec 32 := BitVec.ofNat 32 (i 0).val
  let c3_i32 : BitVec 32 := 3#32
  let v7 : BitVec 32 := Scalar.remsi arg0 c3_i32
  ![v7.toNat]
def k0_off11 (i : grid0.Coords) : Fin 3 → Nat :=
  let arg0 : BitVec 32 := BitVec.ofNat 32 (i 0).val
  let c3_i32 : BitVec 32 := 3#32
  let v7 : BitVec 32 := Scalar.remsi arg0 c3_i32
  let c0_i32_2 : BitVec 32 := 0#32
  let c0_i32_3 : BitVec 32 := 0#32
  ![v7.toNat, 0, 0]
def k0_off12 (i : grid0.Coords) : Fin 2 → Nat :=
  let arg0 : BitVec 32 := BitVec.ofNat 32 (i 0).val
  let c256_i32 : BitVec 32 := 256#32
  let v8 : BitVec 32 := Scalar.muli arg0 c256_i32
  let v9 : BitVec 32 := v8
  let c0_i32_4 : BitVec 32 := 0#32
  ![v9.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixFirstRefIdeal.lean ====
abbrev S8448x5632 : Shape := ⟨2, ![8448, 5632]⟩
abbrev S8448x1024 : Shape := ⟨2, ![8448, 1024]⟩
abbrev S2816x1024 : Shape := ⟨2, ![2816, 1024]⟩
abbrev S8448x2816 : Shape := ⟨2, ![8448, 2816]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S8448x1024, .f32⟩
  | .hbm, ⟨2, _⟩ => ⟨S2816x1024, .f32⟩
  | .hbm, ⟨3, _⟩ => ⟨S8448x2816, .f32⟩
  | .hbm, ⟨4, _⟩ => ⟨S8448x2816, .f32⟩
  | .hbm, ⟨5, _⟩ => ⟨S8448x2816, .f32⟩
  | .hbm, ⟨6, _⟩ => ⟨S8448x2816, .f32⟩
  | .hbm, ⟨7, _⟩ => ⟨S_, .f32⟩
  | .hbm, ⟨8, _⟩ => ⟨S8448x2816, .f32⟩
  | .hbm, ⟨9, _⟩ => ⟨S8448x2816, .f32⟩
  | .hbm, ⟨10, _⟩ => ⟨S_, .f32⟩
  | .hbm, ⟨11, _⟩ => ⟨S8448x2816, .f32⟩
  | .hbm, ⟨12, _⟩ => ⟨S8448x2816, .f32⟩
  | .hbm, ⟨13, _⟩ => ⟨S8448x2816, .f32⟩
  | .hbm, ⟨14, _⟩ => ⟨S8448x2816, .f32⟩
  | .hbm, ⟨15, _⟩ => ⟨S8448x1024, .f32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x2816, .f32⟩
  | .hbm, ⟨21, _⟩ => ⟨S8448x2816, .f32⟩
  | .hbm, ⟨22, _⟩ => ⟨S8448x2816, .f32⟩
  | .hbm, ⟨23, _⟩ => ⟨S8448x2816, .f32⟩
  | .hbm, ⟨24, _⟩ => ⟨S_, .f32⟩
  | .hbm, ⟨25, _⟩ => ⟨S8448x2816, .f32⟩
  | .hbm, ⟨26, _⟩ => ⟨S8448x2816, .f32⟩
  | .hbm, ⟨27, _⟩ => ⟨S_, .f32⟩
  | .hbm, ⟨28, _⟩ => ⟨S8448x2816, .f32⟩
  | .hbm, ⟨29, _⟩ => ⟨S8448x2816, .f32⟩
  | .hbm, ⟨30, _⟩ => ⟨S8448x2816, .f32⟩
  | .hbm, ⟨31, _⟩ => ⟨S8448x2816, .f32⟩
  | .hbm, ⟨32, _⟩ => ⟨S8448x2816, .bf16⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Scan.lean ====
abbrev S8448x4096 : Shape := ⟨2, ![8448, 4096]⟩
abbrev S2048 : Shape := ⟨1, ![2048]⟩
abbrev S8 : Shape := ⟨1, ![8]⟩
abbrev S8x1 : Shape := ⟨2, ![8, 1]⟩
abbrev S_ : Shape := ⟨0, ![]⟩
abbrev S1x2048 : Shape := ⟨2, ![1, 2048]⟩
abbrev S8x2048 : Shape := ⟨2, ![8, 2048]⟩
abbrev S64x2048 : Shape := ⟨2, ![64, 2048]⟩
abbrev S2x8x4096 : Shape := ⟨3, ![2, 8, 4096]⟩
abbrev S128x4096 : Shape := ⟨2, ![128, 4096]⟩
abbrev S1x8x4096 : Shape := ⟨3, ![1, 8, 4096]⟩
abbrev S2x8x2048 : Shape := ⟨3, ![2, 8, 2048]⟩
abbrev S8x512 : Shape := ⟨2, ![8, 512]⟩
abbrev S1x8x512 : Shape := ⟨3, ![1, 8, 512]⟩
abbrev S1x512 : Shape := ⟨2, ![1, 512]⟩

abbrev nBuf : Space → Nat
  | .hbm => 123
  | .vmem => 10
  | .smem => 0
  | _ => 0

abbrev bufTy : (tb : Table) → Fin (tcTables nBuf tb) → BufTy
  | .hbm, ⟨0, _⟩ => ⟨S8448x4096, .f32⟩
  | .hbm, ⟨1, _⟩ => ⟨S2048, .f32⟩
  | .hbm, ⟨2, _⟩ => ⟨S2048, .f32⟩
  | .hbm, ⟨3, _⟩ => ⟨S8448x4096, .f32⟩
  | .hbm, ⟨4, _⟩ => ⟨S8448x4096, .bf16⟩
  | .hbm, ⟨5, _⟩ => ⟨S8448x4096, .bf16⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S2048, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S2048, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S2048, .f32⟩
  | .hbm, ⟨47, _⟩ => ⟨S2048, .f32⟩
  | .hbm, ⟨48, _⟩ => ⟨S2048, .f32⟩
  | .hbm, ⟨49, _⟩ => ⟨S8, .i32⟩
  | .hbm, ⟨50, _⟩ => ⟨S8x1, .i32⟩
  | .hbm, ⟨51, _⟩ => ⟨S_, .i32⟩
  | .hbm, ⟨52, _⟩ => ⟨S8x1, .i32⟩
  | .hbm, ⟨53, _⟩ => ⟨S8x1, .i1⟩
  | .hbm, ⟨54, _⟩ => ⟨S1x2048, .f32⟩
  | .hbm, ⟨55, _⟩ => ⟨S_, .f32⟩
  | .hbm, ⟨56, _⟩ => ⟨S_, .f32⟩
  | .hbm, ⟨57, _⟩ => ⟨S8x2048, .i1⟩
  | .hbm, ⟨58, _⟩ => ⟨S8x2048, .f32⟩
  | .hbm, ⟨59, _⟩ => ⟨S8x2048, .f32⟩
  | .hbm, ⟨60, _⟩ => ⟨S8x2048, .f32⟩
  | .hbm, ⟨61, _⟩ => ⟨S1x2048, .f32⟩
  | .hbm, ⟨62, _⟩ => ⟨S_, .f32⟩
  | .hbm, ⟨63, _⟩ => ⟨S_, .f32⟩
  | .hbm, ⟨64, _⟩ => ⟨S8x2048, .i1⟩
  | .hbm, ⟨65, _⟩ => ⟨S8x2048, .f32⟩
  | .hbm, ⟨66, _⟩ => ⟨S8x2048, .f32⟩
  | .hbm, ⟨67, _⟩ => ⟨S8x2048, .f32⟩
  | .hbm, ⟨68, _⟩ => ⟨S_, .i32⟩
  | .hbm, ⟨69, _⟩ => ⟨S8x1, .i32⟩
  | .hbm, ⟨70, _⟩ => ⟨S8x1, .i1⟩
  | .hbm, ⟨71, _⟩ => ⟨S1x2048, .f32⟩
  | .hbm, ⟨72, _⟩ => ⟨S_, .f32⟩
  | .hbm, ⟨73, _⟩ => ⟨S_, .f32⟩
  | .hbm, ⟨74, _⟩ => ⟨S8x2048, .i1⟩
  | .hbm, ⟨75, _⟩ => ⟨S8x2048, .f32⟩
  | .hbm, ⟨76, _⟩ => ⟨S8x2048, .f32⟩
  | .hbm, ⟨77, _⟩ => ⟨S8x2048, .f32⟩
  | .hbm, ⟨78, _⟩ => ⟨S1x2048, .f32⟩
  | .hbm, ⟨79, _⟩ => ⟨S_, .f32⟩
  | .hbm, ⟨80, _⟩ => ⟨S_, .f32⟩
  | .hbm, ⟨81, _⟩ => ⟨S8x2048, .i1⟩
  | .hbm, ⟨82, _⟩ => ⟨S8x2048, .f32⟩
  | .hbm, ⟨83, _⟩ => ⟨S8x2048, .f32⟩
  | .hbm, ⟨84, _⟩ => ⟨S8x2048, .f32⟩
  | .hbm, ⟨85, _⟩ => ⟨S_, .i32⟩
  | .hbm, ⟨86, _⟩ => ⟨S8x1, .i32⟩
  | .hbm, ⟨87, _⟩ => ⟨S8x1, .i1⟩
  | .hbm, ⟨88, _⟩ => ⟨S1x2048, .f32⟩
  | .hbm, ⟨89, _⟩ => ⟨S_, .f32⟩
  | .hbm, ⟨90, _⟩ => ⟨S_, .f32⟩
  | .hbm, ⟨91, _⟩ => ⟨S8x2048, .i1⟩
  | .hbm, ⟨92, _⟩ => ⟨S8x2048, .f32⟩
  | .hbm, ⟨93, _⟩ => ⟨S8x2048, .f32⟩
  | .hbm, ⟨94, _⟩ => ⟨S8x2048, .f32⟩
  | .hbm, ⟨95, _⟩ => ⟨S1x2048, .f32⟩
  | .hbm, ⟨96, _⟩ => ⟨S_, .f32⟩
  | .hbm, ⟨97, _⟩ => ⟨S_, .f32⟩
  | .hbm, ⟨98, _⟩ => ⟨S8x2048, .i1⟩
  | .hbm, ⟨99, _⟩ => ⟨S8x2048, .f32⟩
  | .hbm, ⟨100, _⟩ => ⟨S8x2048, .f32⟩
  | .hbm, ⟨101, _⟩ => ⟨S8x2048, .f32⟩
  | .hbm, ⟨102, _⟩ => ⟨S1x2048, .f32⟩
  | .hbm, ⟨103, _⟩ => ⟨S1x2048, .f32⟩
  | .hbm, ⟨104, _⟩ => ⟨S1x2048, .f32⟩
  | .hbm, ⟨105, _⟩ => ⟨S1x2048, .f32⟩
  | .hbm, ⟨106, _⟩ => ⟨S1x2048, .f32⟩
  | .hbm, ⟨107, _⟩ => ⟨S1x2048, .f32⟩
  | .hbm, ⟨108, _⟩ => ⟨S1x2048, .f32⟩
  | .hbm, ⟨109, _⟩ => ⟨S1x2048, .f32⟩
  | .hbm, ⟨110, _⟩ => ⟨S8x2048, .f32⟩
  | .hbm, ⟨111, _⟩ => ⟨S1x2048, .f32⟩
  | .hbm, ⟨112, _⟩ => ⟨S1x2048, .f32⟩
  | .hbm, ⟨113, _⟩ => ⟨S1x2048, .f32⟩
  | .hbm, ⟨114, _⟩ => ⟨S1x2048, .f32⟩
  | .hbm, ⟨115, _⟩ => ⟨S1x2048, .f32⟩
  | .hbm, ⟨116, _⟩ => ⟨S1x2048, .f32⟩
  | .hbm, ⟨117, _⟩ => ⟨S1x2048, .f32⟩
  | .hbm, ⟨118, _⟩ => ⟨S1x2048, .f32⟩
  | .hbm, ⟨119, _⟩ => ⟨S8x2048, .f32⟩
  | .hbm, ⟨120, _⟩ => ⟨S64x2048, .f32⟩
  | .hbm, ⟨121, _⟩ => ⟨S8448x4096, .bf16⟩
  | .hbm, ⟨122, _⟩ => ⟨S2x8x4096, .f32⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S64x2048, .f32⟩
  | .local _ .vmem, ⟨5, _⟩ => ⟨S128x4096, .bf16⟩
  | .local _ .vmem, ⟨6, _⟩ => ⟨S128x4096, .bf16⟩
  | .local _ .vmem, ⟨7, _⟩ => ⟨S1x8x4096, .f32⟩
  | .local _ .vmem, ⟨8, _⟩ => ⟨S1x8x4096, .f32⟩
  | .local _ .vmem, ⟨9, _⟩ => ⟨S2x8x2048, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_c : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_cst : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_v50 : Ref sig .tc := ⟨.hbm, 60, rfl⟩
abbrev main_v51 : Ref sig .tc := ⟨.hbm, 61, rfl⟩
abbrev main_cst_0 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_v52 : Ref sig .tc := ⟨.hbm, 67, rfl⟩
abbrev main_c_1 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_2 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_v56 : Ref sig .tc := ⟨.hbm, 77, rfl⟩
abbrev main_v57 : Ref sig .tc := ⟨.hbm, 78, rfl⟩
abbrev main_cst_3 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_v58 : Ref sig .tc := ⟨.hbm, 84, rfl⟩
abbrev main_c_4 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_5 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_v62 : Ref sig .tc := ⟨.hbm, 94, rfl⟩
abbrev main_v63 : Ref sig .tc := ⟨.hbm, 95, rfl⟩
abbrev main_cst_6 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84_0 : Ref sig .tc := ⟨.hbm, 121, rfl⟩
abbrev main_v84_1 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 33], ![false, false]⟩

@[reducible] def k0_t1_loop : Scf.Loop 32 :=
  let c0_i32_10 : BitVec 32 := 0#32
  let c16_i32 : BitVec 32 := 16#32
  let v12 : BitVec 32 := Scalar.addi c0_i32_10 c16_i32
  let c1_i32 : BitVec 32 := 1#32
  ⟨c0_i32_10, v12, c1_i32⟩
def k0_mult1 (k0_t1 : Fin k0_t1_loop.trips) : BitVec 32 :=
  let c15_i32 : BitVec 32 := 15#32
  let c0_i32_10 : BitVec 32 := 0#32
  let c1_i32 : BitVec 32 := 1#32
  let arg8 : BitVec 32 := Scf.iv c0_i32_10 c1_i32 k0_t1
  let v108 : BitVec 32 := Scalar.subi c15_i32 arg8
  let c8_i32 : BitVec 32 := 8#32
  let v109 : BitVec 32 := Scalar.muli v108 c8_i32
  v109
def k0_off1 (k0_t1 : Fin k0_t1_loop.trips) : Fin 2 → Nat :=
  let c15_i32 : BitVec 32 := 15#32
  let c0_i32_10 : BitVec 32 := 0#32
  let c1_i32 : BitVec 32 := 1#32
  let arg8 : BitVec 32 := Scf.iv c0_i32_10 c1_i32 k0_t1
  let v108 : BitVec 32 := Scalar.subi c15_i32 arg8
  let c8_i32 : BitVec 32 := 8#32
  let v109 : BitVec 32 := Scalar.muli v108 c8_i32
  let v110 : BitVec 32 := v109
  let v111 : Index := Scalar.indexCast v110
  let c0_111 : Index := 0#32
  ![v111.toNat, 0]
def k0_off2 (k0_t1 : Fin k0_t1_loop.trips) : Fin 2 → Nat :=
  let c15_i32 : BitVec 32 := 15#32
  let c0_i32_10 : BitVec 32 := 0#32
  let c1_i32 : BitVec 32 := 1#32
  let arg8 : BitVec 32 := Scf.iv c0_i32_10 c1_i32 k0_t1
  let v108 : BitVec 32 := Scalar.subi c15_i32 arg8
  let c8_i32 : BitVec 32 := 8#32
  let v109 : BitVec 32 := Scalar.muli v108 c8_i32
  let v110 : BitVec 32 := v109
  let v115 : Index := Scalar.indexCast v110
  let c512_112 : Index := 512#32
  ![v115.toNat, 512]
@[reducible] def k0_t2_loop : Scf.Loop 32 :=
  let c0_i32_34 : BitVec 32 := 0#32
  let c16_i32_35 : BitVec 32 := 16#32
  let v34 : BitVec 32 := Scalar.addi c0_i32_34 c16_i32_35
  let c1_i32_36 : BitVec 32 := 1#32
  ⟨c0_i32_34, v34, c1_i32_36⟩
def k0_mult2 (k0_t2 : Fin k0_t2_loop.trips) : BitVec 32 :=
  let c15_i32 : BitVec 32 := 15#32
  let c0_i32_34 : BitVec 32 := 0#32
  let c1_i32_36 : BitVec 32 := 1#32
  let arg8 : BitVec 32 := Scf.iv c0_i32_34 c1_i32_36 k0_t2
  let v108 : BitVec 32 := Scalar.subi c15_i32 arg8
  let c8_i32 : BitVec 32 := 8#32
  let v109 : BitVec 32 := Scalar.muli v108 c8_i32
  v109
def k0_off3 (k0_t2 : Fin k0_t2_loop.trips) : Fin 2 → Nat :=
  let c15_i32 : BitVec 32 := 15#32
  let c0_i32_34 : BitVec 32 := 0#32
  let c1_i32_36 : BitVec 32 := 1#32
  let arg8 : BitVec 32 := Scf.iv c0_i32_34 c1_i32_36 k0_t2
  let v108 : BitVec 32 := Scalar.subi c15_i32 arg8
  let c8_i32 : BitVec 32 := 8#32
  let v109 : BitVec 32 := Scalar.muli v108 c8_i32
  let v110 : BitVec 32 := v109
  let v111 : Index := Scalar.indexCast v110
  let c1024_111 : Index := 1024#32
  ![v111.toNat, 1024]
def k0_off4 (k0_t2 : Fin k0_t2_loop.trips) : Fin 2 → Nat :=
  let c15_i32 : BitVec 32 := 15#32
  let c0_i32_34 : BitVec 32 := 0#32
  let c1_i32_36 : BitVec 32 := 1#32
  let arg8 : BitVec 32 := Scf.iv c0_i32_34 c1_i32_36 k0_t2
  let v108 : BitVec 32 := Scalar.subi c15_i32 arg8
  let c8_i32 : BitVec 32 := 8#32
  let v109 : BitVec 32 := Scalar.muli v108 c8_i32
  let v110 : BitVec 32 := v109
  let v115 : Index := Scalar.indexCast v110
  let c1536_112 : Index := 1536#32
  ![v115.toNat, 1536]
@[reducible] def k0_t3_loop : Scf.Loop 32 :=
  let c0_i32_60 : BitVec 32 := 0#32
  let c16_i32_61 : BitVec 32 := 16#32
  let v56 : BitVec 32 := Scalar.addi c0_i32_60 c16_i32_61
  let c1_i32_62 : BitVec 32 := 1#32
  ⟨c0_i32_60, v56, c1_i32_62⟩
def k0_mult3 (k0_t3 : Fin k0_t3_loop.trips) : BitVec 32 :=
  let c15_i32 : BitVec 32 := 15#32
  let c0_i32_60 : BitVec 32 := 0#32
  let c1_i32_62 : BitVec 32 := 1#32
  let arg8 : BitVec 32 := Scf.iv c0_i32_60 c1_i32_62 k0_t3
  let v108 : BitVec 32 := Scalar.subi c15_i32 arg8
  let c8_i32 : BitVec 32 := 8#32
  let v109 : BitVec 32 := Scalar.muli v108 c8_i32
  v109
def k0_off5 (k0_t3 : Fin k0_t3_loop.trips) : Fin 2 → Nat :=
  let c15_i32 : BitVec 32 := 15#32
  let c0_i32_60 : BitVec 32 := 0#32
  let c1_i32_62 : BitVec 32 := 1#32
  let arg8 : BitVec 32 := Scf.iv c0_i32_60 c1_i32_62 k0_t3
  let v108 : BitVec 32 := Scalar.subi c15_i32 arg8
  let c8_i32 : BitVec 32 := 8#32
  let v109 : BitVec 32 := Scalar.muli v108 c8_i32
  let v110 : BitVec 32 := v109
  let v111 : Index := Scalar.indexCast v110
  let c2048_111 : Index := 2048#32
  ![v111.toNat, 2048]
def k0_off6 (k0_t3 : Fin k0_t3_loop.trips) : Fin 2 → Nat :=
  let c15_i32 : BitVec 32 := 15#32
  let c0_i32_60 : BitVec 32 := 0#32
  let c1_i32_62 : BitVec 32 := 1#32
  let arg8 : BitVec 32 := Scf.iv c0_i32_60 c1_i32_62 k0_t3
  let v108 : BitVec 32 := Scalar.subi c15_i32 arg8
  let c8_i32 : BitVec 32 := 8#32
  let v109 : BitVec 32 := Scalar.muli v108 c8_i32
  let v110 : BitVec 32 := v109
  let v115 : Index := Scalar.indexCast v110
  let c2560_112 : Index := 2560#32
  ![v115.toNat, 2560]
@[reducible] def k0_t4_loop : Scf.Loop 32 :=
  let c0_i32_86 : BitVec 32 := 0#32
  let c16_i32_87 : BitVec 32 := 16#32
  let v78 : BitVec 32 := Scalar.addi c0_i32_86 c16_i32_87
  let c1_i32_88 : BitVec 32 := 1#32
  ⟨c0_i32_86, v78, c1_i32_88⟩
def k0_mult4 (k0_t4 : Fin k0_t4_loop.trips) : BitVec 32 :=
  let c15_i32 : BitVec 32 := 15#32
  let c0_i32_86 : BitVec 32 := 0#32
  let c1_i32_88 : BitVec 32 := 1#32
  let arg8 : BitVec 32 := Scf.iv c0_i32_86 c1_i32_88 k0_t4
  let v108 : BitVec 32 := Scalar.subi c15_i32 arg8
  let c8_i32 : BitVec 32 := 8#32
  let v109 : BitVec 32 := Scalar.muli v108 c8_i32
  v109
def k0_off7 (k0_t4 : Fin k0_t4_loop.trips) : Fin 2 → Nat :=
  let c15_i32 : BitVec 32 := 15#32
  let c0_i32_86 : BitVec 32 := 0#32
  let c1_i32_88 : BitVec 32 := 1#32
  let arg8 : BitVec 32 := Scf.iv c0_i32_86 c1_i32_88 k0_t4
  let v108 : BitVec 32 := Scalar.subi c15_i32 arg8
  let c8_i32 : BitVec 32 := 8#32
  let v109 : BitVec 32 := Scalar.muli v108 c8_i32
  let v110 : BitVec 32 := v109
  let v111 : Index := Scalar.indexCast v110
  let c3072_111 : Index := 3072#32
  ![v111.toNat, 3072]
def k0_off8 (k0_t4 : Fin k0_t4_loop.trips) : Fin 2 → Nat :=
  let c15_i32 : BitVec 32 := 15#32
  let c0_i32_86 : BitVec 32 := 0#32
  let c1_i32_88 : BitVec 32 := 1#32
  let arg8 : BitVec 32 := Scf.iv c0_i32_86 c1_i32_88 k0_t4
  let v108 : BitVec 32 := Scalar.subi c15_i32 arg8
  let c8_i32 : BitVec 32 := 8#32
  let v109 : BitVec 32 := Scalar.muli v108 c8_i32
  let v110 : BitVec 32 := v109
  let v115 : Index := Scalar.indexCast v110
  let c3584_112 : Index := 3584#32
  ![v115.toNat, 3584]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let v1 : BitVec 1 := Scalar.cmpi .eq v0 c0_i32
  let c64_i32 : BitVec 32 := 64#32
  let v2 : BitVec 32 := Scalar.addi c64_i32 arg0
  let c32_i32_0 : BitVec 32 := 32#32
  let v3 : BitVec 32 := Scalar.muli arg0 c32_i32_0
  let v4 : BitVec 32 := Scalar.addi v3 v0
  let c1_i32 : BitVec 32 := 1#32
  let v5 : BitVec 32 := Scalar.subi v4 c1_i32
  let v6 : BitVec 32 := Scalar.select v1 v2 v5
  let c0_i32_1 : BitVec 32 := 0#32
  let c0_i32_2 : BitVec 32 := 0#32
  ![v6.toNat, c0_i32_1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let v1 : BitVec 1 := Scalar.cmpi .eq v0 c0_i32
  let c64_i32 : BitVec 32 := 64#32
  let v2 : BitVec 32 := Scalar.addi c64_i32 arg0
  let c32_i32_0 : BitVec 32 := 32#32
  let v3 : BitVec 32 := Scalar.muli arg0 c32_i32_0
  let v4 : BitVec 32 := Scalar.addi v3 v0
  let c1_i32 : BitVec 32 := 1#32
  let v5 : BitVec 32 := Scalar.subi v4 c1_i32
  let v6 : BitVec 32 := Scalar.select v1 v2 v5
  let c0_i32_1 : BitVec 32 := 0#32
  let c0_i32_2 : BitVec 32 := 0#32
  ![v6.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let v1 : BitVec 1 := Scalar.cmpi .eq v0 c0_i32
  let c64_i32 : BitVec 32 := 64#32
  let v2 : BitVec 32 := Scalar.addi c64_i32 arg0
  let c32_i32_0 : BitVec 32 := 32#32
  let v3 : BitVec 32 := Scalar.muli arg0 c32_i32_0
  let v4 : BitVec 32 := Scalar.addi v3 v0
  let c1_i32 : BitVec 32 := 1#32
  let v5 : BitVec 32 := Scalar.subi v4 c1_i32
  let v6 : BitVec 32 := Scalar.select v1 v2 v5
  let c0_i32_1 : BitVec 32 := 0#32
  let c0_i32_2 : BitVec 32 := 0#32
  ![v6.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ScanRefIdeal.lean ====
abbrev S8448x4096 : Shape := ⟨2, ![8448, 4096]⟩
abbrev S2048 : Shape := ⟨1, ![2048]⟩
abbrev S4x512 : Shape := ⟨2, ![4, 512]⟩
abbrev S_ : Shape := ⟨0, ![]⟩
abbrev S2x4x512 : Shape := ⟨3, ![2, 4, 512]⟩
abbrev S1x4x512 : Shape := ⟨3, ![1, 4, 512]⟩
abbrev S8192x4096 : Shape := ⟨2, ![8192, 4096]⟩
abbrev S2x4096x4x2x512 : Shape := ⟨5, ![2, 4096, 4, 2, 512]⟩
abbrev S256x4096 : Shape := ⟨2, ![256, 4096]⟩
abbrev S2x128x4x2x512 : Shape := ⟨5, ![2, 128, 4, 2, 512]⟩
abbrev S2x4224x4x2x512 : Shape := ⟨5, ![2, 4224, 4, 2, 512]⟩
abbrev S4224x2x4x2x512 : Shape := ⟨5, ![4224, 2, 4, 2, 512]⟩
abbrev S4224x2x4x1x512 : Shape := ⟨5, ![4224, 2, 4, 1, 512]⟩
abbrev S4224x2x4x512 : Shape := ⟨4, ![4224, 2, 4, 512]⟩
abbrev S1x2x4x512 : Shape := ⟨4, ![1, 2, 4, 512]⟩
abbrev S4223x2x4x512 : Shape := ⟨4, ![4223, 2, 4, 512]⟩
abbrev S4224x2x4096 : Shape := ⟨3, ![4224, 2, 4096]⟩
abbrev S528x8x2x4096 : Shape := ⟨4, ![528, 8, 2, 4096]⟩
abbrev S2x4224x4096 : Shape := ⟨3, ![2, 4224, 4096]⟩
abbrev S2x4096x4096 : Shape := ⟨3, ![2, 4096, 4096]⟩
abbrev S2x128x4096 : Shape := ⟨3, ![2, 128, 4096]⟩
abbrev S8x2x4096 : Shape := ⟨3, ![8, 2, 4096]⟩
abbrev S2x8x4096 : Shape := ⟨3, ![2, 8, 4096]⟩

abbrev nBuf : Space → Nat
  | .hbm => 133
  | .vmem => 0
  | .smem => 0
  | _ => 0

abbrev hbmTy0_0 (i : Nat) : BufTy := match i % 128 with
  | 0 => ⟨S8448x4096, .f32⟩
  | 1 => ⟨S2048, .f32⟩
  | 2 => ⟨S2048, .f32⟩
  | 3 => ⟨S8448x4096, .f32⟩
  | 4 => ⟨S4x512, .f32⟩
  | 5 => ⟨S4x512, .f32⟩
  | 6 => ⟨S_, .f32⟩
  | 7 => ⟨S2x4x512, .f32⟩
  | 8 => ⟨S_, .f32⟩
  | 9 => ⟨S2x4x512, .f32⟩
  | 10 => ⟨S1x4x512, .f32⟩
  | 11 => ⟨S1x4x512, .f32⟩
  | 12 => ⟨S1x4x512, .f32⟩
  | 13 => ⟨S1x4x512, .f32⟩
  | 14 => ⟨S8192x4096, .f32⟩
  | 15 => ⟨S2x4096x4x2x512, .f32⟩
  | 16 => ⟨S256x4096, .f32⟩
  | 17 => ⟨S2x128x4x2x512, .f32⟩
  | 18 => ⟨S2x4224x4x2x512, .f32⟩
  | 19 => ⟨S4224x2x4x2x512, .f32⟩
  | 20 => ⟨S4224x2x4x1x512, .f32⟩
  | 21 => ⟨S4224x2x4x512, .f32⟩
  | 22 => ⟨S4224x2x4x1x512, .f32⟩
  | 23 => ⟨S4224x2x4x512, .f32⟩
  | 24 => ⟨S_, .f32⟩
  | 25 => ⟨S2x4x512, .f32⟩
  | 26 => ⟨S_, .f32⟩
  | 27 => ⟨S2x4x512, .f32⟩
  | 28 => ⟨S_, .f32⟩
  | 29 => ⟨S4224x2x4x512, .f32⟩
  | 30 => ⟨S_, .f32⟩
  | 31 => ⟨S4224x2x4x512, .f32⟩
  | 32 => ⟨S_, .i32⟩
  | 33 => ⟨S4224x2x4x512, .f32⟩
  | 34 => ⟨S4224x2x4x512, .f32⟩
  | 35 => ⟨S1x4x512, .f32⟩
  | 36 => ⟨S1x4x512, .f32⟩
  | 37 => ⟨S1x4x512, .f32⟩
  | 38 => ⟨S1x4x512, .f32⟩
  | 39 => ⟨S_, .i32⟩
  | 40 => ⟨S2x4x512, .f32⟩
  | 41 => ⟨S2x4x512, .f32⟩
  | 42 => ⟨S4224x2x4x512, .f32⟩
  | 43 => ⟨S4224x2x4x512, .f32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S1x2x4x512, .f32⟩
  | 54 => ⟨S2x4x512, .f32⟩
  | 55 => ⟨S_, .i32⟩
  | 56 => ⟨S_, .i32⟩
  | 57 => ⟨S_, .i32⟩
  | 58 => ⟨S1x2x4x512, .f32⟩
  | 59 => ⟨S2x4x512, .f32⟩
  | 60 => ⟨S2x4x512, .f32⟩
  | 61 => ⟨S2x4x512, .f32⟩
  | 62 => ⟨S2x4x512, .f32⟩
  | 63 => ⟨S2x4x512, .f32⟩
  | 64 => ⟨S2x4x512, .f32⟩
  | 65 => ⟨S2x4x512, .f32⟩
  | 66 => ⟨S2x4x512, .f32⟩
  | 67 => ⟨S2x4x512, .f32⟩
  | 68 => ⟨S2x4x512, .f32⟩
  | 69 => ⟨S2x4x512, .f32⟩
  | 70 => ⟨S2x4x512, .f32⟩
  | 71 => ⟨S2x4x512, .f32⟩
  | 72 => ⟨S2x4x512, .f32⟩
  | 73 => ⟨S1x2x4x512, .f32⟩
  | 74 => ⟨S_, .i32⟩
  | 75 => ⟨S_, .i32⟩
  | 76 => ⟨S_, .i32⟩
  | 77 => ⟨S4224x2x4x512, .f32⟩
  | 78 => ⟨S1x2x4x512, .f32⟩
  | 79 => ⟨S_, .i32⟩
  | 80 => ⟨S_, .i32⟩
  | 81 => ⟨S_, .i32⟩
  | 82 => ⟨S4224x2x4x512, .f32⟩
  | 83 => ⟨S_, .i32⟩
  | 84 => ⟨S_, .i32⟩
  | 85 => ⟨S8192x4096, .f32⟩
  | 86 => ⟨S2x4096x4x2x512, .f32⟩
  | 87 => ⟨S256x4096, .f32⟩
  | 88 => ⟨S2x128x4x2x512, .f32⟩
  | 89 => ⟨S2x4224x4x2x512, .f32⟩
  | 90 => ⟨S4224x2x4x2x512, .f32⟩
  | 91 => ⟨S4224x2x4x1x512, .f32⟩
  | 92 => ⟨S4224x2x4x512, .f32⟩
  | 93 => ⟨S4224x2x4x1x512, .f32⟩
  | 94 => ⟨S4224x2x4x512, .f32⟩
  | 95 => ⟨S4223x2x4x512, .f32⟩
  | 96 => ⟨S_, .f32⟩
  | 97 => ⟨S1x2x4x512, .f32⟩
  | 98 => ⟨S4224x2x4x512, .f32⟩
  | 99 => ⟨S4223x2x4x512, .f32⟩
  | 100 => ⟨S_, .f32⟩
  | 101 => ⟨S1x2x4x512, .f32⟩
  | 102 => ⟨S4224x2x4x512, .f32⟩
  | 103 => ⟨S_, .f32⟩
  | 104 => ⟨S_, .f32⟩
  | 105 => ⟨S4224x2x4x512, .f32⟩
  | 106 => ⟨S4224x2x4x512, .f32⟩
  | 107 => ⟨S_, .f32⟩
  | 108 => ⟨S_, .f32⟩
  | 109 => ⟨S4224x2x4x512, .f32⟩
  | 110 => ⟨S4224x2x4x512, .f32⟩
  | 111 => ⟨S4224x2x4x512, .f32⟩
  | 112 => ⟨S4224x2x4x512, .f32⟩
  | 113 => ⟨S4224x2x4x512, .f32⟩
  | 114 => ⟨S4224x2x4x1x512, .f32⟩
  | 115 => ⟨S4224x2x4x1x512, .f32⟩
  | 116 => ⟨S4224x2x4x2x512, .f32⟩
  | 117 => ⟨S4224x2x4096, .f32⟩
  | 118 => ⟨S528x8x2x4096, .f32⟩
  | 119 => ⟨S4224x2x4x1x512, .f32⟩
  | 120 => ⟨S4224x2x4x1x512, .f32⟩
  | 121 => ⟨S4224x2x4x2x512, .f32⟩
  | 122 => ⟨S4224x2x4096, .f32⟩
  | 123 => ⟨S2x4224x4096, .f32⟩
  | 124 => ⟨S2x4096x4096, .f32⟩
  | 125 => ⟨S8192x4096, .f32⟩
  | 126 => ⟨S2x128x4096, .f32⟩
  | 127 => ⟨S256x4096, .f32⟩
  | _ => ⟨S8448x4096, .f32⟩

abbrev hbmTy0_1 (i : Nat) : BufTy := match i % 128 with
  | 0 => ⟨S8448x4096, .f32⟩
  | 1 => ⟨S8448x4096, .bf16⟩
  | 2 => ⟨S_, .f32⟩
  | 3 => ⟨S8x2x4096, .f32⟩
  | 4 => ⟨S2x8x4096, .f32⟩
  | _ => ⟨S8448x4096, .f32⟩

abbrev hbmTy (i : Nat) : BufTy := match i / 128 with
  | 0 => hbmTy0_0 i
  | 1 => hbmTy0_1 i
  | _ => ⟨S8448x4096, .f32⟩

abbrev bufTy : (tb : Table) → Fin (tcTables nBuf tb) → BufTy
  | .hbm, ⟨i, _⟩ => hbmTy i
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_c : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev main_v22_4 : Ref sig .tc := ⟨.hbm, 37, rfl⟩
abbrev main_v22_5 : Ref sig .tc := ⟨.hbm, 38, rfl⟩
abbrev main_v22_6 : Ref sig .tc := ⟨.hbm, 39, rfl⟩
abbrev main_v22_7 : Ref sig .tc := ⟨.hbm, 40, rfl⟩
abbrev main_v22_8 : Ref sig .tc := ⟨.hbm, 41, rfl⟩
abbrev main_v22_9 : Ref sig .tc := ⟨.hbm, 42, rfl⟩
abbrev main_v22_10 : Ref sig .tc := ⟨.hbm, 43, rfl⟩
abbrev main_while0c_c_20 : Ref sig .tc := ⟨.hbm, 44, rfl⟩
abbrev main_while0c_v66 : Ref sig .tc := ⟨.hbm, 45, rfl⟩
abbrev main_while0b_c_20 : Ref sig .tc := ⟨.hbm, 46, rfl⟩
abbrev main_while0b_v66 : Ref sig .tc := ⟨.hbm, 47, rfl⟩
abbrev main_while0b_c_21 : Ref sig .tc := ⟨.hbm, 48, rfl⟩
abbrev main_while0b_v67 : Ref sig .tc := ⟨.hbm, 49, rfl⟩
abbrev main_while0b_call0_c : Ref sig .tc := ⟨.hbm, 50, rfl⟩
abbrev main_while0b_call0_c_0 : Ref sig .tc := ⟨.hbm, 51, rfl⟩
abbrev main_while0b_call0_c_1 : Ref sig .tc := ⟨.hbm, 52, rfl⟩
abbrev main_while0b_call0_v0 : Ref sig .tc := ⟨.hbm, 53, rfl⟩
abbrev main_while0b_v68 : Ref sig .tc := ⟨.hbm, 54, rfl⟩
abbrev main_while0b_call1_c : Ref sig .tc := ⟨.hbm, 55, rfl⟩
abbrev main_while0b_call1_c_0 : Ref sig .tc := ⟨.hbm, 56, rfl⟩
abbrev main_while0b_call1_c_1 : Ref sig .tc := ⟨.hbm, 57, rfl⟩
abbrev main_while0b_call1_v0 : Ref sig .tc := ⟨.hbm, 58, rfl⟩
abbrev main_while0b_v69 : Ref sig .tc := ⟨.hbm, 59, rfl⟩
abbrev main_while0b_v70 : Ref sig .tc := ⟨.hbm, 60, rfl⟩
abbrev main_while0b_v71 : Ref sig .tc := ⟨.hbm, 61, rfl⟩
abbrev main_while0b_v72 : Ref sig .tc := ⟨.hbm, 62, rfl⟩
abbrev main_while0b_v73 : Ref sig .tc := ⟨.hbm, 63, rfl⟩
abbrev main_while0b_v74 : Ref sig .tc := ⟨.hbm, 64, rfl⟩
abbrev main_while0b_v75 : Ref sig .tc := ⟨.hbm, 65, rfl⟩
abbrev main_while0b_v76 : Ref sig .tc := ⟨.hbm, 66, rfl⟩
abbrev main_while0b_v77 : Ref sig .tc := ⟨.hbm, 67, rfl⟩
abbrev main_while0b_v78 : Ref sig .tc := ⟨.hbm, 68, rfl⟩
abbrev main_while0b_v79 : Ref sig .tc := ⟨.hbm, 69, rfl⟩
abbrev main_while0b_v80 : Ref sig .tc := ⟨.hbm, 70, rfl⟩
abbrev main_while0b_v81 : Ref sig .tc := ⟨.hbm, 71, rfl⟩
abbrev main_while0b_v82 : Ref sig .tc := ⟨.hbm, 72, rfl⟩
abbrev main_while0b_call2_v0 : Ref sig .tc := ⟨.hbm, 73, rfl⟩
abbrev main_while0b_call2_c : Ref sig .tc := ⟨.hbm, 74, rfl⟩
abbrev main_while0b_call2_c_0 : Ref sig .tc := ⟨.hbm, 75, rfl⟩
abbrev main_while0b_call2_c_1 : Ref sig .tc := ⟨.hbm, 76, rfl⟩
abbrev main_while0b_v83 : Ref sig .tc := ⟨.hbm, 77, rfl⟩
abbrev main_while0b_call3_v0 : Ref sig .tc := ⟨.hbm, 78, rfl⟩
abbrev main_while0b_call3_c : Ref sig .tc := ⟨.hbm, 79, rfl⟩
abbrev main_while0b_call3_c_0 : Ref sig .tc := ⟨.hbm, 80, rfl⟩
abbrev main_while0b_call3_c_1 : Ref sig .tc := ⟨.hbm, 81, rfl⟩
abbrev main_while0b_v84 : Ref sig .tc := ⟨.hbm, 82, rfl⟩
abbrev main_while0b_c_22 : Ref sig .tc := ⟨.hbm, 83, rfl⟩
abbrev main_while0b_v85 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_cst_5 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_cst_6 : Ref sig .tc := ⟨.hbm, 100, rfl⟩
abbrev main_v37 : Ref sig .tc := ⟨.hbm, 101, rfl⟩
abbrev main_v38 : Ref sig .tc := ⟨.hbm, 102, rfl⟩
abbrev main_cst_7 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_cst_8 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_cst_9 : Ref sig .tc := ⟨.hbm, 130, rfl⟩
abbrev main_v64 : Ref sig .tc := ⟨.hbm, 131, rfl⟩
abbrev main_v65 : Ref sig .tc := ⟨.hbm, 132, rfl⟩

abbrev nD : Nat := 1
abbrev τ : Topo := Topo.v7x

variable {F : FTy → Type} [FloatOps F]

abbrev main_while0_count : Scf.Loop 32 := ⟨0#32, 4224#32, 1#32⟩
-- ==== Query.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1x1024x1024 : Shape := ⟨3, ![1, 1024, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S1x1024, .f32⟩
  | .hbm, ⟨5, _⟩ => ⟨S8192x1024, .bf16⟩
  | .hbm, ⟨6, _⟩ => ⟨S1x1024x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S2048x1024, .bf16⟩
  | .local _ .vmem, ⟨4, _⟩ => ⟨S2048x1024, .bf16⟩
  | .local _ .vmem, ⟨5, _⟩ => ⟨S1x1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== QueryIdeal.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1x1024x1024 : Shape := ⟨3, ![1, 1024, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S1x1024, .f32⟩
  | .hbm, ⟨5, _⟩ => ⟨S8192x1024, .bf16⟩
  | .hbm, ⟨6, _⟩ => ⟨S1x1024x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S2048x1024, .bf16⟩
  | .local _ .vmem, ⟨4, _⟩ => ⟨S2048x1024, .bf16⟩
  | .local _ .vmem, ⟨5, _⟩ => ⟨S1x1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== QueryRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1024x1024 : Shape := ⟨3, ![1, 1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x1024, .f32⟩
  | .hbm, ⟨22, _⟩ => ⟨S1024x1024, .f32⟩
  | .hbm, ⟨23, _⟩ => ⟨S1x1024x1024, .f32⟩
  | .hbm, ⟨24, _⟩ => ⟨S1x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Entry.lean ====
abbrev S8448x1024 : Shape := ⟨2, ![8448, 1024]⟩
abbrev S1024 : Shape := ⟨1, ![1024]⟩
abbrev S1024x512 : Shape := ⟨2, ![1024, 512]⟩
abbrev S8448x512 : Shape := ⟨2, ![8448, 512]⟩
abbrev S1x1024 : Shape := ⟨2, ![1, 1024]⟩
abbrev S1x1024x512 : Shape := ⟨3, ![1, 1024, 512]⟩
abbrev S2816x1024 : Shape := ⟨2, ![2816, 1024]⟩
abbrev S2816x512 : Shape := ⟨2, ![2816, 512]⟩
abbrev S2816 : Shape := ⟨1, ![2816]⟩
abbrev S2816x1 : Shape := ⟨2, ![2816, 1]⟩

abbrev nBuf : Space → Nat
  | .hbm => 7
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x512, .f32⟩
  | .hbm, ⟨3, _⟩ => ⟨S8448x512, .f32⟩
  | .hbm, ⟨4, _⟩ => ⟨S1x1024, .f32⟩
  | .hbm, ⟨5, _⟩ => ⟨S8448x512, .bf16⟩
  | .hbm, ⟨6, _⟩ => ⟨S1x1024x512, .bf16⟩
  | .local _ .vmem, ⟨0, _⟩ => ⟨S2816x1024, .f32⟩
  | .local _ .vmem, ⟨1, _⟩ => ⟨S2816x1024, .f32⟩
  | .local _ .vmem, ⟨2, _⟩ => ⟨S1x1024, .f32⟩
  | .local _ .vmem, ⟨3, _⟩ => ⟨S2816x512, .bf16⟩
  | .local _ .vmem, ⟨4, _⟩ => ⟨S2816x512, .bf16⟩
  | .local _ .vmem, ⟨5, _⟩ => ⟨S1x1024x512, .bf16⟩
  | .local _ .vmem, ⟨6, _⟩ => ⟨S1024x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![1, 3], ![false, false]⟩

def k0_cond2 (i : grid0.Coords) : BitVec 1 :=
  let arg1 : BitVec 32 := BitVec.ofNat 32 (i 1).val
  let c2_i32 : BitVec 32 := 2#32
  let v27 : BitVec 1 := Scalar.cmpi .eq arg1 c2_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2816x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== EntryRefIdeal.lean ====
abbrev S8448x1024 : Shape := ⟨2, ![8448, 1024]⟩
abbrev S1024 : Shape := ⟨1, ![1024]⟩
abbrev S1024x512 : Shape := ⟨2, ![1024, 512]⟩
abbrev S8448x512 : Shape := ⟨2, ![8448, 512]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S512x1024 : Shape := ⟨2, ![512, 1024]⟩
abbrev S1x1024x512 : Shape := ⟨3, ![1, 1024, 512]⟩

abbrev nBuf : Space → Nat
  | .hbm => 25
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x512, .f32⟩
  | .hbm, ⟨3, _⟩ => ⟨S8448x512, .f32⟩
  | .hbm, ⟨4, _⟩ => ⟨S8448x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x1024, .f32⟩
  | .hbm, ⟨16, _⟩ => ⟨S8448x1024, .f32⟩
  | .hbm, ⟨17, _⟩ => ⟨S1x1024, .f32⟩
  | .hbm, ⟨18, _⟩ => ⟨S8448x1024, .f32⟩
  | .hbm, ⟨19, _⟩ => ⟨S8448x1024, .f32⟩
  | .hbm, ⟨20, _⟩ => ⟨S8448x512, .f32⟩
  | .hbm, ⟨21, _⟩ => ⟨S512x1024, .f32⟩
  | .hbm, ⟨22, _⟩ => ⟨S1024x512, .f32⟩
  | .hbm, ⟨23, _⟩ => ⟨S1x1024x512, .f32⟩
  | .hbm, ⟨24, _⟩ => ⟨S1x1024x512, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Merge.lean ====
abbrev S8192x1024 : Shape := ⟨2, ![8192, 1024]⟩
abbrev S1024x1024 : Shape := ⟨2, ![1024, 1024]⟩
abbrev S1x1024x1024 : Shape := ⟨3, ![1, 1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== MergeRefIdeal.lean ====
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1x1024x1024, .f32⟩
  | .hbm, ⟨7, _⟩ => ⟨S1x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Heads.lean ====
abbrev S8192x1024 : Shape := ⟨2, ![8192, 1024]⟩
abbrev S1024x1024 : Shape := ⟨2, ![1024, 1024]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== HeadsRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Inlet.lean ====
abbrev S8448x1024 : Shape := ⟨2, ![8448, 1024]⟩
abbrev S1024 : Shape := ⟨1, ![1024]⟩
abbrev S1024x512 : Shape := ⟨2, ![1024, 512]⟩
abbrev S512 : Shape := ⟨1, ![512]⟩
abbrev S32x64x16 : Shape := ⟨3, ![32, 64, 16]⟩
abbrev S8448x512 : Shape := ⟨2, ![8448, 512]⟩
abbrev S8448x4096 : Shape := ⟨2, ![8448, 4096]⟩
abbrev S8x8 : Shape := ⟨2, ![8, 8]⟩
abbrev S_ : Shape := ⟨0, ![]⟩
abbrev S4x8x64x16 : Shape := ⟨4, ![4, 8, 64, 16]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x128x1024 : Shape := ⟨3, ![4, 128, 1024]⟩
abbrev S1x512 : Shape := ⟨2, ![1, 512]⟩
abbrev S1x1024 : Shape := ⟨2, ![1, 1024]⟩
abbrev S256x4096 : Shape := ⟨2, ![256, 4096]⟩
abbrev S256x512 : Shape := ⟨2, ![256, 512]⟩
abbrev S256x1024 : Shape := ⟨2, ![256, 1024]⟩
abbrev S1x128x1024 : Shape := ⟨3, ![1, 128, 1024]⟩
abbrev S128x1024 : Shape := ⟨2, ![128, 1024]⟩
abbrev S256x128 : Shape := ⟨2, ![256, 128]⟩
abbrev S256 : Shape := ⟨1, ![256]⟩
abbrev S256x1 : Shape := ⟨2, ![256, 1]⟩

abbrev nBuf : Space → Nat
  | .hbm => 41
  | .vmem => 17
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x512, .f32⟩
  | .hbm, ⟨3, _⟩ => ⟨S512, .f32⟩
  | .hbm, ⟨4, _⟩ => ⟨S32x64x16, .f32⟩
  | .hbm, ⟨5, _⟩ => ⟨S32x64x16, .f32⟩
  | .hbm, ⟨6, _⟩ => ⟨S8448x1024, .f32⟩
  | .hbm, ⟨7, _⟩ => ⟨S8448x512, .f32⟩
  | .hbm, ⟨8, _⟩ => ⟨S8448x4096, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .f32⟩
  | .hbm, ⟨16, _⟩ => ⟨S4x8x64x16, .f32⟩
  | .hbm, ⟨17, _⟩ => ⟨S4x8x16x64, .f32⟩
  | .hbm, ⟨18, _⟩ => ⟨S4x8x16x1x64, .f32⟩
  | .hbm, ⟨19, _⟩ => ⟨S1x8x1x8x1, .f32⟩
  | .hbm, ⟨20, _⟩ => ⟨S4x8x16x8x64, .f32⟩
  | .hbm, ⟨21, _⟩ => ⟨S4x8x16x8x64, .f32⟩
  | .hbm, ⟨22, _⟩ => ⟨S4x8x16x8x64, .f32⟩
  | .hbm, ⟨23, _⟩ => ⟨S4x128x512, .f32⟩
  | .hbm, ⟨24, _⟩ => ⟨S4x8x64x16, .f32⟩
  | .hbm, ⟨25, _⟩ => ⟨S4x8x16x64, .f32⟩
  | .hbm, ⟨26, _⟩ => ⟨S4x8x16x1x64, .f32⟩
  | .hbm, ⟨27, _⟩ => ⟨S1x8x1x8x1, .f32⟩
  | .hbm, ⟨28, _⟩ => ⟨S4x8x16x8x64, .f32⟩
  | .hbm, ⟨29, _⟩ => ⟨S4x8x16x8x64, .f32⟩
  | .hbm, ⟨30, _⟩ => ⟨S4x8x16x8x64, .f32⟩
  | .hbm, ⟨31, _⟩ => ⟨S4x128x512, .f32⟩
  | .hbm, ⟨32, _⟩ => ⟨S4x128x1024, .f32⟩
  | .hbm, ⟨33, _⟩ => ⟨S8448x4096, .bf16⟩
  | .hbm, ⟨34, _⟩ => ⟨S1x512, .f32⟩
  | .hbm, ⟨35, _⟩ => ⟨S4x128x1024, .bf16⟩
  | .hbm, ⟨36, _⟩ => ⟨S1024x512, .bf16⟩
  | .hbm, ⟨37, _⟩ => ⟨S1x1024, .f32⟩
  | .hbm, ⟨38, _⟩ => ⟨S8448x512, .bf16⟩
  | .hbm, ⟨39, _⟩ => ⟨S8448x1024, .f32⟩
  | .hbm, ⟨40, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S4x128x1024, .bf16⟩
  | .local _ .vmem, ⟨6, _⟩ => ⟨S1024x512, .bf16⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x512, .bf16⟩
  | .local _ .vmem, ⟨13, _⟩ => ⟨S256x512, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v28_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InletRefIdeal.lean ====
abbrev S8448x1024 : Shape := ⟨2, ![8448, 1024]⟩
abbrev S1024 : Shape := ⟨1, ![1024]⟩
abbrev S1024x512 : Shape := ⟨2, ![1024, 512]⟩
abbrev S512 : Shape := ⟨1, ![512]⟩
abbrev S32x64x16 : Shape := ⟨3, ![32, 64, 16]⟩
abbrev S8448x512 : Shape := ⟨2, ![8448, 512]⟩
abbrev S8448x4096 : Shape := ⟨2, ![8448, 4096]⟩
abbrev S8448x4x2x8x64 : Shape := ⟨5, ![8448, 4, 2, 8, 64]⟩
abbrev S8448x4x1x8x64 : Shape := ⟨5, ![8448, 4, 1, 8, 64]⟩
abbrev S8448x4x8x64 : Shape := ⟨4, ![8448, 4, 8, 64]⟩
abbrev S8448x32x64 : Shape := ⟨3, ![8448, 32, 64]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8448x32x16 : Shape := ⟨3, ![8448, 32, 16]⟩
abbrev S1x512 : Shape := ⟨2, ![1, 512]⟩
abbrev S32x64x8448 : Shape := ⟨3, ![32, 64, 8448]⟩
abbrev S32x8448x16 : Shape := ⟨3, ![32, 8448, 16]⟩

abbrev nBuf : Space → Nat
  | .hbm => 102
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x512, .f32⟩
  | .hbm, ⟨3, _⟩ => ⟨S512, .f32⟩
  | .hbm, ⟨4, _⟩ => ⟨S32x64x16, .f32⟩
  | .hbm, ⟨5, _⟩ => ⟨S32x64x16, .f32⟩
  | .hbm, ⟨6, _⟩ => ⟨S8448x1024, .f32⟩
  | .hbm, ⟨7, _⟩ => ⟨S8448x512, .f32⟩
  | .hbm, ⟨8, _⟩ => ⟨S8448x4096, .f32⟩
  | .hbm, ⟨9, _⟩ => ⟨S8448x4x2x8x64, .f32⟩
  | .hbm, ⟨10, _⟩ => ⟨S8448x4x1x8x64, .f32⟩
  | .hbm, ⟨11, _⟩ => ⟨S8448x4x8x64, .f32⟩
  | .hbm, ⟨12, _⟩ => ⟨S8448x32x64, .f32⟩
  | .hbm, ⟨13, _⟩ => ⟨S8448x4x1x8x64, .f32⟩
  | .hbm, ⟨14, _⟩ => ⟨S8448x4x8x64, .f32⟩
  | .hbm, ⟨15, _⟩ => ⟨S8448x32x64, .f32⟩
  | .hbm, ⟨16, _⟩ => ⟨S8448x1024, .f32⟩
  | .hbm, ⟨17, _⟩ => ⟨S_, .f32⟩
  | .hbm, ⟨18, _⟩ => ⟨S8448, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S8448x1, .f32⟩
  | .hbm, ⟨27, _⟩ => ⟨S8448x1024, .f32⟩
  | .hbm, ⟨28, _⟩ => ⟨S8448x1024, .f32⟩
  | .hbm, ⟨29, _⟩ => ⟨S1x1024, .f32⟩
  | .hbm, ⟨30, _⟩ => ⟨S8448x1024, .f32⟩
  | .hbm, ⟨31, _⟩ => ⟨S8448x1024, .f32⟩
  | .hbm, ⟨32, _⟩ => ⟨S8448x512, .f32⟩
  | .hbm, ⟨33, _⟩ => ⟨S8448x32x16, .f32⟩
  | .hbm, ⟨34, _⟩ => ⟨S1x512, .f32⟩
  | .hbm, ⟨35, _⟩ => ⟨S8448x512, .f32⟩
  | .hbm, ⟨36, _⟩ => ⟨S8448x512, .f32⟩
  | .hbm, ⟨37, _⟩ => ⟨S32x64x8448, .f32⟩
  | .hbm, ⟨38, _⟩ => ⟨S8448x32x64, .f32⟩
  | .hbm, ⟨39, _⟩ => ⟨S32x64x8448, .f32⟩
  | .hbm, ⟨40, _⟩ => ⟨S8448x32x64, .f32⟩
  | .hbm, ⟨41, _⟩ => ⟨S32x64x8448, .f32⟩
  | .hbm, ⟨42, _⟩ => ⟨S32x8448x16, .f32⟩
  | .hbm, ⟨43, _⟩ => ⟨S8448x32x16, .f32⟩
  | .hbm, ⟨44, _⟩ => ⟨S32x64x8448, .f32⟩
  | .hbm, ⟨45, _⟩ => ⟨S32x8448x16, .f32⟩
  | .hbm, ⟨46, _⟩ => ⟨S8448x32x16, .f32⟩
  | .hbm, ⟨47, _⟩ => ⟨S8448x32x16, .f32⟩
  | .hbm, ⟨48, _⟩ => ⟨S8448x512, .f32⟩
  | .hbm, ⟨49, _⟩ => ⟨S8448x512, .f32⟩
  | .hbm, ⟨50, _⟩ => ⟨S8448x512, .f32⟩
  | .hbm, ⟨51, _⟩ => ⟨S8448x512, .f32⟩
  | .hbm, ⟨52, _⟩ => ⟨S8448x1024, .f32⟩
  | .hbm, ⟨53, _⟩ => ⟨S_, .f32⟩
  | .hbm, ⟨54, _⟩ => ⟨S8448, .f32⟩
  | .hbm, ⟨55, _⟩ => ⟨S8448x1, .f32⟩
  | .hbm, ⟨56, _⟩ => ⟨S_, .f32⟩
  | .hbm, ⟨57, _⟩ => ⟨S8448x1, .f32⟩
  | .hbm, ⟨58, _⟩ => ⟨S8448x1, .f32⟩
  | .hbm, ⟨59, _⟩ => ⟨S_, .f32⟩
  | .hbm, ⟨60, _⟩ => ⟨S8448x1, .f32⟩
  | .hbm, ⟨61, _⟩ => ⟨S8448x1, .f32⟩
  | .hbm, ⟨62, _⟩ => ⟨S8448x1, .f32⟩
  | .hbm, ⟨63, _⟩ => ⟨S8448x1, .f32⟩
  | .hbm, ⟨64, _⟩ => ⟨S_, .f32⟩
  | .hbm, ⟨65, _⟩ => ⟨S8448x1, .f32⟩
  | .hbm, ⟨66, _⟩ => ⟨S8448x1, .f32⟩
  | .hbm, ⟨67, _⟩ => ⟨S8448x1024, .f32⟩
  | .hbm, ⟨68, _⟩ => ⟨S8448x1024, .f32⟩
  | .hbm, ⟨69, _⟩ => ⟨S1x1024, .f32⟩
  | .hbm, ⟨70, _⟩ => ⟨S8448x1024, .f32⟩
  | .hbm, ⟨71, _⟩ => ⟨S8448x1024, .f32⟩
  | .hbm, ⟨72, _⟩ => ⟨S8448x512, .f32⟩
  | .hbm, ⟨73, _⟩ => ⟨S8448x1024, .f32⟩
  | .hbm, ⟨74, _⟩ => ⟨S8448x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8448x1024, .f32⟩
  | .hbm, ⟨79, _⟩ => ⟨S8448x1024, .f32⟩
  | .hbm, ⟨80, _⟩ => ⟨S_, .f32⟩
  | .hbm, ⟨81, _⟩ => ⟨S1024, .f32⟩
  | .hbm, ⟨82, _⟩ => ⟨S8448x1024, .f32⟩
  | .hbm, ⟨83, _⟩ => ⟨S_, .f32⟩
  | .hbm, ⟨84, _⟩ => ⟨S8448, .f32⟩
  | .hbm, ⟨85, _⟩ => ⟨S8448x1, .f32⟩
  | .hbm, ⟨86, _⟩ => ⟨S8448x1024, .f32⟩
  | .hbm, ⟨87, _⟩ => ⟨S8448x1024, .f32⟩
  | .hbm, ⟨88, _⟩ => ⟨S8448x1024, .f32⟩
  | .hbm, ⟨89, _⟩ => ⟨S8448x1, .f32⟩
  | .hbm, ⟨90, _⟩ => ⟨S_, .f32⟩
  | .hbm, ⟨91, _⟩ => ⟨S8448x1, .f32⟩
  | .hbm, ⟨92, _⟩ => ⟨S8448x1, .f32⟩
  | .hbm, ⟨93, _⟩ => ⟨S_, .f32⟩
  | .hbm, ⟨94, _⟩ => ⟨S8448, .f32⟩
  | .hbm, ⟨95, _⟩ => ⟨S8448x1024, .f32⟩
  | .hbm, ⟨96, _⟩ => ⟨S8448x1024, .f32⟩
  | .hbm, ⟨97, _⟩ => ⟨S8448x1024, .f32⟩
  | .hbm, ⟨98, _⟩ => ⟨S8448x1024, .f32⟩
  | .hbm, ⟨99, _⟩ => ⟨S8448x1024, .f32⟩
  | .hbm, ⟨100, _⟩ => ⟨S8448x512, .bf16⟩
  | .hbm, ⟨101, _⟩ => ⟨S1x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_9 : Ref sig .tc := ⟨.hbm, 90, rfl⟩
abbrev main_v71 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩

abbrev nD : Nat := 1
abbrev τ : Topo := Topo.v7x

variable {F : FTy → Type} [FloatOps F]
-- ==== Proof.Reals.lean ====
/- Extended reals that are real numbers: what a finite argument's elements are, and what sums and products of such
   elements stay. The precondition's test `|x| < inf` gives it. -/
module

public import Idealize.ShloMosaic.Lib.ReduceAll
public import Idealize.ShloMosaic.Lib.IdealHost
public import Idealize.ShloMosaic.Lib.Pointwise
public import Mathlib.Analysis.SpecialFunctions.Trigonometric.DerivHyp

@[expose] public section

noncomputable section

namespace Cert.Reals

open Idealize.ShloMosaic

/-- The extended real is a real number. -/
def IsReal (x : EReal) : Prop := ∃ r : ℝ, x = r

theorem IsReal.coe (r : ℝ) : IsReal r := ⟨r, rfl⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

theorem half_f32 : Ideal.ofBits .f32 0x3F000000#32 = ((1 / 2 : ℝ) : EReal) := by
  simp [Ideal.ofBits, Ideal.ieee, -EReal.coe_mul]; norm_num
theorem half_bf16 : Ideal.ofBits .bf16 0x3F00#16 = ((1 / 2 : ℝ) : EReal) := by
  simp [Ideal.ofBits, Ideal.ieee, -EReal.coe_mul]; norm_num

/-- An element whose absolute value tests below infinity is a real number. -/
theorem isReal_of_lt {s : Shape} (x : FVec Ideal s .f32) (i : s.Idx) (b : FVec Ideal s .f32) (hb : b i = Ideal.ofBits .f32 0x7F800000#32)
    (h : cmpf .olt (Host.absf x) b i = 1#1) : IsReal (x i) := by
  have hinf : Ideal.ofBits .f32 0x7F800000#32 = (⊤ : EReal) := by simp [Ideal.ofBits, Ideal.ieee]
  have h' : Ideal.cmp .olt (max (x i) (-(x i))) (b i) = 1#1 := h
  rw [hb, hinf] at h'
  have hlt : max (x i : EReal) (-(x i)) < ⊤ := by
    by_contra hc
    simp [Ideal.cmp, hc] at h'
  induction hx : (x i : EReal) using EReal.rec with
  | bot => rw [hx] at hlt; simp at hlt
  | top => rw [hx] at hlt; simp at hlt
  | coe r => exact ⟨r, rfl⟩

/-- The logistic function by the hyperbolic tangent of the half. -/
theorem logistic_eq (a : ℝ) : 1 / (1 + Real.exp (-a)) = (1 + Real.tanh (a * (1 / 2))) / 2 := by
  have h : Real.exp (-a) = Real.exp (-(a * (1 / 2))) * Real.exp (-(a * (1 / 2))) := by rw [← Real.exp_add]; congr 1; ring
  have h1 : Real.exp (a * (1 / 2)) * Real.exp (-(a * (1 / 2))) = 1 := by rw [← Real.exp_add]; simp
  have p : 0 < Real.exp (a * (1 / 2)) := Real.exp_pos _
  have q : 0 < Real.exp (-(a * (1 / 2))) := Real.exp_pos _
  rw [h, Real.tanh_eq_sinh_div_cosh, Real.sinh_eq, Real.cosh_eq]
  generalize Real.exp (a * (1 / 2)) = u at *
  generalize Real.exp (-(a * (1 / 2))) = v at *
  have hu : u = 1 / v := by field_simp; linarith
  subst hu
  field_simp
  ring

/-- The logistic function of a real element, as both programs write it over the reals. -/
theorem sig_coe (a : ℝ) : Ideal.div 1 (1 + Ideal.exp (-(a : EReal))) = ((1 / (1 + Real.exp (-a)) : ℝ) : EReal) := by
  have p : 0 < Real.exp (-a) := Real.exp_pos _
  have e : (1 : EReal) + Ideal.exp (-(a : EReal)) = ((1 + Real.exp (-a) : ℝ) : EReal) := by
    rw [← EReal.coe_neg, Ideal.exp_coe, EReal.coe_add, EReal.coe_one]
  have hne : ((1 + Real.exp (-a) : ℝ) : EReal) ≠ 0 := by
    rw [← EReal.coe_zero]; exact fun h => by have := EReal.coe_injective h; linarith
  rw [e, Ideal.div, if_neg hne, ← EReal.coe_inv, ← EReal.coe_one, ← EReal.coe_mul, one_div, one_mul]

end Cert.Reals

end
-- ==== Proof.Gate.lean ====
/- The gradient of the projected rows through the gate: the call's result array is the reference's term of the
   arguments, index by index, where the arguments are real numbers. -/
module

public import proofs.«01_k».proof.Proof.Gen.GateIdeal.Frame
public import proofs.«01_k».proof.Proof.Gen.GateRefIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Reals

@[expose] public section

set_option maxRecDepth 16384

noncomputable section

open Idealize.ShloMosaic Idealize.ShloMosaic.TcCoe Idealize.SL.Sem
open Idealize.ShloMosaic.Pipeline (Dat)
open Cert.Reals

namespace Cert.GateRefIdeal.Value

open Cert.GateRefIdeal Cert.GateRefIdeal.Gen

/-- The gate's half of the projected rows. -/
def left (gu : FVec Ideal S8192x5632 .f32) : FVec Ideal S8192x2816 .f32 := extractStridedSlice S8192x2816 ![0, 0] gu slices_S8192x5632_S8192x2816_0_0
/-- The other half. -/
def right (gu : FVec Ideal S8192x5632 .f32) : FVec Ideal S8192x2816 .f32 := extractStridedSlice S8192x2816 ![0, 2816] gu slices_S8192x5632_S8192x2816_0_2816
/-- An array of ones. -/
def ones : FVec Ideal S8192x2816 .f32 := broadcastInDim S8192x2816 ![] bcast_S_S8192x2816 (constant S_ .f32 0x3F800000#32)
/-- The logistic function of the gate's half. -/
def sig (gu : FVec Ideal S8192x5632 .f32) : FVec Ideal S8192x2816 .f32 := Host.divf ones (addf ones (Host.exp (Host.negf (left gu))))
/-- The gradient of the gated rows: the halved gradient times the transposed weights. -/
def dgated (w : FVec Ideal S2816x1024 .f32) (d : FVec Ideal S8192x1024 .f32) : FVec Ideal S8192x2816 .f32 := Host.dotGeneral dot_S8192x1024_S2816x1024_S8192x2816_1_1_0_0_n_n none (mulf (broadcastInDim S8192x1024 ![] bcast_S_S8192x1024 (constant S_ .f32 0x3F000000#32)) d) w
/-- The reference's result. -/
def ref (gu : FVec Ideal S8192x5632 .f32) (w : FVec Ideal S2816x1024 .f32) (d : FVec Ideal S8192x1024 .f32) : FVec Ideal S8192x5632 .bf16 := truncf .bf16 (concatenate S8192x5632 1 [⟨S8192x2816, (addf (mulf (mulf (dgated w d) (right gu)) (sig gu)) (mulf (mulf (left gu) (mulf (dgated w d) (right gu))) (mulf (sig gu) (subf ones (sig gu)))))⟩, ⟨S8192x2816, (mulf (mulf (left gu) (sig gu)) (dgated w d))⟩] concatenates_S8192x2816_S8192x2816_S8192x5632_d1) bitsLt_bf16_f32

/-- The gradient of the gated rows at an index. -/
def dg (w : FVec Ideal S2816x1024 .f32) (d : FVec Ideal S8192x1024 .f32) (r : Fin 8192) (f : Fin 2816) : EReal :=
  ∑ k : Fin 1024, Ideal.ofBits .f32 0x3F000000#32 * d (ix2 r k) * w (ix2 f k)

/-- The gate's half of the result from the three values it is made of. -/
def lo (D b a : EReal) : EReal :=
  D * b * Ideal.div 1 (1 + Ideal.exp (-a)) + a * (D * b) * (Ideal.div 1 (1 + Ideal.exp (-a)) * (1 - Ideal.div 1 (1 + Ideal.exp (-a))))

/-- The other half of the result. -/
def hi (D a : EReal) : EReal := a * Ideal.div 1 (1 + Ideal.exp (-a)) * D

theorem ref_apply (gu : FVec Ideal S8192x5632 .f32) (w : FVec Ideal S2816x1024 .f32) (d : FVec Ideal S8192x1024 .f32) (j : S8192x5632.Idx) :
    ref gu w d j = if h : (j 1).val < 2816 then lo (dg w d (j 0) ⟨(j 1).val, h⟩) (gu (ix2 (j 0) ⟨2816 + (j 1).val, by omega⟩)) (gu (ix2 (j 0) ⟨(j 1).val, by omega⟩))
      else hi (dg w d (j 0) ⟨(j 1).val - 2816, by have : (j 1).val < 5632 := (j 1).isLt; omega⟩) (gu (ix2 (j 0) ⟨(j 1).val - 2816, by have : (j 1).val < 5632 := (j 1).isLt; omega⟩)) := by
  pointwise [ref, left, right, ones, sig, dgated, lo, hi, dg]

/-- The result at an index of the gate's half. -/
theorem ref_left (gu : FVec Ideal S8192x5632 .f32) (w : FVec Ideal S2816x1024 .f32) (d : FVec Ideal S8192x1024 .f32) (j : S8192x5632.Idx) (r : Fin 8192) (f : Fin 2816)
    (h0 : (j 0).val = r.val) (h1 : (j 1).val = f.val) :
    ref gu w d j = lo (dg w d r f) (gu (ix2 r ⟨2816 + f.val, by omega⟩)) (gu (ix2 r ⟨f.val, by omega⟩)) := by
  obtain rfl : j 0 = r := Fin.ext h0
  rw [ref_apply, dif_pos (by omega)]
  simp only [h1]

/-- The result at an index of the other half. -/
theorem ref_right (gu : FVec Ideal S8192x5632 .f32) (w : FVec Ideal S2816x1024 .f32) (d : FVec Ideal S8192x1024 .f32) (j : S8192x5632.Idx) (r : Fin 8192) (f : Fin 2816)
    (h0 : (j 0).val = r.val) (h1 : (j 1).val = 2816 + f.val) :
    ref gu w d j = hi (dg w d r f) (gu (ix2 r ⟨f.val, by omega⟩)) := by
  obtain rfl : j 0 = r := Fin.ext h0
  rw [ref_apply, dif_neg (by omega)]
  simp only [h1, Nat.add_sub_cancel_left]

theorem isReal_dg (w : FVec Ideal S2816x1024 .f32) (d : FVec Ideal S8192x1024 .f32) (hw : ∀ i, IsReal (w i)) (hd : ∀ i, IsReal (d i)) (r f) :
    IsReal (dg w d r f) :=
  IsReal.sum _ _ fun k => ((half_f32 ▸ IsReal.coe _ : IsReal (Ideal.ofBits .f32 0x3F000000#32)).mul (hd _)).mul (hw _)

/-- The gate's half as the kernel computes it, by the hyperbolic tangent. -/
theorem lo_eq {D b a : EReal} (hD : IsReal D) (hb : IsReal b) (ha : IsReal a) :
    D * b * ((1 + Ideal.tanh (a * Ideal.ofBits .bf16 0x3F00#16) + a * Ideal.ofBits .bf16 0x3F00#16 * (1 - Ideal.tanh (a * Ideal.ofBits .bf16 0x3F00#16) * Ideal.tanh (a * Ideal.ofBits .bf16 0x3F00#16))) * Ideal.ofBits .bf16 0x3F00#16)
      = lo D b a := by
  obtain ⟨D, rfl⟩ := hD; obtain ⟨b, rfl⟩ := hb; obtain ⟨a, rfl⟩ := ha
  rw [lo, half_bf16, sig_coe]
  simp only [← EReal.coe_one, ← EReal.coe_mul, ← EReal.coe_add, ← EReal.coe_sub, Ideal.tanh_coe, logistic_eq]
  exact congrArg _ (by ring)

/-- The other half as the kernel computes it. -/
theorem hi_eq {D a : EReal} (hD : IsReal D) (ha : IsReal a) :
    D * (a * Ideal.ofBits .bf16 0x3F00#16 + a * Ideal.ofBits .bf16 0x3F00#16 * Ideal.tanh (a * Ideal.ofBits .bf16 0x3F00#16))
      = hi D a := by
  obtain ⟨D, rfl⟩ := hD; obtain ⟨a, rfl⟩ := ha
  rw [hi, half_bf16, sig_coe]
  simp only [← EReal.coe_mul, ← EReal.coe_add, Ideal.tanh_coe, logistic_eq]
  exact congrArg _ (by ring)

end Cert.GateRefIdeal.Value

namespace Cert.GateIdeal.Value

open Cert.GateIdeal Cert.GateIdeal.Gen

variable (m : (ℓ : Loc nD τ sig) → Buf (Elt Ideal) ℓ)

theorem idx : ∀ t : Fin cfg0.N, win0_0.index t = ![t.val, 0] ∧ win0_1.index t = ![0, 0]
    ∧ win0_2.index t = ![t.val, 0] :=
  (by decide +kernel : ∀ t : Fin grid0.N, _)

theorem V_gu (c : Dev nD) : V m c main_v0 = (truncf (F := Ideal) .bf16 (m ((c : Thread nD τ).loc main_arg0) : FVec Ideal S8192x5632 .f32) bitsLt_bf16_f32 : FVec Ideal S8192x5632 .bf16) := by
  entry_read; rfl

theorem V_w (c : Dev nD) : V m c main_v1 = (truncf (F := Ideal) .bf16 (m ((c : Thread nD τ).loc main_arg1) : FVec Ideal S2816x1024 .f32) bitsLt_bf16_f32 : FVec Ideal S2816x1024 .bf16) := by
  entry_read; rfl

/-- The landed slot read at a box: the block of the rows that the point waits for. -/
theorem slot (c : Dev nD) (t : Fin cfg0.N) (B : LoadRect S256x5632) (x : B.shape.Idx) :
    (rslot0_0 (Fin.ofNat 3 t.val)).view.readCov
        [⟨Rect.whole S256x5632, ReadAs.same.apply (View.read (Elt Ideal) (srcB0_0 (Ring.bk 32 t.val)).view (V m c main_v0))⟩] B x
      = (m ((c : Thread nD τ).loc main_arg0) : FVec Ideal S8192x5632 .f32) (ix2 ⟨t.val * 256 + (B.idx x 0).val, by
          have h0 : (B.idx x 0).val < 256 := (B.idx x 0).isLt
          have h1 : t.val < 32 := lt_of_lt_of_eq t.isLt N_0
          omega⟩ (B.idx x 1)) := by
  unfold View.readCov
  rw [View.readAt_apply, View.read_writes_whole, V_gu]
  show (m ((c : Thread nD τ).loc main_arg0) : FVec Ideal S8192x5632 .f32) ((srcB0_0 (Ring.bk 32 t.val)).view.emb (B.idx x)) = _
  have hb : (Ring.bk 32 t.val).val = t.val := Ring.bk_val (lt_of_lt_of_eq t.isLt N_0)
  refine congrArg _ (funext fun a => Fin.ext ?_)
  fin_cases a
  · show 256 * (Ring.bk 32 t.val).val + 1 * (B.idx x 0).val = t.val * 256 + (B.idx x 0).val
    omega
  · show 0 + 1 * (B.idx x 1).val = (B.idx x 1).val
    omega

/-- The slot's left half. -/
theorem slot_lo (c : Dev nD) (t : Fin cfg0.N) (x : S256x2816.Idx) :
    (rslot0_0 (Fin.ofNat 3 t.val)).view.readCov
        [⟨Rect.whole S256x5632, ReadAs.same.apply (View.read (Elt Ideal) (srcB0_0 (Ring.bk 32 t.val)).view (V m c main_v0))⟩]
        (Rect.unit (s := S256x5632) ![0, 0] S256x2816.size inb_S256x5632_S256x2816_0_0).toLoadRect x
      = (m ((c : Thread nD τ).loc main_arg0) : FVec Ideal S8192x5632 .f32) (ix2 ⟨t.val * 256 + (x 0).val, by
          have h0 : (x 0).val < 256 := (x 0).isLt
          have h1 : t.val < 32 := lt_of_lt_of_eq t.isLt N_0
          omega⟩ ⟨(x 1).val, by have h0 : (x 1).val < 2816 := (x 1).isLt; omega⟩) := by
  rw [slot]
  refine congrArg _ (funext fun a => Fin.ext ?_)
  fin_cases a
  · show t.val * 256 + (0 + 1 * (x 0).val) = t.val * 256 + (x 0).val
    omega
  · show 0 + 1 * (x 1).val = (x 1).val
    omega

/-- The slot's right half. -/
theorem slot_hi (c : Dev nD) (t : Fin cfg0.N) (x : S256x2816.Idx) :
    (rslot0_0 (Fin.ofNat 3 t.val)).view.readCov
        [⟨Rect.whole S256x5632, ReadAs.same.apply (View.read (Elt Ideal) (srcB0_0 (Ring.bk 32 t.val)).view (V m c main_v0))⟩]
        (Rect.unit (s := S256x5632) ![0, 2816] S256x2816.size inb_S256x5632_S256x2816_0_2816).toLoadRect x
      = (m ((c : Thread nD τ).loc main_arg0) : FVec Ideal S8192x5632 .f32) (ix2 ⟨t.val * 256 + (x 0).val, by
          have h0 : (x 0).val < 256 := (x 0).isLt
          have h1 : t.val < 32 := lt_of_lt_of_eq t.isLt N_0
          omega⟩ ⟨2816 + (x 1).val, by have h0 : (x 1).val < 2816 := (x 1).isLt; omega⟩) := by
  rw [slot]
  refine congrArg _ (funext fun a => Fin.ext ?_)
  fin_cases a
  · show t.val * 256 + (0 + 1 * (x 0).val) = t.val * 256 + (x 0).val
    omega
  · show 2816 + 1 * (x 1).val = 2816 + (x 1).val
    omega

/-- The row of the whole array that a point's row is. -/
def row (t : Fin cfg0.N) (r : Fin 256) : Fin 8192 := ⟨t.val * 256 + r.val, by have h1 : t.val < 32 := lt_of_lt_of_eq t.isLt N_0; omega⟩

theorem row_val (t : Fin cfg0.N) (r : Fin 256) : (row t r).val = t.val * 256 + r.val := rfl

/-- The point's part of the gradient of the gated rows. -/
theorem dg_eq (c : Dev nD) (t : Fin cfg0.N) (r : Fin 256) (f : Fin 2816) :
    (∑ k : Fin 1024, Ideal.ofBits .f32 0x3F000000#32 * (show FVec Ideal S256x1024 .f32 from iblk m c 0 t) (ix2 r k) * (show FVec Ideal S2816x1024 .bf16 from iblk m c 1 t) (ix2 f k))
      = Cert.GateRefIdeal.Value.dg (m ((c : Thread nD τ).loc main_arg1)) (m ((c : Thread nD τ).loc main_arg2)) (row t r) f := by
  refine Fin.sum_fin_congr fun k => ?_
  blk_point [iblk, V_w, V_main_arg2, idx t, row]

theorem final (c : Dev nD) (hg : ∀ i, IsReal ((m ((c : Thread nD τ).loc main_arg0) : FVec Ideal S8192x5632 .f32) i))
    (hw : ∀ i, IsReal ((m ((c : Thread nD τ).loc main_arg1) : FVec Ideal S2816x1024 .f32) i)) (hd : ∀ i, IsReal ((m ((c : Thread nD τ).loc main_arg2) : FVec Ideal S8192x1024 .f32) i)) :
    (dats m 0 c).arrAt 2 (cfgs 0).N = Cert.GateRefIdeal.Value.ref (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  have ht : t.val < 32 := t.isLt
  by_cases hA : t.val % 32 = 0
  on_goal 2 => by_cases hB : t.val < 30
  on_goal 1 => rw [outsAt0_A m c t hA (by omega)]
  on_goal 2 => rw [outsAt0_B m c t hA hB]
  on_goal 3 => rw [outsAt0_C m c t hA hB]
  all_goals
    frame_out
    canon_tiles x h
    · open_payloads; pointwise
      rw [Cert.GateRefIdeal.Value.ref_right _ _ _ _ (row t (x 0)) (x 1) (by refine Eq.trans ?_ (row_val t (x 0)).symm; blk_simp [idx t]; omega) (by blk_simp [idx t]; omega), dg_eq m c t (x 0) (x 1)]
      simp only [slot_lo m c t]
      exact Cert.GateRefIdeal.Value.hi_eq (Cert.GateRefIdeal.Value.isReal_dg _ _ hw hd _ _) (hg _)
    · open_payloads; pointwise
      rw [Cert.GateRefIdeal.Value.ref_left _ _ _ _ (row t (x 0)) (x 1) (by refine Eq.trans ?_ (row_val t (x 0)).symm; blk_simp [idx t]; omega) (by blk_simp [idx t]; omega), dg_eq m c t (x 0) (x 1)]
      simp only [slot_lo m c t, slot_hi m c t]
      exact Cert.GateRefIdeal.Value.lo_eq (Cert.GateRefIdeal.Value.isReal_dg _ _ hw hd _ _) (hg _) (hg _)

end Cert.GateIdeal.Value

end
-- ==== Proof.Down.lean ====
/- The gradient of the down projection's weights: the call's result array is the reference's term of the
   arguments, index by index. -/
module

public import proofs.«01_k».proof.Proof.Gen.DownIdeal.Frame
public import proofs.«01_k».proof.Proof.Gen.DownRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownRefIdeal.Value

open Cert.DownRefIdeal Cert.DownRefIdeal.Gen

/-- The gated rows `silu(a) * b`, as both programs compute them before the product. -/
def gated (gu : FVec Ideal S8192x5632 .f32) : FVec Ideal S8192x2816 .f32 :=
  mulf (mulf (extractStridedSlice S8192x2816 ![0, 0] gu slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] gu slices_S8192x5632_S8192x2816_0_0)))))) (extractStridedSlice S8192x2816 ![0, 2816] gu slices_S8192x5632_S8192x2816_0_2816)

/-- The reference's result: the halved gradient's product with the gated rows, summed over the rows. -/
def ref (s : FVec Ideal S8192x2816 .f32) (d : FVec Ideal S8192x1024 .f32) : FVec Ideal S2816x1024 .bf16 :=
  truncf .bf16 (transpose S2816x1024 [1, 0] (Host.dotGeneral dot_S8192x1024_S8192x2816_S1024x2816_0_0_1_1_n_n none (mulf (broadcastInDim S8192x1024 ![] bcast_S_S8192x1024 (constant S_ .f32 0x3F000000#32)) d) s) transposes_S1024x2816_S2816x1024_1_0) bitsLt_bf16_f32

theorem ref_apply (s : FVec Ideal S8192x2816 .f32) (d : FVec Ideal S8192x1024 .f32) (j : S2816x1024.Idx) :
    ref s d j = ∑ k : Fin 8192, s (ix2 k (j 0)) * (Ideal.ofBits .f32 0x3F000000#32 * d (ix2 k (j 1))) := by
  pointwise [ref]
  exact Finset.sum_congr rfl fun k _ => mul_comm (_ : EReal) _

end Cert.DownRefIdeal.Value

namespace Cert.DownIdeal.Value

open Cert.DownIdeal Cert.DownIdeal.Gen

variable (m : (ℓ : Loc nD τ sig) → Buf (Elt Ideal) ℓ)

theorem zero_apply (j) : k0_pay1 (F := Ideal) j = 0 := by pointwise [k0_pay1]

theorem step_apply (x0 : FVec Ideal S2048x2816 .bf16) (x1 : FVec Ideal S2048x512 .f32) (acc : FVec Ideal S2816x512 .f32) (j) :
    k0_pay2 x0 x1 acc j = acc j + ∑ k : Fin 2048, x0 (ix2 k (j 0)) * (Ideal.ofBits .f32 0x3F000000#32 * x1 (ix2 k (j 1))) := by
  pointwise [k0_pay2]

theorem out_apply (acc : FVec Ideal S2816x512 .f32) (j) : (k0_pay3 (F := Ideal) acc j : EReal) = acc j := by pointwise [k0_pay3]

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- At a point that writes its block back, the block is the rounded accumulator. -/
theorem out_eq (c : Dev nD) (t : Fin cfg0.N) (h : t.val % 4 = 3) :
    (outsAt0 m c t.val t.isLt).1 = k0_pay3 (outsAt0 m c t.val t.isLt).2 := by
  rw [outsAt0_C m c t (by omega) h]
  frame_out

/-- The first operand of the call: the cast of the gated rows. -/
theorem V_gated (c : Dev nD) : V m c main_v4 = (truncf (F := Ideal) .bf16 (Cert.DownRefIdeal.Value.gated (m ((c : Thread nD τ).loc main_arg0)) : FVec Ideal S8192x2816 .f32) bitsLt_bf16_f32 : FVec Ideal S8192x2816 .bf16) := by
  entry_read
  rfl

theorem final (c : Dev nD) : (dats m 0 c).arrAt 2 (cfgs 0).N
    = Cert.DownRefIdeal.Value.ref (Cert.DownRefIdeal.Value.gated (m ((c : Thread nD τ).loc main_arg0)))
      (m ((c : Thread nD τ).loc main_arg2)) := by
  have hn := V_gated m c
  generalize Cert.DownRefIdeal.Value.gated _ = n at hn ⊢
  refine (dats m 0 c).arrAt_eq_of_covers 2 _ (by decide +kernel) fun t hf y => ?_
  blk_simp
  rw [after0_2, out_eq m c t ((flush0_2 t).mp hf), out_apply,
    Pipeline.eq_sum_fin_of_reset_step_apply_of_flush (fun n h => (outsAt0 m c n h).2) 4 (fun _ => 0) _
    (fun t h j => by rw [outsAt0_A m c t h (by omega)]; frame_out; rw [step_apply, zero_apply])
    (fun t h j => by
      by_cases h3 : t.val % 4 = 3
      · rw [outsAt0_C m c t h h3]; frame_out; rw [step_apply]; rw [read_unread_whole]
      · rw [outsAt0_B m c t h h3]; frame_out; rw [step_apply]; rw [read_unread_whole])
    t ((flush0_2 t).mp hf) _, zero_add, Cert.DownRefIdeal.Value.ref_apply]
  refine Fin.sum_mul_add_congr fun s k hl => ?_
  blk_point [iblk, V_main_arg2, hn, idx t, idx ⟨_, Pipeline.run_point_lt_of_flush t ((flush0_2 t).mp hf) s⟩]

end Cert.DownIdeal.Value

end
-- ==== Proof.NormMath.lean ====
/- The gradient of the normalisation, element by element: the factored form a row block computes is the sum of the
   products the differentiated forward lines are made of. It holds of every extended real: a row with an infinite
   element has an infinite mean square, so its reciprocal root is zero and both forms leave the residual's gradient. -/
module

public import proofs.«01_k».proof.Proof.Reals

@[expose] public section

noncomputable section

namespace Cert.Reals

open Idealize.ShloMosaic

theorem width_f32 : Ideal.ofBits .f32 0x44800000#32 = ((1024 : ℝ) : EReal) := by
  simp [Ideal.ofBits, Ideal.ieee, -EReal.coe_mul]; norm_num
theorem neg_half_f32 : Ideal.ofBits .f32 0xBF000000#32 = ((-1 / 2 : ℝ) : EReal) := by
  simp [Ideal.ofBits, Ideal.ieee, -EReal.coe_mul]; norm_num
theorem eps_f32 : ∃ e : ℝ, 0 < e ∧ Ideal.ofBits .f32 0x358637BD#32 = (e : EReal) := by
  refine ⟨(2 ^ 23 + 407485 : ℕ) * (2 : ℝ) ^ (-43 : ℤ), by positivity, ?_⟩
  simp [Ideal.ofBits, Ideal.ieee, -EReal.coe_mul]

/-- A real factor at least zero moves out of a sum. -/
theorem sum_mul_coe {ι : Type} (s : Finset ι) (f : ι → EReal) {r : ℝ} (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

/-- Twice a real multiple of an extended real. -/
theorem mul_coe_add_self (x : EReal) (q : ℝ) : x * (q : EReal) + x * (q : EReal) = x * ((2 * q : ℝ) : EReal) := by
  induction x using EReal.rec with
  | coe a => norm_cast; ring
  | top =>
    rcases lt_trichotomy q 0 with h | rfl | h
    · rw [EReal.top_mul_coe_of_neg h, EReal.top_mul_coe_of_neg (by linarith)]; rfl
    · simp
    · rw [EReal.top_mul_coe_of_pos h, EReal.top_mul_coe_of_pos (by linarith)]; rfl
  | bot =>
    rcases lt_trichotomy q 0 with h | rfl | h
    · rw [EReal.bot_mul_coe_of_neg h, EReal.bot_mul_coe_of_neg (by linarith)]; rfl
    · simp
    · rw [EReal.bot_mul_coe_of_pos h, EReal.bot_mul_coe_of_pos (by linarith)]; rfl

theorem mul_self_nonneg' (x : EReal) : 0 ≤ x * x := by
  induction x using EReal.rec with
  | coe a => exact_mod_cast mul_self_nonneg a
  | top => simp
  | bot => simp

/-- The mean square of a row and a positive constant: a positive real, or infinite when the row has an infinite element. -/
theorem mean_square {n : ℕ} (h : Fin n → EReal) :
    (∃ v : ℝ, 0 < v ∧ Ideal.div (∑ k, h k * h k) (Ideal.ofBits .f32 0x44800000#32) + Ideal.ofBits .f32 0x358637BD#32 = (v : EReal))
      ∨ Ideal.div (∑ k, h k * h k) (Ideal.ofBits .f32 0x44800000#32) + Ideal.ofBits .f32 0x358637BD#32 = ⊤ := by
  obtain ⟨e, he, hE⟩ := eps_f32
  rw [hE, width_f32, Ideal.div_coe (by norm_num)]
  have hs : 0 ≤ ∑ k, h k * h k := Finset.sum_nonneg fun k _ => mul_self_nonneg' _
  induction hx : ∑ k, h k * h k using EReal.rec with
  | coe a =>
    rw [hx] at hs
    have ha : 0 ≤ a := by exact_mod_cast hs
    exact .inl ⟨a * (1 / 1024) + e, by positivity, by norm_cast⟩
  | top => right; rw [EReal.top_mul_coe_of_pos (by norm_num)]; rfl
  | bot => rw [hx] at hs; simp at hs

/-- The row's gradient as differentiation writes it, from the row `T` of the products of the gradient with the
    weight, the reciprocal root `I` and the mean square `V`. -/
def dh {n : ℕ} (h T : Fin n → EReal) (I V ct : EReal) (j : Fin n) : EReal :=
  ct + T j * I
    + h j * Ideal.div ((∑ x, h x * T x) * (Ideal.ofBits .f32 0xBF000000#32 * Ideal.div I V)) (Ideal.ofBits .f32 0x44800000#32)
    + Ideal.div ((∑ x, h x * T x) * (Ideal.ofBits .f32 0xBF000000#32 * Ideal.div I V)) (Ideal.ofBits .f32 0x44800000#32) * h j

theorem dh_eq {n : ℕ} (h T : Fin n → EReal) (V ct : EReal) (j : Fin n)
    (hV : (∃ v : ℝ, 0 < v ∧ V = (v : EReal)) ∨ V = ⊤) :
    ct + Ideal.rsqrt V * (T j - h j * Ideal.rsqrt V * Ideal.div (∑ x, T x * (h x * Ideal.rsqrt V)) (Ideal.ofBits .f32 0x44800000#32))
      = dh h T (Ideal.rsqrt V) V ct j := by
  rw [dh, neg_half_f32, width_f32]
  simp only [Ideal.div_coe (show (1024 : ℝ) ≠ 0 by norm_num)]
  rcases hV with ⟨v, hv, rfl⟩ | rfl
  · rw [Ideal.rsqrt_coe, if_neg (by linarith), if_neg hv.ne', Ideal.div_coe hv.ne']
    have hi : 0 ≤ (Real.sqrt v)⁻¹ := by positivity
    have hiv : (Real.sqrt v)⁻¹ * (Real.sqrt v)⁻¹ = 1 / v := by rw [← mul_inv, Real.mul_self_sqrt hv.le, one_div]
    rw [← hiv]
    generalize (Real.sqrt v)⁻¹ = i at hi
    have e : ∑ x, T x * (h x * (i : EReal)) = (∑ x, h x * T x) * (i : EReal) := by
      rw [← sum_mul_coe _ _ hi]
      exact Finset.sum_congr rfl fun x _ => by rw [← mul_assoc, mul_comm (T x)]
    rw [e, sub_eq_add_neg, EReal.left_distrib_of_nonneg_of_ne_top (by exact_mod_cast hi) (EReal.coe_ne_top i), add_assoc (ct + _), add_assoc ct]
    generalize ∑ x, h x * T x = X
    have a : h j * (X * (((-1 / 2 : ℝ) : EReal) * ((i : EReal) * ((i * i : ℝ) : EReal))) * ((1 / 1024 : ℝ) : EReal))
        = h j * X * ((-1 / 2 * (i * (i * i)) * (1 / 1024) : ℝ) : EReal) := by
      simp only [EReal.coe_mul]; simp only [mul_assoc]
    rw [mul_comm _ (h j), a, mul_coe_add_self, mul_comm (i : EReal) (T j)]
    refine congrArg (ct + ·) (congrArg (T j * (i : EReal) + ·) ?_)
    have b : (i : EReal) * -(h j * (i : EReal) * (X * (i : EReal) * ((1 / 1024 : ℝ) : EReal)))
        = h j * X * ((-(i * i * i * (1 / 1024)) : ℝ) : EReal) := by
      rw [mul_neg, EReal.coe_neg, mul_neg]
      simp only [EReal.coe_mul]; congr 1; ac_rfl
    rw [b]
    congr 2; ring
  · have z : Ideal.rsqrt (⊤ : EReal) = 0 := rfl
    have d : Ideal.div (0 : EReal) ⊤ = 0 := by simp [Ideal.div]
    rw [z, d]; simp

end Cert.Reals

end
-- ==== Proof.Norm.lean ====
/- The gradient through the feed-forward block's normalisation and first product: each row block multiplies its
   gradient with the transposed weights in four chunks, passes the product through the normalisation, adds the residual's
   gradient, and sums the weight vector's gradient over the row blocks. -/
module

public import proofs.«01_k».proof.Proof.Gen.NormIdeal.Value
public import proofs.«01_k».proof.Proof.Gen.NormRefIdeal.Read
public import proofs.«01_k».proof.Proof.NormMath
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 8192

noncomputable section

open Idealize.ShloMosaic Idealize.ShloMosaic.TcCoe Idealize.SL.Sem
open Idealize.ShloMosaic.Pipeline (Dat)
open Cert.Reals

namespace Cert.NormRefIdeal.Value

open Cert.NormRefIdeal Cert.NormRefIdeal.Gen

/-- The gradient of the normalised rows at an index: the gradient of the product's rows times the transposed weights. -/
def dn (d : FVec Ideal S8192x5632 .f32) (w : FVec Ideal S1024x5632 .f32) (r : Fin 8192) (j : Fin 1024) : EReal :=
  ∑ k : Fin 5632, d (ix2 r k) * w (ix2 j k)

/-- The mean square of a row and the constant. -/
def var (h : FVec Ideal S8192x1024 .f32) (r : Fin 8192) : EReal :=
  Ideal.div (∑ x : Fin 1024, h (ix2 r x) * h (ix2 r x)) (Ideal.ofBits .f32 0x44800000#32) + Ideal.ofBits .f32 0x358637BD#32

/-- The gradient of the rows. -/
def ref0 (h : FVec Ideal S8192x1024 .f32) (g : FVec Ideal S1024 .f32) (w : FVec Ideal S1024x5632 .f32) (ct : FVec Ideal S8192x1024 .f32) (d : FVec Ideal S8192x5632 .f32) : FVec Ideal S8192x1024 .f32 :=
  fun j => dh (fun x => h (ix2 (j 0) x)) (fun x => dn d w (j 0) x * g (ix1 x)) (Ideal.rsqrt (var h (j 0))) (var h (j 0)) (ct j) (j 1)

/-- The gradient of the weight vector. -/
def ref1 (h : FVec Ideal S8192x1024 .f32) (w : FVec Ideal S1024x5632 .f32) (d : FVec Ideal S8192x5632 .f32) : FVec Ideal S1x1024 .f32 :=
  fun j => ∑ r : Fin 8192, h (ix2 r (j 1)) * Ideal.rsqrt (var h r) * dn d w r (j 1)

/-- The product over all columns is the sum over its four chunks. -/
theorem dn_split (d : FVec Ideal S8192x5632 .f32) (w : FVec Ideal S1024x5632 .f32) (r : Fin 8192) (j : Fin 1024) :
    dn d w r j = ((∑ k : Fin 1408, d (ix2 r ⟨k.val, by omega⟩) * w (ix2 j ⟨k.val, by omega⟩)) + (∑ k : Fin 1408, d (ix2 r ⟨1408 + k.val, by omega⟩) * w (ix2 j ⟨1408 + k.val, by omega⟩))
      + (∑ k : Fin 1408, d (ix2 r ⟨2816 + k.val, by omega⟩) * w (ix2 j ⟨2816 + k.val, by omega⟩))) + (∑ k : Fin 1408, d (ix2 r ⟨4224 + k.val, by omega⟩) * w (ix2 j ⟨4224 + k.val, by omega⟩)) := by
  have h : ∑ s : Fin 4, ∑ k : Fin 1408, (d (ix2 r ⟨s.val * 1408 + k.val, by omega⟩) * w (ix2 j ⟨s.val * 1408 + k.val, by omega⟩) : EReal) = ∑ k : Fin 5632, (d (ix2 r k) * w (ix2 j k) : EReal) :=
    Fin.sum_mul_add_congr fun s k hl => rfl
  rw [Fin.sum_univ_four] at h
  rw [dn, ← h]
  simp only [Fin.val_zero, Nat.zero_mul, Nat.zero_add]
  rfl

variable (m : (ℓ : Loc nD τ sig) → Buf (Elt Ideal) ℓ)

theorem res0_eq (c : Dev nD) : (res_out0 m c : FVec Ideal S8192x1024 .f32)
    = ref0 (m ((c : Thread nD τ).loc main_arg0)) (m ((c : Thread nD τ).loc main_arg1)) (m ((c : Thread nD τ).loc main_arg2)) (m ((c : Thread nD τ).loc main_arg3)) (m ((c : Thread nD τ).loc main_arg4)) := by
  funext j
  pointwise [res_main_v38, ref0, dn, var, dh]
  simp only [Finset.univ_unique, Finset.sum_singleton]

/-- The second result's term, as the reference's run states it, is the weight vector's gradient. -/
theorem res1_eq (h : FVec Ideal S8192x1024 .f32) (w : FVec Ideal S1024x5632 .f32) (d : FVec Ideal S8192x5632 .f32) :
    broadcastInDim S1x1024 ![1] bcast_S1024_S1x1024_1 (Host.reduceAdd (shapeCast S1x1024 (Host.reduceAdd (mulf (mulf h (broadcastInDim S8192x1024 ![0, 1] bcast_S8192x1_S8192x1024_0_1 (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral dot_S8192x5632_S1024x5632_S8192x1024_1_1_0_0_n_n none d w)) (constant S_ .f32 0x00000000#32) reducesTo_S8192x1024_S1024_d0 h_S_) shapeCasts_S1024_S1x1024) (constant S_ .f32 0x00000000#32) reducesTo_S1x1024_S1024_d0 h_S_)
      = ref1 h w d := by
  funext j
  pointwise [ref1, dn, var]
  simp only [Finset.univ_unique, Finset.sum_singleton]

end Cert.NormRefIdeal.Value

namespace Cert.NormIdeal.Value

open Cert.NormIdeal Cert.NormIdeal.Gen
open Cert.NormRefIdeal.Value (dn var ref0 ref1 dn_split)

/-- What a row block stores of the rows' gradient. -/
theorem pay0_apply (x1 : FVec Ideal S512x1024 .f32) (x2 : FVec Ideal S1x1024 .f32) (x3 : FVec Ideal S512x1024 .f32)
    (D : FVec Ideal S512x1024 .f32) (j) :
    k0_pay3 D x1 (k0_pay7 x2) (k0_pay8 x1) (FloatOps.ofBits FTy.f32 0x44800000#32) x3 j
      = dh (fun x => x1 (ix2 (j 0) x)) (fun x => D (ix2 (j 0) x) * x2 (ix2 0 x))
        (Ideal.rsqrt (Ideal.div (∑ x : Fin 1024, x1 (ix2 (j 0) x) * x1 (ix2 (j 0) x)) (Ideal.ofBits .f32 0x44800000#32) + Ideal.ofBits .f32 0x358637BD#32))
        (Ideal.div (∑ x : Fin 1024, x1 (ix2 (j 0) x) * x1 (ix2 (j 0) x)) (Ideal.ofBits .f32 0x44800000#32) + Ideal.ofBits .f32 0x358637BD#32) (x3 j) (j 1) := by
  refine Eq.trans ?_ (dh_eq (fun x : Fin 1024 => x1 (ix2 (j 0) x)) (fun x => D (ix2 (j 0) x) * x2 (ix2 0 x)) _ (x3 j) (j 1) (mean_square fun x : Fin 1024 => x1 (ix2 (j 0) x)))
  pointwise [k0_pay3, k0_pay7, k0_pay8, k0_pay2, k0_pay1]

/-- What a row block adds to the weight vector's gradient. -/
theorem pay1_apply (x1 : FVec Ideal S512x1024 .f32) (D : FVec Ideal S512x1024 .f32) (acc : FVec Ideal S1x1024 .f32) (j) :
    k0_pay5 D x1 (k0_pay8 x1) (FloatOps.ofBits FTy.f32 0x44800000#32) acc j
      = acc j + ∑ r : Fin 512, D (ix2 r (j 1)) * (x1 (ix2 r (j 1)) *
        Ideal.rsqrt (Ideal.div (∑ x : Fin 1024, x1 (ix2 r x) * x1 (ix2 r x)) (Ideal.ofBits .f32 0x44800000#32) + Ideal.ofBits .f32 0x358637BD#32)) := by
  pointwise [k0_pay5, k0_pay8, k0_pay2, k0_pay1]

theorem zero_apply (j) : k0_pay4 (F := Ideal) j = 0 := by pointwise [k0_pay4]

/-- The four chunks' products. -/
theorem pay6_apply (x0 : FVec Ideal S512x5632 .bf16) (x4 : FVec Ideal S4x1024x1408 .bf16) (j) :
    (k0_pay6 (View.ld x0 (Rect.unit (s := S512x5632) ![0, 0] S512x1408.size inb_S512x5632_S512x1408_0_0))
        (View.ld x4 (Rect.unit (s := S4x1024x1408) ![0, 0, 0] S1x1024x1408.size inb_S4x1024x1408_S1x1024x1408_0_0_0))
        (View.ld x0 (Rect.unit (s := S512x5632) ![0, 1408] S512x1408.size inb_S512x5632_S512x1408_0_1408))
        (View.ld x4 (Rect.unit (s := S4x1024x1408) ![1, 0, 0] S1x1024x1408.size inb_S4x1024x1408_S1x1024x1408_1_0_0))
        (View.ld x0 (Rect.unit (s := S512x5632) ![0, 2816] S512x1408.size inb_S512x5632_S512x1408_0_2816))
        (View.ld x4 (Rect.unit (s := S4x1024x1408) ![2, 0, 0] S1x1024x1408.size inb_S4x1024x1408_S1x1024x1408_2_0_0))
        (View.ld x0 (Rect.unit (s := S512x5632) ![0, 4224] S512x1408.size inb_S512x5632_S512x1408_0_4224))
        (View.ld x4 (Rect.unit (s := S4x1024x1408) ![3, 0, 0] S1x1024x1408.size inb_S4x1024x1408_S1x1024x1408_3_0_0)) : FVec Ideal S512x1024 .f32) j
      = ((∑ k : Fin 1408, (x0 (ix2 (j 0) ⟨k.val, by omega⟩) * x4 (ix3 0 (j 1) k) : EReal)) + (∑ k : Fin 1408, (x0 (ix2 (j 0) ⟨1408 + k.val, by omega⟩) * x4 (ix3 1 (j 1) k) : EReal))
      + (∑ k : Fin 1408, (x0 (ix2 (j 0) ⟨2816 + k.val, by omega⟩) * x4 (ix3 2 (j 1) k) : EReal))) + (∑ k : Fin 1408, (x0 (ix2 (j 0) ⟨4224 + k.val, by omega⟩) * x4 (ix3 3 (j 1) k) : EReal)) := by
  pointwise [k0_pay6]

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0] ∧ win0_4.index t = ![0, 0, 0] ∧ win0_5.index t = ![t.val, 0] ∧ win0_6.index t = ![0, 0] := by
  decide +kernel

theorem V_ct (c : Dev nD) : V m c main_v3 = (truncf (F := Ideal) .bf16 (m ((c : Thread nD τ).loc main_arg4) : FVec Ideal S8192x5632 .f32) bitsLt_bf16_f32 : FVec Ideal S8192x5632 .bf16) := by
  unfold V; after_results; try rfl

/-- The weight's chunks: element `(s, j, k)` is column `s * 1408 + k` of row `j`. -/
theorem V_w (c : Dev nD) (s : Fin 4) (j : Fin 1024) (k : Fin 1408) :
    ((V m c main_v2 : FVec Ideal S4x1024x1408 .bf16) (ix3 s j k) : EReal) = (m ((c : Thread nD τ).loc main_arg2) : FVec Ideal S1024x5632 .f32) (ix2 j ⟨s.val * 1408 + k.val, by omega⟩) := by
  entry_read
  show truncf (F := Ideal) .bf16 (transpose S4x1024x1408 [1, 0, 2] (shapeCast S1024x4x1408 (m ((c : Thread nD τ).loc main_arg2) : FVec Ideal S1024x5632 .f32) shapeCasts_S1024x5632_S1024x4x1408) transposes_S1024x4x1408_S4x1024x1408_1_0_2) bitsLt_bf16_f32 (ix3 s j k) = _
  pointwise

theorem V_g (c : Dev nD) (j : Fin 1024) :
    ((V m c main_v4 : FVec Ideal S1x1024 .f32) (ix2 0 j) : EReal) = (m ((c : Thread nD τ).loc main_arg1) : FVec Ideal S1024 .f32) (ix1 j) := by
  entry_read
  pointwise

/-- The row of the whole array that a point's row is. -/
def row (t : Fin cfg0.N) (r : Fin 512) : Fin 8192 := ⟨t.val * 512 + r.val, by have h1 : t.val < 16 := lt_of_lt_of_eq t.isLt N_0; omega⟩

theorem row_val (t : Fin cfg0.N) (r : Fin 512) : (row t r).val = t.val * 512 + r.val := rfl

/-- A point's four products are its rows of the gradient of the normalised rows. -/
theorem pay6_eq (c : Dev nD) (t : Fin cfg0.N) (j) :
    (k0_pay6 (View.ld (iblk m c 0 t) (Rect.unit (s := S512x5632) ![0, 0] S512x1408.size inb_S512x5632_S512x1408_0_0))
        (View.ld (iblk m c 4 t) (Rect.unit (s := S4x1024x1408) ![0, 0, 0] S1x1024x1408.size inb_S4x1024x1408_S1x1024x1408_0_0_0))
        (View.ld (iblk m c 0 t) (Rect.unit (s := S512x5632) ![0, 1408] S512x1408.size inb_S512x5632_S512x1408_0_1408))
        (View.ld (iblk m c 4 t) (Rect.unit (s := S4x1024x1408) ![1, 0, 0] S1x1024x1408.size inb_S4x1024x1408_S1x1024x1408_1_0_0))
        (View.ld (iblk m c 0 t) (Rect.unit (s := S512x5632) ![0, 2816] S512x1408.size inb_S512x5632_S512x1408_0_2816))
        (View.ld (iblk m c 4 t) (Rect.unit (s := S4x1024x1408) ![2, 0, 0] S1x1024x1408.size inb_S4x1024x1408_S1x1024x1408_2_0_0))
        (View.ld (iblk m c 0 t) (Rect.unit (s := S512x5632) ![0, 4224] S512x1408.size inb_S512x5632_S512x1408_0_4224))
        (View.ld (iblk m c 4 t) (Rect.unit (s := S4x1024x1408) ![3, 0, 0] S1x1024x1408.size inb_S4x1024x1408_S1x1024x1408_3_0_0)) : FVec Ideal S512x1024 .f32) j
      = dn (m ((c : Thread nD τ).loc main_arg4)) (m ((c : Thread nD τ).loc main_arg2)) (row t (j 0)) (j 1) := by
  refine (pay6_apply (iblk m c 0 t) (iblk m c 4 t) j).trans ?_
  refine Eq.trans ?_ (dn_split _ _ _ _).symm
  refine congrArg₂ (· + ·) (congrArg₂ (· + ·) (congrArg₂ (· + ·) ?_ ?_) ?_) ?_
  all_goals
    refine Fin.sum_fin_congr fun k => ?_
    blk_point [iblk, V_ct, V_w, idx t, row]

theorem dh_congr {h h' T T' : Fin 1024 → EReal} {V V' ct ct' : EReal} {j j' : Fin 1024} (e1 : ∀ x, h x = h' x) (e2 : ∀ x, T x = T' x) (e3 : V = V') (e4 : ct = ct') (e5 : j = j') :
    dh h T (Ideal.rsqrt V) V ct j = dh h' T' (Ideal.rsqrt V') V' ct' j' := by
  obtain rfl : h = h' := funext e1
  obtain rfl : T = T' := funext e2
  subst e3 e4 e5; rfl

theorem var_eq (c : Dev nD) (t : Fin cfg0.N) (r : Fin 512) :
    Ideal.div (∑ x : Fin 1024, (show FVec Ideal S512x1024 .f32 from iblk m c 1 t) (ix2 r x) * (show FVec Ideal S512x1024 .f32 from iblk m c 1 t) (ix2 r x)) (Ideal.ofBits .f32 0x44800000#32) + Ideal.ofBits .f32 0x358637BD#32
      = var (m ((c : Thread nD τ).loc main_arg0)) (row t r) := by
  refine congrArg (fun s => Ideal.div s (Ideal.ofBits .f32 0x44800000#32) + Ideal.ofBits .f32 0x358637BD#32) (Fin.sum_fin_congr fun x => ?_)
  blk_point [iblk, V_main_arg0, idx t, row]

theorem final0 (c : Dev nD) :
    (dats m 0 c).arrAt 5 (cfgs 0).N = ref0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have ht : t.val < 16 := t.isLt
  by_cases hA : t.val % 16 = 0
  on_goal 1 => rw [outsAt0_A m c t hA]
  on_goal 2 => rw [outsAt0_B m c t hA]
  all_goals
    frame_out
    refine (pay0_apply _ _ _ _ y).trans ?_
    have e0 : (((View.whole main_v5_0).slice (win0_5.rect t)).emb y 0) = row t (y 0) := Fin.ext (by refine Eq.trans ?_ (row_val t (y 0)).symm; blk_simp [idx t])
    have e1 : (((View.whole main_v5_0).slice (win0_5.rect t)).emb y 1) = (y 1) := Fin.ext (by blk_simp [idx t])
    refine dh_congr (fun x => ?_) (fun x => congrArg₂ (· * ·) ((pay6_eq m c t _).trans ?_) ?_) ((var_eq m c t (y 0)).trans ?_) ?_ ?_
    · blk_point [iblk, V_main_arg0, idx t]
    · exact congrArg₂ (dn _ _) e0.symm rfl
    · blk_point [iblk, V_g, idx t]
    · exact congrArg (var _) e0.symm
    · blk_point [iblk, V_main_arg3, idx t]
    · exact e1.symm

/-- What a row block adds to the weight vector's gradient, from the whole arrays. -/
def part (h : FVec Ideal S8192x1024 .f32) (w : FVec Ideal S1024x5632 .f32) (d : FVec Ideal S8192x5632 .f32) (t : Fin cfg0.N) (j : Fin 1024) : EReal :=
  ∑ r : Fin 512, dn d w (row t r) j * (h (ix2 (row t r) j) * Ideal.rsqrt (var h (row t r)))

theorem part_eq (c : Dev nD) (t : Fin cfg0.N) (D : FVec Ideal S512x1024 .f32) (hD : ∀ j, D j = dn (m ((c : Thread nD τ).loc main_arg4)) (m ((c : Thread nD τ).loc main_arg2)) (row t (j 0)) (j 1)) (acc : FVec Ideal S1x1024 .f32) (j) :
    k0_pay5 D (iblk m c 1 t) (k0_pay8 (iblk m c 1 t)) (FloatOps.ofBits FTy.f32 0x44800000#32) acc j
      = acc j + part (m ((c : Thread nD τ).loc main_arg0)) (m ((c : Thread nD τ).loc main_arg2)) (m ((c : Thread nD τ).loc main_arg4)) t (j 1) := by
  refine (pay1_apply _ _ _ _).trans (congrArg (acc j + ·) (Fin.sum_fin_congr fun r => congrArg₂ (· * ·) (hD _) (congrArg₂ (· * ·) ?_ (congrArg Ideal.rsqrt (var_eq m c t r)))))
  blk_point [iblk, V_main_arg0, idx t, row]

theorem final1 (c : Dev nD) :
    (dats m 0 c).arrAt 6 (cfgs 0).N = ref1 (m ((c : Thread nD τ).loc main_arg0)) (m ((c : Thread nD τ).loc main_arg2)) (m ((c : Thread nD τ).loc main_arg4)) := by
  refine (dats m 0 c).arrAt_eq_of_covers 6 _ (by decide +kernel) fun t hf y => ?_
  blk_simp
  rw [after0_6]
  rw [Pipeline.eq_sum_fin_of_reset_step_apply_of_flush (fun n h => (outsAt0 m c n h).2) 16 (fun _ => 0)
    (fun t j => part (m ((c : Thread nD τ).loc main_arg0)) (m ((c : Thread nD τ).loc main_arg2)) (m ((c : Thread nD τ).loc main_arg4)) t (j 1))
    (fun t h j => by
      rw [outsAt0_A m c t h]; frame_out
      refine (part_eq m c t _ (pay6_eq m c t) _ _).trans ?_
      rw [zero_apply])
    (fun t h j => by
      rw [outsAt0_B m c t h]; frame_out
      exact part_eq m c t _ (pay6_eq m c t) _ _)
    t ((flush0_6 t).mp hf) _, zero_add]
  have ht : t.val < 16 := t.isLt
  have e : ((win0_6.blk t).view.emb y 1) = y 1 := Fin.ext (by blk_simp [idx t])
  refine Fin.sum_mul_add_congr fun s k hl => ?_
  have hr : row ⟨16 * (t.val / 16) + s.val, Pipeline.run_point_lt_of_flush t ((flush0_6 t).mp hf) s⟩ k = ⟨s.val * 512 + k.val, hl⟩ :=
    Fin.ext (by rw [row_val]; show (16 * (t.val / 16) + s.val) * 512 + k.val = s.val * 512 + k.val; rw [Nat.div_eq_of_lt ht]; omega)
  rw [hr, e, mul_comm]

end Cert.NormIdeal.Value

end
-- ==== Proof.Up.lean ====
/- The gradient of the gate and up projections' weights: the call's result array is the reference's term of the
   arguments, index by index. -/
module

public import proofs.«01_k».proof.Proof.Gen.UpIdeal.Frame
public import proofs.«01_k».proof.Proof.Gen.UpRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpRefIdeal.Value

open Cert.UpRefIdeal Cert.UpRefIdeal.Gen

/-- The normalized rows of the block's input, as both programs compute them before the product. -/
def normed (h : FVec Ideal S8192x1024 .f32) (g : FVec Ideal S1024 .f32) : FVec Ideal S8192x1024 .f32 :=
  mulf (mulf h (broadcastInDim S8192x1024 ![0, 1] bcast_S8192x1_S8192x1024_0_1 (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))

/-- The reference's result: the rows' product summed over the rows, transposed, cut by chips. -/
def ref (n : FVec Ideal S8192x1024 .f32) (d : FVec Ideal S8192x5632 .f32) : FVec Ideal S4x1408x1024 .bf16 :=
  truncf .bf16 (shapeCast S4x1408x1024 (transpose S5632x1024 [1, 0] (transpose S1024x5632 [1, 0] (Host.dotGeneral dot_S8192x5632_S8192x1024_S5632x1024_0_0_1_1_n_n none d n) transposes_S5632x1024_S1024x5632_1_0) transposes_S1024x5632_S5632x1024_1_0) shapeCasts_S5632x1024_S4x1408x1024) bitsLt_bf16_f32

theorem ref_apply (n : FVec Ideal S8192x1024 .f32) (d : FVec Ideal S8192x5632 .f32) (j : S4x1408x1024.Idx) :
    ref n d j = ∑ k : Fin 8192, d (ix2 k ⟨(j 0).val * 1408 + (j 1).val, by
      have h0 : (j 0).val < 4 := (j 0).isLt
      have h1 : (j 1).val < 1408 := (j 1).isLt
      omega⟩) * n (ix2 k (j 2)) := by
  pointwise [ref]

end Cert.UpRefIdeal.Value

namespace Cert.UpIdeal.Value

open Cert.UpIdeal Cert.UpIdeal.Gen

variable (m : (ℓ : Loc nD τ sig) → Buf (Elt Ideal) ℓ)

theorem zero_apply (j) : k0_pay1 (F := Ideal) j = 0 := by pointwise [k0_pay1]

theorem step_apply (x0 : FVec Ideal S2048x1408 .bf16) (x1 : FVec Ideal S2048x1024 .bf16) (acc : FVec Ideal S1408x1024 .f32) (j) :
    k0_pay2 x0 x1 acc j = acc j + ∑ k : Fin 2048, x0 (ix2 k (j 0)) * x1 (ix2 k (j 1)) := by pointwise [k0_pay2]

theorem out_apply (acc : FVec Ideal S1408x1024 .f32) (j) : (k0_pay3 (F := Ideal) acc j : EReal) = acc (ix2 (j 1) (j 2)) := by pointwise [k0_pay3]

theorem idx : ∀ t : Fin cfg0.N, win0_0.index t = ![t.val % 4, t.val / 4] ∧ win0_1.index t = ![t.val % 4, 0]
    ∧ win0_2.index t = ![t.val / 4, 0, 0] :=
  (by decide +kernel : ∀ t : Fin grid0.N, _)

/-- At a point that writes its block back, the block is the rounded accumulator. -/
theorem out_eq (c : Dev nD) (t : Fin cfg0.N) (h : t.val % 4 = 3) :
    (outsAt0 m c t.val t.isLt).1 = k0_pay3 (outsAt0 m c t.val t.isLt).2 := by
  rw [outsAt0_C m c t (by omega) h]
  frame_out

/-- The first operand of the call: the cast of the gradient. -/
theorem V_ct (c : Dev nD) : V m c main_v14 = (truncf (F := Ideal) .bf16 (m ((c : Thread nD τ).loc main_arg3) : FVec Ideal S8192x5632 .f32) bitsLt_bf16_f32 : FVec Ideal S8192x5632 .bf16) := by
  unfold V; after_results; try rfl

/-- The second operand of the call: the cast of the normalized rows. -/
theorem V_normed (c : Dev nD) : V m c main_v13 = (truncf (F := Ideal) .bf16 (Cert.UpRefIdeal.Value.normed (m ((c : Thread nD τ).loc main_arg0)) (m ((c : Thread nD τ).loc main_arg1)) : FVec Ideal S8192x1024 .f32) bitsLt_bf16_f32 : FVec Ideal S8192x1024 .bf16) := by
  unfold V; after_results; try rfl

theorem final (c : Dev nD) : (dats m 0 c).arrAt 2 (cfgs 0).N
    = Cert.UpRefIdeal.Value.ref (Cert.UpRefIdeal.Value.normed (m ((c : Thread nD τ).loc main_arg0)) (m ((c : Thread nD τ).loc main_arg1)))
      (m ((c : Thread nD τ).loc main_arg3)) := by
  have hn := V_normed m c
  generalize Cert.UpRefIdeal.Value.normed _ _ = n at hn ⊢
  refine (dats m 0 c).arrAt_eq_of_covers 2 _ (by decide +kernel) fun t hf y => ?_
  blk_simp
  rw [after0_2, out_eq m c t ((flush0_2 t).mp hf), out_apply,
    Pipeline.eq_sum_fin_of_reset_step_apply_of_flush (fun n h => (outsAt0 m c n h).2) 4 (fun _ => 0) _
    (fun t h j => by rw [outsAt0_A m c t h (by omega)]; frame_out; rw [step_apply, zero_apply])
    (fun t h j => by
      by_cases h3 : t.val % 4 = 3
      · rw [outsAt0_C m c t h h3]; frame_out; rw [step_apply]; rw [read_unread_whole]
      · rw [outsAt0_B m c t h h3]; frame_out; rw [step_apply]; rw [read_unread_whole])
    t ((flush0_2 t).mp hf) _, zero_add, Cert.UpRefIdeal.Value.ref_apply]
  refine Fin.sum_mul_add_congr fun s k hl => ?_
  blk_point [iblk, V_ct, hn, idx t, idx ⟨_, Pipeline.run_point_lt_of_flush t ((flush0_2 t).mp hf) s⟩]

end Cert.UpIdeal.Value

end
-- ==== Proof.Lift.lean ====
/- The forward call of the gate and up projections: each row block is normalised once and multiplied with the four chunks
   of the weights; the normalised rows are a result as well. -/
module

public import proofs.«01_k».proof.Proof.Gen.LiftIdeal.Frame
public import proofs.«01_k».proof.Proof.Gen.LiftRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LiftRefIdeal.Value

open Cert.LiftRefIdeal Cert.LiftRefIdeal.Gen

/-- The normalised rows. -/
def normed (h : FVec Ideal S8192x1024 .f32) (g : FVec Ideal S1024 .f32) : FVec Ideal S8192x1024 .f32 :=
  mulf (mulf h (broadcastInDim S8192x1024 ![0, 1] bcast_S8192x1_S8192x1024_0_1 (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))

/-- The normalised rows, rounded. -/
def refN (h : FVec Ideal S8192x1024 .f32) (g : FVec Ideal S1024 .f32) : FVec Ideal S8192x1024 .bf16 := truncf .bf16 (normed h g) bitsLt_bf16_f32

/-- The projections of the normalised rows. -/
def ref (h : FVec Ideal S8192x1024 .f32) (g : FVec Ideal S1024 .f32) (w : FVec Ideal S1024x5632 .f32) : FVec Ideal S8192x5632 .bf16 :=
  truncf .bf16 (Host.dotGeneral dot_S8192x1024_S1024x5632_S8192x5632_1_0_0_1_n_n none (normed h g) w) bitsLt_bf16_f32

/-- One element of the normalised rows, from its row, its own value and its gain. -/
def nrm (h : Fin 1024 → EReal) (x y : EReal) : EReal :=
  x * Ideal.rsqrt (Ideal.div (∑ k : Fin 1024, h k * h k) (Ideal.ofBits .f32 0x44800000#32) + Ideal.ofBits .f32 0x358637BD#32) * y

theorem nrm_congr {h h' : Fin 1024 → EReal} {x x' y y' : EReal} (e0 : ∀ k, h k = h' k) (e1 : x = x') (e2 : y = y') : nrm h x y = nrm h' x' y' := by
  obtain rfl : h = h' := funext e0
  subst e1 e2; rfl

theorem refN_apply (h : FVec Ideal S8192x1024 .f32) (g : FVec Ideal S1024 .f32) (j : S8192x1024.Idx) :
    refN h g j = nrm (fun k => h (ix2 (j 0) k)) (h j) (g (ix1 (j 1))) := by
  pointwise [refN, normed, nrm]

theorem ref_apply (h : FVec Ideal S8192x1024 .f32) (g : FVec Ideal S1024 .f32) (w : FVec Ideal S1024x5632 .f32) (j : S8192x5632.Idx) :
    ref h g w j = ∑ k : Fin 1024, nrm (fun k => h (ix2 (j 0) k)) (h (ix2 (j 0) k)) (g (ix1 k)) * w (ix2 k (j 1)) := by
  pointwise [ref, normed, nrm]

end Cert.LiftRefIdeal.Value

namespace Cert.LiftIdeal.Value

open Cert.LiftIdeal Cert.LiftIdeal.Gen
open Cert.LiftRefIdeal.Value (nrm nrm_congr ref refN refN_apply ref_apply)

variable (m : (ℓ : Loc nD τ sig) → Buf (Elt Ideal) ℓ)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem pay2_apply (x0 : FVec Ideal S512x1024 .f32) (x1 : FVec Ideal S1x1024 .f32) (j) :
    k0_pay2 (F := Ideal) x0 x1 j = nrm (fun k => x0 (ix2 (j 0) k)) (x0 j) (x1 (ix2 0 (j 1))) := by pointwise [k0_pay2, nrm]

theorem pay1_apply (x0 : FVec Ideal S512x1024 .f32) (x1 : FVec Ideal S1x1024 .f32) (w : FVec Ideal S1x1024x1408 .bf16) (j) :
    k0_pay1 (k0_pay2 (F := Ideal) x0 x1) w j = ∑ k : Fin 1024, nrm (fun k => x0 (ix2 (j 0) k)) (x0 (ix2 (j 0) k)) (x1 (ix2 0 k)) * w (ix3 0 k (j 1)) := by
  pointwise [k0_pay1, k0_pay2, nrm]

theorem pay3_apply (x0 : FVec Ideal S512x1024 .f32) (x1 : FVec Ideal S1x1024 .f32) (w : FVec Ideal S1x1024x1408 .bf16) (j) :
    k0_pay3 (F := Ideal) x0 x1 w j = ∑ k : Fin 1024, nrm (fun k => x0 (ix2 (j 0) k)) (x0 (ix2 (j 0) k)) (x1 (ix2 0 k)) * w (ix3 0 k (j 1)) := by
  pointwise [k0_pay3, k0_pay2, nrm]

theorem pay4_apply (x0 : FVec Ideal S512x1024 .f32) (x1 : FVec Ideal S1x1024 .f32) (w : FVec Ideal S1x1024x1408 .bf16) (j) :
    k0_pay4 (F := Ideal) x0 x1 w j = ∑ k : Fin 1024, nrm (fun k => x0 (ix2 (j 0) k)) (x0 (ix2 (j 0) k)) (x1 (ix2 0 k)) * w (ix3 0 k (j 1)) := by
  pointwise [k0_pay4, k0_pay2, nrm]

theorem pay5_apply (x0 : FVec Ideal S512x1024 .f32) (x1 : FVec Ideal S1x1024 .f32) (w : FVec Ideal S1x1024x1408 .bf16) (j) :
    k0_pay5 (F := Ideal) x0 x1 w j = ∑ k : Fin 1024, nrm (fun k => x0 (ix2 (j 0) k)) (x0 (ix2 (j 0) k)) (x1 (ix2 0 k)) * w (ix3 0 k (j 1)) := by
  pointwise [k0_pay5, k0_pay2, nrm]

/-- The weight's chunks: element `(s, j, k)` is column `s * 1408 + k` of row `j`. -/
theorem V_w (c : Dev nD) (i : S4x1024x1408.Idx) :
    ((V m c main_v3 : FVec Ideal S4x1024x1408 .bf16) i : EReal) = (m ((c : Thread nD τ).loc main_arg2) : FVec Ideal S1024x5632 .f32) (ix2 (i 1) ⟨(i 0).val * 1408 + (i 2).val, by
      have h0 : (i 0).val < 4 := (i 0).isLt
      have h2 : (i 2).val < 1408 := (i 2).isLt
      omega⟩) := by
  entry_read
  show truncf (F := Ideal) .bf16 (transpose S4x1024x1408 [1, 0, 2] (shapeCast S1024x4x1408 (m ((c : Thread nD τ).loc main_arg2) : FVec Ideal S1024x5632 .f32) shapeCasts_S1024x5632_S1024x4x1408) transposes_S1024x4x1408_S4x1024x1408_1_0_2) bitsLt_bf16_f32 i = _
  pointwise

/-- The weight's chunks are staged whole at every point. -/
theorem iblk_w (c : Dev nD) (t : Fin cfg0.N) (i : S4x1024x1408.Idx) :
    ((show FVec Ideal S4x1024x1408 .bf16 from iblk m c 2 t) i : EReal) = (m ((c : Thread nD τ).loc main_arg2) : FVec Ideal S1024x5632 .f32) (ix2 (i 1) ⟨(i 0).val * 1408 + (i 2).val, by
      have h0 : (i 0).val < 4 := (i 0).isLt
      have h2 : (i 2).val < 1408 := (i 2).isLt
      omega⟩) := by
  show ((V m c main_v3 : FVec Ideal S4x1024x1408 .bf16) ((win0_2.blk t).view.emb i) : EReal) = _
  rw [V_w]
  blk_point [idx t]

/-! The chunk that each product loads. -/

theorem chunk2 (k : Fin 1024) (q : Fin 1408) : r0_2.idx (ix3 0 k q) = ix3 0 k q := by
  funext a; refine Fin.ext ?_
  fin_cases a
  · rfl
  · show 0 + 1 * k.val = k.val
    omega
  · show 0 + 1 * q.val = q.val
    omega

theorem chunk4 (k : Fin 1024) (q : Fin 1408) : r0_4.idx (ix3 0 k q) = ix3 1 k q := by
  funext a; refine Fin.ext ?_
  fin_cases a
  · rfl
  · show 0 + 1 * k.val = k.val
    omega
  · show 0 + 1 * q.val = q.val
    omega

theorem chunk6 (k : Fin 1024) (q : Fin 1408) : r0_6.idx (ix3 0 k q) = ix3 2 k q := by
  funext a; refine Fin.ext ?_
  fin_cases a
  · rfl
  · show 0 + 1 * k.val = k.val
    omega
  · show 0 + 1 * q.val = q.val
    omega

theorem chunk8 (k : Fin 1024) (q : Fin 1408) : r0_8.idx (ix3 0 k q) = ix3 3 k q := by
  funext a; refine Fin.ext ?_
  fin_cases a
  · rfl
  · show 0 + 1 * k.val = k.val
    omega
  · show 0 + 1 * q.val = q.val
    omega

theorem ld2 (x : FVec Ideal S4x1024x1408 .bf16) (k : Fin 1024) (q : Fin 1408) : (x (r0_2.idx (ix3 0 k q)) : EReal) = x (ix3 0 k q) :=
  congrArg (fun i => (x i : EReal)) (chunk2 k q)

theorem ld4 (x : FVec Ideal S4x1024x1408 .bf16) (k : Fin 1024) (q : Fin 1408) : (x (r0_4.idx (ix3 0 k q)) : EReal) = x (ix3 1 k q) :=
  congrArg (fun i => (x i : EReal)) (chunk4 k q)

theorem ld6 (x : FVec Ideal S4x1024x1408 .bf16) (k : Fin 1024) (q : Fin 1408) : (x (r0_6.idx (ix3 0 k q)) : EReal) = x (ix3 2 k q) :=
  congrArg (fun i => (x i : EReal)) (chunk6 k q)

theorem ld8 (x : FVec Ideal S4x1024x1408 .bf16) (k : Fin 1024) (q : Fin 1408) : (x (r0_8.idx (ix3 0 k q)) : EReal) = x (ix3 3 k q) :=
  congrArg (fun i => (x i : EReal)) (chunk8 k q)

theorem V_g (c : Dev nD) (j : Fin 1024) :
    ((V m c main_v0 : FVec Ideal S1x1024 .f32) (ix2 0 j) : EReal) = (m ((c : Thread nD τ).loc main_arg1) : FVec Ideal S1024 .f32) (ix1 j) := by
  entry_read
  pointwise

/-- The normalised rows, the second result. -/
theorem final1 (c : Dev nD) : (dats m 0 c).arrAt 4 (cfgs 0).N = refN (m ((c : Thread nD τ).loc main_arg0)) (m ((c : Thread nD τ).loc main_arg1)) := by
  refine (dats m 0 c).arrAt_eq_of_covers 4 _ (by decide +kernel) fun t hf y => ?_
  blk_simp
  rw [after0_4]
  frame_out
  refine (pay2_apply _ _ _).trans ?_
  refine Eq.trans ?_ (refN_apply _ _ _).symm
  refine nrm_congr (fun k => ?_) ?_ ?_
  · blk_point [iblk, V_main_arg0, idx t]
  · blk_point [iblk, V_main_arg0, idx t]
  · blk_point [iblk, V_g, idx t]

/-- The projections, the first result. -/
theorem final0 (c : Dev nD) : (dats m 0 c).arrAt 3 (cfgs 0).N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  canon_tiles x h
  on_goal 1 => refine (pay1_apply _ _ _ _).trans ?_
  on_goal 2 => refine (pay5_apply _ _ _ _).trans ?_
  on_goal 3 => refine (pay4_apply _ _ _ _).trans ?_
  on_goal 4 => refine (pay3_apply _ _ _ _).trans ?_
  · refine Eq.trans ?_ (ref_apply _ _ _ _).symm
    refine Fin.sum_fin_congr fun k => congrArg₂ (· * ·) (nrm_congr (fun k => ?_) ?_ ?_) ((ld8 _ k (x 1)).trans ((iblk_w m c t _).trans ?_))
    · blk_point [iblk, V_main_arg0, idx t]
    · blk_point [iblk, V_main_arg0, idx t]
    · blk_point [iblk, V_g, idx t]
    · blk_point [idx t]
  · refine Eq.trans ?_ (ref_apply _ _ _ _).symm
    refine Fin.sum_fin_congr fun k => congrArg₂ (· * ·) (nrm_congr (fun k => ?_) ?_ ?_) ((ld6 _ k (x 1)).trans ((iblk_w m c t _).trans ?_))
    · blk_point [iblk, V_main_arg0, idx t]
    · blk_point [iblk, V_main_arg0, idx t]
    · blk_point [iblk, V_g, idx t]
    · blk_point [idx t]
  · refine Eq.trans ?_ (ref_apply _ _ _ _).symm
    refine Fin.sum_fin_congr fun k => congrArg₂ (· * ·) (nrm_congr (fun k => ?_) ?_ ?_) ((ld4 _ k (x 1)).trans ((iblk_w m c t _).trans ?_))
    · blk_point [iblk, V_main_arg0, idx t]
    · blk_point [iblk, V_main_arg0, idx t]
    · blk_point [iblk, V_g, idx t]
    · blk_point [idx t]
  · refine Eq.trans ?_ (ref_apply _ _ _ _).symm
    refine Fin.sum_fin_congr fun k => congrArg₂ (· * ·) (nrm_congr (fun k => ?_) ?_ ?_) ((ld2 _ k (x 1)).trans ((iblk_w m c t _).trans ?_))
    · blk_point [iblk, V_main_arg0, idx t]
    · blk_point [iblk, V_main_arg0, idx t]
    · blk_point [iblk, V_g, idx t]
    · blk_point [idx t]

end Cert.LiftIdeal.Value

end
-- ==== Proof.Mix.lean ====
/- The forward call of the down projection: the rows beside half the gated rows' product with the weights, and the gated
   rows themselves, where the gate's half of the projected rows is real. -/
module

public import proofs.«01_k».proof.Proof.Gen.MixIdeal.Frame
public import proofs.«01_k».proof.Proof.Gen.MixRefIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Reals

@[expose] public section

set_option maxRecDepth 16384

noncomputable section

open Idealize.ShloMosaic Idealize.ShloMosaic.TcCoe Idealize.SL.Sem
open Idealize.ShloMosaic.Pipeline (Dat)
open Cert.Reals

namespace Cert.MixRefIdeal.Value

open Cert.MixRefIdeal Cert.MixRefIdeal.Gen

/-- The gated rows `silu(a) * b`. -/
def gated (gu : FVec Ideal S8192x5632 .f32) : FVec Ideal S8192x2816 .f32 :=
  mulf (mulf (extractStridedSlice S8192x2816 ![0, 0] gu slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] gu slices_S8192x5632_S8192x2816_0_0)))))) (extractStridedSlice S8192x2816 ![0, 2816] gu slices_S8192x5632_S8192x2816_0_2816)

/-- The second result: the gated rows, rounded. -/
def ref1 (gu : FVec Ideal S8192x5632 .f32) : FVec Ideal S8192x2816 .bf16 := truncf .bf16 (gated gu) bitsLt_bf16_f32

/-- The first result: the rows beside half the gated rows' product with the weights. -/
def ref0 (gu : FVec Ideal S8192x5632 .f32) (h : FVec Ideal S8192x1024 .f32) (w : FVec Ideal S2816x1024 .f32) : FVec Ideal S8192x1024 .f32 :=
  addf h (mulf (broadcastInDim S8192x1024 ![] bcast_S_S8192x1024 (constant S_ .f32 0x3F000000#32)) (Host.dotGeneral dot_S8192x2816_S2816x1024_S8192x1024_1_0_0_1_n_n none (gated gu) w))

/-- One gated element from its gate and its other value. -/
def ga (a b : EReal) : EReal := a * Ideal.div 1 (1 + Ideal.exp (-a)) * b

theorem ref1_apply (gu : FVec Ideal S8192x5632 .f32) (j : S8192x2816.Idx) :
    ref1 gu j = ga (gu (ix2 (j 0) ⟨(j 1).val, by have : (j 1).val < 2816 := (j 1).isLt; omega⟩)) (gu (ix2 (j 0) ⟨2816 + (j 1).val, by have : (j 1).val < 2816 := (j 1).isLt; omega⟩)) := by
  pointwise [ref1, gated, ga]

theorem ref0_apply (gu : FVec Ideal S8192x5632 .f32) (h : FVec Ideal S8192x1024 .f32) (w : FVec Ideal S2816x1024 .f32) (j : S8192x1024.Idx) :
    ref0 gu h w j = h j + Ideal.ofBits .f32 0x3F000000#32 * ∑ k : Fin 2816, ga (gu (ix2 (j 0) ⟨k.val, by omega⟩)) (gu (ix2 (j 0) ⟨2816 + k.val, by omega⟩)) * w (ix2 k (j 1)) := by
  pointwise [ref0, gated, ga]

/-- The second result at an index given by its row and column. -/
theorem ref1_at (gu : FVec Ideal S8192x5632 .f32) (j : S8192x2816.Idx) (r : Fin 8192) (f : Fin 2816) (h0 : (j 0).val = r.val) (h1 : (j 1).val = f.val) :
    ref1 gu j = ga (gu (ix2 r ⟨f.val, by omega⟩)) (gu (ix2 r ⟨2816 + f.val, by omega⟩)) := by
  obtain rfl : j 0 = r := Fin.ext h0
  rw [ref1_apply]
  simp only [h1]

/-- The first result at an index given by its row and column. -/
theorem ref0_at (gu : FVec Ideal S8192x5632 .f32) (h : FVec Ideal S8192x1024 .f32) (w : FVec Ideal S2816x1024 .f32) (j : S8192x1024.Idx) (r : Fin 8192) (h0 : (j 0).val = r.val) :
    ref0 gu h w j = h j + Ideal.ofBits .f32 0x3F000000#32 * ∑ k : Fin 2816, ga (gu (ix2 r ⟨k.val, by omega⟩)) (gu (ix2 r ⟨2816 + k.val, by omega⟩)) * w (ix2 k (j 1)) := by
  obtain rfl : j 0 = r := Fin.ext h0
  exact ref0_apply _ _ _ _

/-- The gated element as the kernel computes it, by the hyperbolic tangent. -/
theorem ga_eq {a : EReal} (ha : IsReal a) (b : EReal) :
    (a * Ideal.ofBits .bf16 0x3F00#16 + a * Ideal.ofBits .bf16 0x3F00#16 * Ideal.tanh (a * Ideal.ofBits .bf16 0x3F00#16)) * b = ga a b := by
  obtain ⟨a, rfl⟩ := ha
  rw [ga, half_bf16, sig_coe]
  simp only [← EReal.coe_mul, ← EReal.coe_add, Ideal.tanh_coe, logistic_eq]
  exact congrArg (· * b) (congrArg _ (by ring))

end Cert.MixRefIdeal.Value

namespace Cert.MixIdeal.Value

open Cert.MixIdeal Cert.MixIdeal.Gen
open Cert.MixRefIdeal.Value (ga ga_eq ref0 ref1 ref0_at ref1_at)

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem V_gu (c : Dev nD) : V m c main_v0 = (truncf (F := Ideal) .bf16 (m ((c : Thread nD τ).loc main_arg0) : FVec Ideal S8192x5632 .f32) bitsLt_bf16_f32 : FVec Ideal S8192x5632 .bf16) := by
  entry_read; rfl

theorem V_w (c : Dev nD) : V m c main_v1 = (truncf (F := Ideal) .bf16 (m ((c : Thread nD τ).loc main_arg2) : FVec Ideal S2816x1024 .f32) bitsLt_bf16_f32 : FVec Ideal S2816x1024 .bf16) := by
  entry_read; rfl

/-- The landed slot read at a box: the block of the rows that the point waits for. -/
theorem slot (c : Dev nD) (t : Fin cfg0.N) (B : LoadRect S256x5632) (x : B.shape.Idx) :
    (rslot0_0 (Fin.ofNat 3 t.val)).view.readCov
        [⟨Rect.whole S256x5632, ReadAs.same.apply (View.read (Elt Ideal) (srcB0_0 (Ring.bk 32 t.val)).view (V m c main_v0))⟩] B x
      = (m ((c : Thread nD τ).loc main_arg0) : FVec Ideal S8192x5632 .f32) (ix2 ⟨t.val * 256 + (B.idx x 0).val, by
          have h0 : (B.idx x 0).val < 256 := (B.idx x 0).isLt
          have h1 : t.val < 32 := lt_of_lt_of_eq t.isLt N_0
          omega⟩ (B.idx x 1)) := by
  unfold View.readCov
  rw [View.readAt_apply, View.read_writes_whole, V_gu]
  show (m ((c : Thread nD τ).loc main_arg0) : FVec Ideal S8192x5632 .f32) ((srcB0_0 (Ring.bk 32 t.val)).view.emb (B.idx x)) = _
  have hb : (Ring.bk 32 t.val).val = t.val := Ring.bk_val (lt_of_lt_of_eq t.isLt N_0)
  refine congrArg _ (funext fun a => Fin.ext ?_)
  fin_cases a
  · show 256 * (Ring.bk 32 t.val).val + 1 * (B.idx x 0).val = t.val * 256 + (B.idx x 0).val
    omega
  · show 0 + 1 * (B.idx x 1).val = (B.idx x 1).val
    omega

/-- The slot's left half. -/
theorem slot_lo (c : Dev nD) (t : Fin cfg0.N) (x : S256x2816.Idx) :
    (rslot0_0 (Fin.ofNat 3 t.val)).view.readCov
        [⟨Rect.whole S256x5632, ReadAs.same.apply (View.read (Elt Ideal) (srcB0_0 (Ring.bk 32 t.val)).view (V m c main_v0))⟩]
        (Rect.unit (s := S256x5632) ![0, 0] S256x2816.size inb_S256x5632_S256x2816_0_0).toLoadRect x
      = (m ((c : Thread nD τ).loc main_arg0) : FVec Ideal S8192x5632 .f32) (ix2 ⟨t.val * 256 + (x 0).val, by
          have h0 : (x 0).val < 256 := (x 0).isLt
          have h1 : t.val < 32 := lt_of_lt_of_eq t.isLt N_0
          omega⟩ ⟨(x 1).val, by have h0 : (x 1).val < 2816 := (x 1).isLt; omega⟩) := by
  rw [slot]
  refine congrArg _ (funext fun a => Fin.ext ?_)
  fin_cases a
  · show t.val * 256 + (0 + 1 * (x 0).val) = t.val * 256 + (x 0).val
    omega
  · show 0 + 1 * (x 1).val = (x 1).val
    omega

/-- The slot's right half. -/
theorem slot_hi (c : Dev nD) (t : Fin cfg0.N) (x : S256x2816.Idx) :
    (rslot0_0 (Fin.ofNat 3 t.val)).view.readCov
        [⟨Rect.whole S256x5632, ReadAs.same.apply (View.read (Elt Ideal) (srcB0_0 (Ring.bk 32 t.val)).view (V m c main_v0))⟩]
        (Rect.unit (s := S256x5632) ![0, 2816] S256x2816.size inb_S256x5632_S256x2816_0_2816).toLoadRect x
      = (m ((c : Thread nD τ).loc main_arg0) : FVec Ideal S8192x5632 .f32) (ix2 ⟨t.val * 256 + (x 0).val, by
          have h0 : (x 0).val < 256 := (x 0).isLt
          have h1 : t.val < 32 := lt_of_lt_of_eq t.isLt N_0
          omega⟩ ⟨2816 + (x 1).val, by have h0 : (x 1).val < 2816 := (x 1).isLt; omega⟩) := by
  rw [slot]
  refine congrArg _ (funext fun a => Fin.ext ?_)
  fin_cases a
  · show t.val * 256 + (0 + 1 * (x 0).val) = t.val * 256 + (x 0).val
    omega
  · show 2816 + 1 * (x 1).val = 2816 + (x 1).val
    omega

/-- The row of the whole array that a point's row is. -/
def row (t : Fin cfg0.N) (r : Fin 256) : Fin 8192 := ⟨t.val * 256 + r.val, by have h1 : t.val < 32 := lt_of_lt_of_eq t.isLt N_0; omega⟩

theorem row_val (t : Fin cfg0.N) (r : Fin 256) : (row t r).val = t.val * 256 + r.val := rfl

theorem final1 (c : Dev nD) (hg : ∀ (r : Fin 8192) (f : Fin 2816), IsReal ((m ((c : Thread nD τ).loc main_arg0) : FVec Ideal S8192x5632 .f32) (ix2 r ⟨f.val, by omega⟩))) :
    (dats m 0 c).arrAt 3 (cfgs 0).N = ref1 (m ((c : Thread nD τ).loc main_arg0)) := by
  refine (dats m 0 c).arrAt_eq_of_covers 3 _ (by decide +kernel) fun t hf y => ?_
  blk_simp
  rw [after0_3]
  have ht : t.val < 32 := t.isLt
  by_cases hA : t.val % 32 = 0
  on_goal 2 => by_cases hB : t.val < 30
  on_goal 1 => rw [outsAt0_A m c t hA (by omega)]
  on_goal 2 => rw [outsAt0_B m c t hA hB]
  on_goal 3 => rw [outsAt0_C m c t hA hB]
  all_goals
    frame_out
    open_payloads; pointwise
    rw [ref1_at _ _ (row t (y 0)) (y 1) (by refine Eq.trans ?_ (row_val t (y 0)).symm; blk_simp [idx t]; try omega) (by blk_simp [idx t]; try omega)]
    simp only [slot_lo m c t, slot_hi m c t]
    exact ga_eq (hg (row t (y 0)) (y 1)) _

/-- A gated element as the kernel computes it. -/
def gv (a b : EReal) : EReal :=
  (a * Ideal.ofBits .bf16 0x3F00#16 + a * Ideal.ofBits .bf16 0x3F00#16 * Ideal.tanh (a * Ideal.ofBits .bf16 0x3F00#16)) * b

theorem pay_apply (a b : FVec Ideal S256x2816 .bf16) (h : FVec Ideal S256x1024 .f32) (w : FVec Ideal S2816x1024 .bf16) (j) :
    k0_pay1 (k0_pay2 a b) h (k0_pay3 w) (constant S256x1024 .f32 0#32) j
      = h j + Ideal.ofBits .f32 0x3F000000#32 * ∑ k : Fin 2816, gv (a (ix2 (j 0) k)) (b (ix2 (j 0) k)) * w (ix2 k (j 1)) := by
  pointwise [k0_pay1, k0_pay2, k0_pay3, gv]

/-- A point's block of the first result, from the two halves of the rows it holds. -/
theorem point (c : Dev nD) (hg : ∀ (r : Fin 8192) (f : Fin 2816), IsReal ((m ((c : Thread nD τ).loc main_arg0) : FVec Ideal S8192x5632 .f32) (ix2 r ⟨f.val, by omega⟩)))
    (t : Fin cfg0.N) (a b : FVec Ideal S256x2816 .bf16)
    (ha : ∀ (r : Fin 256) (k : Fin 2816), a (ix2 r k) = (m ((c : Thread nD τ).loc main_arg0) : FVec Ideal S8192x5632 .f32) (ix2 (row t r) ⟨k.val, by omega⟩))
    (hb : ∀ (r : Fin 256) (k : Fin 2816), b (ix2 r k) = (m ((c : Thread nD τ).loc main_arg0) : FVec Ideal S8192x5632 .f32) (ix2 (row t r) ⟨2816 + k.val, by omega⟩))
    (y : S256x1024.Idx) (j : S8192x1024.Idx) (h0 : (j 0).val = (row t (y 0)).val) (h1 : (j 1).val = (y 1).val) :
    k0_pay1 (k0_pay2 a b) (iblk m c 0 t) (k0_pay3 (iblk m c 1 t)) (constant S256x1024 .f32 0#32) y
      = ref0 (m ((c : Thread nD τ).loc main_arg0)) (m ((c : Thread nD τ).loc main_arg1)) (m ((c : Thread nD τ).loc main_arg2)) j := by
  refine (pay_apply a b _ _ y).trans ?_
  rw [ref0_at _ _ _ j (row t (y 0)) h0]
  have h0' : (j 0).val = t.val * 256 + (y 0).val := h0.trans (row_val t (y 0))
  refine congrArg₂ (· + ·) ?_ (congrArg _ (Fin.sum_fin_congr fun k => congrArg₂ (· * ·) ?_ ?_))
  · blk_point [iblk, V_main_arg1, idx t]
  · rw [ha (y 0) k, hb (y 0) k]
    exact ga_eq (hg (row t (y 0)) k) _
  · blk_point [iblk, V_w, idx t]

theorem final0 (c : Dev nD) (hg : ∀ (r : Fin 8192) (f : Fin 2816), IsReal ((m ((c : Thread nD τ).loc main_arg0) : FVec Ideal S8192x5632 .f32) (ix2 r ⟨f.val, by omega⟩))) :
    (dats m 0 c).arrAt 2 (cfgs 0).N = ref0 (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  have ht : t.val < 32 := t.isLt
  by_cases hA : t.val % 32 = 0
  on_goal 2 => by_cases hB : t.val < 30
  on_goal 1 => rw [outsAt0_A m c t hA (by omega)]
  on_goal 2 => rw [outsAt0_B m c t hA hB]
  on_goal 3 => rw [outsAt0_C m c t hA hB]
  all_goals
    frame_out
    exact point m c hg t _ _ (fun r k => slot_lo m c t (ix2 r k)) (fun r k => slot_hi m c t (ix2 r k)) y _
      (by refine Eq.trans ?_ (row_val t (y 0)).symm; blk_simp [idx t]; try omega) (by blk_simp [idx t]; try omega)

end Cert.MixIdeal.Value

end
-- ==== Proof.Pairs.lean ====
/- The value claims at 8192 rows: each kernel's final arrays beside the reference's run. -/
module

public import proofs.«01_k».proof.Defs
public import proofs.«01_k».proof.Proof.Gate
public import proofs.«01_k».proof.Proof.Down
public import proofs.«01_k».proof.Proof.Norm
public import proofs.«01_k».proof.Proof.Up
public import proofs.«01_k».proof.Proof.Lift
public import proofs.«01_k».proof.Proof.Mix
public import proofs.«01_k».proof.Proof.Gen.Pre_finite3
public import proofs.«01_k».proof.Proof.Gen.Pre_finite_gate
public import Idealize.ShloMosaic.Lib.Claim
public import Idealize.ShloMosaic.Lib.ReduceAll

@[expose] public section

set_option maxRecDepth 16384

noncomputable section

namespace Cert.Proof

open Idealize.ShloMosaic Idealize.SL.Sem Cert.Reals

section
open Cert.Pre_finite3

/-- What the precondition says: every element of the three arrays is a real number. -/
theorem isReal_of_finite3 (x : FVec Ideal S8192x5632 .f32) (w : FVec Ideal S2816x1024 .f32) (d : FVec Ideal S8192x1024 .f32)
    (h : ∀ i, fn x w d i = 1#1) : (∀ i, IsReal (x i)) ∧ (∀ i, IsReal (w i)) ∧ (∀ i, IsReal (d i)) := by
  have key : ∀ a b : BitVec 1, IntOp.andi a b = 1#1 → a = 1#1 ∧ b = 1#1 := by decide
  haveI : Subsingleton S_.Idx := ⟨fun a b => funext fun k => k.elim0⟩
  have h0 := h (fun i => i.elim0)
  dsimp only [fn] at h0
  obtain ⟨h1, h4⟩ := key _ _ h0
  obtain ⟨h2, h3⟩ := key _ _ h1
  exact ⟨fun i => isReal_of_lt x i _ (by rfl) (Host.reduce_andi_all _ _ _ _ _ h2 i),
    fun i => isReal_of_lt w i _ (by rfl) (Host.reduce_andi_all _ _ _ _ _ h3 i),
    fun i => isReal_of_lt d i _ (by rfl) (Host.reduce_andi_all _ _ _ _ _ h4 i)⟩

end

section
open Cert.Pre_finite_gate

/-- What the second precondition says: every element of the gate's half of the rows is a real number. -/
theorem isReal_of_finite_gate (x : FVec Ideal S8192x5632 .f32) (h : FVec Ideal S8192x1024 .f32) (w : FVec Ideal S2816x1024 .f32)
    (e : ∀ i, fn x h w i = 1#1) (r : Fin 8192) (f : Fin 2816) : IsReal (x (ix2 r ⟨f.val, by omega⟩)) := by
  haveI : Subsingleton S_.Idx := ⟨fun a b => funext fun k => k.elim0⟩
  have h0 := e (fun i => i.elim0)
  dsimp only [fn] at h0
  have h1 := isReal_of_lt (extractStridedSlice S8192x2816 ![0, 0] x Facts.slices_S8192x5632_S8192x2816_0_0) (ix2 r f) _ (by rfl) (Host.reduce_andi_all _ _ _ _ _ h0 (ix2 r f))
  have h2 : extractStridedSlice S8192x2816 ![0, 0] x Facts.slices_S8192x5632_S8192x2816_0_0 (ix2 r f) = x (ix2 r ⟨f.val, by omega⟩) := by pointwise
  rwa [h2] at h1

end

theorem gate : Cert.algebraic_GateIdeal_GateRefIdeal_pre_finite3 := by
  pair_intro
  · run_from Cert.GateIdeal.Gen.run_main m g
  · have agree := hagree
    clear hagree
    run_from Cert.GateRefIdeal.Value.run m' g'
    obtain ⟨h0, h1, h2⟩ := agree c
    refine Eq.trans (rfl : _ = Cert.GateRefIdeal.Value.ref (m' ((c.tc : Thread Cert.GateRefIdeal.nD Cert.GateRefIdeal.τ).loc Cert.GateRefIdeal.main_arg0)) (m' ((c.tc : Thread Cert.GateRefIdeal.nD Cert.GateRefIdeal.τ).loc Cert.GateRefIdeal.main_arg1)) (m' ((c.tc : Thread Cert.GateRefIdeal.nD Cert.GateRefIdeal.τ).loc Cert.GateRefIdeal.main_arg2))) ?_
    rw [h0, h1, h2]
    obtain ⟨r0, r1, r2⟩ := isReal_of_finite3 _ _ _ fun i => congrFun (hpre c) i
    exact (Cert.GateIdeal.Value.final m c r0 r1 r2).symm

theorem down : Cert.algebraic_DownIdeal_DownRefIdeal := by
  pair_intro
  · run_from Cert.DownIdeal.Gen.run_main m g
    · exact Cert.DownIdeal.Gen.V_main_arg0 m c
    · exact Cert.DownIdeal.Gen.V_main_arg1 m c
  · run_from Cert.DownRefIdeal.Value.run m' g'
    exact (Cert.DownIdeal.Value.final m c).symm

theorem norm : Cert.algebraic_NormIdeal_NormRefIdeal := by
  pair_intro
  · run_from Cert.NormIdeal.Gen.run_main m g
  · have agree := hagree
    clear hagree
    run_from Cert.NormRefIdeal.Value.run m' g'
    · obtain ⟨h0, h1, h2, h3, h4⟩ := agree c
      refine (Cert.NormRefIdeal.Value.res0_eq m' c).trans ?_
      rw [h0, h1, h2, h3, h4]
      exact (Cert.NormIdeal.Value.final0 m c).symm
    · obtain ⟨h0, h1, h2, h3, h4⟩ := agree c
      refine (Cert.NormRefIdeal.Value.res1_eq _ _ _).trans ?_
      rw [h0, h2, h4]
      exact (Cert.NormIdeal.Value.final1 m c).symm

theorem up : Cert.algebraic_UpIdeal_UpRefIdeal := by
  pair_intro
  · run_from Cert.UpIdeal.Gen.run_main m g
  · run_from Cert.UpRefIdeal.Value.run m' g'
    exact (Cert.UpIdeal.Value.final m c).symm

theorem lift : Cert.algebraic_LiftIdeal_LiftRefIdeal := by
  pair_intro
  · run_from Cert.LiftIdeal.Gen.run_main m g
  · have agree := hagree
    clear hagree
    run_from Cert.LiftRefIdeal.Value.run m' g'
    · obtain ⟨h0, h1, h2⟩ := agree c
      refine Eq.trans (rfl : _ = Cert.LiftRefIdeal.Value.ref (m' ((c.tc : Thread Cert.LiftRefIdeal.nD Cert.LiftRefIdeal.τ).loc Cert.LiftRefIdeal.main_arg0)) (m' ((c.tc : Thread Cert.LiftRefIdeal.nD Cert.LiftRefIdeal.τ).loc Cert.LiftRefIdeal.main_arg1)) (m' ((c.tc : Thread Cert.LiftRefIdeal.nD Cert.LiftRefIdeal.τ).loc Cert.LiftRefIdeal.main_arg2))) ?_
      rw [h0, h1, h2]
      exact (Cert.LiftIdeal.Value.final0 m c).symm
    · obtain ⟨h0, h1, h2⟩ := agree c
      refine Eq.trans (rfl : _ = Cert.LiftRefIdeal.Value.refN (m' ((c.tc : Thread Cert.LiftRefIdeal.nD Cert.LiftRefIdeal.τ).loc Cert.LiftRefIdeal.main_arg0)) (m' ((c.tc : Thread Cert.LiftRefIdeal.nD Cert.LiftRefIdeal.τ).loc Cert.LiftRefIdeal.main_arg1))) ?_
      rw [h0, h1]
      exact (Cert.LiftIdeal.Value.final1 m c).symm

theorem mix : Cert.algebraic_MixIdeal_MixRefIdeal_pre_finite_gate := by
  pair_intro
  · run_from Cert.MixIdeal.Gen.run_main m g
  · have agree := hagree
    clear hagree
    run_from Cert.MixRefIdeal.Value.run m' g'
    · obtain ⟨h0, h1, h2⟩ := agree c
      refine Eq.trans (rfl : _ = Cert.MixRefIdeal.Value.ref0 (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2))) ?_
      rw [h0, h1, h2]
      exact (Cert.MixIdeal.Value.final0 m c (isReal_of_finite_gate _ _ _ fun i => congrFun (hpre c) i)).symm
    · obtain ⟨h0, h1, h2⟩ := agree c
      refine Eq.trans (rfl : _ = Cert.MixRefIdeal.Value.ref1 (m' ((c.tc : Thread Cert.MixRefIdeal.nD Cert.MixRefIdeal.τ).loc Cert.MixRefIdeal.main_arg0))) ?_
      rw [h0]
      exact (Cert.MixIdeal.Value.final1 m c (isReal_of_finite_gate _ _ _ fun i => congrFun (hpre c) i)).symm

end Cert.Proof

end
-- ==== Proof.GateFirst.lean ====
/- The gradient of the projected rows through the gate, in the first layer: the call's result array is the reference's term of the
   arguments, index by index, where the arguments are real numbers. -/
module

public import proofs.«01_k».proof.Proof.Gen.GateFirstIdeal.Frame
public import proofs.«01_k».proof.Proof.Gen.GateFirstRefIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Reals

@[expose] public section

set_option maxRecDepth 16384

noncomputable section

open Idealize.ShloMosaic Idealize.ShloMosaic.TcCoe Idealize.SL.Sem
open Idealize.ShloMosaic.Pipeline (Dat)
open Cert.Reals

namespace Cert.GateFirstRefIdeal.Value

open Cert.GateFirstRefIdeal Cert.GateFirstRefIdeal.Gen

/-- The gate's half of the projected rows. -/
def left (gu : FVec Ideal S8448x5632 .f32) : FVec Ideal S8448x2816 .f32 := extractStridedSlice S8448x2816 ![0, 0] gu slices_S8448x5632_S8448x2816_0_0
/-- The other half. -/
def right (gu : FVec Ideal S8448x5632 .f32) : FVec Ideal S8448x2816 .f32 := extractStridedSlice S8448x2816 ![0, 2816] gu slices_S8448x5632_S8448x2816_0_2816
/-- An array of ones. -/
def ones : FVec Ideal S8448x2816 .f32 := broadcastInDim S8448x2816 ![] bcast_S_S8448x2816 (constant S_ .f32 0x3F800000#32)
/-- The logistic function of the gate's half. -/
def sig (gu : FVec Ideal S8448x5632 .f32) : FVec Ideal S8448x2816 .f32 := Host.divf ones (addf ones (Host.exp (Host.negf (left gu))))
/-- The gradient of the gated rows: the halved gradient times the transposed weights. -/
def dgated (w : FVec Ideal S2816x1024 .f32) (d : FVec Ideal S8448x1024 .f32) : FVec Ideal S8448x2816 .f32 := Host.dotGeneral dot_S8448x1024_S2816x1024_S8448x2816_1_1_0_0_n_n none (mulf (broadcastInDim S8448x1024 ![] bcast_S_S8448x1024 (constant S_ .f32 0x3F000000#32)) d) w
/-- The reference's result. -/
def ref (gu : FVec Ideal S8448x5632 .f32) (w : FVec Ideal S2816x1024 .f32) (d : FVec Ideal S8448x1024 .f32) : FVec Ideal S8448x5632 .bf16 := truncf .bf16 (concatenate S8448x5632 1 [⟨S8448x2816, (addf (mulf (mulf (dgated w d) (right gu)) (sig gu)) (mulf (mulf (left gu) (mulf (dgated w d) (right gu))) (mulf (sig gu) (subf ones (sig gu)))))⟩, ⟨S8448x2816, (mulf (mulf (left gu) (sig gu)) (dgated w d))⟩] concatenates_S8448x2816_S8448x2816_S8448x5632_d1) bitsLt_bf16_f32

/-- The gradient of the gated rows at an index. -/
def dg (w : FVec Ideal S2816x1024 .f32) (d : FVec Ideal S8448x1024 .f32) (r : Fin 8448) (f : Fin 2816) : EReal :=
  ∑ k : Fin 1024, Ideal.ofBits .f32 0x3F000000#32 * d (ix2 r k) * w (ix2 f k)

/-- The gate's half of the result from the three values it is made of. -/
def lo (D b a : EReal) : EReal :=
  D * b * Ideal.div 1 (1 + Ideal.exp (-a)) + a * (D * b) * (Ideal.div 1 (1 + Ideal.exp (-a)) * (1 - Ideal.div 1 (1 + Ideal.exp (-a))))

/-- The other half of the result. -/
def hi (D a : EReal) : EReal := a * Ideal.div 1 (1 + Ideal.exp (-a)) * D

theorem ref_apply (gu : FVec Ideal S8448x5632 .f32) (w : FVec Ideal S2816x1024 .f32) (d : FVec Ideal S8448x1024 .f32) (j : S8448x5632.Idx) :
    ref gu w d j = if h : (j 1).val < 2816 then lo (dg w d (j 0) ⟨(j 1).val, h⟩) (gu (ix2 (j 0) ⟨2816 + (j 1).val, by omega⟩)) (gu (ix2 (j 0) ⟨(j 1).val, by omega⟩))
      else hi (dg w d (j 0) ⟨(j 1).val - 2816, by have : (j 1).val < 5632 := (j 1).isLt; omega⟩) (gu (ix2 (j 0) ⟨(j 1).val - 2816, by have : (j 1).val < 5632 := (j 1).isLt; omega⟩)) := by
  pointwise [ref, left, right, ones, sig, dgated, lo, hi, dg]

/-- The result at an index of the gate's half. -/
theorem ref_left (gu : FVec Ideal S8448x5632 .f32) (w : FVec Ideal S2816x1024 .f32) (d : FVec Ideal S8448x1024 .f32) (j : S8448x5632.Idx) (r : Fin 8448) (f : Fin 2816)
    (h0 : (j 0).val = r.val) (h1 : (j 1).val = f.val) :
    ref gu w d j = lo (dg w d r f) (gu (ix2 r ⟨2816 + f.val, by omega⟩)) (gu (ix2 r ⟨f.val, by omega⟩)) := by
  obtain rfl : j 0 = r := Fin.ext h0
  rw [ref_apply, dif_pos (by omega)]
  simp only [h1]

/-- The result at an index of the other half. -/
theorem ref_right (gu : FVec Ideal S8448x5632 .f32) (w : FVec Ideal S2816x1024 .f32) (d : FVec Ideal S8448x1024 .f32) (j : S8448x5632.Idx) (r : Fin 8448) (f : Fin 2816)
    (h0 : (j 0).val = r.val) (h1 : (j 1).val = 2816 + f.val) :
    ref gu w d j = hi (dg w d r f) (gu (ix2 r ⟨f.val, by omega⟩)) := by
  obtain rfl : j 0 = r := Fin.ext h0
  rw [ref_apply, dif_neg (by omega)]
  simp only [h1, Nat.add_sub_cancel_left]

theorem isReal_dg (w : FVec Ideal S2816x1024 .f32) (d : FVec Ideal S8448x1024 .f32) (hw : ∀ i, IsReal (w i)) (hd : ∀ i, IsReal (d i)) (r f) :
    IsReal (dg w d r f) :=
  IsReal.sum _ _ fun k => ((half_f32 ▸ IsReal.coe _ : IsReal (Ideal.ofBits .f32 0x3F000000#32)).mul (hd _)).mul (hw _)

/-- The gate's half as the kernel computes it, by the hyperbolic tangent. -/
theorem lo_eq {D b a : EReal} (hD : IsReal D) (hb : IsReal b) (ha : IsReal a) :
    D * b * ((1 + Ideal.tanh (a * Ideal.ofBits .bf16 0x3F00#16) + a * Ideal.ofBits .bf16 0x3F00#16 * (1 - Ideal.tanh (a * Ideal.ofBits .bf16 0x3F00#16) * Ideal.tanh (a * Ideal.ofBits .bf16 0x3F00#16))) * Ideal.ofBits .bf16 0x3F00#16)
      = lo D b a := by
  obtain ⟨D, rfl⟩ := hD; obtain ⟨b, rfl⟩ := hb; obtain ⟨a, rfl⟩ := ha
  rw [lo, half_bf16, sig_coe]
  simp only [← EReal.coe_one, ← EReal.coe_mul, ← EReal.coe_add, ← EReal.coe_sub, Ideal.tanh_coe, logistic_eq]
  exact congrArg _ (by ring)

/-- The other half as the kernel computes it. -/
theorem hi_eq {D a : EReal} (hD : IsReal D) (ha : IsReal a) :
    D * (a * Ideal.ofBits .bf16 0x3F00#16 + a * Ideal.ofBits .bf16 0x3F00#16 * Ideal.tanh (a * Ideal.ofBits .bf16 0x3F00#16))
      = hi D a := by
  obtain ⟨D, rfl⟩ := hD; obtain ⟨a, rfl⟩ := ha
  rw [hi, half_bf16, sig_coe]
  simp only [← EReal.coe_mul, ← EReal.coe_add, Ideal.tanh_coe, logistic_eq]
  exact congrArg _ (by ring)

end Cert.GateFirstRefIdeal.Value

namespace Cert.GateFirstIdeal.Value

open Cert.GateFirstIdeal Cert.GateFirstIdeal.Gen

variable (m : (ℓ : Loc nD τ sig) → Buf (Elt Ideal) ℓ)

theorem idx : ∀ t : Fin cfg0.N, win0_0.index t = ![t.val, 0] ∧ win0_1.index t = ![0, 0]
    ∧ win0_2.index t = ![t.val, 0] :=
  (by decide +kernel : ∀ t : Fin grid0.N, _)

theorem V_gu (c : Dev nD) : V m c main_v0 = (truncf (F := Ideal) .bf16 (m ((c : Thread nD τ).loc main_arg0) : FVec Ideal S8448x5632 .f32) bitsLt_bf16_f32 : FVec Ideal S8448x5632 .bf16) := by
  entry_read; rfl

theorem V_w (c : Dev nD) : V m c main_v1 = (truncf (F := Ideal) .bf16 (m ((c : Thread nD τ).loc main_arg1) : FVec Ideal S2816x1024 .f32) bitsLt_bf16_f32 : FVec Ideal S2816x1024 .bf16) := by
  entry_read; rfl

/-- The landed slot read at a box: the block of the rows that the point waits for. -/
theorem slot (c : Dev nD) (t : Fin cfg0.N) (B : LoadRect S256x5632) (x : B.shape.Idx) :
    (rslot0_0 (Fin.ofNat 3 t.val)).view.readCov
        [⟨Rect.whole S256x5632, ReadAs.same.apply (View.read (Elt Ideal) (srcB0_0 (Ring.bk 33 t.val)).view (V m c main_v0))⟩] B x
      = (m ((c : Thread nD τ).loc main_arg0) : FVec Ideal S8448x5632 .f32) (ix2 ⟨t.val * 256 + (B.idx x 0).val, by
          have h0 : (B.idx x 0).val < 256 := (B.idx x 0).isLt
          have h1 : t.val < 33 := lt_of_lt_of_eq t.isLt N_0
          omega⟩ (B.idx x 1)) := by
  unfold View.readCov
  rw [View.readAt_apply, View.read_writes_whole, V_gu]
  show (m ((c : Thread nD τ).loc main_arg0) : FVec Ideal S8448x5632 .f32) ((srcB0_0 (Ring.bk 33 t.val)).view.emb (B.idx x)) = _
  have hb : (Ring.bk 33 t.val).val = t.val := Ring.bk_val (lt_of_lt_of_eq t.isLt N_0)
  refine congrArg _ (funext fun a => Fin.ext ?_)
  fin_cases a
  · show 256 * (Ring.bk 33 t.val).val + 1 * (B.idx x 0).val = t.val * 256 + (B.idx x 0).val
    omega
  · show 0 + 1 * (B.idx x 1).val = (B.idx x 1).val
    omega

/-- The slot's left half. -/
theorem slot_lo (c : Dev nD) (t : Fin cfg0.N) (x : S256x2816.Idx) :
    (rslot0_0 (Fin.ofNat 3 t.val)).view.readCov
        [⟨Rect.whole S256x5632, ReadAs.same.apply (View.read (Elt Ideal) (srcB0_0 (Ring.bk 33 t.val)).view (V m c main_v0))⟩]
        (Rect.unit (s := S256x5632) ![0, 0] S256x2816.size inb_S256x5632_S256x2816_0_0).toLoadRect x
      = (m ((c : Thread nD τ).loc main_arg0) : FVec Ideal S8448x5632 .f32) (ix2 ⟨t.val * 256 + (x 0).val, by
          have h0 : (x 0).val < 256 := (x 0).isLt
          have h1 : t.val < 33 := lt_of_lt_of_eq t.isLt N_0
          omega⟩ ⟨(x 1).val, by have h0 : (x 1).val < 2816 := (x 1).isLt; omega⟩) := by
  rw [slot]
  refine congrArg _ (funext fun a => Fin.ext ?_)
  fin_cases a
  · show t.val * 256 + (0 + 1 * (x 0).val) = t.val * 256 + (x 0).val
    omega
  · show 0 + 1 * (x 1).val = (x 1).val
    omega

/-- The slot's right half. -/
theorem slot_hi (c : Dev nD) (t : Fin cfg0.N) (x : S256x2816.Idx) :
    (rslot0_0 (Fin.ofNat 3 t.val)).view.readCov
        [⟨Rect.whole S256x5632, ReadAs.same.apply (View.read (Elt Ideal) (srcB0_0 (Ring.bk 33 t.val)).view (V m c main_v0))⟩]
        (Rect.unit (s := S256x5632) ![0, 2816] S256x2816.size inb_S256x5632_S256x2816_0_2816).toLoadRect x
      = (m ((c : Thread nD τ).loc main_arg0) : FVec Ideal S8448x5632 .f32) (ix2 ⟨t.val * 256 + (x 0).val, by
          have h0 : (x 0).val < 256 := (x 0).isLt
          have h1 : t.val < 33 := lt_of_lt_of_eq t.isLt N_0
          omega⟩ ⟨2816 + (x 1).val, by have h0 : (x 1).val < 2816 := (x 1).isLt; omega⟩) := by
  rw [slot]
  refine congrArg _ (funext fun a => Fin.ext ?_)
  fin_cases a
  · show t.val * 256 + (0 + 1 * (x 0).val) = t.val * 256 + (x 0).val
    omega
  · show 2816 + 1 * (x 1).val = 2816 + (x 1).val
    omega

/-- The row of the whole array that a point's row is. -/
def row (t : Fin cfg0.N) (r : Fin 256) : Fin 8448 := ⟨t.val * 256 + r.val, by have h1 : t.val < 33 := lt_of_lt_of_eq t.isLt N_0; omega⟩

theorem row_val (t : Fin cfg0.N) (r : Fin 256) : (row t r).val = t.val * 256 + r.val := rfl

/-- The point's part of the gradient of the gated rows. -/
theorem dg_eq (c : Dev nD) (t : Fin cfg0.N) (r : Fin 256) (f : Fin 2816) :
    (∑ k : Fin 1024, Ideal.ofBits .f32 0x3F000000#32 * (show FVec Ideal S256x1024 .f32 from iblk m c 0 t) (ix2 r k) * (show FVec Ideal S2816x1024 .bf16 from iblk m c 1 t) (ix2 f k))
      = Cert.GateFirstRefIdeal.Value.dg (m ((c : Thread nD τ).loc main_arg1)) (m ((c : Thread nD τ).loc main_arg2)) (row t r) f := by
  refine Fin.sum_fin_congr fun k => ?_
  blk_point [iblk, V_w, V_main_arg2, idx t, row]

theorem final (c : Dev nD) (hg : ∀ i, IsReal ((m ((c : Thread nD τ).loc main_arg0) : FVec Ideal S8448x5632 .f32) i))
    (hw : ∀ i, IsReal ((m ((c : Thread nD τ).loc main_arg1) : FVec Ideal S2816x1024 .f32) i)) (hd : ∀ i, IsReal ((m ((c : Thread nD τ).loc main_arg2) : FVec Ideal S8448x1024 .f32) i)) :
    (dats m 0 c).arrAt 2 (cfgs 0).N = Cert.GateFirstRefIdeal.Value.ref (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  have ht : t.val < 33 := t.isLt
  by_cases hA : t.val % 33 = 0
  on_goal 2 => by_cases hB : t.val < 31
  on_goal 1 => rw [outsAt0_A m c t hA (by omega)]
  on_goal 2 => rw [outsAt0_B m c t hA hB]
  on_goal 3 => rw [outsAt0_C m c t hA hB]
  all_goals
    frame_out
    canon_tiles x h
    · open_payloads; pointwise
      rw [Cert.GateFirstRefIdeal.Value.ref_right _ _ _ _ (row t (x 0)) (x 1) (by refine Eq.trans ?_ (row_val t (x 0)).symm; blk_simp [idx t]; omega) (by blk_simp [idx t]; omega), dg_eq m c t (x 0) (x 1)]
      simp only [slot_lo m c t]
      exact Cert.GateFirstRefIdeal.Value.hi_eq (Cert.GateFirstRefIdeal.Value.isReal_dg _ _ hw hd _ _) (hg _)
    · open_payloads; pointwise
      rw [Cert.GateFirstRefIdeal.Value.ref_left _ _ _ _ (row t (x 0)) (x 1) (by refine Eq.trans ?_ (row_val t (x 0)).symm; blk_simp [idx t]; omega) (by blk_simp [idx t]; omega), dg_eq m c t (x 0) (x 1)]
      simp only [slot_lo m c t, slot_hi m c t]
      exact Cert.GateFirstRefIdeal.Value.lo_eq (Cert.GateFirstRefIdeal.Value.isReal_dg _ _ hw hd _ _) (hg _) (hg _)

end Cert.GateFirstIdeal.Value

end
-- ==== Proof.DownFirst.lean ====
/- The gradient of the down projection's weights, in the first layer: the call's result array is the reference's term of the
   arguments, index by index. -/
module

public import proofs.«01_k».proof.Proof.Gen.DownFirstIdeal.Frame
public import proofs.«01_k».proof.Proof.Gen.DownFirstRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownFirstRefIdeal.Value

open Cert.DownFirstRefIdeal Cert.DownFirstRefIdeal.Gen

/-- The gated rows `silu(a) * b`, as both programs compute them before the product. -/
def gated (gu : FVec Ideal S8448x5632 .f32) : FVec Ideal S8448x2816 .f32 :=
  mulf (mulf (extractStridedSlice S8448x2816 ![0, 0] gu slices_S8448x5632_S8448x2816_0_0) (Host.divf (broadcastInDim S8448x2816 ![] bcast_S_S8448x2816 (constant S_ .f32 0x3F800000#32)) (addf (broadcastInDim S8448x2816 ![] bcast_S_S8448x2816 (constant S_ .f32 0x3F800000#32)) (Host.exp (Host.negf (extractStridedSlice S8448x2816 ![0, 0] gu slices_S8448x5632_S8448x2816_0_0)))))) (extractStridedSlice S8448x2816 ![0, 2816] gu slices_S8448x5632_S8448x2816_0_2816)

/-- The reference's result: the halved gradient's product with the gated rows, summed over the rows. -/
def ref (s : FVec Ideal S8448x2816 .f32) (d : FVec Ideal S8448x1024 .f32) : FVec Ideal S2816x1024 .bf16 :=
  truncf .bf16 (transpose S2816x1024 [1, 0] (Host.dotGeneral dot_S8448x1024_S8448x2816_S1024x2816_0_0_1_1_n_n none (mulf (broadcastInDim S8448x1024 ![] bcast_S_S8448x1024 (constant S_ .f32 0x3F000000#32)) d) s) transposes_S1024x2816_S2816x1024_1_0) bitsLt_bf16_f32

theorem ref_apply (s : FVec Ideal S8448x2816 .f32) (d : FVec Ideal S8448x1024 .f32) (j : S2816x1024.Idx) :
    ref s d j = ∑ k : Fin 8448, s (ix2 k (j 0)) * (Ideal.ofBits .f32 0x3F000000#32 * d (ix2 k (j 1))) := by
  pointwise [ref]
  exact Finset.sum_congr rfl fun k _ => mul_comm (_ : EReal) _

end Cert.DownFirstRefIdeal.Value

namespace Cert.DownFirstIdeal.Value

open Cert.DownFirstIdeal Cert.DownFirstIdeal.Gen

variable (m : (ℓ : Loc nD τ sig) → Buf (Elt Ideal) ℓ)

theorem zero_apply (j) : k0_pay1 (F := Ideal) j = 0 := by pointwise [k0_pay1]

theorem step_apply (x0 : FVec Ideal S768x2816 .bf16) (x1 : FVec Ideal S768x1024 .f32) (acc : FVec Ideal S2816x1024 .f32) (j) :
    k0_pay2 x0 x1 acc j = acc j + ∑ k : Fin 768, x0 (ix2 k (j 0)) * (Ideal.ofBits .f32 0x3F000000#32 * x1 (ix2 k (j 1))) := by
  pointwise [k0_pay2]

theorem out_apply (acc : FVec Ideal S2816x1024 .f32) (j) : (k0_pay3 (F := Ideal) acc j : EReal) = acc j := by pointwise [k0_pay3]

theorem idx : ∀ t : Fin cfg0.N, win0_0.index t = ![t.val % 11, 0] ∧ win0_1.index t = ![t.val % 11, t.val / 11]
    ∧ win0_2.index t = ![0, t.val / 11] :=
  (by decide +kernel : ∀ t : Fin grid0.N, _)

/-- At a point that writes its block back, the block is the rounded accumulator. -/
theorem out_eq (c : Dev nD) (t : Fin cfg0.N) (h : t.val % 11 = 10) :
    (outsAt0 m c t.val t.isLt).1 = k0_pay3 (outsAt0 m c t.val t.isLt).2 := by
  rw [outsAt0_C m c t (by omega) h]
  frame_out

/-- The first operand of the call: the cast of the gated rows. -/
theorem V_gated (c : Dev nD) : V m c main_v4 = (truncf (F := Ideal) .bf16 (Cert.DownFirstRefIdeal.Value.gated (m ((c : Thread nD τ).loc main_arg0)) : FVec Ideal S8448x2816 .f32) bitsLt_bf16_f32 : FVec Ideal S8448x2816 .bf16) := by
  entry_read
  rfl

theorem final (c : Dev nD) : (dats m 0 c).arrAt 2 (cfgs 0).N
    = Cert.DownFirstRefIdeal.Value.ref (Cert.DownFirstRefIdeal.Value.gated (m ((c : Thread nD τ).loc main_arg0)))
      (m ((c : Thread nD τ).loc main_arg2)) := by
  have hn := V_gated m c
  generalize Cert.DownFirstRefIdeal.Value.gated _ = n at hn ⊢
  refine (dats m 0 c).arrAt_eq_of_covers 2 _ (by decide +kernel) fun t hf y => ?_
  blk_simp
  rw [after0_2, out_eq m c t ((flush0_2 t).mp hf), out_apply,
    Pipeline.eq_sum_fin_of_reset_step_apply_of_flush (fun n h => (outsAt0 m c n h).2) 11 (fun _ => 0) _
    (fun t h j => by rw [outsAt0_A m c t h (by omega)]; frame_out; rw [step_apply, zero_apply])
    (fun t h j => by
      by_cases h3 : t.val % 11 = 10
      · rw [outsAt0_C m c t h h3]; frame_out; rw [step_apply]; rw [read_unread_whole]
      · rw [outsAt0_B m c t h h3]; frame_out; rw [step_apply]; rw [read_unread_whole])
    t ((flush0_2 t).mp hf) _, zero_add, Cert.DownFirstRefIdeal.Value.ref_apply]
  refine Fin.sum_mul_add_congr fun s k hl => ?_
  blk_point [iblk, V_main_arg2, hn, idx t, idx ⟨_, Pipeline.run_point_lt_of_flush t ((flush0_2 t).mp hf) s⟩]

end Cert.DownFirstIdeal.Value

end
-- ==== Proof.NormFirst.lean ====
/- The gradient through the feed-forward block's normalisation and first product, in the first layer: each row block multiplies its
   gradient with the transposed weights in four chunks, passes the product through the normalisation, adds the residual's
   gradient, and sums the weight vector's gradient over the row blocks. -/
module

public import proofs.«01_k».proof.Proof.Gen.NormFirstIdeal.Value
public import proofs.«01_k».proof.Proof.Gen.NormFirstRefIdeal.Read
public import proofs.«01_k».proof.Proof.NormMath
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 8192

noncomputable section

open Idealize.ShloMosaic Idealize.ShloMosaic.TcCoe Idealize.SL.Sem
open Idealize.ShloMosaic.Pipeline (Dat)
open Cert.Reals

namespace Cert.NormFirstRefIdeal.Value

open Cert.NormFirstRefIdeal Cert.NormFirstRefIdeal.Gen

/-- The gradient of the normalised rows at an index: the gradient of the product's rows times the transposed weights. -/
def dn (d : FVec Ideal S8448x5632 .f32) (w : FVec Ideal S1024x5632 .f32) (r : Fin 8448) (j : Fin 1024) : EReal :=
  ∑ k : Fin 5632, d (ix2 r k) * w (ix2 j k)

/-- The mean square of a row and the constant. -/
def var (h : FVec Ideal S8448x1024 .f32) (r : Fin 8448) : EReal :=
  Ideal.div (∑ x : Fin 1024, h (ix2 r x) * h (ix2 r x)) (Ideal.ofBits .f32 0x44800000#32) + Ideal.ofBits .f32 0x358637BD#32

/-- The gradient of the rows. -/
def ref0 (h : FVec Ideal S8448x1024 .f32) (g : FVec Ideal S1024 .f32) (w : FVec Ideal S1024x5632 .f32) (ct : FVec Ideal S8448x1024 .f32) (d : FVec Ideal S8448x5632 .f32) : FVec Ideal S8448x1024 .f32 :=
  fun j => dh (fun x => h (ix2 (j 0) x)) (fun x => dn d w (j 0) x * g (ix1 x)) (Ideal.rsqrt (var h (j 0))) (var h (j 0)) (ct j) (j 1)

/-- The gradient of the weight vector. -/
def ref1 (h : FVec Ideal S8448x1024 .f32) (w : FVec Ideal S1024x5632 .f32) (d : FVec Ideal S8448x5632 .f32) : FVec Ideal S1x1024 .f32 :=
  fun j => ∑ r : Fin 8448, h (ix2 r (j 1)) * Ideal.rsqrt (var h r) * dn d w r (j 1)

/-- The product over all columns is the sum over its four chunks. -/
theorem dn_split (d : FVec Ideal S8448x5632 .f32) (w : FVec Ideal S1024x5632 .f32) (r : Fin 8448) (j : Fin 1024) :
    dn d w r j = ((∑ k : Fin 1408, d (ix2 r ⟨k.val, by omega⟩) * w (ix2 j ⟨k.val, by omega⟩)) + (∑ k : Fin 1408, d (ix2 r ⟨1408 + k.val, by omega⟩) * w (ix2 j ⟨1408 + k.val, by omega⟩))
      + (∑ k : Fin 1408, d (ix2 r ⟨2816 + k.val, by omega⟩) * w (ix2 j ⟨2816 + k.val, by omega⟩))) + (∑ k : Fin 1408, d (ix2 r ⟨4224 + k.val, by omega⟩) * w (ix2 j ⟨4224 + k.val, by omega⟩)) := by
  have h : ∑ s : Fin 4, ∑ k : Fin 1408, (d (ix2 r ⟨s.val * 1408 + k.val, by omega⟩) * w (ix2 j ⟨s.val * 1408 + k.val, by omega⟩) : EReal) = ∑ k : Fin 5632, (d (ix2 r k) * w (ix2 j k) : EReal) :=
    Fin.sum_mul_add_congr fun s k hl => rfl
  rw [Fin.sum_univ_four] at h
  rw [dn, ← h]
  simp only [Fin.val_zero, Nat.zero_mul, Nat.zero_add]
  rfl

variable (m : (ℓ : Loc nD τ sig) → Buf (Elt Ideal) ℓ)

theorem res0_eq (c : Dev nD) : (res_out0 m c : FVec Ideal S8448x1024 .f32)
    = ref0 (m ((c : Thread nD τ).loc main_arg0)) (m ((c : Thread nD τ).loc main_arg1)) (m ((c : Thread nD τ).loc main_arg2)) (m ((c : Thread nD τ).loc main_arg3)) (m ((c : Thread nD τ).loc main_arg4)) := by
  funext j
  pointwise [res_main_v38, ref0, dn, var, dh]
  simp only [Finset.univ_unique, Finset.sum_singleton]

/-- The second result's term, as the reference's run states it, is the weight vector's gradient. -/
theorem res1_eq (h : FVec Ideal S8448x1024 .f32) (w : FVec Ideal S1024x5632 .f32) (d : FVec Ideal S8448x5632 .f32) :
    broadcastInDim S1x1024 ![1] bcast_S1024_S1x1024_1 (Host.reduceAdd (shapeCast S1x1024 (Host.reduceAdd (mulf (mulf h (broadcastInDim S8448x1024 ![0, 1] bcast_S8448x1_S8448x1024_0_1 (Host.rsqrt (addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (Host.dotGeneral dot_S8448x5632_S1024x5632_S8448x1024_1_1_0_0_n_n none d w)) (constant S_ .f32 0x00000000#32) reducesTo_S8448x1024_S1024_d0 h_S_) shapeCasts_S1024_S1x1024) (constant S_ .f32 0x00000000#32) reducesTo_S1x1024_S1024_d0 h_S_)
      = ref1 h w d := by
  funext j
  pointwise [ref1, dn, var]
  simp only [Finset.univ_unique, Finset.sum_singleton]

end Cert.NormFirstRefIdeal.Value

namespace Cert.NormFirstIdeal.Value

open Cert.NormFirstIdeal Cert.NormFirstIdeal.Gen
open Cert.NormFirstRefIdeal.Value (dn var ref0 ref1 dn_split)

/-- What a row block stores of the rows' gradient. -/
theorem pay0_apply (x1 : FVec Ideal S384x1024 .f32) (x2 : FVec Ideal S1x1024 .f32) (x3 : FVec Ideal S384x1024 .f32)
    (D : FVec Ideal S384x1024 .f32) (j) :
    k0_pay3 D x1 (k0_pay7 x2) (k0_pay8 x1) (FloatOps.ofBits FTy.f32 0x44800000#32) x3 j
      = dh (fun x => x1 (ix2 (j 0) x)) (fun x => D (ix2 (j 0) x) * x2 (ix2 0 x))
        (Ideal.rsqrt (Ideal.div (∑ x : Fin 1024, x1 (ix2 (j 0) x) * x1 (ix2 (j 0) x)) (Ideal.ofBits .f32 0x44800000#32) + Ideal.ofBits .f32 0x358637BD#32))
        (Ideal.div (∑ x : Fin 1024, x1 (ix2 (j 0) x) * x1 (ix2 (j 0) x)) (Ideal.ofBits .f32 0x44800000#32) + Ideal.ofBits .f32 0x358637BD#32) (x3 j) (j 1) := by
  refine Eq.trans ?_ (dh_eq (fun x : Fin 1024 => x1 (ix2 (j 0) x)) (fun x => D (ix2 (j 0) x) * x2 (ix2 0 x)) _ (x3 j) (j 1) (mean_square fun x : Fin 1024 => x1 (ix2 (j 0) x)))
  pointwise [k0_pay3, k0_pay7, k0_pay8, k0_pay2, k0_pay1]

/-- What a row block adds to the weight vector's gradient. -/
theorem pay1_apply (x1 : FVec Ideal S384x1024 .f32) (D : FVec Ideal S384x1024 .f32) (acc : FVec Ideal S1x1024 .f32) (j) :
    k0_pay5 D x1 (k0_pay8 x1) (FloatOps.ofBits FTy.f32 0x44800000#32) acc j
      = acc j + ∑ r : Fin 384, D (ix2 r (j 1)) * (x1 (ix2 r (j 1)) *
        Ideal.rsqrt (Ideal.div (∑ x : Fin 1024, x1 (ix2 r x) * x1 (ix2 r x)) (Ideal.ofBits .f32 0x44800000#32) + Ideal.ofBits .f32 0x358637BD#32)) := by
  pointwise [k0_pay5, k0_pay8, k0_pay2, k0_pay1]

theorem zero_apply (j) : k0_pay4 (F := Ideal) j = 0 := by pointwise [k0_pay4]

/-- The four chunks' products. -/
theorem pay6_apply (x0 : FVec Ideal S384x5632 .bf16) (x4 : FVec Ideal S4x1024x1408 .bf16) (j) :
    (k0_pay6 (View.ld x0 (Rect.unit (s := S384x5632) ![0, 0] S384x1408.size inb_S384x5632_S384x1408_0_0))
        (View.ld x4 (Rect.unit (s := S4x1024x1408) ![0, 0, 0] S1x1024x1408.size inb_S4x1024x1408_S1x1024x1408_0_0_0))
        (View.ld x0 (Rect.unit (s := S384x5632) ![0, 1408] S384x1408.size inb_S384x5632_S384x1408_0_1408))
        (View.ld x4 (Rect.unit (s := S4x1024x1408) ![1, 0, 0] S1x1024x1408.size inb_S4x1024x1408_S1x1024x1408_1_0_0))
        (View.ld x0 (Rect.unit (s := S384x5632) ![0, 2816] S384x1408.size inb_S384x5632_S384x1408_0_2816))
        (View.ld x4 (Rect.unit (s := S4x1024x1408) ![2, 0, 0] S1x1024x1408.size inb_S4x1024x1408_S1x1024x1408_2_0_0))
        (View.ld x0 (Rect.unit (s := S384x5632) ![0, 4224] S384x1408.size inb_S384x5632_S384x1408_0_4224))
        (View.ld x4 (Rect.unit (s := S4x1024x1408) ![3, 0, 0] S1x1024x1408.size inb_S4x1024x1408_S1x1024x1408_3_0_0)) : FVec Ideal S384x1024 .f32) j
      = ((∑ k : Fin 1408, (x0 (ix2 (j 0) ⟨k.val, by omega⟩) * x4 (ix3 0 (j 1) k) : EReal)) + (∑ k : Fin 1408, (x0 (ix2 (j 0) ⟨1408 + k.val, by omega⟩) * x4 (ix3 1 (j 1) k) : EReal))
      + (∑ k : Fin 1408, (x0 (ix2 (j 0) ⟨2816 + k.val, by omega⟩) * x4 (ix3 2 (j 1) k) : EReal))) + (∑ k : Fin 1408, (x0 (ix2 (j 0) ⟨4224 + k.val, by omega⟩) * x4 (ix3 3 (j 1) k) : EReal)) := by
  pointwise [k0_pay6]

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0] ∧ win0_4.index t = ![0, 0, 0] ∧ win0_5.index t = ![t.val, 0] ∧ win0_6.index t = ![0, 0] := by
  decide +kernel

theorem V_ct (c : Dev nD) : V m c main_v3 = (truncf (F := Ideal) .bf16 (m ((c : Thread nD τ).loc main_arg4) : FVec Ideal S8448x5632 .f32) bitsLt_bf16_f32 : FVec Ideal S8448x5632 .bf16) := by
  unfold V; after_results; try rfl

/-- The weight's chunks: element `(s, j, k)` is column `s * 1408 + k` of row `j`. -/
theorem V_w (c : Dev nD) (s : Fin 4) (j : Fin 1024) (k : Fin 1408) :
    ((V m c main_v2 : FVec Ideal S4x1024x1408 .bf16) (ix3 s j k) : EReal) = (m ((c : Thread nD τ).loc main_arg2) : FVec Ideal S1024x5632 .f32) (ix2 j ⟨s.val * 1408 + k.val, by omega⟩) := by
  entry_read
  show truncf (F := Ideal) .bf16 (transpose S4x1024x1408 [1, 0, 2] (shapeCast S1024x4x1408 (m ((c : Thread nD τ).loc main_arg2) : FVec Ideal S1024x5632 .f32) shapeCasts_S1024x5632_S1024x4x1408) transposes_S1024x4x1408_S4x1024x1408_1_0_2) bitsLt_bf16_f32 (ix3 s j k) = _
  pointwise

theorem V_g (c : Dev nD) (j : Fin 1024) :
    ((V m c main_v4 : FVec Ideal S1x1024 .f32) (ix2 0 j) : EReal) = (m ((c : Thread nD τ).loc main_arg1) : FVec Ideal S1024 .f32) (ix1 j) := by
  entry_read
  pointwise

/-- The row of the whole array that a point's row is. -/
def row (t : Fin cfg0.N) (r : Fin 384) : Fin 8448 := ⟨t.val * 384 + r.val, by have h1 : t.val < 22 := lt_of_lt_of_eq t.isLt N_0; omega⟩

theorem row_val (t : Fin cfg0.N) (r : Fin 384) : (row t r).val = t.val * 384 + r.val := rfl

/-- A point's four products are its rows of the gradient of the normalised rows. -/
theorem pay6_eq (c : Dev nD) (t : Fin cfg0.N) (j) :
    (k0_pay6 (View.ld (iblk m c 0 t) (Rect.unit (s := S384x5632) ![0, 0] S384x1408.size inb_S384x5632_S384x1408_0_0))
        (View.ld (iblk m c 4 t) (Rect.unit (s := S4x1024x1408) ![0, 0, 0] S1x1024x1408.size inb_S4x1024x1408_S1x1024x1408_0_0_0))
        (View.ld (iblk m c 0 t) (Rect.unit (s := S384x5632) ![0, 1408] S384x1408.size inb_S384x5632_S384x1408_0_1408))
        (View.ld (iblk m c 4 t) (Rect.unit (s := S4x1024x1408) ![1, 0, 0] S1x1024x1408.size inb_S4x1024x1408_S1x1024x1408_1_0_0))
        (View.ld (iblk m c 0 t) (Rect.unit (s := S384x5632) ![0, 2816] S384x1408.size inb_S384x5632_S384x1408_0_2816))
        (View.ld (iblk m c 4 t) (Rect.unit (s := S4x1024x1408) ![2, 0, 0] S1x1024x1408.size inb_S4x1024x1408_S1x1024x1408_2_0_0))
        (View.ld (iblk m c 0 t) (Rect.unit (s := S384x5632) ![0, 4224] S384x1408.size inb_S384x5632_S384x1408_0_4224))
        (View.ld (iblk m c 4 t) (Rect.unit (s := S4x1024x1408) ![3, 0, 0] S1x1024x1408.size inb_S4x1024x1408_S1x1024x1408_3_0_0)) : FVec Ideal S384x1024 .f32) j
      = dn (m ((c : Thread nD τ).loc main_arg4)) (m ((c : Thread nD τ).loc main_arg2)) (row t (j 0)) (j 1) := by
  refine (pay6_apply (iblk m c 0 t) (iblk m c 4 t) j).trans ?_
  refine Eq.trans ?_ (dn_split _ _ _ _).symm
  refine congrArg₂ (· + ·) (congrArg₂ (· + ·) (congrArg₂ (· + ·) ?_ ?_) ?_) ?_
  all_goals
    refine Fin.sum_fin_congr fun k => ?_
    blk_point [iblk, V_ct, V_w, idx t, row]

theorem dh_congr {h h' T T' : Fin 1024 → EReal} {V V' ct ct' : EReal} {j j' : Fin 1024} (e1 : ∀ x, h x = h' x) (e2 : ∀ x, T x = T' x) (e3 : V = V') (e4 : ct = ct') (e5 : j = j') :
    dh h T (Ideal.rsqrt V) V ct j = dh h' T' (Ideal.rsqrt V') V' ct' j' := by
  obtain rfl : h = h' := funext e1
  obtain rfl : T = T' := funext e2
  subst e3 e4 e5; rfl

theorem var_eq (c : Dev nD) (t : Fin cfg0.N) (r : Fin 384) :
    Ideal.div (∑ x : Fin 1024, (show FVec Ideal S384x1024 .f32 from iblk m c 1 t) (ix2 r x) * (show FVec Ideal S384x1024 .f32 from iblk m c 1 t) (ix2 r x)) (Ideal.ofBits .f32 0x44800000#32) + Ideal.ofBits .f32 0x358637BD#32
      = var (m ((c : Thread nD τ).loc main_arg0)) (row t r) := by
  refine congrArg (fun s => Ideal.div s (Ideal.ofBits .f32 0x44800000#32) + Ideal.ofBits .f32 0x358637BD#32) (Fin.sum_fin_congr fun x => ?_)
  blk_point [iblk, V_main_arg0, idx t, row]

theorem final0 (c : Dev nD) :
    (dats m 0 c).arrAt 5 (cfgs 0).N = ref0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have ht : t.val < 22 := t.isLt
  by_cases hA : t.val % 22 = 0
  on_goal 1 => rw [outsAt0_A m c t hA]
  on_goal 2 => rw [outsAt0_B m c t hA]
  all_goals
    frame_out
    refine (pay0_apply _ _ _ _ y).trans ?_
    have e0 : (((View.whole main_v5_0).slice (win0_5.rect t)).emb y 0) = row t (y 0) := Fin.ext (by refine Eq.trans ?_ (row_val t (y 0)).symm; blk_simp [idx t])
    have e1 : (((View.whole main_v5_0).slice (win0_5.rect t)).emb y 1) = (y 1) := Fin.ext (by blk_simp [idx t])
    refine dh_congr (fun x => ?_) (fun x => congrArg₂ (· * ·) ((pay6_eq m c t _).trans ?_) ?_) ((var_eq m c t (y 0)).trans ?_) ?_ ?_
    · blk_point [iblk, V_main_arg0, idx t]
    · exact congrArg₂ (dn _ _) e0.symm rfl
    · blk_point [iblk, V_g, idx t]
    · exact congrArg (var _) e0.symm
    · blk_point [iblk, V_main_arg3, idx t]
    · exact e1.symm

/-- What a row block adds to the weight vector's gradient, from the whole arrays. -/
def part (h : FVec Ideal S8448x1024 .f32) (w : FVec Ideal S1024x5632 .f32) (d : FVec Ideal S8448x5632 .f32) (t : Fin cfg0.N) (j : Fin 1024) : EReal :=
  ∑ r : Fin 384, dn d w (row t r) j * (h (ix2 (row t r) j) * Ideal.rsqrt (var h (row t r)))

theorem part_eq (c : Dev nD) (t : Fin cfg0.N) (D : FVec Ideal S384x1024 .f32) (hD : ∀ j, D j = dn (m ((c : Thread nD τ).loc main_arg4)) (m ((c : Thread nD τ).loc main_arg2)) (row t (j 0)) (j 1)) (acc : FVec Ideal S1x1024 .f32) (j) :
    k0_pay5 D (iblk m c 1 t) (k0_pay8 (iblk m c 1 t)) (FloatOps.ofBits FTy.f32 0x44800000#32) acc j
      = acc j + part (m ((c : Thread nD τ).loc main_arg0)) (m ((c : Thread nD τ).loc main_arg2)) (m ((c : Thread nD τ).loc main_arg4)) t (j 1) := by
  refine (pay1_apply _ _ _ _).trans (congrArg (acc j + ·) (Fin.sum_fin_congr fun r => congrArg₂ (· * ·) (hD _) (congrArg₂ (· * ·) ?_ (congrArg Ideal.rsqrt (var_eq m c t r)))))
  blk_point [iblk, V_main_arg0, idx t, row]

theorem final1 (c : Dev nD) :
    (dats m 0 c).arrAt 6 (cfgs 0).N = ref1 (m ((c : Thread nD τ).loc main_arg0)) (m ((c : Thread nD τ).loc main_arg2)) (m ((c : Thread nD τ).loc main_arg4)) := by
  refine (dats m 0 c).arrAt_eq_of_covers 6 _ (by decide +kernel) fun t hf y => ?_
  blk_simp
  rw [after0_6]
  rw [Pipeline.eq_sum_fin_of_reset_step_apply_of_flush (fun n h => (outsAt0 m c n h).2) 22 (fun _ => 0)
    (fun t j => part (m ((c : Thread nD τ).loc main_arg0)) (m ((c : Thread nD τ).loc main_arg2)) (m ((c : Thread nD τ).loc main_arg4)) t (j 1))
    (fun t h j => by
      rw [outsAt0_A m c t h]; frame_out
      refine (part_eq m c t _ (pay6_eq m c t) _ _).trans ?_
      rw [zero_apply])
    (fun t h j => by
      rw [outsAt0_B m c t h]; frame_out
      exact part_eq m c t _ (pay6_eq m c t) _ _)
    t ((flush0_6 t).mp hf) _, zero_add]
  have ht : t.val < 22 := t.isLt
  have e : ((win0_6.blk t).view.emb y 1) = y 1 := Fin.ext (by blk_simp [idx t])
  refine Fin.sum_mul_add_congr fun s k hl => ?_
  have hr : row ⟨22 * (t.val / 22) + s.val, Pipeline.run_point_lt_of_flush t ((flush0_6 t).mp hf) s⟩ k = ⟨s.val * 384 + k.val, hl⟩ :=
    Fin.ext (by rw [row_val]; show (22 * (t.val / 22) + s.val) * 384 + k.val = s.val * 384 + k.val; rw [Nat.div_eq_of_lt ht]; omega)
  rw [hr, e, mul_comm]

end Cert.NormFirstIdeal.Value

end
-- ==== Proof.UpFirst.lean ====
/- The gradient of the gate and up projections' weights, in the first layer: the call's result array is the reference's term of the
   arguments, index by index. -/
module

public import proofs.«01_k».proof.Proof.Gen.UpFirstIdeal.Frame
public import proofs.«01_k».proof.Proof.Gen.UpFirstRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpFirstRefIdeal.Value

open Cert.UpFirstRefIdeal Cert.UpFirstRefIdeal.Gen

/-- The normalized rows of the block's input, as both programs compute them before the product. -/
def normed (h : FVec Ideal S8448x1024 .f32) (g : FVec Ideal S1024 .f32) : FVec Ideal S8448x1024 .f32 :=
  mulf (mulf h (broadcastInDim S8448x1024 ![0, 1] bcast_S8448x1_S8448x1024_0_1 (Host.rsqrt (addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 (broadcastInDim S1x1024 ![1] bcast_S1024_S1x1024_1 g))

/-- The reference's result: the rows' product summed over the rows, transposed, cut by chips. -/
def ref (n : FVec Ideal S8448x1024 .f32) (d : FVec Ideal S8448x5632 .f32) : FVec Ideal S4x1408x1024 .bf16 :=
  truncf .bf16 (shapeCast S4x1408x1024 (transpose S5632x1024 [1, 0] (transpose S1024x5632 [1, 0] (Host.dotGeneral dot_S8448x5632_S8448x1024_S5632x1024_0_0_1_1_n_n none d n) transposes_S5632x1024_S1024x5632_1_0) transposes_S1024x5632_S5632x1024_1_0) shapeCasts_S5632x1024_S4x1408x1024) bitsLt_bf16_f32

theorem ref_apply (n : FVec Ideal S8448x1024 .f32) (d : FVec Ideal S8448x5632 .f32) (j : S4x1408x1024.Idx) :
    ref n d j = ∑ k : Fin 8448, d (ix2 k ⟨(j 0).val * 1408 + (j 1).val, by
      have h0 : (j 0).val < 4 := (j 0).isLt
      have h1 : (j 1).val < 1408 := (j 1).isLt
      omega⟩) * n (ix2 k (j 2)) := by
  pointwise [ref]

end Cert.UpFirstRefIdeal.Value

namespace Cert.UpFirstIdeal.Value

open Cert.UpFirstIdeal Cert.UpFirstIdeal.Gen

variable (m : (ℓ : Loc nD τ sig) → Buf (Elt Ideal) ℓ)

theorem zero_apply (j) : k0_pay1 (F := Ideal) j = 0 := by pointwise [k0_pay1]

theorem step_apply (x0 : FVec Ideal S2816x1408 .bf16) (x1 : FVec Ideal S2816x1024 .bf16) (acc : FVec Ideal S1408x1024 .f32) (j) :
    k0_pay2 x0 x1 acc j = acc j + ∑ k : Fin 2816, x0 (ix2 k (j 0)) * x1 (ix2 k (j 1)) := by pointwise [k0_pay2]

theorem out_apply (acc : FVec Ideal S1408x1024 .f32) (j) : (k0_pay3 (F := Ideal) acc j : EReal) = acc (ix2 (j 1) (j 2)) := by pointwise [k0_pay3]

theorem idx : ∀ t : Fin cfg0.N, win0_0.index t = ![t.val % 3, t.val / 3] ∧ win0_1.index t = ![t.val % 3, 0]
    ∧ win0_2.index t = ![t.val / 3, 0, 0] :=
  (by decide +kernel : ∀ t : Fin grid0.N, _)

/-- At a point that writes its block back, the block is the rounded accumulator. -/
theorem out_eq (c : Dev nD) (t : Fin cfg0.N) (h : t.val % 3 = 2) :
    (outsAt0 m c t.val t.isLt).1 = k0_pay3 (outsAt0 m c t.val t.isLt).2 := by
  rw [outsAt0_C m c t (by omega) h]
  frame_out

/-- The first operand of the call: the cast of the gradient. -/
theorem V_ct (c : Dev nD) : V m c main_v14 = (truncf (F := Ideal) .bf16 (m ((c : Thread nD τ).loc main_arg3) : FVec Ideal S8448x5632 .f32) bitsLt_bf16_f32 : FVec Ideal S8448x5632 .bf16) := by
  unfold V; after_results; try rfl

/-- The second operand of the call: the cast of the normalized rows. -/
theorem V_normed (c : Dev nD) : V m c main_v13 = (truncf (F := Ideal) .bf16 (Cert.UpFirstRefIdeal.Value.normed (m ((c : Thread nD τ).loc main_arg0)) (m ((c : Thread nD τ).loc main_arg1)) : FVec Ideal S8448x1024 .f32) bitsLt_bf16_f32 : FVec Ideal S8448x1024 .bf16) := by
  unfold V; after_results; try rfl

theorem final (c : Dev nD) : (dats m 0 c).arrAt 2 (cfgs 0).N
    = Cert.UpFirstRefIdeal.Value.ref (Cert.UpFirstRefIdeal.Value.normed (m ((c : Thread nD τ).loc main_arg0)) (m ((c : Thread nD τ).loc main_arg1)))
      (m ((c : Thread nD τ).loc main_arg3)) := by
  have hn := V_normed m c
  generalize Cert.UpFirstRefIdeal.Value.normed _ _ = n at hn ⊢
  refine (dats m 0 c).arrAt_eq_of_covers 2 _ (by decide +kernel) fun t hf y => ?_
  blk_simp
  rw [after0_2, out_eq m c t ((flush0_2 t).mp hf), out_apply,
    Pipeline.eq_sum_fin_of_reset_step_apply_of_flush (fun n h => (outsAt0 m c n h).2) 3 (fun _ => 0) _
    (fun t h j => by rw [outsAt0_A m c t h (by omega)]; frame_out; rw [step_apply, zero_apply])
    (fun t h j => by
      by_cases h3 : t.val % 3 = 2
      · rw [outsAt0_C m c t h h3]; frame_out; rw [step_apply]; rw [read_unread_whole]
      · rw [outsAt0_B m c t h h3]; frame_out; rw [step_apply]; rw [read_unread_whole])
    t ((flush0_2 t).mp hf) _, zero_add, Cert.UpFirstRefIdeal.Value.ref_apply]
  refine Fin.sum_mul_add_congr fun s k hl => ?_
  blk_point [iblk, V_ct, hn, idx t, idx ⟨_, Pipeline.run_point_lt_of_flush t ((flush0_2 t).mp hf) s⟩]

end Cert.UpFirstIdeal.Value

end
-- ==== Proof.LiftFirst.lean ====
/- The forward call of the gate and up projections: each row block is normalised once and multiplied with the four chunks
   of the weights; the normalised rows are a result as well. -/
module

public import proofs.«01_k».proof.Proof.Gen.LiftFirstIdeal.Frame
public import proofs.«01_k».proof.Proof.Gen.LiftFirstRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LiftFirstRefIdeal.Value

open Cert.LiftFirstRefIdeal Cert.LiftFirstRefIdeal.Gen

/-- The normalised rows. -/
def normed (h : FVec Ideal S8448x1024 .f32) (g : FVec Ideal S1024 .f32) : FVec Ideal S8448x1024 .f32 :=
  mulf (mulf h (broadcastInDim S8448x1024 ![0, 1] bcast_S8448x1_S8448x1024_0_1 (Host.rsqrt (addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 (broadcastInDim S1x1024 ![1] bcast_S1024_S1x1024_1 g))

/-- The normalised rows, rounded. -/
def refN (h : FVec Ideal S8448x1024 .f32) (g : FVec Ideal S1024 .f32) : FVec Ideal S8448x1024 .bf16 := truncf .bf16 (normed h g) bitsLt_bf16_f32

/-- The projections of the normalised rows. -/
def ref (h : FVec Ideal S8448x1024 .f32) (g : FVec Ideal S1024 .f32) (w : FVec Ideal S1024x5632 .f32) : FVec Ideal S8448x5632 .bf16 :=
  truncf .bf16 (Host.dotGeneral dot_S8448x1024_S1024x5632_S8448x5632_1_0_0_1_n_n none (normed h g) w) bitsLt_bf16_f32

/-- One element of the normalised rows, from its row, its own value and its gain. -/
def nrm (h : Fin 1024 → EReal) (x y : EReal) : EReal :=
  x * Ideal.rsqrt (Ideal.div (∑ k : Fin 1024, h k * h k) (Ideal.ofBits .f32 0x44800000#32) + Ideal.ofBits .f32 0x358637BD#32) * y

theorem nrm_congr {h h' : Fin 1024 → EReal} {x x' y y' : EReal} (e0 : ∀ k, h k = h' k) (e1 : x = x') (e2 : y = y') : nrm h x y = nrm h' x' y' := by
  obtain rfl : h = h' := funext e0
  subst e1 e2; rfl

theorem refN_apply (h : FVec Ideal S8448x1024 .f32) (g : FVec Ideal S1024 .f32) (j : S8448x1024.Idx) :
    refN h g j = nrm (fun k => h (ix2 (j 0) k)) (h j) (g (ix1 (j 1))) := by
  pointwise [refN, normed, nrm]

theorem ref_apply (h : FVec Ideal S8448x1024 .f32) (g : FVec Ideal S1024 .f32) (w : FVec Ideal S1024x5632 .f32) (j : S8448x5632.Idx) :
    ref h g w j = ∑ k : Fin 1024, nrm (fun k => h (ix2 (j 0) k)) (h (ix2 (j 0) k)) (g (ix1 k)) * w (ix2 k (j 1)) := by
  pointwise [ref, normed, nrm]

end Cert.LiftFirstRefIdeal.Value

namespace Cert.LiftFirstIdeal.Value

open Cert.LiftFirstIdeal Cert.LiftFirstIdeal.Gen
open Cert.LiftFirstRefIdeal.Value (nrm nrm_congr ref refN refN_apply ref_apply)

variable (m : (ℓ : Loc nD τ sig) → Buf (Elt Ideal) ℓ)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem pay2_apply (x0 : FVec Ideal S384x1024 .f32) (x1 : FVec Ideal S1x1024 .f32) (j) :
    k0_pay2 (F := Ideal) x0 x1 j = nrm (fun k => x0 (ix2 (j 0) k)) (x0 j) (x1 (ix2 0 (j 1))) := by pointwise [k0_pay2, nrm]

theorem pay1_apply (x0 : FVec Ideal S384x1024 .f32) (x1 : FVec Ideal S1x1024 .f32) (w : FVec Ideal S1x1024x1408 .bf16) (j) :
    k0_pay1 (k0_pay2 (F := Ideal) x0 x1) w j = ∑ k : Fin 1024, nrm (fun k => x0 (ix2 (j 0) k)) (x0 (ix2 (j 0) k)) (x1 (ix2 0 k)) * w (ix3 0 k (j 1)) := by
  pointwise [k0_pay1, k0_pay2, nrm]

theorem pay3_apply (x0 : FVec Ideal S384x1024 .f32) (x1 : FVec Ideal S1x1024 .f32) (w : FVec Ideal S1x1024x1408 .bf16) (j) :
    k0_pay3 (F := Ideal) x0 x1 w j = ∑ k : Fin 1024, nrm (fun k => x0 (ix2 (j 0) k)) (x0 (ix2 (j 0) k)) (x1 (ix2 0 k)) * w (ix3 0 k (j 1)) := by
  pointwise [k0_pay3, k0_pay2, nrm]

theorem pay4_apply (x0 : FVec Ideal S384x1024 .f32) (x1 : FVec Ideal S1x1024 .f32) (w : FVec Ideal S1x1024x1408 .bf16) (j) :
    k0_pay4 (F := Ideal) x0 x1 w j = ∑ k : Fin 1024, nrm (fun k => x0 (ix2 (j 0) k)) (x0 (ix2 (j 0) k)) (x1 (ix2 0 k)) * w (ix3 0 k (j 1)) := by
  pointwise [k0_pay4, k0_pay2, nrm]

theorem pay5_apply (x0 : FVec Ideal S384x1024 .f32) (x1 : FVec Ideal S1x1024 .f32) (w : FVec Ideal S1x1024x1408 .bf16) (j) :
    k0_pay5 (F := Ideal) x0 x1 w j = ∑ k : Fin 1024, nrm (fun k => x0 (ix2 (j 0) k)) (x0 (ix2 (j 0) k)) (x1 (ix2 0 k)) * w (ix3 0 k (j 1)) := by
  pointwise [k0_pay5, k0_pay2, nrm]

/-- The weight's chunks: element `(s, j, k)` is column `s * 1408 + k` of row `j`. -/
theorem V_w (c : Dev nD) (i : S4x1024x1408.Idx) :
    ((V m c main_v3 : FVec Ideal S4x1024x1408 .bf16) i : EReal) = (m ((c : Thread nD τ).loc main_arg2) : FVec Ideal S1024x5632 .f32) (ix2 (i 1) ⟨(i 0).val * 1408 + (i 2).val, by
      have h0 : (i 0).val < 4 := (i 0).isLt
      have h2 : (i 2).val < 1408 := (i 2).isLt
      omega⟩) := by
  entry_read
  show truncf (F := Ideal) .bf16 (transpose S4x1024x1408 [1, 0, 2] (shapeCast S1024x4x1408 (m ((c : Thread nD τ).loc main_arg2) : FVec Ideal S1024x5632 .f32) shapeCasts_S1024x5632_S1024x4x1408) transposes_S1024x4x1408_S4x1024x1408_1_0_2) bitsLt_bf16_f32 i = _
  pointwise

/-- The weight's chunks are staged whole at every point. -/
theorem iblk_w (c : Dev nD) (t : Fin cfg0.N) (i : S4x1024x1408.Idx) :
    ((show FVec Ideal S4x1024x1408 .bf16 from iblk m c 2 t) i : EReal) = (m ((c : Thread nD τ).loc main_arg2) : FVec Ideal S1024x5632 .f32) (ix2 (i 1) ⟨(i 0).val * 1408 + (i 2).val, by
      have h0 : (i 0).val < 4 := (i 0).isLt
      have h2 : (i 2).val < 1408 := (i 2).isLt
      omega⟩) := by
  show ((V m c main_v3 : FVec Ideal S4x1024x1408 .bf16) ((win0_2.blk t).view.emb i) : EReal) = _
  rw [V_w]
  blk_point [idx t]

/-! The chunk that each product loads. -/

theorem chunk2 (k : Fin 1024) (q : Fin 1408) : r0_2.idx (ix3 0 k q) = ix3 0 k q := by
  funext a; refine Fin.ext ?_
  fin_cases a
  · rfl
  · show 0 + 1 * k.val = k.val
    omega
  · show 0 + 1 * q.val = q.val
    omega

theorem chunk4 (k : Fin 1024) (q : Fin 1408) : r0_4.idx (ix3 0 k q) = ix3 1 k q := by
  funext a; refine Fin.ext ?_
  fin_cases a
  · rfl
  · show 0 + 1 * k.val = k.val
    omega
  · show 0 + 1 * q.val = q.val
    omega

theorem chunk6 (k : Fin 1024) (q : Fin 1408) : r0_6.idx (ix3 0 k q) = ix3 2 k q := by
  funext a; refine Fin.ext ?_
  fin_cases a
  · rfl
  · show 0 + 1 * k.val = k.val
    omega
  · show 0 + 1 * q.val = q.val
    omega

theorem chunk8 (k : Fin 1024) (q : Fin 1408) : r0_8.idx (ix3 0 k q) = ix3 3 k q := by
  funext a; refine Fin.ext ?_
  fin_cases a
  · rfl
  · show 0 + 1 * k.val = k.val
    omega
  · show 0 + 1 * q.val = q.val
    omega

theorem ld2 (x : FVec Ideal S4x1024x1408 .bf16) (k : Fin 1024) (q : Fin 1408) : (x (r0_2.idx (ix3 0 k q)) : EReal) = x (ix3 0 k q) :=
  congrArg (fun i => (x i : EReal)) (chunk2 k q)

theorem ld4 (x : FVec Ideal S4x1024x1408 .bf16) (k : Fin 1024) (q : Fin 1408) : (x (r0_4.idx (ix3 0 k q)) : EReal) = x (ix3 1 k q) :=
  congrArg (fun i => (x i : EReal)) (chunk4 k q)

theorem ld6 (x : FVec Ideal S4x1024x1408 .bf16) (k : Fin 1024) (q : Fin 1408) : (x (r0_6.idx (ix3 0 k q)) : EReal) = x (ix3 2 k q) :=
  congrArg (fun i => (x i : EReal)) (chunk6 k q)

theorem ld8 (x : FVec Ideal S4x1024x1408 .bf16) (k : Fin 1024) (q : Fin 1408) : (x (r0_8.idx (ix3 0 k q)) : EReal) = x (ix3 3 k q) :=
  congrArg (fun i => (x i : EReal)) (chunk8 k q)

theorem V_g (c : Dev nD) (j : Fin 1024) :
    ((V m c main_v0 : FVec Ideal S1x1024 .f32) (ix2 0 j) : EReal) = (m ((c : Thread nD τ).loc main_arg1) : FVec Ideal S1024 .f32) (ix1 j) := by
  entry_read
  pointwise

/-- The normalised rows, the second result. -/
theorem final1 (c : Dev nD) : (dats m 0 c).arrAt 4 (cfgs 0).N = refN (m ((c : Thread nD τ).loc main_arg0)) (m ((c : Thread nD τ).loc main_arg1)) := by
  refine (dats m 0 c).arrAt_eq_of_covers 4 _ (by decide +kernel) fun t hf y => ?_
  blk_simp
  rw [after0_4]
  frame_out
  refine (pay2_apply _ _ _).trans ?_
  refine Eq.trans ?_ (refN_apply _ _ _).symm
  refine nrm_congr (fun k => ?_) ?_ ?_
  · blk_point [iblk, V_main_arg0, idx t]
  · blk_point [iblk, V_main_arg0, idx t]
  · blk_point [iblk, V_g, idx t]

/-- The projections, the first result. -/
theorem final0 (c : Dev nD) : (dats m 0 c).arrAt 3 (cfgs 0).N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  canon_tiles x h
  on_goal 1 => refine (pay1_apply _ _ _ _).trans ?_
  on_goal 2 => refine (pay5_apply _ _ _ _).trans ?_
  on_goal 3 => refine (pay4_apply _ _ _ _).trans ?_
  on_goal 4 => refine (pay3_apply _ _ _ _).trans ?_
  · refine Eq.trans ?_ (ref_apply _ _ _ _).symm
    refine Fin.sum_fin_congr fun k => congrArg₂ (· * ·) (nrm_congr (fun k => ?_) ?_ ?_) ((ld8 _ k (x 1)).trans ((iblk_w m c t _).trans ?_))
    · blk_point [iblk, V_main_arg0, idx t]
    · blk_point [iblk, V_main_arg0, idx t]
    · blk_point [iblk, V_g, idx t]
    · blk_point [idx t]
  · refine Eq.trans ?_ (ref_apply _ _ _ _).symm
    refine Fin.sum_fin_congr fun k => congrArg₂ (· * ·) (nrm_congr (fun k => ?_) ?_ ?_) ((ld6 _ k (x 1)).trans ((iblk_w m c t _).trans ?_))
    · blk_point [iblk, V_main_arg0, idx t]
    · blk_point [iblk, V_main_arg0, idx t]
    · blk_point [iblk, V_g, idx t]
    · blk_point [idx t]
  · refine Eq.trans ?_ (ref_apply _ _ _ _).symm
    refine Fin.sum_fin_congr fun k => congrArg₂ (· * ·) (nrm_congr (fun k => ?_) ?_ ?_) ((ld4 _ k (x 1)).trans ((iblk_w m c t _).trans ?_))
    · blk_point [iblk, V_main_arg0, idx t]
    · blk_point [iblk, V_main_arg0, idx t]
    · blk_point [iblk, V_g, idx t]
    · blk_point [idx t]
  · refine Eq.trans ?_ (ref_apply _ _ _ _).symm
    refine Fin.sum_fin_congr fun k => congrArg₂ (· * ·) (nrm_congr (fun k => ?_) ?_ ?_) ((ld2 _ k (x 1)).trans ((iblk_w m c t _).trans ?_))
    · blk_point [iblk, V_main_arg0, idx t]
    · blk_point [iblk, V_main_arg0, idx t]
    · blk_point [iblk, V_g, idx t]
    · blk_point [idx t]

end Cert.LiftFirstIdeal.Value

end
-- ==== Proof.MixFirst.lean ====
/- The forward call of the down projection: the rows beside half the gated rows' product with the weights, and the gated
   rows themselves, where the gate's half of the projected rows is real. -/
module

public import proofs.«01_k».proof.Proof.Gen.MixFirstIdeal.Frame
public import proofs.«01_k».proof.Proof.Gen.MixFirstRefIdeal.Run
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Reals

@[expose] public section

set_option maxRecDepth 16384

noncomputable section

open Idealize.ShloMosaic Idealize.ShloMosaic.TcCoe Idealize.SL.Sem
open Idealize.ShloMosaic.Pipeline (Dat)
open Cert.Reals

namespace Cert.MixFirstRefIdeal.Value

open Cert.MixFirstRefIdeal Cert.MixFirstRefIdeal.Gen

/-- The gated rows `silu(a) * b`. -/
def gated (gu : FVec Ideal S8448x5632 .f32) : FVec Ideal S8448x2816 .f32 :=
  mulf (mulf (extractStridedSlice S8448x2816 ![0, 0] gu slices_S8448x5632_S8448x2816_0_0) (Host.divf (broadcastInDim S8448x2816 ![] bcast_S_S8448x2816 (constant S_ .f32 0x3F800000#32)) (addf (broadcastInDim S8448x2816 ![] bcast_S_S8448x2816 (constant S_ .f32 0x3F800000#32)) (Host.exp (Host.negf (extractStridedSlice S8448x2816 ![0, 0] gu slices_S8448x5632_S8448x2816_0_0)))))) (extractStridedSlice S8448x2816 ![0, 2816] gu slices_S8448x5632_S8448x2816_0_2816)

/-- The second result: the gated rows, rounded. -/
def ref1 (gu : FVec Ideal S8448x5632 .f32) : FVec Ideal S8448x2816 .bf16 := truncf .bf16 (gated gu) bitsLt_bf16_f32

/-- The first result: the rows beside half the gated rows' product with the weights. -/
def ref0 (gu : FVec Ideal S8448x5632 .f32) (h : FVec Ideal S8448x1024 .f32) (w : FVec Ideal S2816x1024 .f32) : FVec Ideal S8448x1024 .f32 :=
  addf h (mulf (broadcastInDim S8448x1024 ![] bcast_S_S8448x1024 (constant S_ .f32 0x3F000000#32)) (Host.dotGeneral dot_S8448x2816_S2816x1024_S8448x1024_1_0_0_1_n_n none (gated gu) w))

/-- One gated element from its gate and its other value. -/
def ga (a b : EReal) : EReal := a * Ideal.div 1 (1 + Ideal.exp (-a)) * b

theorem ref1_apply (gu : FVec Ideal S8448x5632 .f32) (j : S8448x2816.Idx) :
    ref1 gu j = ga (gu (ix2 (j 0) ⟨(j 1).val, by have : (j 1).val < 2816 := (j 1).isLt; omega⟩)) (gu (ix2 (j 0) ⟨2816 + (j 1).val, by have : (j 1).val < 2816 := (j 1).isLt; omega⟩)) := by
  pointwise [ref1, gated, ga]

theorem ref0_apply (gu : FVec Ideal S8448x5632 .f32) (h : FVec Ideal S8448x1024 .f32) (w : FVec Ideal S2816x1024 .f32) (j : S8448x1024.Idx) :
    ref0 gu h w j = h j + Ideal.ofBits .f32 0x3F000000#32 * ∑ k : Fin 2816, ga (gu (ix2 (j 0) ⟨k.val, by omega⟩)) (gu (ix2 (j 0) ⟨2816 + k.val, by omega⟩)) * w (ix2 k (j 1)) := by
  pointwise [ref0, gated, ga]

/-- The second result at an index given by its row and column. -/
theorem ref1_at (gu : FVec Ideal S8448x5632 .f32) (j : S8448x2816.Idx) (r : Fin 8448) (f : Fin 2816) (h0 : (j 0).val = r.val) (h1 : (j 1).val = f.val) :
    ref1 gu j = ga (gu (ix2 r ⟨f.val, by omega⟩)) (gu (ix2 r ⟨2816 + f.val, by omega⟩)) := by
  obtain rfl : j 0 = r := Fin.ext h0
  rw [ref1_apply]
  simp only [h1]

/-- The first result at an index given by its row and column. -/
theorem ref0_at (gu : FVec Ideal S8448x5632 .f32) (h : FVec Ideal S8448x1024 .f32) (w : FVec Ideal S2816x1024 .f32) (j : S8448x1024.Idx) (r : Fin 8448) (h0 : (j 0).val = r.val) :
    ref0 gu h w j = h j + Ideal.ofBits .f32 0x3F000000#32 * ∑ k : Fin 2816, ga (gu (ix2 r ⟨k.val, by omega⟩)) (gu (ix2 r ⟨2816 + k.val, by omega⟩)) * w (ix2 k (j 1)) := by
  obtain rfl : j 0 = r := Fin.ext h0
  exact ref0_apply _ _ _ _

/-- The gated element as the kernel computes it, by the hyperbolic tangent. -/
theorem ga_eq {a : EReal} (ha : IsReal a) (b : EReal) :
    (a * Ideal.ofBits .bf16 0x3F00#16 + a * Ideal.ofBits .bf16 0x3F00#16 * Ideal.tanh (a * Ideal.ofBits .bf16 0x3F00#16)) * b = ga a b := by
  obtain ⟨a, rfl⟩ := ha
  rw [ga, half_bf16, sig_coe]
  simp only [← EReal.coe_mul, ← EReal.coe_add, Ideal.tanh_coe, logistic_eq]
  exact congrArg (· * b) (congrArg _ (by ring))

end Cert.MixFirstRefIdeal.Value

namespace Cert.MixFirstIdeal.Value

open Cert.MixFirstIdeal Cert.MixFirstIdeal.Gen
open Cert.MixFirstRefIdeal.Value (ga ga_eq ref0 ref1 ref0_at ref1_at)

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

theorem V_gu (c : Dev nD) : V m c main_v0 = (truncf (F := Ideal) .bf16 (m ((c : Thread nD τ).loc main_arg0) : FVec Ideal S8448x5632 .f32) bitsLt_bf16_f32 : FVec Ideal S8448x5632 .bf16) := by
  entry_read; rfl

theorem V_w (c : Dev nD) : V m c main_v1 = (truncf (F := Ideal) .bf16 (m ((c : Thread nD τ).loc main_arg2) : FVec Ideal S2816x1024 .f32) bitsLt_bf16_f32 : FVec Ideal S2816x1024 .bf16) := by
  entry_read; rfl

/-- The landed slot read at a box: the block of the rows that the point waits for. -/
theorem slot (c : Dev nD) (t : Fin cfg0.N) (B : LoadRect S256x5632) (x : B.shape.Idx) :
    (rslot0_0 (Fin.ofNat 3 t.val)).view.readCov
        [⟨Rect.whole S256x5632, ReadAs.same.apply (View.read (Elt Ideal) (srcB0_0 (Ring.bk 33 t.val)).view (V m c main_v0))⟩] B x
      = (m ((c : Thread nD τ).loc main_arg0) : FVec Ideal S8448x5632 .f32) (ix2 ⟨t.val * 256 + (B.idx x 0).val, by
          have h0 : (B.idx x 0).val < 256 := (B.idx x 0).isLt
          have h1 : t.val < 33 := lt_of_lt_of_eq t.isLt N_0
          omega⟩ (B.idx x 1)) := by
  unfold View.readCov
  rw [View.readAt_apply, View.read_writes_whole, V_gu]
  show (m ((c : Thread nD τ).loc main_arg0) : FVec Ideal S8448x5632 .f32) ((srcB0_0 (Ring.bk 33 t.val)).view.emb (B.idx x)) = _
  have hb : (Ring.bk 33 t.val).val = t.val := Ring.bk_val (lt_of_lt_of_eq t.isLt N_0)
  refine congrArg _ (funext fun a => Fin.ext ?_)
  fin_cases a
  · show 256 * (Ring.bk 33 t.val).val + 1 * (B.idx x 0).val = t.val * 256 + (B.idx x 0).val
    omega
  · show 0 + 1 * (B.idx x 1).val = (B.idx x 1).val
    omega

/-- The slot's left half. -/
theorem slot_lo (c : Dev nD) (t : Fin cfg0.N) (x : S256x2816.Idx) :
    (rslot0_0 (Fin.ofNat 3 t.val)).view.readCov
        [⟨Rect.whole S256x5632, ReadAs.same.apply (View.read (Elt Ideal) (srcB0_0 (Ring.bk 33 t.val)).view (V m c main_v0))⟩]
        (Rect.unit (s := S256x5632) ![0, 0] S256x2816.size inb_S256x5632_S256x2816_0_0).toLoadRect x
      = (m ((c : Thread nD τ).loc main_arg0) : FVec Ideal S8448x5632 .f32) (ix2 ⟨t.val * 256 + (x 0).val, by
          have h0 : (x 0).val < 256 := (x 0).isLt
          have h1 : t.val < 33 := lt_of_lt_of_eq t.isLt N_0
          omega⟩ ⟨(x 1).val, by have h0 : (x 1).val < 2816 := (x 1).isLt; omega⟩) := by
  rw [slot]
  refine congrArg _ (funext fun a => Fin.ext ?_)
  fin_cases a
  · show t.val * 256 + (0 + 1 * (x 0).val) = t.val * 256 + (x 0).val
    omega
  · show 0 + 1 * (x 1).val = (x 1).val
    omega

/-- The slot's right half. -/
theorem slot_hi (c : Dev nD) (t : Fin cfg0.N) (x : S256x2816.Idx) :
    (rslot0_0 (Fin.ofNat 3 t.val)).view.readCov
        [⟨Rect.whole S256x5632, ReadAs.same.apply (View.read (Elt Ideal) (srcB0_0 (Ring.bk 33 t.val)).view (V m c main_v0))⟩]
        (Rect.unit (s := S256x5632) ![0, 2816] S256x2816.size inb_S256x5632_S256x2816_0_2816).toLoadRect x
      = (m ((c : Thread nD τ).loc main_arg0) : FVec Ideal S8448x5632 .f32) (ix2 ⟨t.val * 256 + (x 0).val, by
          have h0 : (x 0).val < 256 := (x 0).isLt
          have h1 : t.val < 33 := lt_of_lt_of_eq t.isLt N_0
          omega⟩ ⟨2816 + (x 1).val, by have h0 : (x 1).val < 2816 := (x 1).isLt; omega⟩) := by
  rw [slot]
  refine congrArg _ (funext fun a => Fin.ext ?_)
  fin_cases a
  · show t.val * 256 + (0 + 1 * (x 0).val) = t.val * 256 + (x 0).val
    omega
  · show 2816 + 1 * (x 1).val = 2816 + (x 1).val
    omega

/-- The row of the whole array that a point's row is. -/
def row (t : Fin cfg0.N) (r : Fin 256) : Fin 8448 := ⟨t.val * 256 + r.val, by have h1 : t.val < 33 := lt_of_lt_of_eq t.isLt N_0; omega⟩

theorem row_val (t : Fin cfg0.N) (r : Fin 256) : (row t r).val = t.val * 256 + r.val := rfl

theorem final1 (c : Dev nD) (hg : ∀ (r : Fin 8448) (f : Fin 2816), IsReal ((m ((c : Thread nD τ).loc main_arg0) : FVec Ideal S8448x5632 .f32) (ix2 r ⟨f.val, by omega⟩))) :
    (dats m 0 c).arrAt 3 (cfgs 0).N = ref1 (m ((c : Thread nD τ).loc main_arg0)) := by
  refine (dats m 0 c).arrAt_eq_of_covers 3 _ (by decide +kernel) fun t hf y => ?_
  blk_simp
  rw [after0_3]
  have ht : t.val < 33 := t.isLt
  by_cases hA : t.val % 33 = 0
  on_goal 2 => by_cases hB : t.val < 31
  on_goal 1 => rw [outsAt0_A m c t hA (by omega)]
  on_goal 2 => rw [outsAt0_B m c t hA hB]
  on_goal 3 => rw [outsAt0_C m c t hA hB]
  all_goals
    frame_out
    open_payloads; pointwise
    rw [ref1_at _ _ (row t (y 0)) (y 1) (by refine Eq.trans ?_ (row_val t (y 0)).symm; blk_simp [idx t]; try omega) (by blk_simp [idx t]; try omega)]
    simp only [slot_lo m c t, slot_hi m c t]
    exact ga_eq (hg (row t (y 0)) (y 1)) _

/-- A gated element as the kernel computes it. -/
def gv (a b : EReal) : EReal :=
  (a * Ideal.ofBits .bf16 0x3F00#16 + a * Ideal.ofBits .bf16 0x3F00#16 * Ideal.tanh (a * Ideal.ofBits .bf16 0x3F00#16)) * b

theorem pay_apply (a b : FVec Ideal S256x2816 .bf16) (h : FVec Ideal S256x1024 .f32) (w : FVec Ideal S2816x1024 .bf16) (j) :
    k0_pay1 (k0_pay2 a b) h (k0_pay3 w) (constant S256x1024 .f32 0#32) j
      = h j + Ideal.ofBits .f32 0x3F000000#32 * ∑ k : Fin 2816, gv (a (ix2 (j 0) k)) (b (ix2 (j 0) k)) * w (ix2 k (j 1)) := by
  pointwise [k0_pay1, k0_pay2, k0_pay3, gv]

/-- A point's block of the first result, from the two halves of the rows it holds. -/
theorem point (c : Dev nD) (hg : ∀ (r : Fin 8448) (f : Fin 2816), IsReal ((m ((c : Thread nD τ).loc main_arg0) : FVec Ideal S8448x5632 .f32) (ix2 r ⟨f.val, by omega⟩)))
    (t : Fin cfg0.N) (a b : FVec Ideal S256x2816 .bf16)
    (ha : ∀ (r : Fin 256) (k : Fin 2816), a (ix2 r k) = (m ((c : Thread nD τ).loc main_arg0) : FVec Ideal S8448x5632 .f32) (ix2 (row t r) ⟨k.val, by omega⟩))
    (hb : ∀ (r : Fin 256) (k : Fin 2816), b (ix2 r k) = (m ((c : Thread nD τ).loc main_arg0) : FVec Ideal S8448x5632 .f32) (ix2 (row t r) ⟨2816 + k.val, by omega⟩))
    (y : S256x1024.Idx) (j : S8448x1024.Idx) (h0 : (j 0).val = (row t (y 0)).val) (h1 : (j 1).val = (y 1).val) :
    k0_pay1 (k0_pay2 a b) (iblk m c 0 t) (k0_pay3 (iblk m c 1 t)) (constant S256x1024 .f32 0#32) y
      = ref0 (m ((c : Thread nD τ).loc main_arg0)) (m ((c : Thread nD τ).loc main_arg1)) (m ((c : Thread nD τ).loc main_arg2)) j := by
  refine (pay_apply a b _ _ y).trans ?_
  rw [ref0_at _ _ _ j (row t (y 0)) h0]
  have h0' : (j 0).val = t.val * 256 + (y 0).val := h0.trans (row_val t (y 0))
  refine congrArg₂ (· + ·) ?_ (congrArg _ (Fin.sum_fin_congr fun k => congrArg₂ (· * ·) ?_ ?_))
  · blk_point [iblk, V_main_arg1, idx t]
  · rw [ha (y 0) k, hb (y 0) k]
    exact ga_eq (hg (row t (y 0)) k) _
  · blk_point [iblk, V_w, idx t]

theorem final0 (c : Dev nD) (hg : ∀ (r : Fin 8448) (f : Fin 2816), IsReal ((m ((c : Thread nD τ).loc main_arg0) : FVec Ideal S8448x5632 .f32) (ix2 r ⟨f.val, by omega⟩))) :
    (dats m 0 c).arrAt 2 (cfgs 0).N = ref0 (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  have ht : t.val < 33 := t.isLt
  by_cases hA : t.val % 33 = 0
  on_goal 2 => by_cases hB : t.val < 31
  on_goal 1 => rw [outsAt0_A m c t hA (by omega)]
  on_goal 2 => rw [outsAt0_B m c t hA hB]
  on_goal 3 => rw [outsAt0_C m c t hA hB]
  all_goals
    frame_out
    exact point m c hg t _ _ (fun r k => slot_lo m c t (ix2 r k)) (fun r k => slot_hi m c t (ix2 r k)) y _
      (by refine Eq.trans ?_ (row_val t (y 0)).symm; blk_simp [idx t]; try omega) (by blk_simp [idx t]; try omega)

end Cert.MixFirstIdeal.Value

end
-- ==== Proof.PairsFirst.lean ====
/- The value claims at 8448 rows: each kernel's final arrays beside the reference's run. -/
module

public import proofs.«01_k».proof.Defs
public import proofs.«01_k».proof.Proof.GateFirst
public import proofs.«01_k».proof.Proof.DownFirst
public import proofs.«01_k».proof.Proof.NormFirst
public import proofs.«01_k».proof.Proof.UpFirst
public import proofs.«01_k».proof.Proof.LiftFirst
public import proofs.«01_k».proof.Proof.MixFirst
public import proofs.«01_k».proof.Proof.Gen.Pre_finite3_first
public import proofs.«01_k».proof.Proof.Gen.Pre_finite_gate_first
public import Idealize.ShloMosaic.Lib.Claim
public import Idealize.ShloMosaic.Lib.ReduceAll

@[expose] public section

set_option maxRecDepth 16384

noncomputable section

namespace Cert.Proof

open Idealize.ShloMosaic Idealize.SL.Sem Cert.Reals

section
open Cert.Pre_finite3_first

/-- What the precondition says: every element of the three arrays is a real number. -/
theorem isReal_of_finite3_first (x : FVec Ideal S8448x5632 .f32) (w : FVec Ideal S2816x1024 .f32) (d : FVec Ideal S8448x1024 .f32)
    (h : ∀ i, fn x w d i = 1#1) : (∀ i, IsReal (x i)) ∧ (∀ i, IsReal (w i)) ∧ (∀ i, IsReal (d i)) := by
  have key : ∀ a b : BitVec 1, IntOp.andi a b = 1#1 → a = 1#1 ∧ b = 1#1 := by decide
  haveI : Subsingleton S_.Idx := ⟨fun a b => funext fun k => k.elim0⟩
  have h0 := h (fun i => i.elim0)
  dsimp only [fn] at h0
  obtain ⟨h1, h4⟩ := key _ _ h0
  obtain ⟨h2, h3⟩ := key _ _ h1
  exact ⟨fun i => isReal_of_lt x i _ (by rfl) (Host.reduce_andi_all _ _ _ _ _ h2 i),
    fun i => isReal_of_lt w i _ (by rfl) (Host.reduce_andi_all _ _ _ _ _ h3 i),
    fun i => isReal_of_lt d i _ (by rfl) (Host.reduce_andi_all _ _ _ _ _ h4 i)⟩

end

section
open Cert.Pre_finite_gate_first

/-- What the second precondition says: every element of the gate's half of the rows is a real number. -/
theorem isReal_of_finite_gate_first (x : FVec Ideal S8448x5632 .f32) (h : FVec Ideal S8448x1024 .f32) (w : FVec Ideal S2816x1024 .f32)
    (e : ∀ i, fn x h w i = 1#1) (r : Fin 8448) (f : Fin 2816) : IsReal (x (ix2 r ⟨f.val, by omega⟩)) := by
  haveI : Subsingleton S_.Idx := ⟨fun a b => funext fun k => k.elim0⟩
  have h0 := e (fun i => i.elim0)
  dsimp only [fn] at h0
  have h1 := isReal_of_lt (extractStridedSlice S8448x2816 ![0, 0] x Facts.slices_S8448x5632_S8448x2816_0_0) (ix2 r f) _ (by rfl) (Host.reduce_andi_all _ _ _ _ _ h0 (ix2 r f))
  have h2 : extractStridedSlice S8448x2816 ![0, 0] x Facts.slices_S8448x5632_S8448x2816_0_0 (ix2 r f) = x (ix2 r ⟨f.val, by omega⟩) := by pointwise
  rwa [h2] at h1

end

theorem gateFirst : Cert.algebraic_GateFirstIdeal_GateFirstRefIdeal_pre_finite3_first := by
  pair_intro
  · run_from Cert.GateFirstIdeal.Gen.run_main m g
  · have agree := hagree
    clear hagree
    run_from Cert.GateFirstRefIdeal.Value.run m' g'
    obtain ⟨h0, h1, h2⟩ := agree c
    refine Eq.trans (rfl : _ = Cert.GateFirstRefIdeal.Value.ref (m' ((c.tc : Thread Cert.GateFirstRefIdeal.nD Cert.GateFirstRefIdeal.τ).loc Cert.GateFirstRefIdeal.main_arg0)) (m' ((c.tc : Thread Cert.GateFirstRefIdeal.nD Cert.GateFirstRefIdeal.τ).loc Cert.GateFirstRefIdeal.main_arg1)) (m' ((c.tc : Thread Cert.GateFirstRefIdeal.nD Cert.GateFirstRefIdeal.τ).loc Cert.GateFirstRefIdeal.main_arg2))) ?_
    rw [h0, h1, h2]
    obtain ⟨r0, r1, r2⟩ := isReal_of_finite3_first _ _ _ fun i => congrFun (hpre c) i
    exact (Cert.GateFirstIdeal.Value.final m c r0 r1 r2).symm

theorem downFirst : Cert.algebraic_DownFirstIdeal_DownFirstRefIdeal := by
  pair_intro
  · run_from Cert.DownFirstIdeal.Gen.run_main m g
    · exact Cert.DownFirstIdeal.Gen.V_main_arg0 m c
    · exact Cert.DownFirstIdeal.Gen.V_main_arg1 m c
  · run_from Cert.DownFirstRefIdeal.Value.run m' g'
    exact (Cert.DownFirstIdeal.Value.final m c).symm

theorem normFirst : Cert.algebraic_NormFirstIdeal_NormFirstRefIdeal := by
  pair_intro
  · run_from Cert.NormFirstIdeal.Gen.run_main m g
  · have agree := hagree
    clear hagree
    run_from Cert.NormFirstRefIdeal.Value.run m' g'
    · obtain ⟨h0, h1, h2, h3, h4⟩ := agree c
      refine (Cert.NormFirstRefIdeal.Value.res0_eq m' c).trans ?_
      rw [h0, h1, h2, h3, h4]
      exact (Cert.NormFirstIdeal.Value.final0 m c).symm
    · obtain ⟨h0, h1, h2, h3, h4⟩ := agree c
      refine (Cert.NormFirstRefIdeal.Value.res1_eq _ _ _).trans ?_
      rw [h0, h2, h4]
      exact (Cert.NormFirstIdeal.Value.final1 m c).symm

theorem upFirst : Cert.algebraic_UpFirstIdeal_UpFirstRefIdeal := by
  pair_intro
  · run_from Cert.UpFirstIdeal.Gen.run_main m g
  · run_from Cert.UpFirstRefIdeal.Value.run m' g'
    exact (Cert.UpFirstIdeal.Value.final m c).symm

theorem liftFirst : Cert.algebraic_LiftFirstIdeal_LiftFirstRefIdeal := by
  pair_intro
  · run_from Cert.LiftFirstIdeal.Gen.run_main m g
  · have agree := hagree
    clear hagree
    run_from Cert.LiftFirstRefIdeal.Value.run m' g'
    · obtain ⟨h0, h1, h2⟩ := agree c
      refine Eq.trans (rfl : _ = Cert.LiftFirstRefIdeal.Value.ref (m' ((c.tc : Thread Cert.LiftFirstRefIdeal.nD Cert.LiftFirstRefIdeal.τ).loc Cert.LiftFirstRefIdeal.main_arg0)) (m' ((c.tc : Thread Cert.LiftFirstRefIdeal.nD Cert.LiftFirstRefIdeal.τ).loc Cert.LiftFirstRefIdeal.main_arg1)) (m' ((c.tc : Thread Cert.LiftFirstRefIdeal.nD Cert.LiftFirstRefIdeal.τ).loc Cert.LiftFirstRefIdeal.main_arg2))) ?_
      rw [h0, h1, h2]
      exact (Cert.LiftFirstIdeal.Value.final0 m c).symm
    · obtain ⟨h0, h1, h2⟩ := agree c
      refine Eq.trans (rfl : _ = Cert.LiftFirstRefIdeal.Value.refN (m' ((c.tc : Thread Cert.LiftFirstRefIdeal.nD Cert.LiftFirstRefIdeal.τ).loc Cert.LiftFirstRefIdeal.main_arg0)) (m' ((c.tc : Thread Cert.LiftFirstRefIdeal.nD Cert.LiftFirstRefIdeal.τ).loc Cert.LiftFirstRefIdeal.main_arg1))) ?_
      rw [h0, h1]
      exact (Cert.LiftFirstIdeal.Value.final1 m c).symm

theorem mixFirst : Cert.algebraic_MixFirstIdeal_MixFirstRefIdeal_pre_finite_gate_first := by
  pair_intro
  · run_from Cert.MixFirstIdeal.Gen.run_main m g
  · have agree := hagree
    clear hagree
    run_from Cert.MixFirstRefIdeal.Value.run m' g'
    · obtain ⟨h0, h1, h2⟩ := agree c
      refine Eq.trans (rfl : _ = Cert.MixFirstRefIdeal.Value.ref0 (m' ((c.tc : Thread Cert.MixFirstRefIdeal.nD Cert.MixFirstRefIdeal.τ).loc Cert.MixFirstRefIdeal.main_arg0)) (m' ((c.tc : Thread Cert.MixFirstRefIdeal.nD Cert.MixFirstRefIdeal.τ).loc Cert.MixFirstRefIdeal.main_arg1)) (m' ((c.tc : Thread Cert.MixFirstRefIdeal.nD Cert.MixFirstRefIdeal.τ).loc Cert.MixFirstRefIdeal.main_arg2))) ?_
      rw [h0, h1, h2]
      exact (Cert.MixFirstIdeal.Value.final0 m c (isReal_of_finite_gate_first _ _ _ fun i => congrFun (hpre c) i)).symm
    · obtain ⟨h0, h1, h2⟩ := agree c
      refine Eq.trans (rfl : _ = Cert.MixFirstRefIdeal.Value.ref1 (m' ((c.tc : Thread Cert.MixFirstRefIdeal.nD Cert.MixFirstRefIdeal.τ).loc Cert.MixFirstRefIdeal.main_arg0))) ?_
      rw [h0]
      exact (Cert.MixFirstIdeal.Value.final1 m c (isReal_of_finite_gate_first _ _ _ fun i => congrFun (hpre c) i)).symm

end Cert.Proof

end
-- ==== Proof.ScanRunB.lean ====
module

public import proofs.«01_k».proof.Proof.Gen.ScanIdeal.Launch
public import proofs.«01_k».proof.Proof.Gen.ScanIdeal.Skeleton
public import proofs.«01_k».proof.Proof.Gen.ScanIdeal.Points
public import proofs.«01_k».proof.Proof.Gen.ScanIdeal.Loops
public import proofs.«01_k».proof.Proof.Gen.ScanIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ScanIdeal.Hand

open Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's conditional, from the grid coordinates. -/
abbrev cond (i : grid0.Coords) : Prop := (Scalar.cmpi .ne (Scalar.extui (Scalar.cmpi .eq (BitVec.ofNat 32 (i 1).val) 0#32)) 0#32) = 1#1

/-- It holds at the first of an example's 33 points. -/
theorem hcond : ∀ t : Fin cfg0.N, cond (grid0.coords t) ↔ t.val % 33 = 0 :=
  (fun t => by
    have ht : t.val < 66 := Nat.lt_of_lt_of_eq t.isLt N_0
    have e1 : (grid0.coords t 1).val = t.val / 1 % 33 := Pipeline.Grid.coords_val t 1 (by decide) rfl
    simp only [cond, e1]
    word_cmp
   : ∀ t : Fin grid0.N, cond (grid0.coords t) ↔ t.val % 33 = 0)

set_option maxHeartbeats 4000000 in
noncomputable def runB (c : Dev nD) (i : grid0.Coords) (arg2 : Memref sig .tc .vmem S128x4096 .bf16) (harg2 : arg2.IsWhole) (arg3 : Memref sig .tc .vmem S128x4096 .bf16) (harg3 : arg3.IsWhole) (arg4 : Memref sig .tc .vmem S64x2048 .f32) (harg4 : arg4.IsWhole) (arg5 : Memref sig .tc .vmem S128x4096 .bf16) (harg5 : arg5.IsWhole) (arg6 : Memref sig .tc .vmem S1x8x4096 .f32) (harg6 : arg6.IsWhole) (arg7 : Memref sig .tc .vmem S2x8x2048 .f32) (harg7 : arg7.IsWhole) (hc0 : ¬cond i)
    (x0 : Vec F S128x4096 .bf16) (x1 : Vec F S128x4096 .bf16) (x2 : Vec F S64x2048 .f32) (xo : Vec F S1x8x4096 .f32) (xs : Vec F S2x8x2048 .f32) :
    Σ' (L3 : List (View.Piece (Elt F) S128x4096 .bf16)) (L4 : List (View.Piece (Elt F) S1x8x4096 .f32)), { LS : List (View.Piece (Elt F) S2x8x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0_ssm_scan_bwd i arg2 harg2 arg3 harg3 arg4 harg4 arg5 harg5 arg6 harg6 arg7 harg7) K } := by
  refine ⟨?_, ?_, ?_, fun E K => ?run⟩
  case run =>
    simp only [cc0_ssm_scan_bwd_eq_skeleton]; unfold cc0_ssm_scan_bwd_skel
    simp only [k0_part9_eq_skeleton, k0_part10_eq_skeleton, k0_part11_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg2.eq_unread hf0; obtain rfl := harg3.eq_unread hf1; obtain rfl := harg4.eq_unread hf2; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

/-- At an example's first point the body clears the carry and the sums, then does what it does at the other points. -/
theorem body_first (i i' : grid0.Coords) (hc : cond i) (hc' : ¬cond i') (arg2 : Memref sig .tc .vmem S128x4096 .bf16) (harg2 : arg2.IsWhole) (arg3 : Memref sig .tc .vmem S128x4096 .bf16) (harg3 : arg3.IsWhole) (arg4 : Memref sig .tc .vmem S64x2048 .f32) (harg4 : arg4.IsWhole) (arg5 : Memref sig .tc .vmem S128x4096 .bf16) (harg5 : arg5.IsWhole) (arg6 : Memref sig .tc .vmem S1x8x4096 .f32) (harg6 : arg6.IsWhole) (arg7 : Memref sig .tc .vmem S2x8x2048 .f32) (harg7 : arg7.IsWhole) :
    cc0_ssm_scan_bwd (F := F) i arg2 harg2 arg3 harg3 arg4 harg4 arg5 harg5 arg6 harg6 arg7 harg7 = (do
      let v93 : Vec F S2x8x2048 .f32 ← Prog.lift (.load arg7 (Rect.unit (s := S2x8x2048) ![0, 0, 0] S2x8x2048.size inb_S2x8x2048_S2x8x2048_0_0_0).toLoadRect (View.loadsAt_vmem h_S2x8x2048))
      Prog.lift (.store arg7 (Rect.unit (s := S2x8x2048) ![0, 0, 0] S2x8x2048.size inb_S2x8x2048_S2x8x2048_0_0_0) (k0_pay121 (F := F)) Finset.univ (View.stores_vmem_bits_univ h_S2x8x2048 rfl) (.inl rfl))
      let v97 : Vec F S1x8x4096 .f32 ← Prog.lift (.load arg6 (Rect.unit (s := S1x8x4096) ![0, 0, 0] S1x8x4096.size inb_S1x8x4096_S1x8x4096_0_0_0).toLoadRect (View.loadsAt_vmem h_S1x8x4096))
      Prog.lift (.store arg6 (Rect.unit (s := S1x8x4096) ![0, 0, 0] S1x8x4096.size inb_S1x8x4096_S1x8x4096_0_0_0) (k0_pay122 (F := F)) Finset.univ (View.stores_vmem_bits_univ h_S1x8x4096 rfl) (.inl rfl))
      cc0_ssm_scan_bwd (F := F) i' arg2 harg2 arg3 harg3 arg4 harg4 arg5 harg5 arg6 harg6 arg7 harg7) := by
  simp only [cc0_ssm_scan_bwd_eq_skeleton]; unfold cc0_ssm_scan_bwd_skel
  simp only [k0_part9_eq_skeleton, k0_part10_eq_skeleton, k0_part11_eq_skeleton]
  unfold k0_part9_skel
  simp only [dif_pos hc, dif_neg hc', bind_assoc, pure_bind]
  rfl

end Cert.ScanIdeal.Hand

end
-- ==== Proof.ScanFrame.lean ====
/- The blocks a point reads and leaves, and how the points follow one another. -/
module

public import proofs.«01_k».proof.Proof.ScanRunB
public import Idealize.ShloMosaic.Lib.Pipeline.Value

@[expose] public section

set_option maxRecDepth 16384

noncomputable section

namespace Cert.ScanIdeal.Hand

open Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer stored whole reads what was stored. -/
theorem read_fill {κ : Kind} {sp : Space} {s : Shape} {e : EltTy} (v : View sig κ sp s e) (f : v.ty.Contents (Elt F)) {off : Fin s.rank → ℕ}
    (h : off = fun _ => 0) (inb : ∀ a, off a + s.size a ≤ s.size a) (w : s.Idx → Elt F e) :
    v.read (Elt F) (v.writes (Elt F) f [(⟨Rect.unit off s.size inb, w⟩ : View.Piece (Elt F) s e)]) = w := by
  rw [View.read_writes_eq_canon _ _ _ (fun y => ⟨_, List.mem_singleton_self _, View.mem_set_unit_zero h inb y⟩)]
  exact View.canon_unit_zero h inb w

section Run

variable (c : Dev nD) (i : grid0.Coords) (arg2 : Memref sig .tc .vmem S128x4096 .bf16) (harg2 : arg2.IsWhole) (arg3 : Memref sig .tc .vmem S128x4096 .bf16) (harg3 : arg3.IsWhole) (arg4 : Memref sig .tc .vmem S64x2048 .f32) (harg4 : arg4.IsWhole) (arg5 : Memref sig .tc .vmem S128x4096 .bf16) (harg5 : arg5.IsWhole) (arg6 : Memref sig .tc .vmem S1x8x4096 .f32) (harg6 : arg6.IsWhole) (arg7 : Memref sig .tc .vmem S2x8x2048 .f32) (harg7 : arg7.IsWhole) (hc0 : ¬cond i)
    (x0 : Vec F S128x4096 .bf16) (x1 : Vec F S128x4096 .bf16) (x2 : Vec F S64x2048 .f32) (xo : Vec F S1x8x4096 .f32) (xs : Vec F S2x8x2048 .f32)

/-- The stores of `g` tile its block, -/
theorem cover_g (y : S128x4096.Idx) : ∃ pc ∈ (runB c i arg2 harg2 arg3 harg3 arg4 harg4 arg5 harg5 arg6 harg6 arg7 harg7 hc0 x0 x1 x2 xo xs).1, y ∈ pc.1.set :=
  View.cover_of_tiledL (runB c i arg2 harg2 arg3 harg3 arg4 harg4 arg5 harg5 arg6 harg6 arg7 harg7 hc0 x0 x1 x2 xo xs).1 S8x512.size (by sl_kernel_rfl) y

/-- those of the sums theirs, -/
theorem cover_da (y : S1x8x4096.Idx) : ∃ pc ∈ (runB c i arg2 harg2 arg3 harg3 arg4 harg4 arg5 harg5 arg6 harg6 arg7 harg7 hc0 x0 x1 x2 xo xs).2.1, y ∈ pc.1.set :=
  View.cover_of_tiledL (runB c i arg2 harg2 arg3 harg3 arg4 harg4 arg5 harg5 arg6 harg6 arg7 harg7 hc0 x0 x1 x2 xo xs).2.1 ![1, 8, 512] (by sl_kernel_rfl) y

/-- and those of the carry the scratch. -/
theorem cover_carry (y : S2x8x2048.Idx) : ∃ pc ∈ (runB c i arg2 harg2 arg3 harg3 arg4 harg4 arg5 harg5 arg6 harg6 arg7 harg7 hc0 x0 x1 x2 xo xs).2.2.1, y ∈ pc.1.set :=
  View.cover_of_tiledL (runB c i arg2 harg2 arg3 harg3 arg4 harg4 arg5 harg5 arg6 harg6 arg7 harg7 hc0 x0 x1 x2 xo xs).2.2.1 ![1, 8, 512] (by sl_kernel_rfl) y

/-- What a point leaves: the block of `g`, -/
def outG : Vec F S128x4096 .bf16 := View.canon (runB c i arg2 harg2 arg3 harg3 arg4 harg4 arg5 harg5 arg6 harg6 arg7 harg7 hc0 x0 x1 x2 xo xs).1

/-- the sums, -/
def outDa : Vec F S1x8x4096 .f32 := View.canon (runB c i arg2 harg2 arg3 harg3 arg4 harg4 arg5 harg5 arg6 harg6 arg7 harg7 hc0 x0 x1 x2 xo xs).2.1

/-- the carry. -/
def outS : Vec F S2x8x2048 .f32 := View.canon (runB c i arg2 harg2 arg3 harg3 arg4 harg4 arg5 harg5 arg6 harg6 arg7 harg7 hc0 x0 x1 x2 xo xs).2.2.1

/-- The run of a point that is not an example's first. -/
theorem run_next (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (outG c i arg2 harg2 arg3 harg3 arg4 harg4 arg5 harg5 arg6 harg6 arg7 harg7 hc0 x0 x1 x2 xo xs)
            ∗ owns (c : Thread nD τ) arg6 fullShare (outDa c i arg2 harg2 arg3 harg3 arg4 harg4 arg5 harg5 arg6 harg6 arg7 harg7 hc0 x0 x1 x2 xo xs)
            ∗ owns (c : Thread nD τ) arg7 fullShare (outS c i arg2 harg2 arg3 harg3 arg4 harg4 arg5 harg5 arg6 harg6 arg7 harg7 hc0 x0 x1 x2 xo xs)) -∗ K ⟨⟩))
      ⊢ wp frame (wpE (defs₀ (F := F)) Variants.none c none) E (cc0_ssm_scan_bwd i arg2 harg2 arg3 harg3 arg4 harg4 arg5 harg5 arg6 harg6 arg7 harg7) K := by
  iintro ⟨H0, H1, H2, H3, H4, H5, Hk⟩
  iapply ((runB c i arg2 harg2 arg3 harg3 arg4 harg4 arg5 harg5 arg6 harg6 arg7 harg7 hc0 x0 x1 x2 xo xs).2.2.2 E K)
  isplitl [H0]; · iexact H0
  isplitl [H1]; · iexact H1
  isplitl [H2]; · iexact H2
  isplitl [H3]; · iexact H3
  isplitl [H4]; · iexact H4
  isplitl [H5]; · iexact H5
  iintro ⟨H0, H1, H2, ⟨%e3, H3⟩, ⟨%e4, H4⟩, ⟨%e5, H5⟩⟩
  iapply Hk
  isplitl [H0]; · iexact H0
  isplitl [H1]; · iexact H1
  isplitl [H2]; · iexact H2
  isplitl [H3]
  · unfold owns; iexists _; isplitr
    swap; · iexact H3
    ipureintro; unfold outG; exact View.read_writes_eq_canon _ _ _ (cover_g c i arg2 harg2 arg3 harg3 arg4 harg4 arg5 harg5 arg6 harg6 arg7 harg7 hc0 x0 x1 x2 xo xs)
  isplitl [H4]
  · unfold owns; iexists _; isplitr
    swap; · iexact H4
    ipureintro; unfold outDa; exact View.read_writes_eq_canon _ _ _ (cover_da c i arg2 harg2 arg3 harg3 arg4 harg4 arg5 harg5 arg6 harg6 arg7 harg7 hc0 x0 x1 x2 xo xs)
  unfold owns; iexists _; isplitr
  swap; · iexact H5
  ipureintro; unfold outS; exact View.read_writes_eq_canon _ _ _ (cover_carry c i arg2 harg2 arg3 harg3 arg4 harg4 arg5 harg5 arg6 harg6 arg7 harg7 hc0 x0 x1 x2 xo xs)

/-- The same with the point named twice. -/
theorem run_next_of (i' : grid0.Coords) (hi : i = i') (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xo ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (outG c i arg2 harg2 arg3 harg3 arg4 harg4 arg5 harg5 arg6 harg6 arg7 harg7 hc0 x0 x1 x2 xo xs)
            ∗ owns (c : Thread nD τ) arg6 fullShare (outDa c i arg2 harg2 arg3 harg3 arg4 harg4 arg5 harg5 arg6 harg6 arg7 harg7 hc0 x0 x1 x2 xo xs)
            ∗ owns (c : Thread nD τ) arg7 fullShare (outS c i arg2 harg2 arg3 harg3 arg4 harg4 arg5 harg5 arg6 harg6 arg7 harg7 hc0 x0 x1 x2 xo xs)) -∗ K ⟨⟩))
      ⊢ wp frame (wpE (defs₀ (F := F)) Variants.none c none) E (cc0_ssm_scan_bwd i' arg2 harg2 arg3 harg3 arg4 harg4 arg5 harg5 arg6 harg6 arg7 harg7) K := by
  subst hi; exact run_next c i arg2 harg2 arg3 harg3 arg4 harg4 arg5 harg5 arg6 harg6 arg7 harg7 hc0 x0 x1 x2 xo xs E K

/-- The run of an example's first point: over cleared sums and a cleared carry. -/
theorem run_first (i' : grid0.Coords) (hc' : cond i') (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outG c i arg2 harg2 arg3 harg3 arg4 harg4 arg5 harg5 arg6 harg6 arg7 harg7 hc0 x0 x1 x2 k0_pay122 k0_pay121)
            ∗ owns (c : Thread nD τ) arg6 fullShare (outDa c i arg2 harg2 arg3 harg3 arg4 harg4 arg5 harg5 arg6 harg6 arg7 harg7 hc0 x0 x1 x2 k0_pay122 k0_pay121)
            ∗ owns (c : Thread nD τ) arg7 fullShare (outS c i arg2 harg2 arg3 harg3 arg4 harg4 arg5 harg5 arg6 harg6 arg7 harg7 hc0 x0 x1 x2 k0_pay122 k0_pay121)) -∗ K ⟨⟩))
      ⊢ wp frame (wpE (defs₀ (F := F)) Variants.none c none) E (cc0_ssm_scan_bwd i' arg2 harg2 arg3 harg3 arg4 harg4 arg5 harg5 arg6 harg6 arg7 harg7) K := by
  rw [body_first i' i hc' hc0]
  iintro ⟨H0, H1, H2, H3, ⟨%d4, H4⟩, ⟨%d5, H5⟩, Hk⟩
  unfold owns
  icases H4 with ⟨%f4, -, H4⟩
  icases H5 with ⟨%f5, -, H5⟩
  generalize hp : cc0_ssm_scan_bwd (F := F) i arg2 harg2 arg3 harg3 arg4 harg4 arg5 harg5 arg6 harg6 arg7 harg7 = p
  sl_exec
  subst hp
  iapply (run_next c i arg2 harg2 arg3 harg3 arg4 harg4 arg5 harg5 arg6 harg6 arg7 harg7 hc0 x0 x1 x2 k0_pay122 k0_pay121 E K)
  unfold owns
  isplitl [H0]; · iexact H0
  isplitl [H1]; · iexact H1
  isplitl [H2]; · iexact H2
  isplitl [H3]; · iexact H3
  isplitl [H4]
  · iexists _; isplitr
    swap; · iexact H4
    ipureintro
    exact read_fill _ _ (by funext a; fin_cases a <;> rfl) _ _
  isplitl [H5]
  · iexists _; isplitr
    swap; · iexact H5
    ipureintro
    exact read_fill _ _ (by funext a; fin_cases a <;> rfl) _ _
  iexact Hk

end Run

end Cert.ScanIdeal.Hand

end
-- ==== Proof.ScanMath.lean ====
/- The backward recurrence over complex numbers, in time reversed, and the eight rows a trip of the kernel's loops
   solves at once by doubling. -/
module

public import Idealize.ShloMosaic.Lib.Pointwise
public import Mathlib.Data.Complex.Basic

@[expose] public section

noncomputable section

namespace Cert.ScanMath

/-- A complex number's two parts among the extended reals. -/
def re' (z : ℂ) : EReal := ((z.re : ℝ) : EReal)
def im' (z : ℂ) : EReal := ((z.im : ℝ) : EReal)

theorem re_zero : re' 0 = 0 := by simp [re']
theorem im_zero : im' 0 = 0 := by simp [im']

theorem re_add (x y : ℂ) : re' x + re' y = re' (x + y) := by simp [re']
theorem im_add (x y : ℂ) : im' x + im' y = im' (x + y) := by simp [im']

/-- The kernel's multiply-add of complex numbers, part by part. -/
theorem re_mulAdd (x t y : ℂ) : re' x + re' t * re' y - im' t * im' y = re' (x + t * y) := by
  simp only [re', im', Complex.add_re, Complex.mul_re]
  push_cast [← EReal.coe_mul, ← EReal.coe_add, ← EReal.coe_sub]
  norm_cast; ring
theorem im_mulAdd (x t y : ℂ) : im' x + re' t * im' y + im' t * re' y = im' (x + t * y) := by
  simp only [re', im', Complex.add_im, Complex.mul_im]
  norm_cast; ring

/-- The recurrence: `c n` enters at step `n`, counted from the last time backwards; `G n` is the value after `n` steps. -/
def G (a : ℂ) (c : ℕ → ℂ) : ℕ → ℂ
  | 0 => 0
  | n + 1 => c n + a * G a c n

/-- A power table: the power where the row that many rows further is inside the block. -/
def tab (a : ℂ) (d : ℕ) (r : Fin 8) : ℂ := if r.val + d ≤ 7 then a ^ d else 0

/-- One doubling. -/
def dbl (a : ℂ) (d : ℕ) (s : Fin 8) (u : Fin 8 → ℂ) (r : Fin 8) : ℂ := u r + tab a d r * u (r + s)

/-- The three doublings and the carry make the eight values of the recurrence. -/
theorem block (a : ℂ) (c : ℕ → ℂ) (n : ℕ) (u : Fin 8 → ℂ) (hu : ∀ r : Fin 8, u r = c (n + 7 - r.val)) (r : Fin 8) :
    dbl a 4 4 (dbl a 2 2 (dbl a 1 1 u)) r + a ^ (8 - r.val) * G a c n = G a c (n + 8 - r.val) := by
  fin_cases r <;> simp [dbl, tab, hu, G] <;> ring

end Cert.ScanMath

end
-- ==== Proof.ScanTrip.lean ====
/- The values of one trip. -/
module

public import proofs.«01_k».proof.Proof.ScanFrame
public import proofs.«01_k».proof.Proof.ScanMath
public import Idealize.ShloMosaic.Lib.WholeRead
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ScanIdeal.Hand

open Cert.ScanIdeal.Gen Cert.ScanMath
open Idealize.ShloMosaic Idealize.ShloMosaic.TcCoe Idealize.ShloMosaic.Tactic

theorem rot7 (r : Fin 8) (h : (r.val + 8 - 7) % 8 < 8) : (⟨(r.val + 8 - 7) % 8, h⟩ : Fin 8) = r + 1 := by fin_cases r <;> rfl
theorem rot6 (r : Fin 8) (h : (r.val + 8 - 6) % 8 < 8) : (⟨(r.val + 8 - 6) % 8, h⟩ : Fin 8) = r + 2 := by fin_cases r <;> rfl
theorem rot4 (r : Fin 8) (h : (r.val + 8 - 4) % 8 < 8) : (⟨(r.val + 8 - 4) % 8, h⟩ : Fin 8) = r + 4 := by fin_cases r <;> rfl

section Payloads

variable (t0 t1 t2 t3 t4 t5 t6 t7 cr ci : FVec Ideal S8x512 .f32) (ur ui xr xi : Vec Ideal S8x512 .bf16) (r : Fin 8) (p : Fin 512)

theorem p25 : k0_pay25 t0 t1 ur ui (ix2 r p) = ur (ix2 r p) + t0 (ix2 r p) * ur (ix2 (r + 1) p) - t1 (ix2 r p) * ui (ix2 (r + 1) p) := by
  pointwise [k0_pay25, k0_pay13, k0_pay14, k0_pay21, k0_pay22, k0_pay23, k0_pay24]
  rw [rot7]
theorem p26 : k0_pay26 t0 t1 ur ui (ix2 r p) = ui (ix2 r p) + t0 (ix2 r p) * ui (ix2 (r + 1) p) + t1 (ix2 r p) * ur (ix2 (r + 1) p) := by
  pointwise [k0_pay26, k0_pay13, k0_pay14, k0_pay21, k0_pay22, k0_pay23, k0_pay24]
  rw [rot7]

variable (g h : FVec Ideal S8x512 .f32)
theorem p29 : k0_pay29 (k0_pay15 t2) (k0_pay16 t3) g h (ix2 r p) = g (ix2 r p) + t2 (ix2 r p) * g (ix2 (r + 2) p) - t3 (ix2 r p) * h (ix2 (r + 2) p) := by
  pointwise [k0_pay29, k0_pay15, k0_pay16, k0_pay27, k0_pay28]
  rw [rot6]
theorem p30 : k0_pay30 (k0_pay15 t2) (k0_pay16 t3) g h (ix2 r p) = h (ix2 r p) + t2 (ix2 r p) * h (ix2 (r + 2) p) + t3 (ix2 r p) * g (ix2 (r + 2) p) := by
  pointwise [k0_pay30, k0_pay15, k0_pay16, k0_pay27, k0_pay28]
  rw [rot6]
theorem p33 (v97 v99 : FVec Ideal S8x512 .f32) : k0_pay33 cr ci v97 v99 (k0_pay17 t4) (k0_pay18 t5) (k0_pay19 t6) (k0_pay20 t7) g h (ix2 r p)
    = (k0_pay29 v97 v99 g h (ix2 r p) + t4 (ix2 r p) * k0_pay29 v97 v99 g h (ix2 (r + 4) p) - t5 (ix2 r p) * k0_pay30 v97 v99 g h (ix2 (r + 4) p))
      + t6 (ix2 r p) * cr (ix2 r p) - t7 (ix2 r p) * ci (ix2 r p) := by
  pointwise [k0_pay33, k0_pay31, k0_pay32, k0_pay17, k0_pay18, k0_pay19, k0_pay20]
  rw [rot4]
theorem p34 (v97 v99 : FVec Ideal S8x512 .f32) : k0_pay34 cr ci v97 v99 (k0_pay17 t4) (k0_pay18 t5) (k0_pay19 t6) (k0_pay20 t7) g h (ix2 r p)
    = (k0_pay30 v97 v99 g h (ix2 r p) + t4 (ix2 r p) * k0_pay30 v97 v99 g h (ix2 (r + 4) p) + t5 (ix2 r p) * k0_pay29 v97 v99 g h (ix2 (r + 4) p))
      + t6 (ix2 r p) * ci (ix2 r p) + t7 (ix2 r p) * cr (ix2 r p) := by
  pointwise [k0_pay34, k0_pay31, k0_pay32, k0_pay17, k0_pay18, k0_pay19, k0_pay20]
  rw [rot4]
theorem p35 (v97 v99 v101 v103 v105 v107 : FVec Ideal S8x512 .f32) (y) : (k0_pay35 cr ci v97 v99 v101 v103 v105 v107 g h y : EReal) = k0_pay33 cr ci v97 v99 v101 v103 v105 v107 g h y := by
  pointwise [k0_pay35]
theorem p36 (v97 v99 v101 v103 v105 v107 : FVec Ideal S8x512 .f32) (y) : (k0_pay36 cr ci v97 v99 v101 v103 v105 v107 g h y : EReal) = k0_pay34 cr ci v97 v99 v101 v103 v105 v107 g h y := by
  pointwise [k0_pay36]
theorem p130 : k0_pay130 g (ix2 r p) = g (ix2 0 p) := by
  pointwise [k0_pay130]
theorem p131 : k0_pay131 g (ix2 r p) = g (ix2 0 p) := by
  pointwise [k0_pay131]
theorem sel (r : Fin 8) (x y : EReal) : (Scalar.select (IntOp.cmpi CmpIPredicate.eq (BitVec.ofNat 32 r.val) 7#32) x y) = if r = 7 then x else y := by
  fin_cases r <;> rfl
theorem p37 (v97 v99 v101 v103 v105 v107 : FVec Ideal S8x512 .f32) : k0_pay37 (iota .tc S8x512 32 [0] iota_S8x512_d0_w32) cr ci v97 v99 v101 v103 v105 v107 g h (ix2 r p)
   = if r = 7 then cr (ix2 r p) else k0_pay33 cr ci v97 v99 v101 v103 v105 v107 g h (ix2 (r+1) p) := by
  pointwise [k0_pay37]
  rw [rot7]
  exact sel _ _ _
theorem p38 (v97 v99 v101 v103 v105 v107 : FVec Ideal S8x512 .f32) : k0_pay38 (iota .tc S8x512 32 [0] iota_S8x512_d0_w32) cr ci v97 v99 v101 v103 v105 v107 g h (ix2 r p)
   = if r = 7 then ci (ix2 r p) else k0_pay34 cr ci v97 v99 v101 v103 v105 v107 g h (ix2 (r+1) p) := by
  pointwise [k0_pay38]
  rw [rot7]
  exact sel _ _ _
theorem p128 (d hr hi : FVec Ideal S8x512 .f32) : k0_pay128 d hr hi (k0_pay39 xr) xi (ix2 r p) = d (ix2 r p) + xr (ix2 r p) * hr (ix2 r p) + xi (ix2 r p) * hi (ix2 r p) := by
  pointwise [k0_pay128, k0_pay39, k0_pay127]
theorem p129 (d hr hi : FVec Ideal S8x512 .f32) : k0_pay129 d hr hi (k0_pay39 xr) xi (ix2 r p) = d (ix2 r p) + xr (ix2 r p) * hi (ix2 r p) - xi (ix2 r p) * hr (ix2 r p) := by
  pointwise [k0_pay129, k0_pay39, k0_pay127]

end Payloads

/-! One chunk of 512 channels: `a` the conjugated decay, `c` what enters the recurrence, `XR` and `XI` the saved states,
    all by reversed time. -/

variable (a : Fin 512 → ℂ) (c : Fin 512 → ℕ → ℂ) (XR XI : Fin 512 → ℕ → EReal)

/-- What a trip reads, at reversed times `n` to `n + 7`. -/
structure Loads (n : ℕ) (t0 t1 t2 t3 t4 t5 t6 t7 : FVec Ideal S8x512 .f32) (ur ui xr xi : Vec Ideal S8x512 .bf16) : Prop where
  t0 : ∀ r p, t0 (ix2 r p) = re' (tab (a p) 1 r)
  t1 : ∀ r p, t1 (ix2 r p) = im' (tab (a p) 1 r)
  t2 : ∀ r p, t2 (ix2 r p) = re' (tab (a p) 2 r)
  t3 : ∀ r p, t3 (ix2 r p) = im' (tab (a p) 2 r)
  t4 : ∀ r p, t4 (ix2 r p) = re' (tab (a p) 4 r)
  t5 : ∀ r p, t5 (ix2 r p) = im' (tab (a p) 4 r)
  t6 : ∀ r p, t6 (ix2 r p) = re' (a p ^ (8 - r.val))
  t7 : ∀ r p, t7 (ix2 r p) = im' (a p ^ (8 - r.val))
  ur : ∀ r p, (ur (ix2 r p) : EReal) = re' (c p (n + 7 - r.val))
  ui : ∀ r p, (ui (ix2 r p) : EReal) = im' (c p (n + 7 - r.val))
  xr : ∀ r p, (xr (ix2 r p) : EReal) = XR p (n + 7 - r.val)
  xi : ∀ r p, (xi (ix2 r p) : EReal) = XI p (n + 7 - r.val)

/-- One time's part of the decay's cotangent. -/
def dRe (p : Fin 512) (n : ℕ) : EReal := XR p n * re' (G (a p) (c p) n) + XI p n * im' (G (a p) (c p) n)
def dIm (p : Fin 512) (n : ℕ) : EReal := XR p n * im' (G (a p) (c p) n) - XI p n * re' (G (a p) (c p) n)

/-- What the loop carries after `K` blocks of eight times. -/
structure Inv (K : ℕ) (acc : FVec Ideal S8x512 .f32 × FVec Ideal S8x512 .f32 × FVec Ideal S8x512 .f32 × FVec Ideal S8x512 .f32) : Prop where
  re : ∀ r p, acc.1 (ix2 r p) = re' (G (a p) (c p) (8 * K))
  im : ∀ r p, acc.2.1 (ix2 r p) = im' (G (a p) (c p) (8 * K))
  dre : ∀ r p, acc.2.2.1 (ix2 r p) = ∑ k ∈ Finset.range K, dRe a c XR XI p (8 * k + 7 - r.val)
  dim : ∀ r p, acc.2.2.2 (ix2 r p) = ∑ k ∈ Finset.range K, dIm a c XR XI p (8 * k + 7 - r.val)

section Trip

variable {a c XR XI} {n K : ℕ} {t0 t1 t2 t3 t4 t5 t6 t7 : FVec Ideal S8x512 .f32} {ur ui xr xi : Vec Ideal S8x512 .bf16}
variable {cr ci dr di : FVec Ideal S8x512 .f32}

theorem both (L : Loads a c XR XI (8 * K) t0 t1 t2 t3 t4 t5 t6 t7 ur ui xr xi)
    (hcr : ∀ r p, cr (ix2 r p) = re' (G (a p) (c p) (8 * K))) (hci : ∀ r p, ci (ix2 r p) = im' (G (a p) (c p) (8 * K))) (r : Fin 8) (p : Fin 512) :
    k0_pay33 cr ci (k0_pay15 t2) (k0_pay16 t3) (k0_pay17 t4) (k0_pay18 t5) (k0_pay19 t6) (k0_pay20 t7) (k0_pay25 t0 t1 ur ui) (k0_pay26 t0 t1 ur ui) (ix2 r p)
      = re' (G (a p) (c p) (8 * K + 8 - r.val))
    ∧ k0_pay34 cr ci (k0_pay15 t2) (k0_pay16 t3) (k0_pay17 t4) (k0_pay18 t5) (k0_pay19 t6) (k0_pay20 t7) (k0_pay25 t0 t1 ur ui) (k0_pay26 t0 t1 ur ui) (ix2 r p)
      = im' (G (a p) (c p) (8 * K + 8 - r.val)) := by
  have e1 : ∀ r, k0_pay25 t0 t1 ur ui (ix2 r p) = re' (dbl (a p) 1 1 (fun r => c p (8 * K + 7 - r.val)) r)
      ∧ k0_pay26 t0 t1 ur ui (ix2 r p) = im' (dbl (a p) 1 1 (fun r => c p (8 * K + 7 - r.val)) r) := fun r => by
    rw [p25, p26, L.t0, L.t1, L.ur, L.ui, L.ur, L.ui, re_mulAdd, im_mulAdd]; exact ⟨rfl, rfl⟩
  generalize k0_pay25 t0 t1 ur ui = g at *
  generalize k0_pay26 t0 t1 ur ui = h at *
  have e2 : ∀ r, k0_pay29 (k0_pay15 t2) (k0_pay16 t3) g h (ix2 r p) = re' (dbl (a p) 2 2 (dbl (a p) 1 1 (fun r => c p (8 * K + 7 - r.val))) r)
      ∧ k0_pay30 (k0_pay15 t2) (k0_pay16 t3) g h (ix2 r p) = im' (dbl (a p) 2 2 (dbl (a p) 1 1 (fun r => c p (8 * K + 7 - r.val))) r) := fun r => by
    rw [p29, p30, L.t2, L.t3, (e1 _).1, (e1 _).2, (e1 _).1, (e1 _).2, re_mulAdd, im_mulAdd]; exact ⟨rfl, rfl⟩
  rw [p33, p34, L.t4, L.t5, L.t6, L.t7, (e2 _).1, (e2 _).2, (e2 _).1, (e2 _).2, hcr, hci, re_mulAdd, im_mulAdd, re_mulAdd, im_mulAdd,
    ← block (a p) (c p) (8 * K) (fun r => c p (8 * K + 7 - r.val)) (fun _ => rfl) r]
  exact ⟨rfl, rfl⟩

theorem nexts (L : Loads a c XR XI (8 * K) t0 t1 t2 t3 t4 t5 t6 t7 ur ui xr xi)
    (hcr : ∀ r p, cr (ix2 r p) = re' (G (a p) (c p) (8 * K))) (hci : ∀ r p, ci (ix2 r p) = im' (G (a p) (c p) (8 * K))) (r : Fin 8) (p : Fin 512) :
    k0_pay37 (iota .tc S8x512 32 [0] iota_S8x512_d0_w32) cr ci (k0_pay15 t2) (k0_pay16 t3) (k0_pay17 t4) (k0_pay18 t5) (k0_pay19 t6) (k0_pay20 t7) (k0_pay25 t0 t1 ur ui) (k0_pay26 t0 t1 ur ui) (ix2 r p)
      = re' (G (a p) (c p) (8 * K + 7 - r.val))
    ∧ k0_pay38 (iota .tc S8x512 32 [0] iota_S8x512_d0_w32) cr ci (k0_pay15 t2) (k0_pay16 t3) (k0_pay17 t4) (k0_pay18 t5) (k0_pay19 t6) (k0_pay20 t7) (k0_pay25 t0 t1 ur ui) (k0_pay26 t0 t1 ur ui) (ix2 r p)
      = im' (G (a p) (c p) (8 * K + 7 - r.val)) := by
  rw [p37, p38, (both L hcr hci _ p).1, (both L hcr hci _ p).2, hcr, hci]
  fin_cases r <;> exact ⟨rfl, rfl⟩

/-- A trip keeps the invariant. -/
theorem inv_step {acc : FVec Ideal S8x512 .f32 × FVec Ideal S8x512 .f32 × FVec Ideal S8x512 .f32 × FVec Ideal S8x512 .f32}
    (L : Loads a c XR XI (8 * K) t0 t1 t2 t3 t4 t5 t6 t7 ur ui xr xi) (I : Inv a c XR XI K acc) :
    Inv a c XR XI (K + 1)
      (k0_pay130 (k0_pay33 acc.1 acc.2.1 (k0_pay15 t2) (k0_pay16 t3) (k0_pay17 t4) (k0_pay18 t5) (k0_pay19 t6) (k0_pay20 t7) (k0_pay25 t0 t1 ur ui) (k0_pay26 t0 t1 ur ui)),
       k0_pay131 (k0_pay34 acc.1 acc.2.1 (k0_pay15 t2) (k0_pay16 t3) (k0_pay17 t4) (k0_pay18 t5) (k0_pay19 t6) (k0_pay20 t7) (k0_pay25 t0 t1 ur ui) (k0_pay26 t0 t1 ur ui)),
       k0_pay128 acc.2.2.1
        (k0_pay37 (iota .tc S8x512 32 [0] iota_S8x512_d0_w32) acc.1 acc.2.1 (k0_pay15 t2) (k0_pay16 t3) (k0_pay17 t4) (k0_pay18 t5) (k0_pay19 t6) (k0_pay20 t7) (k0_pay25 t0 t1 ur ui) (k0_pay26 t0 t1 ur ui))
        (k0_pay38 (iota .tc S8x512 32 [0] iota_S8x512_d0_w32) acc.1 acc.2.1 (k0_pay15 t2) (k0_pay16 t3) (k0_pay17 t4) (k0_pay18 t5) (k0_pay19 t6) (k0_pay20 t7) (k0_pay25 t0 t1 ur ui) (k0_pay26 t0 t1 ur ui))
        (k0_pay39 xr) xi,
       k0_pay129 acc.2.2.2
        (k0_pay37 (iota .tc S8x512 32 [0] iota_S8x512_d0_w32) acc.1 acc.2.1 (k0_pay15 t2) (k0_pay16 t3) (k0_pay17 t4) (k0_pay18 t5) (k0_pay19 t6) (k0_pay20 t7) (k0_pay25 t0 t1 ur ui) (k0_pay26 t0 t1 ur ui))
        (k0_pay38 (iota .tc S8x512 32 [0] iota_S8x512_d0_w32) acc.1 acc.2.1 (k0_pay15 t2) (k0_pay16 t3) (k0_pay17 t4) (k0_pay18 t5) (k0_pay19 t6) (k0_pay20 t7) (k0_pay25 t0 t1 ur ui) (k0_pay26 t0 t1 ur ui))
        (k0_pay39 xr) xi) := by
  refine ⟨fun r p => ?_, fun r p => ?_, fun r p => ?_, fun r p => ?_⟩
  · dsimp only; rw [p130, (both L I.re I.im 0 p).1]; rfl
  · dsimp only; rw [p131, (both L I.re I.im 0 p).2]; rfl
  · dsimp only
    rw [p128, (nexts L I.re I.im r p).1, (nexts L I.re I.im r p).2, I.dre, Finset.sum_range_succ, add_assoc, L.xr, L.xi]; rfl
  · dsimp only
    rw [p129, (nexts L I.re I.im r p).1, (nexts L I.re I.im r p).2, I.dim, Finset.sum_range_succ, sub_eq_add_neg, add_assoc, ← sub_eq_add_neg, L.xr, L.xi]; rfl

end Trip

end Cert.ScanIdeal.Hand

end
-- ==== Proof.ScanLoops.lean ====
/- The four loops of a point, each over its chunk of 512 channels: what a loop carries and what it writes, from what the
   point's blocks hold. -/
module

public import proofs.«01_k».proof.Proof.ScanTrip

@[expose] public section

set_option maxRecDepth 16384

noncomputable section

namespace Cert.ScanIdeal.Hand

open Cert.ScanIdeal.Gen Cert.ScanMath
open Idealize.ShloMosaic Idealize.ShloMosaic.TcCoe Idealize.ShloMosaic.Tactic

/-- The tables' four entries: a table of the powers 1, 2 and 4, and the carry's powers. -/
def tw (a : ℂ) (q : Fin 4) (r : Fin 8) : ℂ := ![tab a 1 r, tab a 2 r, tab a 4 r, a ^ (8 - r.val)] q

/-- What a point's three blocks hold, its times being the reversed times `128 * i` to `128 * i + 127`. -/
structure Blk (a : Fin 4 → Fin 512 → ℂ) (c : Fin 4 → Fin 512 → ℕ → ℂ) (XR XI : Fin 4 → Fin 512 → ℕ → EReal) (i : ℕ)
    (x0 x1 : Vec Ideal S128x4096 .bf16) (x2 : Vec Ideal S64x2048 .f32) : Prop where
  tr : ∀ (q : Fin 4) (r : Fin 8) (j : Fin 4) (p : Fin 512) (y : S64x2048.Idx), (y 0).val = 16 * q.val + r.val → (y 1).val = 512 * j.val + p.val → x2 y = re' (tw (a j p) q r)
  ti : ∀ (q : Fin 4) (r : Fin 8) (j : Fin 4) (p : Fin 512) (y : S64x2048.Idx), (y 0).val = 16 * q.val + 8 + r.val → (y 1).val = 512 * j.val + p.val → x2 y = im' (tw (a j p) q r)
  ur : ∀ (n : ℕ) (j : Fin 4) (p : Fin 512) (y : S128x4096.Idx), (y 0).val + n = 128 * i + 127 → (y 1).val = 1024 * j.val + p.val → (x0 y : EReal) = re' (c j p n)
  ui : ∀ (n : ℕ) (j : Fin 4) (p : Fin 512) (y : S128x4096.Idx), (y 0).val + n = 128 * i + 127 → (y 1).val = 1024 * j.val + 512 + p.val → (x0 y : EReal) = im' (c j p n)
  xr : ∀ (n : ℕ) (j : Fin 4) (p : Fin 512) (y : S128x4096.Idx), (y 0).val + n = 128 * i + 127 → (y 1).val = 1024 * j.val + p.val → (x1 y : EReal) = XR j p n
  xi : ∀ (n : ℕ) (j : Fin 4) (p : Fin 512) (y : S128x4096.Idx), (y 0).val + n = 128 * i + 127 → (y 1).val = 1024 * j.val + 512 + p.val → (x1 y : EReal) = XI j p n

/-- A value stands where the point's block of results has it. -/
def IsG (a : Fin 4 → Fin 512 → ℂ) (c : Fin 4 → Fin 512 → ℕ → ℂ) (i : ℕ) (y : S128x4096.Idx) (v : EReal) : Prop :=
  ∃ (n : ℕ) (j : Fin 4) (p : Fin 512), (y 0).val + n = 128 * i + 128
    ∧ ((y 1).val = 1024 * j.val + p.val ∧ v = re' (G (a j p) (c j p) n) ∨ (y 1).val = 1024 * j.val + 512 + p.val ∧ v = im' (G (a j p) (c j p) n))

section

variable {a : Fin 4 → Fin 512 → ℂ} {c : Fin 4 → Fin 512 → ℕ → ℂ} {XR XI : Fin 4 → Fin 512 → ℕ → EReal} {i0 : ℕ}
  {x0 x1 : Vec Ideal S128x4096 .bf16} {x2 : Vec Ideal S64x2048 .f32}

variable (dev : Dev nD) (i : grid0.Coords) (arg2 : Memref sig .tc .vmem S128x4096 .bf16) (harg2 : arg2.IsWhole) (arg3 : Memref sig .tc .vmem S128x4096 .bf16) (harg3 : arg3.IsWhole) (arg4 : Memref sig .tc .vmem S64x2048 .f32) (harg4 : arg4.IsWhole) (arg5 : Memref sig .tc .vmem S128x4096 .bf16) (harg5 : arg5.IsWhole) (arg6 : Memref sig .tc .vmem S1x8x4096 .f32) (harg6 : arg6.IsWhole) (arg7 : Memref sig .tc .vmem S2x8x2048 .f32) (harg7 : arg7.IsWhole)

theorem tripR_1 (k : Fin k0_t1_loop.trips) (B : Blk a c XR XI i0 x0 x1 x2)
    {acc : FVec Ideal S8x512 .f32 × FVec Ideal S8x512 .f32 × FVec Ideal S8x512 .f32 × FVec Ideal S8x512 .f32}
    (I : Inv (a 0) (c 0) (XR 0) (XI 0) (16 * i0 + k.val) acc) :
    Inv (a 0) (c 0) (XR 0) (XI 0) (16 * i0 + k.val + 1)
      (tripR_k0_t1 (F := Ideal) Variants.none dev none i arg2 harg2 arg3 harg3 arg4 harg4 arg5 harg5 arg6 harg6 arg7 harg7 (iota .tc S8x512 32 [0] iota_S8x512_d0_w32) (harg2.unread x0) (harg3.unread x1) (harg4.unread x2) k acc)
    ∧ ∀ pc ∈ tripL_k0_t1 (F := Ideal) Variants.none dev none i arg2 harg2 arg3 harg3 arg4 harg4 arg5 harg5 arg6 harg6 arg7 harg7 (iota .tc S8x512 32 [0] iota_S8x512_d0_w32) (harg2.unread x0) (harg3.unread x1) (harg4.unread x2) k acc,
        ∀ y, IsG a c i0 (pc.1.emb y) (pc.2 y) := by
  have hk : k.val < 16 := Nat.lt_of_lt_of_le k.isLt k0_t1_abs.2.1
  have o1 := k0_off1_eq k
  have o2 := k0_off2_eq k
  have o10 := congrFun o1 0
  have o11 := congrFun o1 1
  have o20 := congrFun o2 0
  have o21 := congrFun o2 1
  simp only [Matrix.cons_val_zero, Matrix.cons_val_one] at o10 o11 o20 o21
  have L : Loads (a 0) (c 0) (XR 0) (XI 0) (8 * (16 * i0 + k.val))
      (View.readAt (Elt Ideal) arg4.view (Rect.unit (s := S64x2048) ![0, 0] S8x512.size inb_S64x2048_S8x512_0_0).toLoadRect (harg4.unread x2))
      (View.readAt (Elt Ideal) arg4.view (Rect.unit (s := S64x2048) ![8, 0] S8x512.size inb_S64x2048_S8x512_8_0).toLoadRect (harg4.unread x2))
      (View.readAt (Elt Ideal) arg4.view (Rect.unit (s := S64x2048) ![16, 0] S8x512.size inb_S64x2048_S8x512_16_0).toLoadRect (harg4.unread x2))
      (View.readAt (Elt Ideal) arg4.view (Rect.unit (s := S64x2048) ![24, 0] S8x512.size inb_S64x2048_S8x512_24_0).toLoadRect (harg4.unread x2))
      (View.readAt (Elt Ideal) arg4.view (Rect.unit (s := S64x2048) ![32, 0] S8x512.size inb_S64x2048_S8x512_32_0).toLoadRect (harg4.unread x2))
      (View.readAt (Elt Ideal) arg4.view (Rect.unit (s := S64x2048) ![40, 0] S8x512.size inb_S64x2048_S8x512_40_0).toLoadRect (harg4.unread x2))
      (View.readAt (Elt Ideal) arg4.view (Rect.unit (s := S64x2048) ![48, 0] S8x512.size inb_S64x2048_S8x512_48_0).toLoadRect (harg4.unread x2))
      (View.readAt (Elt Ideal) arg4.view (Rect.unit (s := S64x2048) ![56, 0] S8x512.size inb_S64x2048_S8x512_56_0).toLoadRect (harg4.unread x2))
      (View.readAt (Elt Ideal) arg2.view (Rect.unit (s := S128x4096) (k0_off1 k) S8x512.size (k0_off1_inb k)).toLoadRect (harg2.unread x0))
      (View.readAt (Elt Ideal) arg2.view (Rect.unit (s := S128x4096) (k0_off2 k) S8x512.size (k0_off2_inb k)).toLoadRect (harg2.unread x0))
      (View.readAt (Elt Ideal) arg3.view (Rect.unit (s := S128x4096) (k0_off1 k) S8x512.size (k0_off1_inb k)).toLoadRect (harg3.unread x1))
      (View.readAt (Elt Ideal) arg3.view (Rect.unit (s := S128x4096) (k0_off2 k) S8x512.size (k0_off2_inb k)).toLoadRect (harg3.unread x1)) := by
    refine ⟨fun r p => ?_, fun r p => ?_, fun r p => ?_, fun r p => ?_, fun r p => ?_, fun r p => ?_, fun r p => ?_, fun r p => ?_, fun r p => ?_, fun r p => ?_, fun r p => ?_, fun r p => ?_⟩
    · rw [Memref.IsWhole.readAt_unread]; exact B.tr 0 r 0 p _ (Rect.idx_unit_val _ _ _ _ _) (Rect.idx_unit_val _ _ _ _ _)
    · rw [Memref.IsWhole.readAt_unread]; exact B.ti 0 r 0 p _ (Rect.idx_unit_val _ _ _ _ _) (Rect.idx_unit_val _ _ _ _ _)
    · rw [Memref.IsWhole.readAt_unread]; exact B.tr 1 r 0 p _ (Rect.idx_unit_val _ _ _ _ _) (Rect.idx_unit_val _ _ _ _ _)
    · rw [Memref.IsWhole.readAt_unread]; exact B.ti 1 r 0 p _ (Rect.idx_unit_val _ _ _ _ _) (Rect.idx_unit_val _ _ _ _ _)
    · rw [Memref.IsWhole.readAt_unread]; exact B.tr 2 r 0 p _ (Rect.idx_unit_val _ _ _ _ _) (Rect.idx_unit_val _ _ _ _ _)
    · rw [Memref.IsWhole.readAt_unread]; exact B.ti 2 r 0 p _ (Rect.idx_unit_val _ _ _ _ _) (Rect.idx_unit_val _ _ _ _ _)
    · rw [Memref.IsWhole.readAt_unread]; exact B.tr 3 r 0 p _ (Rect.idx_unit_val _ _ _ _ _) (Rect.idx_unit_val _ _ _ _ _)
    · rw [Memref.IsWhole.readAt_unread]; exact B.ti 3 r 0 p _ (Rect.idx_unit_val _ _ _ _ _) (Rect.idx_unit_val _ _ _ _ _)
    · rw [Memref.IsWhole.readAt_unread]; exact B.ur _ 0 p _ ((congrArg (· + _) ((Rect.idx_unit_val _ _ _ _ _).trans (congrArg (· + r.val) o10))).trans (by omega)) ((Rect.idx_unit_val _ _ _ _ _).trans (congrArg (· + p.val) o11))
    · rw [Memref.IsWhole.readAt_unread]; exact B.ui _ 0 p _ ((congrArg (· + _) ((Rect.idx_unit_val _ _ _ _ _).trans (congrArg (· + r.val) o20))).trans (by omega)) ((Rect.idx_unit_val _ _ _ _ _).trans (congrArg (· + p.val) o21))
    · rw [Memref.IsWhole.readAt_unread]; exact B.xr _ 0 p _ ((congrArg (· + _) ((Rect.idx_unit_val _ _ _ _ _).trans (congrArg (· + r.val) o10))).trans (by omega)) ((Rect.idx_unit_val _ _ _ _ _).trans (congrArg (· + p.val) o11))
    · rw [Memref.IsWhole.readAt_unread]; exact B.xi _ 0 p _ ((congrArg (· + _) ((Rect.idx_unit_val _ _ _ _ _).trans (congrArg (· + r.val) o20))).trans (by omega)) ((Rect.idx_unit_val _ _ _ _ _).trans (congrArg (· + p.val) o21))
  have hb := both L I.re I.im
  have v1 : ∀ (y : S8x512.Idx) (b : Fin 2), ((Rect.unit (s := S128x4096) (k0_off1 k) S8x512.size (k0_off1_inb k)).idx y b : ℕ) = k0_off1 k b + y b := fun y b => Rect.idx_unit_val _ _ _ _ _
  have v2 : ∀ (y : S8x512.Idx) (b : Fin 2), ((Rect.unit (s := S128x4096) (k0_off2 k) S8x512.size (k0_off2_inb k)).idx y b : ℕ) = k0_off2 k b + y b := fun y b => Rect.idx_unit_val _ _ _ _ _
  refine ⟨?_, ?_⟩
  · have key := inv_step L I
    unfold tripR_k0_t1 trip_k0_t1
    dsimp only
    exact key
  · unfold tripL_k0_t1 trip_k0_t1
    dsimp only
    intro pc hpc y
    simp only [List.mem_cons, List.not_mem_nil, or_false] at hpc
    rcases hpc with rfl | rfl
    · rw [show y = ix2 (n0 := 8) (n1 := 512) (y 0) (y 1) from eq_ix2 (n0 := 8) (n1 := 512) y]
      have h0 : (y 0).val < 8 := (y 0).isLt
      refine ⟨128 * i0 + 8 * k.val + 8 - (y 0).val, 0, y 1, ?_, Or.inr ⟨?_, ?_⟩⟩
      · exact (congrArg (· + _) ((v2 _ 0).trans (congrArg (· + (y 0).val) o20))).trans (by dsimp only; omega)
      · exact (v2 _ 1).trans (congrArg (· + (y 1).val) o21)
      · refine (p36 _ _ _ _ _ _ _ _ _ _ _).trans ((hb (y 0) (y 1)).2.trans ?_)
        rw [show 8 * (16 * i0 + k.val) + 8 - (y 0).val = 128 * i0 + 8 * k.val + 8 - (y 0).val by omega]
    · rw [show y = ix2 (n0 := 8) (n1 := 512) (y 0) (y 1) from eq_ix2 (n0 := 8) (n1 := 512) y]
      have h0 : (y 0).val < 8 := (y 0).isLt
      refine ⟨128 * i0 + 8 * k.val + 8 - (y 0).val, 0, y 1, ?_, Or.inl ⟨?_, ?_⟩⟩
      · exact (congrArg (· + _) ((v1 _ 0).trans (congrArg (· + (y 0).val) o10))).trans (by dsimp only; omega)
      · exact (v1 _ 1).trans (congrArg (· + (y 1).val) o11)
      · refine (p35 _ _ _ _ _ _ _ _ _ _ _).trans ((hb (y 0) (y 1)).1.trans ?_)
        rw [show 8 * (16 * i0 + k.val) + 8 - (y 0).val = 128 * i0 + 8 * k.val + 8 - (y 0).val by omega]

/-- The loop over chunk 1. -/
theorem loop_1 (B : Blk a c XR XI i0 x0 x1 x2)
    {init : FVec Ideal S8x512 .f32 × FVec Ideal S8x512 .f32 × FVec Ideal S8x512 .f32 × FVec Ideal S8x512 .f32}
    (I : Inv (a 0) (c 0) (XR 0) (XI 0) (16 * i0) init) : ∀ k : ℕ, k ≤ 16 →
    Inv (a 0) (c 0) (XR 0) (XI 0) (16 * i0 + k)
      (st_k0_t1 (F := Ideal) Variants.none dev none i arg2 harg2 arg3 harg3 arg4 harg4 arg5 harg5 arg6 harg6 arg7 harg7 (iota .tc S8x512 32 [0] iota_S8x512_d0_w32) (harg2.unread x0) (harg3.unread x1) (harg4.unread x2) init k).1
    ∧ ∀ pc ∈ (st_k0_t1 (F := Ideal) Variants.none dev none i arg2 harg2 arg3 harg3 arg4 harg4 arg5 harg5 arg6 harg6 arg7 harg7 (iota .tc S8x512 32 [0] iota_S8x512_d0_w32) (harg2.unread x0) (harg3.unread x1) (harg4.unread x2) init k).2,
        ∀ y, IsG a c i0 (pc.1.emb y) (pc.2 y)
  | 0, _ => ⟨I, fun pc h => absurd h List.not_mem_nil⟩
  | k + 1, hk => by
    have ht : k0_t1_loop.trips = 16 := by decide +kernel
    obtain ⟨I1, P1⟩ := loop_1 B I k (by omega)
    have R := tripR_1 dev i arg2 harg2 arg3 harg3 arg4 harg4 arg5 harg5 arg6 harg6 arg7 harg7 ⟨k, by omega⟩ B I1
    have e := st_k0_t1_succ (F := Ideal) Variants.none dev none i arg2 harg2 arg3 harg3 arg4 harg4 arg5 harg5 arg6 harg6 arg7 harg7 (iota .tc S8x512 32 [0] iota_S8x512_d0_w32) (harg2.unread x0) (harg3.unread x1) (harg4.unread x2) init ⟨k, by omega⟩
    dsimp only at e
    rw [e]
    refine ⟨R.1, fun pc h => ?_⟩
    rcases List.mem_append.mp h with h | h
    · exact R.2 pc h
    · exact P1 pc h

theorem tripR_2 (k : Fin k0_t2_loop.trips) (B : Blk a c XR XI i0 x0 x1 x2) (e1 : FVec Ideal S8x512 .f32) (e2 : Vec Ideal S1x8x512 .f32)
    {acc : FVec Ideal S8x512 .f32 × FVec Ideal S8x512 .f32 × FVec Ideal S8x512 .f32 × FVec Ideal S8x512 .f32}
    (I : Inv (a 1) (c 1) (XR 1) (XI 1) (16 * i0 + k.val) acc) :
    Inv (a 1) (c 1) (XR 1) (XI 1) (16 * i0 + k.val + 1)
      (tripR_k0_t2 (F := Ideal) Variants.none dev none i arg2 harg2 arg3 harg3 arg4 harg4 arg5 harg5 arg6 harg6 arg7 harg7 (iota .tc S8x512 32 [0] iota_S8x512_d0_w32) e1 e2 (harg2.unread x0) (harg3.unread x1) (harg4.unread x2) k acc)
    ∧ ∀ pc ∈ tripL_k0_t2 (F := Ideal) Variants.none dev none i arg2 harg2 arg3 harg3 arg4 harg4 arg5 harg5 arg6 harg6 arg7 harg7 (iota .tc S8x512 32 [0] iota_S8x512_d0_w32) e1 e2 (harg2.unread x0) (harg3.unread x1) (harg4.unread x2) k acc,
        ∀ y, IsG a c i0 (pc.1.emb y) (pc.2 y) := by
  have hk : k.val < 16 := Nat.lt_of_lt_of_le k.isLt k0_t2_abs.2.1
  have o1 := k0_off3_eq k
  have o2 := k0_off4_eq k
  have o10 := congrFun o1 0
  have o11 := congrFun o1 1
  have o20 := congrFun o2 0
  have o21 := congrFun o2 1
  simp only [Matrix.cons_val_zero, Matrix.cons_val_one] at o10 o11 o20 o21
  have L : Loads (a 1) (c 1) (XR 1) (XI 1) (8 * (16 * i0 + k.val))
      (View.readAt (Elt Ideal) arg4.view (Rect.unit (s := S64x2048) ![0, 512] S8x512.size inb_S64x2048_S8x512_0_512).toLoadRect (harg4.unread x2))
      (View.readAt (Elt Ideal) arg4.view (Rect.unit (s := S64x2048) ![8, 512] S8x512.size inb_S64x2048_S8x512_8_512).toLoadRect (harg4.unread x2))
      (View.readAt (Elt Ideal) arg4.view (Rect.unit (s := S64x2048) ![16, 512] S8x512.size inb_S64x2048_S8x512_16_512).toLoadRect (harg4.unread x2))
      (View.readAt (Elt Ideal) arg4.view (Rect.unit (s := S64x2048) ![24, 512] S8x512.size inb_S64x2048_S8x512_24_512).toLoadRect (harg4.unread x2))
      (View.readAt (Elt Ideal) arg4.view (Rect.unit (s := S64x2048) ![32, 512] S8x512.size inb_S64x2048_S8x512_32_512).toLoadRect (harg4.unread x2))
      (View.readAt (Elt Ideal) arg4.view (Rect.unit (s := S64x2048) ![40, 512] S8x512.size inb_S64x2048_S8x512_40_512).toLoadRect (harg4.unread x2))
      (View.readAt (Elt Ideal) arg4.view (Rect.unit (s := S64x2048) ![48, 512] S8x512.size inb_S64x2048_S8x512_48_512).toLoadRect (harg4.unread x2))
      (View.readAt (Elt Ideal) arg4.view (Rect.unit (s := S64x2048) ![56, 512] S8x512.size inb_S64x2048_S8x512_56_512).toLoadRect (harg4.unread x2))
      (View.readAt (Elt Ideal) arg2.view (Rect.unit (s := S128x4096) (k0_off3 k) S8x512.size (k0_off3_inb k)).toLoadRect (harg2.unread x0))
      (View.readAt (Elt Ideal) arg2.view (Rect.unit (s := S128x4096) (k0_off4 k) S8x512.size (k0_off4_inb k)).toLoadRect (harg2.unread x0))
      (View.readAt (Elt Ideal) arg3.view (Rect.unit (s := S128x4096) (k0_off3 k) S8x512.size (k0_off3_inb k)).toLoadRect (harg3.unread x1))
      (View.readAt (Elt Ideal) arg3.view (Rect.unit (s := S128x4096) (k0_off4 k) S8x512.size (k0_off4_inb k)).toLoadRect (harg3.unread x1)) := by
    refine ⟨fun r p => ?_, fun r p => ?_, fun r p => ?_, fun r p => ?_, fun r p => ?_, fun r p => ?_, fun r p => ?_, fun r p => ?_, fun r p => ?_, fun r p => ?_, fun r p => ?_, fun r p => ?_⟩
    · rw [Memref.IsWhole.readAt_unread]; exact B.tr 0 r 1 p _ (Rect.idx_unit_val _ _ _ _ _) (Rect.idx_unit_val _ _ _ _ _)
    · rw [Memref.IsWhole.readAt_unread]; exact B.ti 0 r 1 p _ (Rect.idx_unit_val _ _ _ _ _) (Rect.idx_unit_val _ _ _ _ _)
    · rw [Memref.IsWhole.readAt_unread]; exact B.tr 1 r 1 p _ (Rect.idx_unit_val _ _ _ _ _) (Rect.idx_unit_val _ _ _ _ _)
    · rw [Memref.IsWhole.readAt_unread]; exact B.ti 1 r 1 p _ (Rect.idx_unit_val _ _ _ _ _) (Rect.idx_unit_val _ _ _ _ _)
    · rw [Memref.IsWhole.readAt_unread]; exact B.tr 2 r 1 p _ (Rect.idx_unit_val _ _ _ _ _) (Rect.idx_unit_val _ _ _ _ _)
    · rw [Memref.IsWhole.readAt_unread]; exact B.ti 2 r 1 p _ (Rect.idx_unit_val _ _ _ _ _) (Rect.idx_unit_val _ _ _ _ _)
    · rw [Memref.IsWhole.readAt_unread]; exact B.tr 3 r 1 p _ (Rect.idx_unit_val _ _ _ _ _) (Rect.idx_unit_val _ _ _ _ _)
    · rw [Memref.IsWhole.readAt_unread]; exact B.ti 3 r 1 p _ (Rect.idx_unit_val _ _ _ _ _) (Rect.idx_unit_val _ _ _ _ _)
    · rw [Memref.IsWhole.readAt_unread]; exact B.ur _ 1 p _ ((congrArg (· + _) ((Rect.idx_unit_val _ _ _ _ _).trans (congrArg (· + r.val) o10))).trans (by omega)) ((Rect.idx_unit_val _ _ _ _ _).trans (congrArg (· + p.val) o11))
    · rw [Memref.IsWhole.readAt_unread]; exact B.ui _ 1 p _ ((congrArg (· + _) ((Rect.idx_unit_val _ _ _ _ _).trans (congrArg (· + r.val) o20))).trans (by omega)) ((Rect.idx_unit_val _ _ _ _ _).trans (congrArg (· + p.val) o21))
    · rw [Memref.IsWhole.readAt_unread]; exact B.xr _ 1 p _ ((congrArg (· + _) ((Rect.idx_unit_val _ _ _ _ _).trans (congrArg (· + r.val) o10))).trans (by omega)) ((Rect.idx_unit_val _ _ _ _ _).trans (congrArg (· + p.val) o11))
    · rw [Memref.IsWhole.readAt_unread]; exact B.xi _ 1 p _ ((congrArg (· + _) ((Rect.idx_unit_val _ _ _ _ _).trans (congrArg (· + r.val) o20))).trans (by omega)) ((Rect.idx_unit_val _ _ _ _ _).trans (congrArg (· + p.val) o21))
  have hb := both L I.re I.im
  have v1 : ∀ (y : S8x512.Idx) (b : Fin 2), ((Rect.unit (s := S128x4096) (k0_off3 k) S8x512.size (k0_off3_inb k)).idx y b : ℕ) = k0_off3 k b + y b := fun y b => Rect.idx_unit_val _ _ _ _ _
  have v2 : ∀ (y : S8x512.Idx) (b : Fin 2), ((Rect.unit (s := S128x4096) (k0_off4 k) S8x512.size (k0_off4_inb k)).idx y b : ℕ) = k0_off4 k b + y b := fun y b => Rect.idx_unit_val _ _ _ _ _
  refine ⟨?_, ?_⟩
  · have key := inv_step L I
    unfold tripR_k0_t2 trip_k0_t2
    dsimp only
    exact key
  · unfold tripL_k0_t2 trip_k0_t2
    dsimp only
    intro pc hpc y
    simp only [List.mem_cons, List.not_mem_nil, or_false] at hpc
    rcases hpc with rfl | rfl
    · rw [show y = ix2 (n0 := 8) (n1 := 512) (y 0) (y 1) from eq_ix2 (n0 := 8) (n1 := 512) y]
      have h0 : (y 0).val < 8 := (y 0).isLt
      refine ⟨128 * i0 + 8 * k.val + 8 - (y 0).val, 1, y 1, ?_, Or.inr ⟨?_, ?_⟩⟩
      · exact (congrArg (· + _) ((v2 _ 0).trans (congrArg (· + (y 0).val) o20))).trans (by dsimp only; omega)
      · exact (v2 _ 1).trans (congrArg (· + (y 1).val) o21)
      · refine (p36 _ _ _ _ _ _ _ _ _ _ _).trans ((hb (y 0) (y 1)).2.trans ?_)
        rw [show 8 * (16 * i0 + k.val) + 8 - (y 0).val = 128 * i0 + 8 * k.val + 8 - (y 0).val by omega]
    · rw [show y = ix2 (n0 := 8) (n1 := 512) (y 0) (y 1) from eq_ix2 (n0 := 8) (n1 := 512) y]
      have h0 : (y 0).val < 8 := (y 0).isLt
      refine ⟨128 * i0 + 8 * k.val + 8 - (y 0).val, 1, y 1, ?_, Or.inl ⟨?_, ?_⟩⟩
      · exact (congrArg (· + _) ((v1 _ 0).trans (congrArg (· + (y 0).val) o10))).trans (by dsimp only; omega)
      · exact (v1 _ 1).trans (congrArg (· + (y 1).val) o11)
      · refine (p35 _ _ _ _ _ _ _ _ _ _ _).trans ((hb (y 0) (y 1)).1.trans ?_)
        rw [show 8 * (16 * i0 + k.val) + 8 - (y 0).val = 128 * i0 + 8 * k.val + 8 - (y 0).val by omega]

/-- The loop over chunk 2. -/
theorem loop_2 (B : Blk a c XR XI i0 x0 x1 x2) (e1 : FVec Ideal S8x512 .f32) (e2 : Vec Ideal S1x8x512 .f32)
    {init : FVec Ideal S8x512 .f32 × FVec Ideal S8x512 .f32 × FVec Ideal S8x512 .f32 × FVec Ideal S8x512 .f32}
    (I : Inv (a 1) (c 1) (XR 1) (XI 1) (16 * i0) init) : ∀ k : ℕ, k ≤ 16 →
    Inv (a 1) (c 1) (XR 1) (XI 1) (16 * i0 + k)
      (st_k0_t2 (F := Ideal) Variants.none dev none i arg2 harg2 arg3 harg3 arg4 harg4 arg5 harg5 arg6 harg6 arg7 harg7 (iota .tc S8x512 32 [0] iota_S8x512_d0_w32) e1 e2 (harg2.unread x0) (harg3.unread x1) (harg4.unread x2) init k).1
    ∧ ∀ pc ∈ (st_k0_t2 (F := Ideal) Variants.none dev none i arg2 harg2 arg3 harg3 arg4 harg4 arg5 harg5 arg6 harg6 arg7 harg7 (iota .tc S8x512 32 [0] iota_S8x512_d0_w32) e1 e2 (harg2.unread x0) (harg3.unread x1) (harg4.unread x2) init k).2,
        ∀ y, IsG a c i0 (pc.1.emb y) (pc.2 y)
  | 0, _ => ⟨I, fun pc h => absurd h List.not_mem_nil⟩
  | k + 1, hk => by
    have ht : k0_t2_loop.trips = 16 := by decide +kernel
    obtain ⟨I1, P1⟩ := loop_2 B e1 e2 I k (by omega)
    have R := tripR_2 dev i arg2 harg2 arg3 harg3 arg4 harg4 arg5 harg5 arg6 harg6 arg7 harg7 ⟨k, by omega⟩ B e1 e2 I1
    have e := st_k0_t2_succ (F := Ideal) Variants.none dev none i arg2 harg2 arg3 harg3 arg4 harg4 arg5 harg5 arg6 harg6 arg7 harg7 (iota .tc S8x512 32 [0] iota_S8x512_d0_w32) e1 e2 (harg2.unread x0) (harg3.unread x1) (harg4.unread x2) init ⟨k, by omega⟩
    dsimp only at e
    rw [e]
    refine ⟨R.1, fun pc h => ?_⟩
    rcases List.mem_append.mp h with h | h
    · exact R.2 pc h
    · exact P1 pc h

theorem tripR_3 (k : Fin k0_t3_loop.trips) (B : Blk a c XR XI i0 x0 x1 x2)
    {acc : FVec Ideal S8x512 .f32 × FVec Ideal S8x512 .f32 × FVec Ideal S8x512 .f32 × FVec Ideal S8x512 .f32}
    (I : Inv (a 2) (c 2) (XR 2) (XI 2) (16 * i0 + k.val) acc) :
    Inv (a 2) (c 2) (XR 2) (XI 2) (16 * i0 + k.val + 1)
      (tripR_k0_t3 (F := Ideal) Variants.none dev none i arg2 harg2 arg3 harg3 arg4 harg4 arg5 harg5 arg6 harg6 arg7 harg7 (iota .tc S8x512 32 [0] iota_S8x512_d0_w32) (harg2.unread x0) (harg3.unread x1) (harg4.unread x2) k acc)
    ∧ ∀ pc ∈ tripL_k0_t3 (F := Ideal) Variants.none dev none i arg2 harg2 arg3 harg3 arg4 harg4 arg5 harg5 arg6 harg6 arg7 harg7 (iota .tc S8x512 32 [0] iota_S8x512_d0_w32) (harg2.unread x0) (harg3.unread x1) (harg4.unread x2) k acc,
        ∀ y, IsG a c i0 (pc.1.emb y) (pc.2 y) := by
  have hk : k.val < 16 := Nat.lt_of_lt_of_le k.isLt k0_t3_abs.2.1
  have o1 := k0_off5_eq k
  have o2 := k0_off6_eq k
  have o10 := congrFun o1 0
  have o11 := congrFun o1 1
  have o20 := congrFun o2 0
  have o21 := congrFun o2 1
  simp only [Matrix.cons_val_zero, Matrix.cons_val_one] at o10 o11 o20 o21
  have L : Loads (a 2) (c 2) (XR 2) (XI 2) (8 * (16 * i0 + k.val))
      (View.readAt (Elt Ideal) arg4.view (Rect.unit (s := S64x2048) ![0, 1024] S8x512.size inb_S64x2048_S8x512_0_1024).toLoadRect (harg4.unread x2))
      (View.readAt (Elt Ideal) arg4.view (Rect.unit (s := S64x2048) ![8, 1024] S8x512.size inb_S64x2048_S8x512_8_1024).toLoadRect (harg4.unread x2))
      (View.readAt (Elt Ideal) arg4.view (Rect.unit (s := S64x2048) ![16, 1024] S8x512.size inb_S64x2048_S8x512_16_1024).toLoadRect (harg4.unread x2))
      (View.readAt (Elt Ideal) arg4.view (Rect.unit (s := S64x2048) ![24, 1024] S8x512.size inb_S64x2048_S8x512_24_1024).toLoadRect (harg4.unread x2))
      (View.readAt (Elt Ideal) arg4.view (Rect.unit (s := S64x2048) ![32, 1024] S8x512.size inb_S64x2048_S8x512_32_1024).toLoadRect (harg4.unread x2))
      (View.readAt (Elt Ideal) arg4.view (Rect.unit (s := S64x2048) ![40, 1024] S8x512.size inb_S64x2048_S8x512_40_1024).toLoadRect (harg4.unread x2))
      (View.readAt (Elt Ideal) arg4.view (Rect.unit (s := S64x2048) ![48, 1024] S8x512.size inb_S64x2048_S8x512_48_1024).toLoadRect (harg4.unread x2))
      (View.readAt (Elt Ideal) arg4.view (Rect.unit (s := S64x2048) ![56, 1024] S8x512.size inb_S64x2048_S8x512_56_1024).toLoadRect (harg4.unread x2))
      (View.readAt (Elt Ideal) arg2.view (Rect.unit (s := S128x4096) (k0_off5 k) S8x512.size (k0_off5_inb k)).toLoadRect (harg2.unread x0))
      (View.readAt (Elt Ideal) arg2.view (Rect.unit (s := S128x4096) (k0_off6 k) S8x512.size (k0_off6_inb k)).toLoadRect (harg2.unread x0))
      (View.readAt (Elt Ideal) arg3.view (Rect.unit (s := S128x4096) (k0_off5 k) S8x512.size (k0_off5_inb k)).toLoadRect (harg3.unread x1))
      (View.readAt (Elt Ideal) arg3.view (Rect.unit (s := S128x4096) (k0_off6 k) S8x512.size (k0_off6_inb k)).toLoadRect (harg3.unread x1)) := by
    refine ⟨fun r p => ?_, fun r p => ?_, fun r p => ?_, fun r p => ?_, fun r p => ?_, fun r p => ?_, fun r p => ?_, fun r p => ?_, fun r p => ?_, fun r p => ?_, fun r p => ?_, fun r p => ?_⟩
    · rw [Memref.IsWhole.readAt_unread]; exact B.tr 0 r 2 p _ (Rect.idx_unit_val _ _ _ _ _) (Rect.idx_unit_val _ _ _ _ _)
    · rw [Memref.IsWhole.readAt_unread]; exact B.ti 0 r 2 p _ (Rect.idx_unit_val _ _ _ _ _) (Rect.idx_unit_val _ _ _ _ _)
    · rw [Memref.IsWhole.readAt_unread]; exact B.tr 1 r 2 p _ (Rect.idx_unit_val _ _ _ _ _) (Rect.idx_unit_val _ _ _ _ _)
    · rw [Memref.IsWhole.readAt_unread]; exact B.ti 1 r 2 p _ (Rect.idx_unit_val _ _ _ _ _) (Rect.idx_unit_val _ _ _ _ _)
    · rw [Memref.IsWhole.readAt_unread]; exact B.tr 2 r 2 p _ (Rect.idx_unit_val _ _ _ _ _) (Rect.idx_unit_val _ _ _ _ _)
    · rw [Memref.IsWhole.readAt_unread]; exact B.ti 2 r 2 p _ (Rect.idx_unit_val _ _ _ _ _) (Rect.idx_unit_val _ _ _ _ _)
    · rw [Memref.IsWhole.readAt_unread]; exact B.tr 3 r 2 p _ (Rect.idx_unit_val _ _ _ _ _) (Rect.idx_unit_val _ _ _ _ _)
    · rw [Memref.IsWhole.readAt_unread]; exact B.ti 3 r 2 p _ (Rect.idx_unit_val _ _ _ _ _) (Rect.idx_unit_val _ _ _ _ _)
    · rw [Memref.IsWhole.readAt_unread]; exact B.ur _ 2 p _ ((congrArg (· + _) ((Rect.idx_unit_val _ _ _ _ _).trans (congrArg (· + r.val) o10))).trans (by omega)) ((Rect.idx_unit_val _ _ _ _ _).trans (congrArg (· + p.val) o11))
    · rw [Memref.IsWhole.readAt_unread]; exact B.ui _ 2 p _ ((congrArg (· + _) ((Rect.idx_unit_val _ _ _ _ _).trans (congrArg (· + r.val) o20))).trans (by omega)) ((Rect.idx_unit_val _ _ _ _ _).trans (congrArg (· + p.val) o21))
    · rw [Memref.IsWhole.readAt_unread]; exact B.xr _ 2 p _ ((congrArg (· + _) ((Rect.idx_unit_val _ _ _ _ _).trans (congrArg (· + r.val) o10))).trans (by omega)) ((Rect.idx_unit_val _ _ _ _ _).trans (congrArg (· + p.val) o11))
    · rw [Memref.IsWhole.readAt_unread]; exact B.xi _ 2 p _ ((congrArg (· + _) ((Rect.idx_unit_val _ _ _ _ _).trans (congrArg (· + r.val) o20))).trans (by omega)) ((Rect.idx_unit_val _ _ _ _ _).trans (congrArg (· + p.val) o21))
  have hb := both L I.re I.im
  have v1 : ∀ (y : S8x512.Idx) (b : Fin 2), ((Rect.unit (s := S128x4096) (k0_off5 k) S8x512.size (k0_off5_inb k)).idx y b : ℕ) = k0_off5 k b + y b := fun y b => Rect.idx_unit_val _ _ _ _ _
  have v2 : ∀ (y : S8x512.Idx) (b : Fin 2), ((Rect.unit (s := S128x4096) (k0_off6 k) S8x512.size (k0_off6_inb k)).idx y b : ℕ) = k0_off6 k b + y b := fun y b => Rect.idx_unit_val _ _ _ _ _
  refine ⟨?_, ?_⟩
  · have key := inv_step L I
    unfold tripR_k0_t3 trip_k0_t3
    dsimp only
    exact key
  · unfold tripL_k0_t3 trip_k0_t3
    dsimp only
    intro pc hpc y
    simp only [List.mem_cons, List.not_mem_nil, or_false] at hpc
    rcases hpc with rfl | rfl
    · rw [show y = ix2 (n0 := 8) (n1 := 512) (y 0) (y 1) from eq_ix2 (n0 := 8) (n1 := 512) y]
      have h0 : (y 0).val < 8 := (y 0).isLt
      refine ⟨128 * i0 + 8 * k.val + 8 - (y 0).val, 2, y 1, ?_, Or.inr ⟨?_, ?_⟩⟩
      · exact (congrArg (· + _) ((v2 _ 0).trans (congrArg (· + (y 0).val) o20))).trans (by dsimp only; omega)
      · exact (v2 _ 1).trans (congrArg (· + (y 1).val) o21)
      · refine (p36 _ _ _ _ _ _ _ _ _ _ _).trans ((hb (y 0) (y 1)).2.trans ?_)
        rw [show 8 * (16 * i0 + k.val) + 8 - (y 0).val = 128 * i0 + 8 * k.val + 8 - (y 0).val by omega]
    · rw [show y = ix2 (n0 := 8) (n1 := 512) (y 0) (y 1) from eq_ix2 (n0 := 8) (n1 := 512) y]
      have h0 : (y 0).val < 8 := (y 0).isLt
      refine ⟨128 * i0 + 8 * k.val + 8 - (y 0).val, 2, y 1, ?_, Or.inl ⟨?_, ?_⟩⟩
      · exact (congrArg (· + _) ((v1 _ 0).trans (congrArg (· + (y 0).val) o10))).trans (by dsimp only; omega)
      · exact (v1 _ 1).trans (congrArg (· + (y 1).val) o11)
      · refine (p35 _ _ _ _ _ _ _ _ _ _ _).trans ((hb (y 0) (y 1)).1.trans ?_)
        rw [show 8 * (16 * i0 + k.val) + 8 - (y 0).val = 128 * i0 + 8 * k.val + 8 - (y 0).val by omega]

/-- The loop over chunk 3. -/
theorem loop_3 (B : Blk a c XR XI i0 x0 x1 x2)
    {init : FVec Ideal S8x512 .f32 × FVec Ideal S8x512 .f32 × FVec Ideal S8x512 .f32 × FVec Ideal S8x512 .f32}
    (I : Inv (a 2) (c 2) (XR 2) (XI 2) (16 * i0) init) : ∀ k : ℕ, k ≤ 16 →
    Inv (a 2) (c 2) (XR 2) (XI 2) (16 * i0 + k)
      (st_k0_t3 (F := Ideal) Variants.none dev none i arg2 harg2 arg3 harg3 arg4 harg4 arg5 harg5 arg6 harg6 arg7 harg7 (iota .tc S8x512 32 [0] iota_S8x512_d0_w32) (harg2.unread x0) (harg3.unread x1) (harg4.unread x2) init k).1
    ∧ ∀ pc ∈ (st_k0_t3 (F := Ideal) Variants.none dev none i arg2 harg2 arg3 harg3 arg4 harg4 arg5 harg5 arg6 harg6 arg7 harg7 (iota .tc S8x512 32 [0] iota_S8x512_d0_w32) (harg2.unread x0) (harg3.unread x1) (harg4.unread x2) init k).2,
        ∀ y, IsG a c i0 (pc.1.emb y) (pc.2 y)
  | 0, _ => ⟨I, fun pc h => absurd h List.not_mem_nil⟩
  | k + 1, hk => by
    have ht : k0_t3_loop.trips = 16 := by decide +kernel
    obtain ⟨I1, P1⟩ := loop_3 B I k (by omega)
    have R := tripR_3 dev i arg2 harg2 arg3 harg3 arg4 harg4 arg5 harg5 arg6 harg6 arg7 harg7 ⟨k, by omega⟩ B I1
    have e := st_k0_t3_succ (F := Ideal) Variants.none dev none i arg2 harg2 arg3 harg3 arg4 harg4 arg5 harg5 arg6 harg6 arg7 harg7 (iota .tc S8x512 32 [0] iota_S8x512_d0_w32) (harg2.unread x0) (harg3.unread x1) (harg4.unread x2) init ⟨k, by omega⟩
    dsimp only at e
    rw [e]
    refine ⟨R.1, fun pc h => ?_⟩
    rcases List.mem_append.mp h with h | h
    · exact R.2 pc h
    · exact P1 pc h

theorem tripR_4 (k : Fin k0_t4_loop.trips) (B : Blk a c XR XI i0 x0 x1 x2)
    {acc : FVec Ideal S8x512 .f32 × FVec Ideal S8x512 .f32 × FVec Ideal S8x512 .f32 × FVec Ideal S8x512 .f32}
    (I : Inv (a 3) (c 3) (XR 3) (XI 3) (16 * i0 + k.val) acc) :
    Inv (a 3) (c 3) (XR 3) (XI 3) (16 * i0 + k.val + 1)
      (tripR_k0_t4 (F := Ideal) Variants.none dev none i arg2 harg2 arg3 harg3 arg4 harg4 arg5 harg5 arg6 harg6 arg7 harg7 (iota .tc S8x512 32 [0] iota_S8x512_d0_w32) (harg2.unread x0) (harg3.unread x1) (harg4.unread x2) k acc)
    ∧ ∀ pc ∈ tripL_k0_t4 (F := Ideal) Variants.none dev none i arg2 harg2 arg3 harg3 arg4 harg4 arg5 harg5 arg6 harg6 arg7 harg7 (iota .tc S8x512 32 [0] iota_S8x512_d0_w32) (harg2.unread x0) (harg3.unread x1) (harg4.unread x2) k acc,
        ∀ y, IsG a c i0 (pc.1.emb y) (pc.2 y) := by
  have hk : k.val < 16 := Nat.lt_of_lt_of_le k.isLt k0_t4_abs.2.1
  have o1 := k0_off7_eq k
  have o2 := k0_off8_eq k
  have o10 := congrFun o1 0
  have o11 := congrFun o1 1
  have o20 := congrFun o2 0
  have o21 := congrFun o2 1
  simp only [Matrix.cons_val_zero, Matrix.cons_val_one] at o10 o11 o20 o21
  have L : Loads (a 3) (c 3) (XR 3) (XI 3) (8 * (16 * i0 + k.val))
      (View.readAt (Elt Ideal) arg4.view (Rect.unit (s := S64x2048) ![0, 1536] S8x512.size inb_S64x2048_S8x512_0_1536).toLoadRect (harg4.unread x2))
      (View.readAt (Elt Ideal) arg4.view (Rect.unit (s := S64x2048) ![8, 1536] S8x512.size inb_S64x2048_S8x512_8_1536).toLoadRect (harg4.unread x2))
      (View.readAt (Elt Ideal) arg4.view (Rect.unit (s := S64x2048) ![16, 1536] S8x512.size inb_S64x2048_S8x512_16_1536).toLoadRect (harg4.unread x2))
      (View.readAt (Elt Ideal) arg4.view (Rect.unit (s := S64x2048) ![24, 1536] S8x512.size inb_S64x2048_S8x512_24_1536).toLoadRect (harg4.unread x2))
      (View.readAt (Elt Ideal) arg4.view (Rect.unit (s := S64x2048) ![32, 1536] S8x512.size inb_S64x2048_S8x512_32_1536).toLoadRect (harg4.unread x2))
      (View.readAt (Elt Ideal) arg4.view (Rect.unit (s := S64x2048) ![40, 1536] S8x512.size inb_S64x2048_S8x512_40_1536).toLoadRect (harg4.unread x2))
      (View.readAt (Elt Ideal) arg4.view (Rect.unit (s := S64x2048) ![48, 1536] S8x512.size inb_S64x2048_S8x512_48_1536).toLoadRect (harg4.unread x2))
      (View.readAt (Elt Ideal) arg4.view (Rect.unit (s := S64x2048) ![56, 1536] S8x512.size inb_S64x2048_S8x512_56_1536).toLoadRect (harg4.unread x2))
      (View.readAt (Elt Ideal) arg2.view (Rect.unit (s := S128x4096) (k0_off7 k) S8x512.size (k0_off7_inb k)).toLoadRect (harg2.unread x0))
      (View.readAt (Elt Ideal) arg2.view (Rect.unit (s := S128x4096) (k0_off8 k) S8x512.size (k0_off8_inb k)).toLoadRect (harg2.unread x0))
      (View.readAt (Elt Ideal) arg3.view (Rect.unit (s := S128x4096) (k0_off7 k) S8x512.size (k0_off7_inb k)).toLoadRect (harg3.unread x1))
      (View.readAt (Elt Ideal) arg3.view (Rect.unit (s := S128x4096) (k0_off8 k) S8x512.size (k0_off8_inb k)).toLoadRect (harg3.unread x1)) := by
    refine ⟨fun r p => ?_, fun r p => ?_, fun r p => ?_, fun r p => ?_, fun r p => ?_, fun r p => ?_, fun r p => ?_, fun r p => ?_, fun r p => ?_, fun r p => ?_, fun r p => ?_, fun r p => ?_⟩
    · rw [Memref.IsWhole.readAt_unread]; exact B.tr 0 r 3 p _ (Rect.idx_unit_val _ _ _ _ _) (Rect.idx_unit_val _ _ _ _ _)
    · rw [Memref.IsWhole.readAt_unread]; exact B.ti 0 r 3 p _ (Rect.idx_unit_val _ _ _ _ _) (Rect.idx_unit_val _ _ _ _ _)
    · rw [Memref.IsWhole.readAt_unread]; exact B.tr 1 r 3 p _ (Rect.idx_unit_val _ _ _ _ _) (Rect.idx_unit_val _ _ _ _ _)
    · rw [Memref.IsWhole.readAt_unread]; exact B.ti 1 r 3 p _ (Rect.idx_unit_val _ _ _ _ _) (Rect.idx_unit_val _ _ _ _ _)
    · rw [Memref.IsWhole.readAt_unread]; exact B.tr 2 r 3 p _ (Rect.idx_unit_val _ _ _ _ _) (Rect.idx_unit_val _ _ _ _ _)
    · rw [Memref.IsWhole.readAt_unread]; exact B.ti 2 r 3 p _ (Rect.idx_unit_val _ _ _ _ _) (Rect.idx_unit_val _ _ _ _ _)
    · rw [Memref.IsWhole.readAt_unread]; exact B.tr 3 r 3 p _ (Rect.idx_unit_val _ _ _ _ _) (Rect.idx_unit_val _ _ _ _ _)
    · rw [Memref.IsWhole.readAt_unread]; exact B.ti 3 r 3 p _ (Rect.idx_unit_val _ _ _ _ _) (Rect.idx_unit_val _ _ _ _ _)
    · rw [Memref.IsWhole.readAt_unread]; exact B.ur _ 3 p _ ((congrArg (· + _) ((Rect.idx_unit_val _ _ _ _ _).trans (congrArg (· + r.val) o10))).trans (by omega)) ((Rect.idx_unit_val _ _ _ _ _).trans (congrArg (· + p.val) o11))
    · rw [Memref.IsWhole.readAt_unread]; exact B.ui _ 3 p _ ((congrArg (· + _) ((Rect.idx_unit_val _ _ _ _ _).trans (congrArg (· + r.val) o20))).trans (by omega)) ((Rect.idx_unit_val _ _ _ _ _).trans (congrArg (· + p.val) o21))
    · rw [Memref.IsWhole.readAt_unread]; exact B.xr _ 3 p _ ((congrArg (· + _) ((Rect.idx_unit_val _ _ _ _ _).trans (congrArg (· + r.val) o10))).trans (by omega)) ((Rect.idx_unit_val _ _ _ _ _).trans (congrArg (· + p.val) o11))
    · rw [Memref.IsWhole.readAt_unread]; exact B.xi _ 3 p _ ((congrArg (· + _) ((Rect.idx_unit_val _ _ _ _ _).trans (congrArg (· + r.val) o20))).trans (by omega)) ((Rect.idx_unit_val _ _ _ _ _).trans (congrArg (· + p.val) o21))
  have hb := both L I.re I.im
  have v1 : ∀ (y : S8x512.Idx) (b : Fin 2), ((Rect.unit (s := S128x4096) (k0_off7 k) S8x512.size (k0_off7_inb k)).idx y b : ℕ) = k0_off7 k b + y b := fun y b => Rect.idx_unit_val _ _ _ _ _
  have v2 : ∀ (y : S8x512.Idx) (b : Fin 2), ((Rect.unit (s := S128x4096) (k0_off8 k) S8x512.size (k0_off8_inb k)).idx y b : ℕ) = k0_off8 k b + y b := fun y b => Rect.idx_unit_val _ _ _ _ _
  refine ⟨?_, ?_⟩
  · have key := inv_step L I
    unfold tripR_k0_t4 trip_k0_t4
    dsimp only
    exact key
  · unfold tripL_k0_t4 trip_k0_t4
    dsimp only
    intro pc hpc y
    simp only [List.mem_cons, List.not_mem_nil, or_false] at hpc
    rcases hpc with rfl | rfl
    · rw [show y = ix2 (n0 := 8) (n1 := 512) (y 0) (y 1) from eq_ix2 (n0 := 8) (n1 := 512) y]
      have h0 : (y 0).val < 8 := (y 0).isLt
      refine ⟨128 * i0 + 8 * k.val + 8 - (y 0).val, 3, y 1, ?_, Or.inr ⟨?_, ?_⟩⟩
      · exact (congrArg (· + _) ((v2 _ 0).trans (congrArg (· + (y 0).val) o20))).trans (by dsimp only; omega)
      · exact (v2 _ 1).trans (congrArg (· + (y 1).val) o21)
      · refine (p36 _ _ _ _ _ _ _ _ _ _ _).trans ((hb (y 0) (y 1)).2.trans ?_)
        rw [show 8 * (16 * i0 + k.val) + 8 - (y 0).val = 128 * i0 + 8 * k.val + 8 - (y 0).val by omega]
    · rw [show y = ix2 (n0 := 8) (n1 := 512) (y 0) (y 1) from eq_ix2 (n0 := 8) (n1 := 512) y]
      have h0 : (y 0).val < 8 := (y 0).isLt
      refine ⟨128 * i0 + 8 * k.val + 8 - (y 0).val, 3, y 1, ?_, Or.inl ⟨?_, ?_⟩⟩
      · exact (congrArg (· + _) ((v1 _ 0).trans (congrArg (· + (y 0).val) o10))).trans (by dsimp only; omega)
      · exact (v1 _ 1).trans (congrArg (· + (y 1).val) o11)
      · refine (p35 _ _ _ _ _ _ _ _ _ _ _).trans ((hb (y 0) (y 1)).1.trans ?_)
        rw [show 8 * (16 * i0 + k.val) + 8 - (y 0).val = 128 * i0 + 8 * k.val + 8 - (y 0).val by omega]

/-- The loop over chunk 4. -/
theorem loop_4 (B : Blk a c XR XI i0 x0 x1 x2)
    {init : FVec Ideal S8x512 .f32 × FVec Ideal S8x512 .f32 × FVec Ideal S8x512 .f32 × FVec Ideal S8x512 .f32}
    (I : Inv (a 3) (c 3) (XR 3) (XI 3) (16 * i0) init) : ∀ k : ℕ, k ≤ 16 →
    Inv (a 3) (c 3) (XR 3) (XI 3) (16 * i0 + k)
      (st_k0_t4 (F := Ideal) Variants.none dev none i arg2 harg2 arg3 harg3 arg4 harg4 arg5 harg5 arg6 harg6 arg7 harg7 (iota .tc S8x512 32 [0] iota_S8x512_d0_w32) (harg2.unread x0) (harg3.unread x1) (harg4.unread x2) init k).1
    ∧ ∀ pc ∈ (st_k0_t4 (F := Ideal) Variants.none dev none i arg2 harg2 arg3 harg3 arg4 harg4 arg5 harg5 arg6 harg6 arg7 harg7 (iota .tc S8x512 32 [0] iota_S8x512_d0_w32) (harg2.unread x0) (harg3.unread x1) (harg4.unread x2) init k).2,
        ∀ y, IsG a c i0 (pc.1.emb y) (pc.2 y)
  | 0, _ => ⟨I, fun pc h => absurd h List.not_mem_nil⟩
  | k + 1, hk => by
    have ht : k0_t4_loop.trips = 16 := by decide +kernel
    obtain ⟨I1, P1⟩ := loop_4 B I k (by omega)
    have R := tripR_4 dev i arg2 harg2 arg3 harg3 arg4 harg4 arg5 harg5 arg6 harg6 arg7 harg7 ⟨k, by omega⟩ B I1
    have e := st_k0_t4_succ (F := Ideal) Variants.none dev none i arg2 harg2 arg3 harg3 arg4 harg4 arg5 harg5 arg6 harg6 arg7 harg7 (iota .tc S8x512 32 [0] iota_S8x512_d0_w32) (harg2.unread x0) (harg3.unread x1) (harg4.unread x2) init ⟨k, by omega⟩
    dsimp only at e
    rw [e]
    refine ⟨R.1, fun pc h => ?_⟩
    rcases List.mem_append.mp h with h | h
    · exact R.2 pc h
    · exact P1 pc h

end

end Cert.ScanIdeal.Hand

end
-- ==== Proof.ScanPoint.lean ====
/- What a point leaves, from what its blocks, the sums so far and the carry hold. -/
module

public import proofs.«01_k».proof.Proof.ScanLoops

@[expose] public section

set_option maxRecDepth 16384

noncomputable section

namespace Cert.ScanIdeal.Hand

open Cert.ScanIdeal.Gen Cert.ScanMath
open Idealize.ShloMosaic Idealize.ShloMosaic.TcCoe Idealize.ShloMosaic.Tactic

/-- Where pieces cover an index, the contents there are some piece's. -/
theorem canon_of_pieces {S : Shape} {e : EltTy} (P : S.Idx → Elt Ideal e → Prop) (y : S.Idx) : ∀ (L : List (View.Piece (Elt Ideal) S e)),
    (∀ pc ∈ L, ∀ x, P (pc.1.emb x) (pc.2 x)) → (∃ pc ∈ L, y ∈ pc.1.set) → P y (View.canon L y)
  | [], _, h => by obtain ⟨pc, h, _⟩ := h; exact absurd h List.not_mem_nil
  | ⟨r, w⟩ :: L, hP, hc => by
    by_cases hy : y ∈ r.set
    · obtain ⟨x, hx⟩ := r.exists_idx_of_mem hy
      subst hx
      change P (r.emb x) (View.canon (⟨r, w⟩ :: L) (r.emb x))
      rw [View.canon_cons_emb]
      exact hP _ List.mem_cons_self x
    · rw [View.canon_cons_of_not_mem _ _ hy]
      refine canon_of_pieces P y L (fun pc h => hP pc (List.mem_cons_of_mem _ h)) ?_
      obtain ⟨pc, h, h2⟩ := hc
      rcases List.mem_cons.mp h with rfl | h
      · exact absurd h2 hy
      · exact ⟨pc, h, h2⟩

/-- The carry's contents before the reversed time `128 * i`. -/
def IsS (a : Fin 4 → Fin 512 → ℂ) (c : Fin 4 → Fin 512 → ℕ → ℂ) (i : ℕ) (y : S2x8x2048.Idx) (v : EReal) : Prop :=
  ∃ (j : Fin 4) (p : Fin 512), (y 2).val = 512 * j.val + p.val
    ∧ ((y 0).val = 0 ∧ v = re' (G (a j p) (c j p) (128 * i)) ∨ (y 0).val = 1 ∧ v = im' (G (a j p) (c j p) (128 * i)))

/-- The sums' contents before the reversed time `128 * i`. -/
def IsD (a : Fin 4 → Fin 512 → ℂ) (c : Fin 4 → Fin 512 → ℕ → ℂ) (XR XI : Fin 4 → Fin 512 → ℕ → EReal) (i : ℕ) (y : S1x8x4096.Idx) (v : EReal) : Prop :=
  ∃ (j : Fin 4) (p : Fin 512),
    ((y 2).val = 1024 * j.val + p.val ∧ v = ∑ k ∈ Finset.range (16 * i), dRe (a j) (c j) (XR j) (XI j) p (8 * k + 7 - (y 1).val)
      ∨ (y 2).val = 1024 * j.val + 512 + p.val ∧ v = ∑ k ∈ Finset.range (16 * i), dIm (a j) (c j) (XR j) (XI j) p (8 * k + 7 - (y 1).val))

section Unique

variable {a : Fin 4 → Fin 512 → ℂ} {c : Fin 4 → Fin 512 → ℕ → ℂ} {XR XI : Fin 4 → Fin 512 → ℕ → EReal} {i : ℕ}

theorem IsS.re {y : S2x8x2048.Idx} {v : EReal} (h : IsS a c i y v) (j : Fin 4) (p : Fin 512) (h0 : (y 0).val = 0) (h2 : (y 2).val = 512 * j.val + p.val) :
    v = re' (G (a j p) (c j p) (128 * i)) := by
  obtain ⟨j', p', e, h⟩ := h
  obtain rfl : j' = j := Fin.ext (by omega)
  obtain rfl : p' = p := Fin.ext (by omega)
  rcases h with ⟨_, h⟩ | ⟨_, _⟩
  · exact h
  · omega
theorem IsS.im {y : S2x8x2048.Idx} {v : EReal} (h : IsS a c i y v) (j : Fin 4) (p : Fin 512) (h0 : (y 0).val = 1) (h2 : (y 2).val = 512 * j.val + p.val) :
    v = im' (G (a j p) (c j p) (128 * i)) := by
  obtain ⟨j', p', e, h⟩ := h
  obtain rfl : j' = j := Fin.ext (by omega)
  obtain rfl : p' = p := Fin.ext (by omega)
  rcases h with ⟨_, _⟩ | ⟨_, h⟩
  · omega
  · exact h
theorem IsD.re {y : S1x8x4096.Idx} {v : EReal} (h : IsD a c XR XI i y v) (j : Fin 4) (p : Fin 512) (h2 : (y 2).val = 1024 * j.val + p.val) :
    v = ∑ k ∈ Finset.range (16 * i), dRe (a j) (c j) (XR j) (XI j) p (8 * k + 7 - (y 1).val) := by
  obtain ⟨j', p', h⟩ := h
  rcases h with ⟨e, h⟩ | ⟨e, _⟩
  · obtain rfl : j' = j := Fin.ext (by omega)
    obtain rfl : p' = p := Fin.ext (by omega)
    exact h
  · omega
theorem IsD.im {y : S1x8x4096.Idx} {v : EReal} (h : IsD a c XR XI i y v) (j : Fin 4) (p : Fin 512) (h2 : (y 2).val = 1024 * j.val + 512 + p.val) :
    v = ∑ k ∈ Finset.range (16 * i), dIm (a j) (c j) (XR j) (XI j) p (8 * k + 7 - (y 1).val) := by
  obtain ⟨j', p', h⟩ := h
  rcases h with ⟨e, _⟩ | ⟨e, h⟩
  · omega
  · obtain rfl : j' = j := Fin.ext (by omega)
    obtain rfl : p' = p := Fin.ext (by omega)
    exact h
theorem IsG.re {y : S128x4096.Idx} {v : EReal} (h : IsG a c i y v) (n : ℕ) (j : Fin 4) (p : Fin 512) (h0 : (y 0).val + n = 128 * i + 128) (h2 : (y 1).val = 1024 * j.val + p.val) :
    v = re' (G (a j p) (c j p) n) := by
  obtain ⟨n', j', p', en, h⟩ := h
  obtain rfl : n' = n := by omega
  rcases h with ⟨e, h⟩ | ⟨e, _⟩
  · obtain rfl : j' = j := Fin.ext (by omega)
    obtain rfl : p' = p := Fin.ext (by omega)
    exact h
  · omega
theorem IsG.im {y : S128x4096.Idx} {v : EReal} (h : IsG a c i y v) (n : ℕ) (j : Fin 4) (p : Fin 512) (h0 : (y 0).val + n = 128 * i + 128) (h2 : (y 1).val = 1024 * j.val + 512 + p.val) :
    v = im' (G (a j p) (c j p) n) := by
  obtain ⟨n', j', p', en, h⟩ := h
  obtain rfl : n' = n := by omega
  rcases h with ⟨e, _⟩ | ⟨e, h⟩
  · omega
  · obtain rfl : j' = j := Fin.ext (by omega)
    obtain rfl : p' = p := Fin.ext (by omega)
    exact h

end Unique

theorem in3 (v : Vec Ideal S1x8x512 .f32) (r : Fin 8) (p : Fin 512) : k0_pay123 v (ix2 r p) = v (ix3 0 r p) := by
  pointwise [k0_pay123]
theorem out3 (v : FVec Ideal S8x512 .f32) (y : S1x8x512.Idx) : k0_pay132 v y = v (ix2 (y 1) (y 2)) := by
  pointwise [k0_pay132]

theorem trips_eq : Scf.trips (0#32) (Scalar.addi 0#32 16#32) 1#32 = 16 := by decide +kernel

theorem inv_init {a : Fin 512 → ℂ} {c : Fin 512 → ℕ → ℂ} {XR XI : Fin 512 → ℕ → EReal} {K : ℕ} (v1 v2 v3 v4 : Vec Ideal S1x8x512 .f32)
    (h1 : ∀ r p, v1 (ix3 0 r p) = re' (G (a p) (c p) (8 * K))) (h2 : ∀ r p, v2 (ix3 0 r p) = im' (G (a p) (c p) (8 * K)))
    (h3 : ∀ r p, v3 (ix3 0 r p) = ∑ k ∈ Finset.range K, dRe a c XR XI p (8 * k + 7 - r.val))
    (h4 : ∀ r p, v4 (ix3 0 r p) = ∑ k ∈ Finset.range K, dIm a c XR XI p (8 * k + 7 - r.val)) :
    Inv a c XR XI K (k0_pay123 v1, k0_pay123 v2, k0_pay123 v3, k0_pay123 v4) :=
  ⟨fun r p => (in3 v1 r p).trans (h1 r p), fun r p => (in3 v2 r p).trans (h2 r p), fun r p => (in3 v3 r p).trans (h3 r p), fun r p => (in3 v4 r p).trans (h4 r p)⟩

section Point

variable {a : Fin 4 → Fin 512 → ℂ} {c : Fin 4 → Fin 512 → ℕ → ℂ} {XR XI : Fin 4 → Fin 512 → ℕ → EReal} {i0 : ℕ}
  {x0 x1 : Vec Ideal S128x4096 .bf16} {x2 : Vec Ideal S64x2048 .f32} {xo : Vec Ideal S1x8x4096 .f32} {xs : Vec Ideal S2x8x2048 .f32}

variable (dev : Dev nD) (i : grid0.Coords) (arg2 : Memref sig .tc .vmem S128x4096 .bf16) (harg2 : arg2.IsWhole) (arg3 : Memref sig .tc .vmem S128x4096 .bf16) (harg3 : arg3.IsWhole) (arg4 : Memref sig .tc .vmem S64x2048 .f32) (harg4 : arg4.IsWhole) (arg5 : Memref sig .tc .vmem S128x4096 .bf16) (harg5 : arg5.IsWhole) (arg6 : Memref sig .tc .vmem S1x8x4096 .f32) (harg6 : arg6.IsWhole) (arg7 : Memref sig .tc .vmem S2x8x2048 .f32) (harg7 : arg7.IsWhole) (hc0 : ¬cond i)

theorem init_1 (hs : ∀ y, IsS a c i0 y (xs y)) (hd : ∀ y, IsD a c XR XI i0 y (xo y)) :
    Inv (a 0) (c 0) (XR 0) (XI 0) (16 * i0)
      (k0_pay123 (View.readAt (Elt Ideal) arg7.view (Rect.unit (s := S2x8x2048) ![0, 0, 0] ![1, 8, 512] inb_S2x8x2048_S1x8x512_0_0_0).toLoadRect (harg7.unread xs)),
       k0_pay123 (View.readAt (Elt Ideal) arg7.view (Rect.unit (s := S2x8x2048) ![1, 0, 0] ![1, 8, 512] inb_S2x8x2048_S1x8x512_1_0_0).toLoadRect (harg7.unread xs)),
       k0_pay123 (View.readAt (Elt Ideal) arg6.view (Rect.unit (s := S1x8x4096) ![0, 0, 0] ![1, 8, 512] inb_S1x8x4096_S1x8x512_0_0_0).toLoadRect (harg6.unread xo)),
       k0_pay123 (View.readAt (Elt Ideal) arg6.view (Rect.unit (s := S1x8x4096) ![0, 0, 512] ![1, 8, 512] inb_S1x8x4096_S1x8x512_0_0_512).toLoadRect (harg6.unread xo))) := by
  refine inv_init _ _ _ _ (fun r p => ?_) (fun r p => ?_) (fun r p => ?_) (fun r p => ?_)
  · rw [Memref.IsWhole.readAt_unread]
    refine ((hs _).re 0 p (Rect.idx_unit_val _ _ _ _ _) (Rect.idx_unit_val _ _ _ _ _)).trans ?_
    rw [show 8 * (16 * i0) = 128 * i0 by omega]
  · rw [Memref.IsWhole.readAt_unread]
    refine ((hs _).im 0 p (Rect.idx_unit_val _ _ _ _ _) (Rect.idx_unit_val _ _ _ _ _)).trans ?_
    rw [show 8 * (16 * i0) = 128 * i0 by omega]
  · rw [Memref.IsWhole.readAt_unread]
    refine ((hd _).re 0 p (Rect.idx_unit_val _ _ _ _ _)).trans ?_
    exact Finset.sum_congr rfl fun k _ => congrArg (fun n => dRe _ _ _ _ p (8 * k + 7 - n)) ((Rect.idx_unit_val _ _ _ _ _).trans (Nat.zero_add _))
  · rw [Memref.IsWhole.readAt_unread]
    refine ((hd _).im 0 p (Rect.idx_unit_val _ _ _ _ _)).trans ?_
    exact Finset.sum_congr rfl fun k _ => congrArg (fun n => dIm _ _ _ _ p (8 * k + 7 - n)) ((Rect.idx_unit_val _ _ _ _ _).trans (Nat.zero_add _))

/-- What chunk 0 writes back. -/
theorem back_1 {acc : FVec Ideal S8x512 .f32 × FVec Ideal S8x512 .f32 × FVec Ideal S8x512 .f32 × FVec Ideal S8x512 .f32} (I : Inv (a 0) (c 0) (XR 0) (XI 0) (16 * i0 + 16) acc) (y : S1x8x512.Idx) :
    IsS a c (i0 + 1) ((Rect.unit (s := S2x8x2048) ![0, 0, 0] ![1, 8, 512] inb_S2x8x2048_S1x8x512_0_0_0).emb y) (k0_pay132 acc.1 y)
    ∧ IsS a c (i0 + 1) ((Rect.unit (s := S2x8x2048) ![1, 0, 0] ![1, 8, 512] inb_S2x8x2048_S1x8x512_1_0_0).emb y) (k0_pay132 acc.2.1 y)
    ∧ IsD a c XR XI (i0 + 1) ((Rect.unit (s := S1x8x4096) ![0, 0, 0] ![1, 8, 512] inb_S1x8x4096_S1x8x512_0_0_0).emb y) (k0_pay132 acc.2.2.1 y)
    ∧ IsD a c XR XI (i0 + 1) ((Rect.unit (s := S1x8x4096) ![0, 0, 512] ![1, 8, 512] inb_S1x8x4096_S1x8x512_0_0_512).emb y) (k0_pay132 acc.2.2.2 y) := by
  have h0 : (y 0).val < 1 := (y 0).isLt
  have s0 : ∀ b : Fin 3, ((Rect.unit (s := S2x8x2048) ![0, 0, 0] ![1, 8, 512] inb_S2x8x2048_S1x8x512_0_0_0).idx y b : ℕ) = (![0, 0, 0] : Fin 3 → ℕ) b + y b := fun b => Rect.idx_unit_val _ _ _ _ _
  have s1 : ∀ b : Fin 3, ((Rect.unit (s := S2x8x2048) ![1, 0, 0] ![1, 8, 512] inb_S2x8x2048_S1x8x512_1_0_0).idx y b : ℕ) = (![1, 0, 0] : Fin 3 → ℕ) b + y b := fun b => Rect.idx_unit_val _ _ _ _ _
  have d0 : ∀ b : Fin 3, ((Rect.unit (s := S1x8x4096) ![0, 0, 0] ![1, 8, 512] inb_S1x8x4096_S1x8x512_0_0_0).idx y b : ℕ) = (![0, 0, 0] : Fin 3 → ℕ) b + y b := fun b => Rect.idx_unit_val _ _ _ _ _
  have d1 : ∀ b : Fin 3, ((Rect.unit (s := S1x8x4096) ![0, 0, 512] ![1, 8, 512] inb_S1x8x4096_S1x8x512_0_0_512).idx y b : ℕ) = (![0, 0, 512] : Fin 3 → ℕ) b + y b := fun b => Rect.idx_unit_val _ _ _ _ _
  refine ⟨⟨0, y 2, s0 2, Or.inl ⟨(s0 0).trans (by show 0 + (y 0).val = 0; omega), ?_⟩⟩, ⟨0, y 2, s1 2, Or.inr ⟨(s1 0).trans (by show 1 + (y 0).val = 1; omega), ?_⟩⟩,
    ⟨0, y 2, Or.inl ⟨d0 2, ?_⟩⟩, ⟨0, y 2, Or.inr ⟨d1 2, ?_⟩⟩⟩
  · refine (out3 _ y).trans ((I.re (y 1) (y 2)).trans ?_)
    rw [show 8 * (16 * i0 + 16) = 128 * (i0 + 1) by omega]
  · refine (out3 _ y).trans ((I.im (y 1) (y 2)).trans ?_)
    rw [show 8 * (16 * i0 + 16) = 128 * (i0 + 1) by omega]
  · refine (out3 _ y).trans ((I.dre (y 1) (y 2)).trans ?_)
    rw [show 16 * i0 + 16 = 16 * (i0 + 1) by omega]
    exact Finset.sum_congr rfl fun k _ => congrArg (fun n => dRe _ _ _ _ (y 2) (8 * k + 7 - n)) ((d0 1).trans (Nat.zero_add _)).symm
  · refine (out3 _ y).trans ((I.dim (y 1) (y 2)).trans ?_)
    rw [show 16 * i0 + 16 = 16 * (i0 + 1) by omega]
    exact Finset.sum_congr rfl fun k _ => congrArg (fun n => dIm _ _ _ _ (y 2) (8 * k + 7 - n)) ((d1 1).trans (Nat.zero_add _)).symm

theorem init_2 (hs : ∀ y, IsS a c i0 y (xs y)) (hd : ∀ y, IsD a c XR XI i0 y (xo y)) :
    Inv (a 1) (c 1) (XR 1) (XI 1) (16 * i0)
      (k0_pay123 (View.readAt (Elt Ideal) arg7.view (Rect.unit (s := S2x8x2048) ![0, 0, 512] ![1, 8, 512] inb_S2x8x2048_S1x8x512_0_0_512).toLoadRect (harg7.unread xs)),
       k0_pay123 (View.readAt (Elt Ideal) arg7.view (Rect.unit (s := S2x8x2048) ![1, 0, 512] ![1, 8, 512] inb_S2x8x2048_S1x8x512_1_0_512).toLoadRect (harg7.unread xs)),
       k0_pay123 (View.readAt (Elt Ideal) arg6.view (Rect.unit (s := S1x8x4096) ![0, 0, 1024] ![1, 8, 512] inb_S1x8x4096_S1x8x512_0_0_1024).toLoadRect (harg6.unread xo)),
       k0_pay123 (View.readAt (Elt Ideal) arg6.view (Rect.unit (s := S1x8x4096) ![0, 0, 1536] ![1, 8, 512] inb_S1x8x4096_S1x8x512_0_0_1536).toLoadRect (harg6.unread xo))) := by
  refine inv_init _ _ _ _ (fun r p => ?_) (fun r p => ?_) (fun r p => ?_) (fun r p => ?_)
  · rw [Memref.IsWhole.readAt_unread]
    refine ((hs _).re 1 p (Rect.idx_unit_val _ _ _ _ _) (Rect.idx_unit_val _ _ _ _ _)).trans ?_
    rw [show 8 * (16 * i0) = 128 * i0 by omega]
  · rw [Memref.IsWhole.readAt_unread]
    refine ((hs _).im 1 p (Rect.idx_unit_val _ _ _ _ _) (Rect.idx_unit_val _ _ _ _ _)).trans ?_
    rw [show 8 * (16 * i0) = 128 * i0 by omega]
  · rw [Memref.IsWhole.readAt_unread]
    refine ((hd _).re 1 p (Rect.idx_unit_val _ _ _ _ _)).trans ?_
    exact Finset.sum_congr rfl fun k _ => congrArg (fun n => dRe _ _ _ _ p (8 * k + 7 - n)) ((Rect.idx_unit_val _ _ _ _ _).trans (Nat.zero_add _))
  · rw [Memref.IsWhole.readAt_unread]
    refine ((hd _).im 1 p (Rect.idx_unit_val _ _ _ _ _)).trans ?_
    exact Finset.sum_congr rfl fun k _ => congrArg (fun n => dIm _ _ _ _ p (8 * k + 7 - n)) ((Rect.idx_unit_val _ _ _ _ _).trans (Nat.zero_add _))

/-- What chunk 1 writes back. -/
theorem back_2 {acc : FVec Ideal S8x512 .f32 × FVec Ideal S8x512 .f32 × FVec Ideal S8x512 .f32 × FVec Ideal S8x512 .f32} (I : Inv (a 1) (c 1) (XR 1) (XI 1) (16 * i0 + 16) acc) (y : S1x8x512.Idx) :
    IsS a c (i0 + 1) ((Rect.unit (s := S2x8x2048) ![0, 0, 512] ![1, 8, 512] inb_S2x8x2048_S1x8x512_0_0_512).emb y) (k0_pay132 acc.1 y)
    ∧ IsS a c (i0 + 1) ((Rect.unit (s := S2x8x2048) ![1, 0, 512] ![1, 8, 512] inb_S2x8x2048_S1x8x512_1_0_512).emb y) (k0_pay132 acc.2.1 y)
    ∧ IsD a c XR XI (i0 + 1) ((Rect.unit (s := S1x8x4096) ![0, 0, 1024] ![1, 8, 512] inb_S1x8x4096_S1x8x512_0_0_1024).emb y) (k0_pay132 acc.2.2.1 y)
    ∧ IsD a c XR XI (i0 + 1) ((Rect.unit (s := S1x8x4096) ![0, 0, 1536] ![1, 8, 512] inb_S1x8x4096_S1x8x512_0_0_1536).emb y) (k0_pay132 acc.2.2.2 y) := by
  have h0 : (y 0).val < 1 := (y 0).isLt
  have s0 : ∀ b : Fin 3, ((Rect.unit (s := S2x8x2048) ![0, 0, 512] ![1, 8, 512] inb_S2x8x2048_S1x8x512_0_0_512).idx y b : ℕ) = (![0, 0, 512] : Fin 3 → ℕ) b + y b := fun b => Rect.idx_unit_val _ _ _ _ _
  have s1 : ∀ b : Fin 3, ((Rect.unit (s := S2x8x2048) ![1, 0, 512] ![1, 8, 512] inb_S2x8x2048_S1x8x512_1_0_512).idx y b : ℕ) = (![1, 0, 512] : Fin 3 → ℕ) b + y b := fun b => Rect.idx_unit_val _ _ _ _ _
  have d0 : ∀ b : Fin 3, ((Rect.unit (s := S1x8x4096) ![0, 0, 1024] ![1, 8, 512] inb_S1x8x4096_S1x8x512_0_0_1024).idx y b : ℕ) = (![0, 0, 1024] : Fin 3 → ℕ) b + y b := fun b => Rect.idx_unit_val _ _ _ _ _
  have d1 : ∀ b : Fin 3, ((Rect.unit (s := S1x8x4096) ![0, 0, 1536] ![1, 8, 512] inb_S1x8x4096_S1x8x512_0_0_1536).idx y b : ℕ) = (![0, 0, 1536] : Fin 3 → ℕ) b + y b := fun b => Rect.idx_unit_val _ _ _ _ _
  refine ⟨⟨1, y 2, s0 2, Or.inl ⟨(s0 0).trans (by show 0 + (y 0).val = 0; omega), ?_⟩⟩, ⟨1, y 2, s1 2, Or.inr ⟨(s1 0).trans (by show 1 + (y 0).val = 1; omega), ?_⟩⟩,
    ⟨1, y 2, Or.inl ⟨d0 2, ?_⟩⟩, ⟨1, y 2, Or.inr ⟨d1 2, ?_⟩⟩⟩
  · refine (out3 _ y).trans ((I.re (y 1) (y 2)).trans ?_)
    rw [show 8 * (16 * i0 + 16) = 128 * (i0 + 1) by omega]
  · refine (out3 _ y).trans ((I.im (y 1) (y 2)).trans ?_)
    rw [show 8 * (16 * i0 + 16) = 128 * (i0 + 1) by omega]
  · refine (out3 _ y).trans ((I.dre (y 1) (y 2)).trans ?_)
    rw [show 16 * i0 + 16 = 16 * (i0 + 1) by omega]
    exact Finset.sum_congr rfl fun k _ => congrArg (fun n => dRe _ _ _ _ (y 2) (8 * k + 7 - n)) ((d0 1).trans (Nat.zero_add _)).symm
  · refine (out3 _ y).trans ((I.dim (y 1) (y 2)).trans ?_)
    rw [show 16 * i0 + 16 = 16 * (i0 + 1) by omega]
    exact Finset.sum_congr rfl fun k _ => congrArg (fun n => dIm _ _ _ _ (y 2) (8 * k + 7 - n)) ((d1 1).trans (Nat.zero_add _)).symm

theorem init_3 (hs : ∀ y, IsS a c i0 y (xs y)) (hd : ∀ y, IsD a c XR XI i0 y (xo y)) :
    Inv (a 2) (c 2) (XR 2) (XI 2) (16 * i0)
      (k0_pay123 (View.readAt (Elt Ideal) arg7.view (Rect.unit (s := S2x8x2048) ![0, 0, 1024] ![1, 8, 512] inb_S2x8x2048_S1x8x512_0_0_1024).toLoadRect (harg7.unread xs)),
       k0_pay123 (View.readAt (Elt Ideal) arg7.view (Rect.unit (s := S2x8x2048) ![1, 0, 1024] ![1, 8, 512] inb_S2x8x2048_S1x8x512_1_0_1024).toLoadRect (harg7.unread xs)),
       k0_pay123 (View.readAt (Elt Ideal) arg6.view (Rect.unit (s := S1x8x4096) ![0, 0, 2048] ![1, 8, 512] inb_S1x8x4096_S1x8x512_0_0_2048).toLoadRect (harg6.unread xo)),
       k0_pay123 (View.readAt (Elt Ideal) arg6.view (Rect.unit (s := S1x8x4096) ![0, 0, 2560] ![1, 8, 512] inb_S1x8x4096_S1x8x512_0_0_2560).toLoadRect (harg6.unread xo))) := by
  refine inv_init _ _ _ _ (fun r p => ?_) (fun r p => ?_) (fun r p => ?_) (fun r p => ?_)
  · rw [Memref.IsWhole.readAt_unread]
    refine ((hs _).re 2 p (Rect.idx_unit_val _ _ _ _ _) (Rect.idx_unit_val _ _ _ _ _)).trans ?_
    rw [show 8 * (16 * i0) = 128 * i0 by omega]
  · rw [Memref.IsWhole.readAt_unread]
    refine ((hs _).im 2 p (Rect.idx_unit_val _ _ _ _ _) (Rect.idx_unit_val _ _ _ _ _)).trans ?_
    rw [show 8 * (16 * i0) = 128 * i0 by omega]
  · rw [Memref.IsWhole.readAt_unread]
    refine ((hd _).re 2 p (Rect.idx_unit_val _ _ _ _ _)).trans ?_
    exact Finset.sum_congr rfl fun k _ => congrArg (fun n => dRe _ _ _ _ p (8 * k + 7 - n)) ((Rect.idx_unit_val _ _ _ _ _).trans (Nat.zero_add _))
  · rw [Memref.IsWhole.readAt_unread]
    refine ((hd _).im 2 p (Rect.idx_unit_val _ _ _ _ _)).trans ?_
    exact Finset.sum_congr rfl fun k _ => congrArg (fun n => dIm _ _ _ _ p (8 * k + 7 - n)) ((Rect.idx_unit_val _ _ _ _ _).trans (Nat.zero_add _))

/-- What chunk 2 writes back. -/
theorem back_3 {acc : FVec Ideal S8x512 .f32 × FVec Ideal S8x512 .f32 × FVec Ideal S8x512 .f32 × FVec Ideal S8x512 .f32} (I : Inv (a 2) (c 2) (XR 2) (XI 2) (16 * i0 + 16) acc) (y : S1x8x512.Idx) :
    IsS a c (i0 + 1) ((Rect.unit (s := S2x8x2048) ![0, 0, 1024] ![1, 8, 512] inb_S2x8x2048_S1x8x512_0_0_1024).emb y) (k0_pay132 acc.1 y)
    ∧ IsS a c (i0 + 1) ((Rect.unit (s := S2x8x2048) ![1, 0, 1024] ![1, 8, 512] inb_S2x8x2048_S1x8x512_1_0_1024).emb y) (k0_pay132 acc.2.1 y)
    ∧ IsD a c XR XI (i0 + 1) ((Rect.unit (s := S1x8x4096) ![0, 0, 2048] ![1, 8, 512] inb_S1x8x4096_S1x8x512_0_0_2048).emb y) (k0_pay132 acc.2.2.1 y)
    ∧ IsD a c XR XI (i0 + 1) ((Rect.unit (s := S1x8x4096) ![0, 0, 2560] ![1, 8, 512] inb_S1x8x4096_S1x8x512_0_0_2560).emb y) (k0_pay132 acc.2.2.2 y) := by
  have h0 : (y 0).val < 1 := (y 0).isLt
  have s0 : ∀ b : Fin 3, ((Rect.unit (s := S2x8x2048) ![0, 0, 1024] ![1, 8, 512] inb_S2x8x2048_S1x8x512_0_0_1024).idx y b : ℕ) = (![0, 0, 1024] : Fin 3 → ℕ) b + y b := fun b => Rect.idx_unit_val _ _ _ _ _
  have s1 : ∀ b : Fin 3, ((Rect.unit (s := S2x8x2048) ![1, 0, 1024] ![1, 8, 512] inb_S2x8x2048_S1x8x512_1_0_1024).idx y b : ℕ) = (![1, 0, 1024] : Fin 3 → ℕ) b + y b := fun b => Rect.idx_unit_val _ _ _ _ _
  have d0 : ∀ b : Fin 3, ((Rect.unit (s := S1x8x4096) ![0, 0, 2048] ![1, 8, 512] inb_S1x8x4096_S1x8x512_0_0_2048).idx y b : ℕ) = (![0, 0, 2048] : Fin 3 → ℕ) b + y b := fun b => Rect.idx_unit_val _ _ _ _ _
  have d1 : ∀ b : Fin 3, ((Rect.unit (s := S1x8x4096) ![0, 0, 2560] ![1, 8, 512] inb_S1x8x4096_S1x8x512_0_0_2560).idx y b : ℕ) = (![0, 0, 2560] : Fin 3 → ℕ) b + y b := fun b => Rect.idx_unit_val _ _ _ _ _
  refine ⟨⟨2, y 2, s0 2, Or.inl ⟨(s0 0).trans (by show 0 + (y 0).val = 0; omega), ?_⟩⟩, ⟨2, y 2, s1 2, Or.inr ⟨(s1 0).trans (by show 1 + (y 0).val = 1; omega), ?_⟩⟩,
    ⟨2, y 2, Or.inl ⟨d0 2, ?_⟩⟩, ⟨2, y 2, Or.inr ⟨d1 2, ?_⟩⟩⟩
  · refine (out3 _ y).trans ((I.re (y 1) (y 2)).trans ?_)
    rw [show 8 * (16 * i0 + 16) = 128 * (i0 + 1) by omega]
  · refine (out3 _ y).trans ((I.im (y 1) (y 2)).trans ?_)
    rw [show 8 * (16 * i0 + 16) = 128 * (i0 + 1) by omega]
  · refine (out3 _ y).trans ((I.dre (y 1) (y 2)).trans ?_)
    rw [show 16 * i0 + 16 = 16 * (i0 + 1) by omega]
    exact Finset.sum_congr rfl fun k _ => congrArg (fun n => dRe _ _ _ _ (y 2) (8 * k + 7 - n)) ((d0 1).trans (Nat.zero_add _)).symm
  · refine (out3 _ y).trans ((I.dim (y 1) (y 2)).trans ?_)
    rw [show 16 * i0 + 16 = 16 * (i0 + 1) by omega]
    exact Finset.sum_congr rfl fun k _ => congrArg (fun n => dIm _ _ _ _ (y 2) (8 * k + 7 - n)) ((d1 1).trans (Nat.zero_add _)).symm

theorem init_4 (hs : ∀ y, IsS a c i0 y (xs y)) (hd : ∀ y, IsD a c XR XI i0 y (xo y)) :
    Inv (a 3) (c 3) (XR 3) (XI 3) (16 * i0)
      (k0_pay123 (View.readAt (Elt Ideal) arg7.view (Rect.unit (s := S2x8x2048) ![0, 0, 1536] ![1, 8, 512] inb_S2x8x2048_S1x8x512_0_0_1536).toLoadRect (harg7.unread xs)),
       k0_pay123 (View.readAt (Elt Ideal) arg7.view (Rect.unit (s := S2x8x2048) ![1, 0, 1536] ![1, 8, 512] inb_S2x8x2048_S1x8x512_1_0_1536).toLoadRect (harg7.unread xs)),
       k0_pay123 (View.readAt (Elt Ideal) arg6.view (Rect.unit (s := S1x8x4096) ![0, 0, 3072] ![1, 8, 512] inb_S1x8x4096_S1x8x512_0_0_3072).toLoadRect (harg6.unread xo)),
       k0_pay123 (View.readAt (Elt Ideal) arg6.view (Rect.unit (s := S1x8x4096) ![0, 0, 3584] ![1, 8, 512] inb_S1x8x4096_S1x8x512_0_0_3584).toLoadRect (harg6.unread xo))) := by
  refine inv_init _ _ _ _ (fun r p => ?_) (fun r p => ?_) (fun r p => ?_) (fun r p => ?_)
  · rw [Memref.IsWhole.readAt_unread]
    refine ((hs _).re 3 p (Rect.idx_unit_val _ _ _ _ _) (Rect.idx_unit_val _ _ _ _ _)).trans ?_
    rw [show 8 * (16 * i0) = 128 * i0 by omega]
  · rw [Memref.IsWhole.readAt_unread]
    refine ((hs _).im 3 p (Rect.idx_unit_val _ _ _ _ _) (Rect.idx_unit_val _ _ _ _ _)).trans ?_
    rw [show 8 * (16 * i0) = 128 * i0 by omega]
  · rw [Memref.IsWhole.readAt_unread]
    refine ((hd _).re 3 p (Rect.idx_unit_val _ _ _ _ _)).trans ?_
    exact Finset.sum_congr rfl fun k _ => congrArg (fun n => dRe _ _ _ _ p (8 * k + 7 - n)) ((Rect.idx_unit_val _ _ _ _ _).trans (Nat.zero_add _))
  · rw [Memref.IsWhole.readAt_unread]
    refine ((hd _).im 3 p (Rect.idx_unit_val _ _ _ _ _)).trans ?_
    exact Finset.sum_congr rfl fun k _ => congrArg (fun n => dIm _ _ _ _ p (8 * k + 7 - n)) ((Rect.idx_unit_val _ _ _ _ _).trans (Nat.zero_add _))

/-- What chunk 3 writes back. -/
theorem back_4 {acc : FVec Ideal S8x512 .f32 × FVec Ideal S8x512 .f32 × FVec Ideal S8x512 .f32 × FVec Ideal S8x512 .f32} (I : Inv (a 3) (c 3) (XR 3) (XI 3) (16 * i0 + 16) acc) (y : S1x8x512.Idx) :
    IsS a c (i0 + 1) ((Rect.unit (s := S2x8x2048) ![0, 0, 1536] ![1, 8, 512] inb_S2x8x2048_S1x8x512_0_0_1536).emb y) (k0_pay132 acc.1 y)
    ∧ IsS a c (i0 + 1) ((Rect.unit (s := S2x8x2048) ![1, 0, 1536] ![1, 8, 512] inb_S2x8x2048_S1x8x512_1_0_1536).emb y) (k0_pay132 acc.2.1 y)
    ∧ IsD a c XR XI (i0 + 1) ((Rect.unit (s := S1x8x4096) ![0, 0, 3072] ![1, 8, 512] inb_S1x8x4096_S1x8x512_0_0_3072).emb y) (k0_pay132 acc.2.2.1 y)
    ∧ IsD a c XR XI (i0 + 1) ((Rect.unit (s := S1x8x4096) ![0, 0, 3584] ![1, 8, 512] inb_S1x8x4096_S1x8x512_0_0_3584).emb y) (k0_pay132 acc.2.2.2 y) := by
  have h0 : (y 0).val < 1 := (y 0).isLt
  have s0 : ∀ b : Fin 3, ((Rect.unit (s := S2x8x2048) ![0, 0, 1536] ![1, 8, 512] inb_S2x8x2048_S1x8x512_0_0_1536).idx y b : ℕ) = (![0, 0, 1536] : Fin 3 → ℕ) b + y b := fun b => Rect.idx_unit_val _ _ _ _ _
  have s1 : ∀ b : Fin 3, ((Rect.unit (s := S2x8x2048) ![1, 0, 1536] ![1, 8, 512] inb_S2x8x2048_S1x8x512_1_0_1536).idx y b : ℕ) = (![1, 0, 1536] : Fin 3 → ℕ) b + y b := fun b => Rect.idx_unit_val _ _ _ _ _
  have d0 : ∀ b : Fin 3, ((Rect.unit (s := S1x8x4096) ![0, 0, 3072] ![1, 8, 512] inb_S1x8x4096_S1x8x512_0_0_3072).idx y b : ℕ) = (![0, 0, 3072] : Fin 3 → ℕ) b + y b := fun b => Rect.idx_unit_val _ _ _ _ _
  have d1 : ∀ b : Fin 3, ((Rect.unit (s := S1x8x4096) ![0, 0, 3584] ![1, 8, 512] inb_S1x8x4096_S1x8x512_0_0_3584).idx y b : ℕ) = (![0, 0, 3584] : Fin 3 → ℕ) b + y b := fun b => Rect.idx_unit_val _ _ _ _ _
  refine ⟨⟨3, y 2, s0 2, Or.inl ⟨(s0 0).trans (by show 0 + (y 0).val = 0; omega), ?_⟩⟩, ⟨3, y 2, s1 2, Or.inr ⟨(s1 0).trans (by show 1 + (y 0).val = 1; omega), ?_⟩⟩,
    ⟨3, y 2, Or.inl ⟨d0 2, ?_⟩⟩, ⟨3, y 2, Or.inr ⟨d1 2, ?_⟩⟩⟩
  · refine (out3 _ y).trans ((I.re (y 1) (y 2)).trans ?_)
    rw [show 8 * (16 * i0 + 16) = 128 * (i0 + 1) by omega]
  · refine (out3 _ y).trans ((I.im (y 1) (y 2)).trans ?_)
    rw [show 8 * (16 * i0 + 16) = 128 * (i0 + 1) by omega]
  · refine (out3 _ y).trans ((I.dre (y 1) (y 2)).trans ?_)
    rw [show 16 * i0 + 16 = 16 * (i0 + 1) by omega]
    exact Finset.sum_congr rfl fun k _ => congrArg (fun n => dRe _ _ _ _ (y 2) (8 * k + 7 - n)) ((d0 1).trans (Nat.zero_add _)).symm
  · refine (out3 _ y).trans ((I.dim (y 1) (y 2)).trans ?_)
    rw [show 16 * i0 + 16 = 16 * (i0 + 1) by omega]
    exact Finset.sum_congr rfl fun k _ => congrArg (fun n => dIm _ _ _ _ (y 2) (8 * k + 7 - n)) ((d1 1).trans (Nat.zero_add _)).symm

/-- The block of `g` a point leaves. -/
theorem outG_is (B : Blk a c XR XI i0 x0 x1 x2) (hs : ∀ y, IsS a c i0 y (xs y)) (hd : ∀ y, IsD a c XR XI i0 y (xo y)) (y : S128x4096.Idx) :
    IsG a c i0 y (outG dev i arg2 harg2 arg3 harg3 arg4 harg4 arg5 harg5 arg6 harg6 arg7 harg7 hc0 x0 x1 x2 xo xs y) := by
  unfold outG
  refine canon_of_pieces (IsG a c i0) y _ ?_ (cover_g dev i arg2 harg2 arg3 harg3 arg4 harg4 arg5 harg5 arg6 harg6 arg7 harg7 hc0 x0 x1 x2 xo xs y)
  unfold runB
  dsimp only
  intro pc h
  rw [trips_eq] at h
  rcases List.mem_append.mp h with h | h
  · exact (loop_4 dev i arg2 harg2 arg3 harg3 arg4 harg4 arg5 harg5 arg6 harg6 arg7 harg7 B (init_4 arg6 harg6 arg7 harg7 hs hd) 16 (Nat.le_refl _)).2 pc h
  rcases List.mem_append.mp h with h | h
  · exact (loop_3 dev i arg2 harg2 arg3 harg3 arg4 harg4 arg5 harg5 arg6 harg6 arg7 harg7 B (init_3 arg6 harg6 arg7 harg7 hs hd) 16 (Nat.le_refl _)).2 pc h
  rcases List.mem_append.mp h with h | h
  · exact (loop_2 dev i arg2 harg2 arg3 harg3 arg4 harg4 arg5 harg5 arg6 harg6 arg7 harg7 B _ _ (init_2 arg6 harg6 arg7 harg7 hs hd) 16 (Nat.le_refl _)).2 pc h
  · exact (loop_1 dev i arg2 harg2 arg3 harg3 arg4 harg4 arg5 harg5 arg6 harg6 arg7 harg7 B (init_1 arg6 harg6 arg7 harg7 hs hd) 16 (Nat.le_refl _)).2 pc h

/-- The sums it leaves. -/
theorem outDa_is (B : Blk a c XR XI i0 x0 x1 x2) (hs : ∀ y, IsS a c i0 y (xs y)) (hd : ∀ y, IsD a c XR XI i0 y (xo y)) (y : S1x8x4096.Idx) :
    IsD a c XR XI (i0 + 1) y (outDa dev i arg2 harg2 arg3 harg3 arg4 harg4 arg5 harg5 arg6 harg6 arg7 harg7 hc0 x0 x1 x2 xo xs y) := by
  have I1 := (loop_1 dev i arg2 harg2 arg3 harg3 arg4 harg4 arg5 harg5 arg6 harg6 arg7 harg7 B (init_1 arg6 harg6 arg7 harg7 hs hd) 16 (Nat.le_refl _)).1
  have I2 := fun e1 e2 => (loop_2 dev i arg2 harg2 arg3 harg3 arg4 harg4 arg5 harg5 arg6 harg6 arg7 harg7 B e1 e2 (init_2 arg6 harg6 arg7 harg7 hs hd) 16 (Nat.le_refl _)).1
  have I3 := (loop_3 dev i arg2 harg2 arg3 harg3 arg4 harg4 arg5 harg5 arg6 harg6 arg7 harg7 B (init_3 arg6 harg6 arg7 harg7 hs hd) 16 (Nat.le_refl _)).1
  have I4 := (loop_4 dev i arg2 harg2 arg3 harg3 arg4 harg4 arg5 harg5 arg6 harg6 arg7 harg7 B (init_4 arg6 harg6 arg7 harg7 hs hd) 16 (Nat.le_refl _)).1
  rw [← trips_eq] at I1 I2 I3 I4
  unfold outDa
  refine canon_of_pieces (IsD a c XR XI (i0 + 1)) y _ ?_ (cover_da dev i arg2 harg2 arg3 harg3 arg4 harg4 arg5 harg5 arg6 harg6 arg7 harg7 hc0 x0 x1 x2 xo xs y)
  unfold runB
  dsimp only
  intro pc h x
  simp only [List.mem_cons, List.not_mem_nil, or_false] at h
  rcases h with rfl | rfl | rfl | rfl | rfl | rfl | rfl | rfl
  · exact (back_4 I4 x).2.2.2
  · exact (back_4 I4 x).2.2.1
  · exact (back_3 I3 x).2.2.2
  · exact (back_3 I3 x).2.2.1
  · exact (back_2 (I2 _ _) x).2.2.2
  · exact (back_2 (I2 _ _) x).2.2.1
  · exact (back_1 I1 x).2.2.2
  · exact (back_1 I1 x).2.2.1

/-- The carry it leaves. -/
theorem outS_is (B : Blk a c XR XI i0 x0 x1 x2) (hs : ∀ y, IsS a c i0 y (xs y)) (hd : ∀ y, IsD a c XR XI i0 y (xo y)) (y : S2x8x2048.Idx) :
    IsS a c (i0 + 1) y (outS dev i arg2 harg2 arg3 harg3 arg4 harg4 arg5 harg5 arg6 harg6 arg7 harg7 hc0 x0 x1 x2 xo xs y) := by
  have I1 := (loop_1 dev i arg2 harg2 arg3 harg3 arg4 harg4 arg5 harg5 arg6 harg6 arg7 harg7 B (init_1 arg6 harg6 arg7 harg7 hs hd) 16 (Nat.le_refl _)).1
  have I2 := fun e1 e2 => (loop_2 dev i arg2 harg2 arg3 harg3 arg4 harg4 arg5 harg5 arg6 harg6 arg7 harg7 B e1 e2 (init_2 arg6 harg6 arg7 harg7 hs hd) 16 (Nat.le_refl _)).1
  have I3 := (loop_3 dev i arg2 harg2 arg3 harg3 arg4 harg4 arg5 harg5 arg6 harg6 arg7 harg7 B (init_3 arg6 harg6 arg7 harg7 hs hd) 16 (Nat.le_refl _)).1
  have I4 := (loop_4 dev i arg2 harg2 arg3 harg3 arg4 harg4 arg5 harg5 arg6 harg6 arg7 harg7 B (init_4 arg6 harg6 arg7 harg7 hs hd) 16 (Nat.le_refl _)).1
  rw [← trips_eq] at I1 I2 I3 I4
  unfold outS
  refine canon_of_pieces (IsS a c (i0 + 1)) y _ ?_ (cover_carry dev i arg2 harg2 arg3 harg3 arg4 harg4 arg5 harg5 arg6 harg6 arg7 harg7 hc0 x0 x1 x2 xo xs y)
  unfold runB
  dsimp only
  intro pc h x
  simp only [List.mem_cons, List.not_mem_nil, or_false] at h
  rcases h with rfl | rfl | rfl | rfl | rfl | rfl | rfl | rfl
  · exact (back_4 I4 x).2.1
  · exact (back_4 I4 x).1
  · exact (back_3 I3 x).2.1
  · exact (back_3 I3 x).1
  · exact (back_2 (I2 _ _) x).2.1
  · exact (back_2 (I2 _ _) x).1
  · exact (back_1 I1 x).2.1
  · exact (back_1 I1 x).1

end Point

end Cert.ScanIdeal.Hand

end
-- ==== Proof.ScanTables.lean ====
/- The tables the host computes: powers of the conjugate decay, masked for the doublings and as they are for the carry. -/
module

public import proofs.«01_k».proof.Proof.ScanPoint
public import proofs.«01_k».proof.Proof.Reals

@[expose] public section

set_option maxRecDepth 16384

noncomputable section

namespace Cert.ScanIdeal.Hand

open Cert.ScanIdeal.Gen Cert.ScanMath
open Idealize.ShloMosaic Idealize.ShloMosaic.TcCoe Idealize.ShloMosaic.Tactic

/-- The parts of the power `n + 1` of the conjugate decay, by repeated multiplication. -/
def pw (ar ai : FVec Ideal S2048 .f32) : ℕ → FVec Ideal S2048 .f32 × FVec Ideal S2048 .f32
  | 0 => (ar, Host.negf ai)
  | n + 1 => (subf (mulf (pw ar ai n).1 ar) (mulf (pw ar ai n).2 (Host.negf ai)), addf (mulf (pw ar ai n).1 (Host.negf ai)) (mulf (pw ar ai n).2 ar))

/-- The mask of a doubling: the rows up to `k`. -/
def msk (k : BitVec 32) : IVec S8x2048 1 :=
  broadcastInDim S8x2048 ![0, 1] bcast_S8x1_S8x2048_0_1 (cmpi .sle (broadcastInDim S8x1 ![0] bcast_S8_S8x1_0 (iotaInDim S8 32 0)) (broadcastInDim S8x1 ![] bcast_S_S8x1 (constantI S_ 32 k)))

/-- A doubling's table. -/
def msked (k : BitVec 32) (v : FVec Ideal S2048 .f32) : FVec Ideal S8x2048 .f32 :=
  select (msk k) (broadcastInDim S8x2048 ![0, 1] bcast_S1x2048_S8x2048_0_1 (broadcastInDim S1x2048 ![1] bcast_S2048_S1x2048_1 v))
    (broadcastInDim S8x2048 ![] bcast_S_S8x2048 (id (constant S_ .f32 0x00000000#32)))

/-- One power as a row. -/
def row1 (v : FVec Ideal S2048 .f32) : FVec Ideal S1x2048 .f32 := broadcastInDim S1x2048 ![1] bcast_S2048_S1x2048_1 v

/-- The carry's table: the powers from the eighth down. -/
def stack8 (f : ℕ → FVec Ideal S2048 .f32) : FVec Ideal S8x2048 .f32 :=
  concatenate S8x2048 0 [⟨S1x2048, row1 (f 7)⟩, ⟨S1x2048, row1 (f 6)⟩, ⟨S1x2048, row1 (f 5)⟩, ⟨S1x2048, row1 (f 4)⟩, ⟨S1x2048, row1 (f 3)⟩, ⟨S1x2048, row1 (f 2)⟩, ⟨S1x2048, row1 (f 1)⟩, ⟨S1x2048, row1 (f 0)⟩]
    concatenates_S1x2048_S1x2048_S1x2048_S1x2048_S1x2048_S1x2048_S1x2048_S1x2048_S8x2048_d0

def tables (ar ai : FVec Ideal S2048 .f32) : FVec Ideal S64x2048 .f32 :=
  concatenate S64x2048 0 [⟨S8x2048, msked 6#32 (pw ar ai 0).1⟩, ⟨S8x2048, msked 6#32 (pw ar ai 0).2⟩, ⟨S8x2048, msked 5#32 (pw ar ai 1).1⟩, ⟨S8x2048, msked 5#32 (pw ar ai 1).2⟩,
      ⟨S8x2048, msked 3#32 (pw ar ai 3).1⟩, ⟨S8x2048, msked 3#32 (pw ar ai 3).2⟩, ⟨S8x2048, stack8 fun n => (pw ar ai n).1⟩, ⟨S8x2048, stack8 fun n => (pw ar ai n).2⟩]
    concatenates_S8x2048_S8x2048_S8x2048_S8x2048_S8x2048_S8x2048_S8x2048_S8x2048_S64x2048_d0

variable (m : (ℓ : Loc nD τ sig) → Buf (Elt Ideal) ℓ)

theorem V_v8 (c : Dev nD) : V m c main_v8 = (pw (m (c, main_arg1)) (m (c, main_arg2)) 1).2 := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results; try rfl

set_option maxHeartbeats 4000000 in
theorem V_tabs (c : Dev nD) : V m c main_v83 = tables (m (c, main_arg1)) (m (c, main_arg2)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results; try rfl

end Cert.ScanIdeal.Hand

end
-- ==== Proof.ScanTabs.lean ====
/- What the tables hold, row by row, where the decay is finite. -/
module

public import proofs.«01_k».proof.Proof.ScanTables

@[expose] public section

set_option maxRecDepth 16384

noncomputable section

namespace Cert.ScanIdeal.Hand

open Cert.ScanIdeal.Gen Cert.ScanMath
open Idealize.ShloMosaic Idealize.ShloMosaic.TcCoe Idealize.ShloMosaic.Tactic

variable (ar ai : FVec Ideal S2048 .f32)

theorem zero_f32 : (Ideal.ofBits .f32 0x00000000#32 : EReal) = 0 := by simp [Ideal.ofBits, Ideal.ieee]

theorem msked_apply (k : BitVec 32) (v : FVec Ideal S2048 .f32) (r : Fin 8) (p : Fin 2048) :
    (msked k v (ix2 r p) : EReal) = Scalar.select (IntOp.cmpi .sle (BitVec.ofNat 32 r.val) k) (v (ix1 p) : EReal) 0 := by
  pointwise [msked, msk]
  exact congrArg _ zero_f32

theorem msked_1 (v : FVec Ideal S2048 .f32) (r : Fin 8) (p : Fin 2048) : (msked 6#32 v (ix2 r p) : EReal) = if r.val + 1 ≤ 7 then v (ix1 p) else 0 := by
  rw [msked_apply]; fin_cases r <;> rfl
theorem msked_2 (v : FVec Ideal S2048 .f32) (r : Fin 8) (p : Fin 2048) : (msked 5#32 v (ix2 r p) : EReal) = if r.val + 2 ≤ 7 then v (ix1 p) else 0 := by
  rw [msked_apply]; fin_cases r <;> rfl
theorem msked_4 (v : FVec Ideal S2048 .f32) (r : Fin 8) (p : Fin 2048) : (msked 3#32 v (ix2 r p) : EReal) = if r.val + 4 ≤ 7 then v (ix1 p) else 0 := by
  rw [msked_apply]; fin_cases r <;> rfl

theorem tables_re (q : Fin 4) (r : Fin 8) (y : S64x2048.Idx) (h : (y 0).val = 16 * q.val + r.val) :
    tables ar ai y = (![msked 6#32 (pw ar ai 0).1, msked 5#32 (pw ar ai 1).1, msked 3#32 (pw ar ai 3).1, stack8 fun n => (pw ar ai n).1] q) (ix2 r (y 1)) := by
  have off : ∀ b : Fin 2, b ≠ 0 → ((ix2 r (y 1) : S8x2048.Idx) b).val = (y b).val := fun b hb => by
    obtain rfl : b = 1 := by omega
    rfl
  unfold tables
  fin_cases q
  · exact concatenate_apply_piece _ _ _ y 0 (Nat.lt_of_sub_pos (by exact Nat.succ_pos _)) S8x2048 _ rfl rfl 0 rfl (ix2 r (y 1)) off (by rw [h]; rfl)
  · exact concatenate_apply_piece _ _ _ y 2 (Nat.lt_of_sub_pos (by exact Nat.succ_pos _)) S8x2048 _ rfl rfl 16 rfl (ix2 r (y 1)) off (by rw [h]; rfl)
  · exact concatenate_apply_piece _ _ _ y 4 (Nat.lt_of_sub_pos (by exact Nat.succ_pos _)) S8x2048 _ rfl rfl 32 rfl (ix2 r (y 1)) off (by rw [h]; rfl)
  · exact concatenate_apply_piece _ _ _ y 6 (Nat.lt_of_sub_pos (by exact Nat.succ_pos _)) S8x2048 _ rfl rfl 48 rfl (ix2 r (y 1)) off (by rw [h]; rfl)

theorem tables_im (q : Fin 4) (r : Fin 8) (y : S64x2048.Idx) (h : (y 0).val = 16 * q.val + 8 + r.val) :
    tables ar ai y = (![msked 6#32 (pw ar ai 0).2, msked 5#32 (pw ar ai 1).2, msked 3#32 (pw ar ai 3).2, stack8 fun n => (pw ar ai n).2] q) (ix2 r (y 1)) := by
  have off : ∀ b : Fin 2, b ≠ 0 → ((ix2 r (y 1) : S8x2048.Idx) b).val = (y b).val := fun b hb => by
    obtain rfl : b = 1 := by omega
    rfl
  unfold tables
  fin_cases q
  · exact concatenate_apply_piece _ _ _ y 1 (Nat.lt_of_sub_pos (by exact Nat.succ_pos _)) S8x2048 _ rfl rfl 8 rfl (ix2 r (y 1)) off (by rw [h]; rfl)
  · exact concatenate_apply_piece _ _ _ y 3 (Nat.lt_of_sub_pos (by exact Nat.succ_pos _)) S8x2048 _ rfl rfl 24 rfl (ix2 r (y 1)) off (by rw [h]; rfl)
  · exact concatenate_apply_piece _ _ _ y 5 (Nat.lt_of_sub_pos (by exact Nat.succ_pos _)) S8x2048 _ rfl rfl 40 rfl (ix2 r (y 1)) off (by rw [h]; rfl)
  · exact concatenate_apply_piece _ _ _ y 7 (Nat.lt_of_sub_pos (by exact Nat.succ_pos _)) S8x2048 _ rfl rfl 56 rfl (ix2 r (y 1)) off (by rw [h]; rfl)

theorem stack8_apply (f : ℕ → FVec Ideal S2048 .f32) (r : Fin 8) (p : Fin 2048) : stack8 f (ix2 r p) = f (7 - r.val) (ix1 p) := by
  fin_cases r <;> pointwise [stack8, row1]

/-- The conjugate decay of a channel as a complex number. -/
def dec (r i : EReal) : ℂ := ⟨r.toReal, -i.toReal⟩

theorem dec_re {r i : EReal} (hr : Cert.Reals.IsReal r) : r = re' (dec r i) := by
  obtain ⟨x, rfl⟩ := hr; rfl
theorem dec_im {r i : EReal} (hi : Cert.Reals.IsReal i) : -i = im' (dec r i) := by
  obtain ⟨x, rfl⟩ := hi; rfl

theorem re_mul (x y : ℂ) : re' x * re' y - im' x * im' y = re' (x * y) := by
  simp only [re', im', Complex.mul_re]; push_cast [← EReal.coe_mul, ← EReal.coe_sub]; rfl
theorem im_mul (x y : ℂ) : re' x * im' y + im' x * re' y = im' (x * y) := by
  simp only [re', im', Complex.mul_im]; push_cast [← EReal.coe_mul, ← EReal.coe_add]; rfl

variable {ar ai} {y : S2048.Idx} (hr : Cert.Reals.IsReal (ar y)) (hi : Cert.Reals.IsReal (ai y))
include hr hi

theorem pw_is (n : ℕ) : ((pw ar ai n).1 y : EReal) = re' (dec (ar y) (ai y) ^ (n + 1)) ∧ ((pw ar ai n).2 y : EReal) = im' (dec (ar y) (ai y) ^ (n + 1)) := by
  induction n with
  | zero => rw [zero_add, pow_one]; exact ⟨dec_re hr, dec_im hi⟩
  | succ n ih =>
    have e1 : (ar y : EReal) = re' (dec (ar y) (ai y)) := dec_re hr
    have e2 : (-(ai y) : EReal) = im' (dec (ar y) (ai y)) := dec_im hi
    constructor
    · refine (show ((pw ar ai (n + 1)).1 y : EReal) = (pw ar ai n).1 y * ar y - (pw ar ai n).2 y * -(ai y) from rfl).trans ?_
      rw [ih.1, ih.2, e2, pow_succ _ (n + 1), ← re_mul, ← e1]
    · refine (show ((pw ar ai (n + 1)).2 y : EReal) = (pw ar ai n).1 y * -(ai y) + (pw ar ai n).2 y * ar y from rfl).trans ?_
      rw [ih.1, ih.2, e2, pow_succ _ (n + 1), ← im_mul, ← e1]

omit hr hi

theorem re_ite (P : Prop) [Decidable P] (z : ℂ) : (if P then re' z else 0) = re' (if P then z else 0) := by
  split <;> simp [re_zero]
theorem im_ite (P : Prop) [Decidable P] (z : ℂ) : (if P then im' z else 0) = im' (if P then z else 0) := by
  split <;> simp [im_zero]

theorem tables_tw_re (p : Fin 2048) (hr : Cert.Reals.IsReal (ar (ix1 p))) (hi : Cert.Reals.IsReal (ai (ix1 p))) (q : Fin 4) (r : Fin 8) (y : S64x2048.Idx)
    (h : (y 0).val = 16 * q.val + r.val) (h1 : (y 1).val = p.val) : (tables ar ai y : EReal) = re' (tw (dec (ar (ix1 p)) (ai (ix1 p))) q r) := by
  obtain rfl : (y 1 : Fin 2048) = p := Fin.ext h1
  rw [tables_re ar ai q r y h]
  fin_cases q
  · exact (msked_1 _ _ _).trans (by rw [(pw_is hr hi 0).1, re_ite]; rfl)
  · exact (msked_2 _ _ _).trans (by rw [(pw_is hr hi 1).1, re_ite]; rfl)
  · exact (msked_4 _ _ _).trans (by rw [(pw_is hr hi 3).1, re_ite]; rfl)
  · exact (stack8_apply (fun n => (pw ar ai n).1) _ _).trans ((pw_is hr hi (7 - r.val)).1.trans (by rw [show 7 - r.val + 1 = 8 - r.val by omega]; rfl))

theorem tables_tw_im (p : Fin 2048) (hr : Cert.Reals.IsReal (ar (ix1 p))) (hi : Cert.Reals.IsReal (ai (ix1 p))) (q : Fin 4) (r : Fin 8) (y : S64x2048.Idx)
    (h : (y 0).val = 16 * q.val + 8 + r.val) (h1 : (y 1).val = p.val) : (tables ar ai y : EReal) = im' (tw (dec (ar (ix1 p)) (ai (ix1 p))) q r) := by
  obtain rfl : (y 1 : Fin 2048) = p := Fin.ext h1
  rw [tables_im ar ai q r y (by omega)]
  fin_cases q
  · exact (msked_1 _ _ _).trans (by rw [(pw_is hr hi 0).2, im_ite]; rfl)
  · exact (msked_2 _ _ _).trans (by rw [(pw_is hr hi 1).2, im_ite]; rfl)
  · exact (msked_4 _ _ _).trans (by rw [(pw_is hr hi 3).2, im_ite]; rfl)
  · exact (stack8_apply (fun n => (pw ar ai n).2) _ _).trans ((pw_is hr hi (7 - r.val)).2.trans (by rw [show 7 - r.val + 1 = 8 - r.val by omega]; rfl))

end Cert.ScanIdeal.Hand

end
-- ==== Proof.ScanSpec.lean ====
/- What the call computes, written over complex numbers: an example's states stand in time order in the rows `row b s` (the
   128 meta rows, which lie behind the examples' rows, come first), channel `p` of chunk `j` has its two parts in the
   columns `1024 * j + p` and `1024 * j + 512 + p`. -/
module

public import proofs.«01_k».proof.Proof.ScanTabs

@[expose] public section

set_option maxRecDepth 16384

noncomputable section

namespace Cert.ScanSpec

open Cert.ScanIdeal Cert.ScanIdeal.Hand Cert.ScanMath
open Idealize.ShloMosaic

/-- The row of example `b`'s time `s`. -/
def row (b s : ℕ) : Fin 8448 := ⟨if s < 128 then min (8192 + 128 * b + s) 8447 else min (4096 * b + (s - 128)) 8447, by split <;> omega⟩

/-- The columns of a channel's two parts. -/
def colR (j : Fin 4) (p : Fin 512) : Fin 4096 := ⟨1024 * j.val + p.val, by omega⟩
def colI (j : Fin 4) (p : Fin 512) : Fin 4096 := ⟨1024 * j.val + 512 + p.val, by omega⟩
/-- A channel's place among the decays. -/
def chan (j : Fin 4) (p : Fin 512) : Fin 2048 := ⟨512 * j.val + p.val, by omega⟩

section

variable (ar ai : FVec Ideal S2048 .f32) (ct x : FVec Ideal S8448x4096 .f32)

/-- The conjugate decays. -/
def aa (j : Fin 4) (p : Fin 512) : ℂ := dec (ar (ix1 (chan j p))) (ai (ix1 (chan j p)))

/-- The states' cotangents, the last time first. -/
def cc (b : ℕ) (j : Fin 4) (p : Fin 512) (n : ℕ) : ℂ :=
  ⟨(ct (ix2 (row b (4223 - n)) (colR j p)) : EReal).toReal, (ct (ix2 (row b (4223 - n)) (colI j p)) : EReal).toReal⟩

/-- The saved states' parts, the last time first. -/
def xr (b : ℕ) (j : Fin 4) (p : Fin 512) (n : ℕ) : EReal := x (ix2 (row b (4223 - n)) (colR j p))
def xi (b : ℕ) (j : Fin 4) (p : Fin 512) (n : ℕ) : EReal := x (ix2 (row b (4223 - n)) (colI j p))

/-- A column's chunk and its channel there. -/
def ck (y : Fin 4096) : Fin 4 := ⟨y.val / 1024, by omega⟩
def ch (y : Fin 4096) : Fin 512 := ⟨y.val % 512, by omega⟩

/-- A row's example and its time. -/
def ex (r : Fin 8448) : ℕ := if r.val < 8192 then r.val / 4096 else (r.val - 8192) / 128
def tm (r : Fin 8448) : ℕ := if r.val < 8192 then 128 + r.val % 4096 else (r.val - 8192) % 128

/-- The inputs' gradient: the recurrence's value, from the last time back to the row's. -/
def resG (y : S8448x4096.Idx) : EReal :=
  if (y 1).val % 1024 < 512 then re' (G (aa ar ai (ck (y 1)) (ch (y 1))) (cc ct (ex (y 0)) (ck (y 1)) (ch (y 1))) (4224 - tm (y 0)))
  else im' (G (aa ar ai (ck (y 1)) (ch (y 1))) (cc ct (ex (y 0)) (ck (y 1)) (ch (y 1))) (4224 - tm (y 0)))

/-- The decays' gradient: the states times the recurrence's value a time later, summed over the times that leave one
    remainder by eight. -/
def resD (y : S2x8x4096.Idx) : EReal :=
  if (y 2).val % 1024 < 512 then
    ∑ k ∈ Finset.range 528, dRe (aa ar ai (ck (y 2))) (cc ct (y 0).val (ck (y 2))) (xr x (y 0).val (ck (y 2))) (xi x (y 0).val (ck (y 2))) (ch (y 2)) (8 * k + 7 - (y 1).val)
  else ∑ k ∈ Finset.range 528, dIm (aa ar ai (ck (y 2))) (cc ct (y 0).val (ck (y 2))) (xr x (y 0).val (ck (y 2))) (xi x (y 0).val (ck (y 2))) (ch (y 2)) (8 * k + 7 - (y 1).val)

variable {ct}

theorem cc_re (h : ∀ y, Cert.Reals.IsReal (ct y)) (b : ℕ) (j : Fin 4) (p : Fin 512) (n : ℕ) : (ct (ix2 (row b (4223 - n)) (colR j p)) : EReal) = re' (cc ct b j p n) := by
  obtain ⟨v, hv⟩ := h (ix2 (row b (4223 - n)) (colR j p))
  unfold cc re'; rw [hv]; rfl
theorem cc_im (h : ∀ y, Cert.Reals.IsReal (ct y)) (b : ℕ) (j : Fin 4) (p : Fin 512) (n : ℕ) : (ct (ix2 (row b (4223 - n)) (colI j p)) : EReal) = im' (cc ct b j p n) := by
  obtain ⟨v, hv⟩ := h (ix2 (row b (4223 - n)) (colI j p))
  unfold cc im'; rw [hv]; rfl

end

end Cert.ScanSpec

end
-- ==== Proof.ScanRun.lean ====
/- The launch: every point runs, the arguments end unchanged and the results are what the points left. -/
module

public import proofs.«01_k».proof.Proof.ScanFrame
public import Idealize.ShloMosaic.Lib.Claim

@[expose] public section

set_option maxRecDepth 16384

noncomputable section

namespace Cert.ScanIdeal.Hand

open Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The windows' buffers at a point, and the scratch. -/

abbrev ms0_0 (t : Fin cfg0.N) : Memref sig .tc .vmem S128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x4096 .f32 := win0_4.stage (cfg0.slots t 4)
abbrev hs0_4 (t : Fin cfg0.N) : (ms0_4 t).IsWhole := hstage0_4 ((cfg0.slots t 4).cast nbuf0_4)
abbrev scM0_0 : Memref sig .tc .vmem S2x8x2048 .f32 := Memref.whole cc0_scratch0

/-- The launch's invariant, with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The point a point's run is taken at: itself, but the second point at an example's first. -/
def pt (t : Fin cfg0.N) : grid0.Coords := if t.val % 33 = 0 then grid0.coords (⟨1, by decide⟩ : Fin grid0.N) else grid0.coords t

theorem pt_next {t : Fin cfg0.N} (h : ¬t.val % 33 = 0) : pt t = grid0.coords t := if_neg h

theorem hpt (t : Fin cfg0.N) : ¬cond (pt t) := by
  by_cases h : t.val % 33 = 0
  · rw [pt, if_pos h]; exact fun hc => absurd ((hcond ⟨1, by decide⟩).mp hc) (by decide)
  · rw [pt_next h]; exact fun hc => h ((hcond t).mp hc)

/-- What point `t` leaves over the sums `xo` and the carry `xs`. -/
def step (c : Dev nD) (t : Fin cfg0.N) (xo : Vec F S1x8x4096 .f32) (xs : Vec F S2x8x2048 .f32) : Vec F S128x4096 .bf16 × Vec F S1x8x4096 .f32 × Vec F S2x8x2048 .f32 :=
  (outG c (pt t) (ms0_0 t) (hs0_0 t) (ms0_1 t) (hs0_1 t) (ms0_2 t) (hs0_2 t) (ms0_3 t) (hs0_3 t) (ms0_4 t) (hs0_4 t) scM0_0 (Memref.isWhole_whole _) (hpt t) (iblk m c 0 t) (iblk m c 1 t) (iblk m c 2 t) xo xs,
   outDa c (pt t) (ms0_0 t) (hs0_0 t) (ms0_1 t) (hs0_1 t) (ms0_2 t) (hs0_2 t) (ms0_3 t) (hs0_3 t) (ms0_4 t) (hs0_4 t) scM0_0 (Memref.isWhole_whole _) (hpt t) (iblk m c 0 t) (iblk m c 1 t) (iblk m c 2 t) xo xs,
   outS c (pt t) (ms0_0 t) (hs0_0 t) (ms0_1 t) (hs0_1 t) (ms0_2 t) (hs0_2 t) (ms0_3 t) (hs0_3 t) (ms0_4 t) (hs0_4 t) scM0_0 (Memref.isWhole_whole _) (hpt t) (iblk m c 0 t) (iblk m c 1 t) (iblk m c 2 t) xo xs)

/-- What the buffers hold after point `n`: over cleared sums and carry at an example's first, over the point before elsewhere. -/
def outsAt (c : Dev nD) : (n : ℕ) → n < cfg0.N → Vec F S128x4096 .bf16 × Vec F S1x8x4096 .f32 × Vec F S2x8x2048 .f32
  | 0, hn => step m c ⟨0, hn⟩ k0_pay122 k0_pay121
  | n + 1, hn =>
    if (n + 1) % 33 = 0 then step m c ⟨n + 1, hn⟩ k0_pay122 k0_pay121
    else step m c ⟨n + 1, hn⟩ (outsAt c n (Nat.lt_of_succ_lt hn)).2.1 (outsAt c n (Nat.lt_of_succ_lt hn)).2.2

theorem outsAt_first (c : Dev nD) (t : Fin cfg0.N) (h0 : t.val % 33 = 0) : outsAt m c t.val t.isLt = step m c t k0_pay122 k0_pay121 := by
  obtain ⟨n, hn⟩ := t
  cases n with
  | zero => rfl
  | succ n => exact if_pos h0

theorem outsAt_next (c : Dev nD) (t : Fin cfg0.N) (h0 : ¬t.val % 33 = 0) :
    outsAt m c t.val t.isLt = step m c t (outsAt m c (t.val - 1) (Nat.lt_of_le_of_lt (Nat.sub_le _ _) t.isLt)).2.1 (outsAt m c (t.val - 1) (Nat.lt_of_le_of_lt (Nat.sub_le _ _) t.isLt)).2.2 := by
  obtain ⟨n, hn⟩ := t
  cases n with
  | zero => exact absurd (Nat.zero_mod _) h0
  | succ n => exact if_neg h0

/-- The invariant before position `n`: the scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).2.2)) ∗ (∃ r, prngReg c r)) := by
  cases n with
  | zero => exact absurd rfl hz
  | succ n => rfl

/-- Before any point the scratch is owned at some contents. -/
theorem PhiS_any (c : Dev nD) (n : ℕ) (h : n ≤ cfg0.N) :
    PhiS m c n h ⊢ iprop(iprop((∃ d, owns (c : Thread nD τ) scM0_0 fullShare d)) ∗ (∃ r, prngReg c r)) := by
  by_cases hz : n = 0
  · rw [PhiS_zero m c n h hz, PhiA0_eq]
  · rw [PhiS_pos m c n h hz]
    iintro ⟨HS0, Hg⟩
    isplitl [HS0]
    · iexists _; iexact HS0
    iexact Hg

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
    | ⟨4, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt m c t.val t.isLt).1 := by dsimp only [dats]
theorem after0_4 (c : Dev nD) (t : Fin cfg0.N) : (dats m 0 c).after 4 t = (outsAt m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The sums' buffer is not written back between an example's points: it holds what the point before left. -/
theorem before0_4 (c : Dev nD) (t : Fin cfg0.N) (h0 : ¬t.val % 33 = 0) (d) :
    (dats m 0 c).before 4 t d = (outsAt m c (t.val - 1) (Nat.lt_of_le_of_lt (Nat.sub_le _ _) t.isLt)).2.1 := by
  have hN : t.val < 66 := lt_of_lt_of_eq t.isLt (show cfg0.N = 66 from N_0)
  rw [Dat.before_out_kept _ 4 rfl t (by omega) (Bool.eq_false_iff.mpr fun h => by have := (flush0_4 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = PhiS m c (t.val + 1) t.isLt from rfl, PhiS_succ, PhiS_castSucc,
    after0_0, after0_1, after0_2, after0_3, after0_4]
  by_cases h0 : t.val % 33 = 0
  · rw [outsAt_first m c t h0]
    unfold step; dsimp only
    refine BIBase.Entails.trans (Laws.sep_mono_left (PhiS_any m c t.val (Nat.le_of_lt t.isLt))) ?_
    iintro ⟨⟨HS, Hg⟩, Ho, ⟨%d0, H0⟩, ⟨%d1, H1⟩, ⟨%d2, H2⟩, ⟨%d3, H3⟩, ⟨%d4, H4⟩⟩
    iapply (run_first c (pt t) _ _ _ _ _ _ _ _ _ _ _ _ (hpt t) (iblk m c 0 t) (iblk m c 1 t) (iblk m c 2 t) (grid0.coords t) ((hcond t).mpr h0) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have hz : t.val ≠ 0 := fun h => h0 (by rw [h])
    rw [outsAt_next m c t h0, PhiS_pos m c _ _ hz]
    simp only [before0_4 m c t h0]
    unfold step; dsimp only
    iintro ⟨⟨HS, Hg⟩, Ho, ⟨%d0, H0⟩, ⟨%d1, H1⟩, ⟨%d2, H2⟩, ⟨%d3, H3⟩, ⟨%d4, H4⟩⟩
    iapply (run_next_of c (pt t) _ _ _ _ _ _ _ _ _ _ _ _ (hpt t) (iblk m c 0 t) (iblk m c 1 t) (iblk m c 2 t) _ _ (grid0.coords t) (pt_next h0) Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

/-- At every point the body takes the blocks to what `dats` says. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch owns is what the first point takes. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) : (dats m 0 c).Φ t ⊢ Pipeline.ΦA spec0 c := by
  rw [show (dats m 0 c).Φ t = PhiS m c t.val (Nat.le_of_lt_succ t.isLt) from rfl, PhiA0_eq]
  exact PhiS_any m c _ _

/-- What the last point leaves is what the launch gives back. -/
theorem hout (c : Dev nD) : (dats m 0 c).Φ (Fin.last cfg0.N) ⊢ Pipeline.ΦA spec0 c := Phi_out m c _

set_option backward.isDefEq.respectTransparency.types false in
/-- The launch: every fair execution ends, every array of the pipeline at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run of the program ends with the arrays that `dats` says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.ScanIdeal.Hand

end
-- ==== Proof.ScanValue.lean ====
/- The call's two results: what the points leave, point by point over the grid, and the arrays they make. -/
module

public import proofs.«01_k».proof.Proof.ScanSpec
public import proofs.«01_k».proof.Proof.ScanRun

@[expose] public section

set_option maxRecDepth 16384

noncomputable section

namespace Cert.ScanIdeal.Hand

open Cert.ScanIdeal.Gen Cert.ScanMath Cert.ScanSpec Cert.Reals
open Idealize.ShloMosaic Idealize.ShloMosaic.TcCoe Idealize.ShloMosaic.Tactic

variable (m : (ℓ : Loc nD τ sig) → Buf (Elt Ideal) ℓ)

/-- The block of rows point `t` works on. -/
def blkRow (t : ℕ) : ℕ := if t % 33 = 32 then 64 + t / 33 else 32 * (t / 33) + 31 - t % 33

theorem idx : ∀ t : Fin cfg0.N, win0_0.index t = ![blkRow t.val, 0] ∧ win0_1.index t = ![blkRow t.val, 0] ∧ win0_2.index t = ![0, 0]
    ∧ win0_3.index t = ![blkRow t.val, 0] ∧ win0_4.index t = ![t.val / 33, 0, 0] :=
  (by decide +kernel : ∀ t : Fin grid0.N, _)

theorem lt66 (t : Fin cfg0.N) : t.val < 66 := lt_of_lt_of_eq t.isLt (show cfg0.N = 66 from N_0)

theorem V_ct (c : Dev nD) : V m c main_v0 = (truncf (F := Ideal) .bf16 (m (c, main_arg3) : FVec Ideal S8448x4096 .f32) bitsLt_bf16_f32 : FVec Ideal S8448x4096 .bf16) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results; try rfl
theorem V_x (c : Dev nD) : V m c main_v1 = (truncf (F := Ideal) .bf16 (m (c, main_arg0) : FVec Ideal S8448x4096 .f32) bitsLt_bf16_f32 : FVec Ideal S8448x4096 .bf16) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results; try rfl

theorem row_eq (t n y0 : ℕ) (ht : t < 66) (hy : y0 < 128) (h : y0 + n = 128 * (t % 33) + 127) : (row (t / 33) (4223 - n)).val = 128 * blkRow t + y0 := by
  unfold row blkRow
  dsimp only
  split <;> split <;> omega

theorem blk0 (c : Dev nD) (t : Fin cfg0.N) (n : ℕ) (y : S128x4096.Idx) (col : Fin 4096) (h : (y 0).val + n = 128 * (t.val % 33) + 127) (h1 : (y 1).val = col.val) :
    (iblk m c 0 t y : EReal) = (m (c, main_arg3) : FVec Ideal S8448x4096 .f32) (ix2 (row (t.val / 33) (4223 - n)) col) := by
  have hr := row_eq t.val n (y 0).val (lt66 t) (y 0).isLt h
  blk_point [iblk, V_ct, idx t, hr, h1]

theorem blk1 (c : Dev nD) (t : Fin cfg0.N) (n : ℕ) (y : S128x4096.Idx) (col : Fin 4096) (h : (y 0).val + n = 128 * (t.val % 33) + 127) (h1 : (y 1).val = col.val) :
    (iblk m c 1 t y : EReal) = (m (c, main_arg0) : FVec Ideal S8448x4096 .f32) (ix2 (row (t.val / 33) (4223 - n)) col) := by
  have hr := row_eq t.val n (y 0).val (lt66 t) (y 0).isLt h
  blk_point [iblk, V_x, idx t, hr, h1]

theorem blk2 (c : Dev nD) (t : Fin cfg0.N) (y : S64x2048.Idx) :
    (iblk m c 2 t y : EReal) = tables (m (c, main_arg1)) (m (c, main_arg2)) y := by
  have hV := V_tabs m c
  generalize tables _ _ = T at hV ⊢
  blk_point [iblk, hV, idx t]

end Cert.ScanIdeal.Hand

end
-- ==== Proof.ScanFinal.lean ====
/- The call's result arrays, where the decay and the cotangent are finite. -/
module

public import proofs.«01_k».proof.Proof.ScanValue

@[expose] public section

set_option maxRecDepth 16384

noncomputable section

namespace Cert.ScanIdeal.Hand

open Cert.ScanIdeal.Gen Cert.ScanMath Cert.ScanSpec Cert.Reals
open Idealize.ShloMosaic Idealize.ShloMosaic.TcCoe Idealize.ShloMosaic.Tactic

variable (m : (ℓ : Loc nD τ sig) → Buf (Elt Ideal) ℓ) (c : Dev nD)
variable (hr : ∀ y, IsReal ((m (c, main_arg1) : FVec Ideal S2048 .f32) y)) (hi : ∀ y, IsReal ((m (c, main_arg2) : FVec Ideal S2048 .f32) y)) (hct : ∀ y, IsReal ((m (c, main_arg3) : FVec Ideal S8448x4096 .f32) y))

include hr hi hct

/-- What a point's blocks hold. -/
theorem blocks (t : Fin cfg0.N) : Blk (aa (m (c, main_arg1)) (m (c, main_arg2))) (cc (m (c, main_arg3)) (t.val / 33)) (xr (m (c, main_arg0)) (t.val / 33)) (xi (m (c, main_arg0)) (t.val / 33)) (t.val % 33) (iblk m c 0 t) (iblk m c 1 t) (iblk m c 2 t) where
  tr q r j p y h0 h1 := (blk2 m c t y).trans (tables_tw_re (chan j p) (hr _) (hi _) q r y h0 h1)
  ti q r j p y h0 h1 := (blk2 m c t y).trans (tables_tw_im (chan j p) (hr _) (hi _) q r y h0 h1)
  ur n j p y h0 h1 := (blk0 m c t n y (colR j p) h0 h1).trans (cc_re hct _ j p n)
  ui n j p y h0 h1 := (blk0 m c t n y (colI j p) h0 h1).trans (cc_im hct _ j p n)
  xr n j p y h0 h1 := blk1 m c t n y (colR j p) h0 h1
  xi n j p y h0 h1 := blk1 m c t n y (colI j p) h0 h1

omit hr hi hct

theorem zero_s (y) : (k0_pay121 (F := Ideal) y : EReal) = 0 := by pointwise [k0_pay121]
theorem zero_o (y) : (k0_pay122 (F := Ideal) y : EReal) = 0 := by pointwise [k0_pay122]

theorem first_s (a : Fin 4 → Fin 512 → ℂ) (c : Fin 4 → Fin 512 → ℕ → ℂ) (y : S2x8x2048.Idx) : IsS a c 0 y (k0_pay121 (F := Ideal) y) := by
  have h0 : (y 0).val < 2 := (y 0).isLt
  have h2 : (y 2).val < 2048 := (y 2).isLt
  refine ⟨⟨(y 2).val / 512, by omega⟩, ⟨(y 2).val % 512, by omega⟩, by dsimp only; omega, ?_⟩
  rw [zero_s]
  rcases (by omega : (y 0).val = 0 ∨ (y 0).val = 1) with h | h
  · exact Or.inl ⟨h, re_zero.symm⟩
  · exact Or.inr ⟨h, im_zero.symm⟩

theorem first_o (a : Fin 4 → Fin 512 → ℂ) (c : Fin 4 → Fin 512 → ℕ → ℂ) (XR XI : Fin 4 → Fin 512 → ℕ → EReal) (y : S1x8x4096.Idx) : IsD a c XR XI 0 y (k0_pay122 (F := Ideal) y) := by
  have h2 : (y 2).val < 4096 := (y 2).isLt
  refine ⟨⟨(y 2).val / 1024, by omega⟩, ⟨(y 2).val % 512, by omega⟩, ?_⟩
  rw [zero_o]
  rcases (by omega : (y 2).val % 1024 < 512 ∨ 512 ≤ (y 2).val % 1024) with h | h
  · exact Or.inl ⟨by dsimp only; omega, rfl⟩
  · exact Or.inr ⟨by dsimp only; omega, rfl⟩

omit hr hi hct

/-- One point over what stands before it. -/
theorem step_g (t : Fin cfg0.N) {a : Fin 4 → Fin 512 → ℂ} {d : Fin 4 → Fin 512 → ℕ → ℂ} {XR XI : Fin 4 → Fin 512 → ℕ → EReal} {i : ℕ}
    {xo : Vec Ideal S1x8x4096 .f32} {xs : Vec Ideal S2x8x2048 .f32}
    (B : Blk a d XR XI i (iblk m c 0 t) (iblk m c 1 t) (iblk m c 2 t)) (hs : ∀ y, IsS a d i y (xs y)) (hd : ∀ y, IsD a d XR XI i y (xo y)) (y) : IsG a d i y ((step m c t xo xs).1 y) := by
  unfold step; dsimp only
  exact outG_is c (pt t) (ms0_0 t) (hs0_0 t) (ms0_1 t) (hs0_1 t) (ms0_2 t) (hs0_2 t) (ms0_3 t) (hs0_3 t) (ms0_4 t) (hs0_4 t) scM0_0 (Memref.isWhole_whole _) (hpt t) B hs hd y
theorem step_d (t : Fin cfg0.N) {a : Fin 4 → Fin 512 → ℂ} {d : Fin 4 → Fin 512 → ℕ → ℂ} {XR XI : Fin 4 → Fin 512 → ℕ → EReal} {i : ℕ}
    {xo : Vec Ideal S1x8x4096 .f32} {xs : Vec Ideal S2x8x2048 .f32}
    (B : Blk a d XR XI i (iblk m c 0 t) (iblk m c 1 t) (iblk m c 2 t)) (hs : ∀ y, IsS a d i y (xs y)) (hd : ∀ y, IsD a d XR XI i y (xo y)) (y) : IsD a d XR XI (i + 1) y ((step m c t xo xs).2.1 y) := by
  unfold step; dsimp only
  exact outDa_is c (pt t) (ms0_0 t) (hs0_0 t) (ms0_1 t) (hs0_1 t) (ms0_2 t) (hs0_2 t) (ms0_3 t) (hs0_3 t) (ms0_4 t) (hs0_4 t) scM0_0 (Memref.isWhole_whole _) (hpt t) B hs hd y
theorem step_s (t : Fin cfg0.N) {a : Fin 4 → Fin 512 → ℂ} {d : Fin 4 → Fin 512 → ℕ → ℂ} {XR XI : Fin 4 → Fin 512 → ℕ → EReal} {i : ℕ}
    {xo : Vec Ideal S1x8x4096 .f32} {xs : Vec Ideal S2x8x2048 .f32}
    (B : Blk a d XR XI i (iblk m c 0 t) (iblk m c 1 t) (iblk m c 2 t)) (hs : ∀ y, IsS a d i y (xs y)) (hd : ∀ y, IsD a d XR XI i y (xo y)) (y) : IsS a d (i + 1) y ((step m c t xo xs).2.2 y) := by
  unfold step; dsimp only
  exact outS_is c (pt t) (ms0_0 t) (hs0_0 t) (ms0_1 t) (hs0_1 t) (ms0_2 t) (hs0_2 t) (ms0_3 t) (hs0_3 t) (ms0_4 t) (hs0_4 t) scM0_0 (Memref.isWhole_whole _) (hpt t) B hs hd y
theorem step_is (t : Fin cfg0.N) {a : Fin 4 → Fin 512 → ℂ} {d : Fin 4 → Fin 512 → ℕ → ℂ} {XR XI : Fin 4 → Fin 512 → ℕ → EReal} {i : ℕ}
    {xo : Vec Ideal S1x8x4096 .f32} {xs : Vec Ideal S2x8x2048 .f32}
    (B : Blk a d XR XI i (iblk m c 0 t) (iblk m c 1 t) (iblk m c 2 t)) (hs : ∀ y, IsS a d i y (xs y)) (hd : ∀ y, IsD a d XR XI i y (xo y)) :
    (∀ y, IsG a d i y ((step m c t xo xs).1 y)) ∧ (∀ y, IsD a d XR XI (i + 1) y ((step m c t xo xs).2.1 y)) ∧ (∀ y, IsS a d (i + 1) y ((step m c t xo xs).2.2 y)) :=
  ⟨step_g m c t B hs hd, step_d m c t B hs hd, step_s m c t B hs hd⟩

include hr hi hct

/-- What every point leaves. -/
theorem points : ∀ (n : ℕ) (hn : n < cfg0.N),
    (∀ y, IsG (aa (m (c, main_arg1)) (m (c, main_arg2))) (cc (m (c, main_arg3)) (n / 33)) (n % 33) y ((outsAt m c n hn).1 y))
    ∧ (∀ y, IsD (aa (m (c, main_arg1)) (m (c, main_arg2))) (cc (m (c, main_arg3)) (n / 33)) (xr (m (c, main_arg0)) (n / 33)) (xi (m (c, main_arg0)) (n / 33)) (n % 33 + 1) y ((outsAt m c n hn).2.1 y))
    ∧ (∀ y, IsS (aa (m (c, main_arg1)) (m (c, main_arg2))) (cc (m (c, main_arg3)) (n / 33)) (n % 33 + 1) y ((outsAt m c n hn).2.2 y)) := by
  intro n
  induction n with
  | zero =>
    intro hn
    have B := blocks m c hr hi hct ⟨0, hn⟩
    rw [outsAt_first m c ⟨0, hn⟩ rfl]
    exact step_is m c _ B (first_s _ _) (first_o _ _ _ _)
  | succ n ih =>
    intro hn
    have B := blocks m c hr hi hct ⟨n + 1, hn⟩
    by_cases h : (n + 1) % 33 = 0
    · rw [outsAt_first m c ⟨n + 1, hn⟩ h]
      dsimp only at B
      rw [h] at B ⊢
      exact step_is m c _ B (first_s _ _) (first_o _ _ _ _)
    · obtain ⟨_, hd, hs⟩ := ih (Nat.lt_of_succ_lt hn)
      rw [show n / 33 = (n + 1) / 33 by omega, show n % 33 + 1 = (n + 1) % 33 by omega] at hd hs
      rw [outsAt_next m c ⟨n + 1, hn⟩ h]
      exact step_is m c _ B hs hd

omit hr hi hct

/-- Where an element of point `t`'s block of results stands in the array. -/
theorem emb_g (t : Fin cfg0.N) (y : S128x4096.Idx) : (((win0_3.blk t).view.emb y : S8448x4096.Idx) 0).val = 128 * blkRow t.val + (y 0).val
    ∧ (((win0_3.blk t).view.emb y : S8448x4096.Idx) 1).val = (y 1).val := by
  have h := (idx t).2.2.2.1
  constructor
  · refine (Pipeline.Window.rect_emb_val win0_3 t y 0).trans ?_
    rw [h]; show blkRow t.val * 128 + _ = _; omega
  · refine (Pipeline.Window.rect_emb_val win0_3 t y 1).trans ?_
    rw [h]; show 0 * 4096 + _ = _; omega

theorem emb_d (t : Fin cfg0.N) (y : S1x8x4096.Idx) : (((win0_4.blk t).view.emb y : S2x8x4096.Idx) 0).val = t.val / 33
    ∧ (((win0_4.blk t).view.emb y : S2x8x4096.Idx) 1).val = (y 1).val ∧ (((win0_4.blk t).view.emb y : S2x8x4096.Idx) 2).val = (y 2).val := by
  have h := (idx t).2.2.2.2
  have y0 : (y 0).val < 1 := (y 0).isLt
  refine ⟨?_, ?_, ?_⟩
  · refine (Pipeline.Window.rect_emb_val win0_4 t y 0).trans ?_
    rw [h]; show t.val / 33 * 1 + _ = _; omega
  · refine (Pipeline.Window.rect_emb_val win0_4 t y 1).trans ?_
    rw [h]; show 0 * 8 + _ = _; omega
  · refine (Pipeline.Window.rect_emb_val win0_4 t y 2).trans ?_
    rw [h]; show 0 * 4096 + _ = _; omega

include hr hi hct

/-- The first result: the gradient of the scan's inputs. -/
theorem final_g : (dats m 0 c).arrAt 3 (cfgs 0).N = resG (m (c, main_arg1)) (m (c, main_arg2)) (m (c, main_arg3)) := by
  refine (dats m 0 c).arrAt_eq_of_covers 3 _ (by decide +kernel) fun t hf y => ?_
  have hp := (points m c hr hi hct t.val t.isLt).1 y
  blk_simp
  rw [after0_3]
  obtain ⟨e0, e1⟩ := emb_g t y
  generalize (win0_3.blk t).view.emb y = z at e0 e1 ⊢
  have hz : (z 1).val < 4096 := (z 1).isLt
  have ht := lt66 t
  have y0 : ((y : S128x4096.Idx) 0).val < 128 := (y 0).isLt
  have hx : ex (z 0) = t.val / 33 := by
    unfold ex; rw [e0]; unfold blkRow; split <;> split <;> omega
  have hm : ((y : S128x4096.Idx) 0).val + (4224 - tm (z 0)) = 128 * (t.val % 33) + 128 := by
    unfold tm; rw [e0]; unfold blkRow; split <;> split <;> omega
  unfold resG
  rw [hx]
  split
  · exact hp.re _ _ _ hm (by rw [← e1]; unfold ck ch; dsimp only; omega)
  · exact hp.im _ _ _ hm (by rw [← e1]; unfold ck ch; dsimp only; omega)

/-- The second result: the gradient of the decays, for every example and every row of eight. -/
theorem final_d : (dats m 0 c).arrAt 4 (cfgs 0).N = resD (m (c, main_arg1)) (m (c, main_arg2)) (m (c, main_arg3)) (m (c, main_arg0)) := by
  refine (dats m 0 c).arrAt_eq_of_covers 4 _ (by decide +kernel) fun t hf y => ?_
  have hp := (points m c hr hi hct t.val t.isLt).2.1 y
  have h32 : t.val % 33 = 32 := (flush0_4 t).mp hf
  blk_simp
  rw [after0_4]
  obtain ⟨e0, e1, e2⟩ := emb_d t y
  generalize (win0_4.blk t).view.emb y = z at e0 e1 e2 ⊢
  have hz : (z 2).val < 4096 := (z 2).isLt
  rw [h32] at hp
  unfold resD
  rw [e0, e1]
  split
  · exact hp.re _ _ (by rw [← e2]; unfold ck ch; dsimp only; omega)
  · exact hp.im _ _ (by rw [← e2]; unfold ck ch; dsimp only; omega)

end Cert.ScanIdeal.Hand

end
-- ==== Proof.ScanRef.lean ====
/- The operations of the reference's loop and of what it is given, read index by index. -/
module

public import proofs.«01_k».proof.Proof.ScanSpec
public import proofs.«01_k».proof.Proof.Gen.ScanRefIdeal

@[expose] public section

set_option maxRecDepth 16384

noncomputable section

namespace Cert.ScanRefIdeal.Value

open Cert.ScanRefIdeal Cert.ScanRefIdeal.Gen Cert.ScanMath Cert.ScanSpec Cert.Reals
open Idealize.ShloMosaic

/-- The rows as sequences, in time order, the prefix first: time, example, chunk, part, channel. -/
def seqs (x : FVec Ideal S8448x4096 .f32) : FVec Ideal S4224x2x4x2x512 .f32 :=
  transpose S4224x2x4x2x512 [1, 0, 2, 3, 4] (concatenate S2x4224x4x2x512 1 [⟨S2x128x4x2x512, (shapeCast S2x128x4x2x512 (extractStridedSlice S256x4096 ![8192, 0] x slices_S8448x4096_S256x4096_8192_0) shapeCasts_S256x4096_S2x128x4x2x512)⟩, ⟨S2x4096x4x2x512, (shapeCast S2x4096x4x2x512 (extractStridedSlice S8192x4096 ![0, 0] x slices_S8448x4096_S8192x4096_0_0) shapeCasts_S8192x4096_S2x4096x4x2x512)⟩] concatenates_S2x128x4x2x512_S2x4096x4x2x512_S2x4224x4x2x512_d1) transposes_S2x4224x4x2x512_S4224x2x4x2x512_1_0_2_3_4

/-- The real parts of the rows, in the order of time. -/
def seqRe (x : FVec Ideal S8448x4096 .f32) : FVec Ideal S4224x2x4x512 .f32 :=
  shapeCast S4224x2x4x512 (extractStridedSlice S4224x2x4x1x512 ![0, 0, 0, 0, 0] (seqs x) slices_S4224x2x4x2x512_S4224x2x4x1x512_0_0_0_0_0) shapeCasts_S4224x2x4x1x512_S4224x2x4x512
/-- The imaginary parts of the rows, in the order of time. -/
def seqIm (x : FVec Ideal S8448x4096 .f32) : FVec Ideal S4224x2x4x512 .f32 :=
  shapeCast S4224x2x4x512 (extractStridedSlice S4224x2x4x1x512 ![0, 0, 0, 1, 0] (seqs x) slices_S4224x2x4x2x512_S4224x2x4x1x512_0_0_0_1_0) shapeCasts_S4224x2x4x1x512_S4224x2x4x512

/-- The decays as an array to be copied to the examples. -/
def arow (a : FVec Ideal S2048 .f32) : FVec Ideal S1x4x512 .f32 := broadcastInDim S1x4x512 ![1, 2] bcast_S4x512_S1x4x512_1_2 (shapeCast S4x512 a shapeCasts_S2048_S4x512)

/-- The time of trip `n`, from the last one down. -/
def time (n : ℕ) : IVec S_ 32 := subi (subi (constantI S_ 32 4224#32) (constantI S_ 32 (BitVec.ofNat 32 n))) (constantI S_ 32 1#32)

/-- The sequence at the trip's time, and the stack with it written there. -/
def get (n : ℕ) (x : FVec Ideal S4224x2x4x512 .f32) : FVec Ideal S2x4x512 .f32 :=
  shapeCast S2x4x512 (Host.dynamicSlice S1x2x4x512 x (fun k => (((![time n, constantI S_ 32 0#32, constantI S_ 32 0#32, constantI S_ 32 0#32] : Fin 4 → IVec S_ 32)) k (Shape.Idx.first h_S_)).toInt) sliceFits_S4224x2x4x512_S1x2x4x512) shapeCasts_S1x2x4x512_S2x4x512
def put (n : ℕ) (x : FVec Ideal S4224x2x4x512 .f32) (u : FVec Ideal S2x4x512 .f32) : FVec Ideal S4224x2x4x512 .f32 :=
  Host.dynamicUpdateSlice x (broadcastInDim S1x2x4x512 ![1, 2, 3] bcast_S2x4x512_S1x2x4x512_1_2_3 u) (fun k => (((![time n, constantI S_ 32 0#32, constantI S_ 32 0#32, constantI S_ 32 0#32] : Fin 4 → IVec S_ 32)) k (Shape.Idx.first h_S_)).toInt) updateFits_S4224x2x4x512_S1x2x4x512

theorem time_toInt (n : ℕ) (hn : n < 4224) (i : S_.Idx) : (time n i).toInt = ((4223 - n : ℕ) : ℤ) := by
  show ((4224#32 - BitVec.ofNat 32 n - 1#32 : BitVec 32)).toInt = _
  have e : (4224#32 - BitVec.ofNat 32 n - 1#32 : BitVec 32).toNat = 4223 - n := by
    simp only [BitVec.toNat_sub, BitVec.toNat_ofNat]; omega
  rw [BitVec.toInt_eq_toNat_cond, e]; split <;> omega

theorem ix4_congr {T T' : Fin 4224} {e e' : Fin 2} {j j' : Fin 4} {p p' : Fin 512} (hT : T.val = T'.val) (he : e.val = e'.val) (hj : j.val = j'.val)
    (hp : p.val = p'.val) : (ix4 T e j p : S4224x2x4x512.Idx) = ix4 T' e' j' p' := by
  rw [Fin.ext hT, Fin.ext he, Fin.ext hj, Fin.ext hp]

theorem ix3_congr {e e' : Fin 2} {j j' : Fin 4} {p p' : Fin 512} (he : e.val = e'.val) (hj : j.val = j'.val) (hp : p.val = p'.val) :
    (ix3 e j p : S2x4x512.Idx) = ix3 e' j' p' := by
  rw [Fin.ext he, Fin.ext hj, Fin.ext hp]

theorem start_eq (n : ℕ) (hn : n < 4224) : (fun k => (((![time n, constantI S_ 32 0#32, constantI S_ 32 0#32, constantI S_ 32 0#32] : Fin 4 → IVec S_ 32)) k (Shape.Idx.first h_S_)).toInt)
    = fun k : Fin 4 => ((![4223 - n, 0, 0, 0] k : ℕ) : ℤ) := by
  funext k
  fin_cases k
  · exact time_toInt n hn _
  · rfl
  · rfl
  · rfl

theorem get_apply (n : ℕ) (hn : n < 4224) (x : FVec Ideal S4224x2x4x512 .f32) (e : Fin 2) (j : Fin 4) (p : Fin 512) :
    get n x (ix3 e j p) = x (ix4 (⟨4223 - n, by omega⟩ : Fin 4224) e j p) := by
  unfold get
  rw [start_eq n hn]
  generalize hst : (fun k : Fin 4 => ((![4223 - n, 0, 0, 0] k : ℕ) : ℤ)) = st
  have h0 : st 0 = ((4223 - n : ℕ) : ℤ) := by rw [← hst]; rfl
  have h1 : st 1 = 0 := by rw [← hst]; rfl
  have h2 : st 2 = 0 := by rw [← hst]; rfl
  have h3 : st 3 = 0 := by rw [← hst]; rfl
  clear hst
  have c0 : Host.clampedStart S4224x2x4x512 S1x2x4x512 sliceFits_S4224x2x4x512_S1x2x4x512.1 st 0 = 4223 - n :=
    Host.clampedStart_of_le (s := S4224x2x4x512) (t := S1x2x4x512) _ st 0 (4223 - n) h0 (by show 4223 - n + 1 ≤ 4224; omega)
  have c1 : Host.clampedStart S4224x2x4x512 S1x2x4x512 sliceFits_S4224x2x4x512_S1x2x4x512.1 st 1 = 0 :=
    Host.clampedStart_of_le (s := S4224x2x4x512) (t := S1x2x4x512) _ st 1 0 h1 (by show 0 + 2 ≤ 2; omega)
  have c2 : Host.clampedStart S4224x2x4x512 S1x2x4x512 sliceFits_S4224x2x4x512_S1x2x4x512.1 st 2 = 0 :=
    Host.clampedStart_of_le (s := S4224x2x4x512) (t := S1x2x4x512) _ st 2 0 h2 (by show 0 + 4 ≤ 4; omega)
  have c3 : Host.clampedStart S4224x2x4x512 S1x2x4x512 sliceFits_S4224x2x4x512_S1x2x4x512.1 st 3 = 0 :=
    Host.clampedStart_of_le (s := S4224x2x4x512) (t := S1x2x4x512) _ st 3 0 h3 (by show 0 + 512 ≤ 512; omega)
  pointwise []
  refine congrArg x (ix4_congr ?_ ?_ ?_ ?_)
  · exact c0
  · exact (congrArg (· + e.val) c1).trans (Nat.zero_add _)
  · exact (congrArg (· + j.val) c2).trans (Nat.zero_add _)
  · exact (congrArg (· + p.val) c3).trans (Nat.zero_add _)

theorem put_apply (n : ℕ) (hn : n < 4224) (x : FVec Ideal S4224x2x4x512 .f32) (u : FVec Ideal S2x4x512 .f32) (T : Fin 4224) (e : Fin 2) (j : Fin 4) (p : Fin 512) :
    put n x u (ix4 T e j p) = if T.val + n = 4223 then u (ix3 e j p) else x (ix4 T e j p) := by
  unfold put
  rw [start_eq n hn]
  generalize hst : (fun k : Fin 4 => ((![4223 - n, 0, 0, 0] k : ℕ) : ℤ)) = st
  have h0 : st 0 = ((4223 - n : ℕ) : ℤ) := by rw [← hst]; rfl
  have h1 : st 1 = 0 := by rw [← hst]; rfl
  have h2 : st 2 = 0 := by rw [← hst]; rfl
  have h3 : st 3 = 0 := by rw [← hst]; rfl
  clear hst
  have c0 : Host.clampedStart S4224x2x4x512 S1x2x4x512 sliceFits_S4224x2x4x512_S1x2x4x512.1 st 0 = 4223 - n :=
    Host.clampedStart_of_le (s := S4224x2x4x512) (t := S1x2x4x512) _ st 0 (4223 - n) h0 (by show 4223 - n + 1 ≤ 4224; omega)
  have c1 : Host.clampedStart S4224x2x4x512 S1x2x4x512 sliceFits_S4224x2x4x512_S1x2x4x512.1 st 1 = 0 :=
    Host.clampedStart_of_le (s := S4224x2x4x512) (t := S1x2x4x512) _ st 1 0 h1 (by show 0 + 2 ≤ 2; omega)
  have c2 : Host.clampedStart S4224x2x4x512 S1x2x4x512 sliceFits_S4224x2x4x512_S1x2x4x512.1 st 2 = 0 :=
    Host.clampedStart_of_le (s := S4224x2x4x512) (t := S1x2x4x512) _ st 2 0 h2 (by show 0 + 4 ≤ 4; omega)
  have c3 : Host.clampedStart S4224x2x4x512 S1x2x4x512 sliceFits_S4224x2x4x512_S1x2x4x512.1 st 3 = 0 :=
    Host.clampedStart_of_le (s := S4224x2x4x512) (t := S1x2x4x512) _ st 3 0 h3 (by show 0 + 512 ≤ 512; omega)
  rw [Host.dynamicUpdateSlice_apply]
  by_cases hT : T.val + n = 4223
  · rw [if_pos hT, dif_pos]
    · pointwise []
      refine congrArg u (ix3_congr ?_ ?_ ?_)
      · exact (congrArg (e.val - ·) c1).trans (Nat.sub_zero _)
      · exact (congrArg (j.val - ·) c2).trans (Nat.sub_zero _)
      · exact (congrArg (p.val - ·) c3).trans (Nat.sub_zero _)
    · intro a
      fin_cases a
      · show Host.clampedStart S4224x2x4x512 S1x2x4x512 _ st 0 ≤ T.val ∧ T.val < Host.clampedStart S4224x2x4x512 S1x2x4x512 _ st 0 + 1
        rw [c0]; omega
      · show Host.clampedStart S4224x2x4x512 S1x2x4x512 _ st 1 ≤ e.val ∧ e.val < Host.clampedStart S4224x2x4x512 S1x2x4x512 _ st 1 + 2
        rw [c1]; omega
      · show Host.clampedStart S4224x2x4x512 S1x2x4x512 _ st 2 ≤ j.val ∧ j.val < Host.clampedStart S4224x2x4x512 S1x2x4x512 _ st 2 + 4
        rw [c2]; omega
      · show Host.clampedStart S4224x2x4x512 S1x2x4x512 _ st 3 ≤ p.val ∧ p.val < Host.clampedStart S4224x2x4x512 S1x2x4x512 _ st 3 + 512
        rw [c3]; omega
  · rw [if_neg hT, dif_neg]
    intro h
    have h' : Host.clampedStart S4224x2x4x512 S1x2x4x512 sliceFits_S4224x2x4x512_S1x2x4x512.1 st 0 ≤ T.val ∧ T.val < Host.clampedStart S4224x2x4x512 S1x2x4x512 sliceFits_S4224x2x4x512_S1x2x4x512.1 st 0 + 1 := h 0
    rw [c0] at h'
    omega

theorem seqRe_apply (x : FVec Ideal S8448x4096 .f32) (T : Fin 4224) (e : Fin 2) (j : Fin 4) (p : Fin 512) : seqRe x (ix4 T e j p) = x (ix2 (row e.val T.val) (colR j p)) := by
  pointwise [seqRe, seqs]
  unfold row colR
  split
  · rename_i h
    congr 2
    · exact Fin.ext (by dsimp only; omega)
    · exact Fin.ext (by dsimp only; omega)
  · rename_i h
    congr 2
    · exact Fin.ext (by dsimp only; omega)
    · exact Fin.ext (by dsimp only; omega)
theorem seqIm_apply (x : FVec Ideal S8448x4096 .f32) (T : Fin 4224) (e : Fin 2) (j : Fin 4) (p : Fin 512) : seqIm x (ix4 T e j p) = x (ix2 (row e.val T.val) (colI j p)) := by
  pointwise [seqIm, seqs]
  unfold row colI
  split
  · rename_i h
    congr 2
    · exact Fin.ext (by dsimp only; omega)
    · exact Fin.ext (by dsimp only; omega)
  · rename_i h
    congr 2
    · exact Fin.ext (by dsimp only; omega)
    · exact Fin.ext (by dsimp only; omega)

theorem arow_apply (a : FVec Ideal S2048 .f32) (z : Fin 1) (j : Fin 4) (p : Fin 512) : arow a (ix3 z j p) = a (ix1 (chan j p)) := by
  pointwise [arow]
  exact congrArg (fun q => a (ix1 q)) (Fin.ext (by unfold chan; dsimp only; omega))

/-- The two stacks' rows, example by example. -/
def both (gr gi : FVec Ideal S4224x2x4x512 .f32) : FVec Ideal S2x4224x4096 .f32 :=
  transpose S2x4224x4096 [1, 0, 2] (shapeCast S4224x2x4096 (concatenate S4224x2x4x2x512 3 [⟨S4224x2x4x1x512, (broadcastInDim S4224x2x4x1x512 ![0, 1, 2, 4] bcast_S4224x2x4x512_S4224x2x4x1x512_0_1_2_4 gr)⟩, ⟨S4224x2x4x1x512, (broadcastInDim S4224x2x4x1x512 ![0, 1, 2, 4] bcast_S4224x2x4x512_S4224x2x4x1x512_0_1_2_4 gi)⟩] concatenates_S4224x2x4x1x512_S4224x2x4x1x512_S4224x2x4x2x512_d3) shapeCasts_S4224x2x4x2x512_S4224x2x4096) transposes_S4224x2x4096_S2x4224x4096_1_0_2

/-- The first result of the two stacks. -/
def outG (gr gi : FVec Ideal S4224x2x4x512 .f32) : FVec Ideal S8448x4096 .bf16 :=
  truncf .bf16 (concatenate S8448x4096 0 [⟨S8192x4096, (shapeCast S8192x4096 (extractStridedSlice S2x4096x4096 ![0, 128, 0] (both gr gi) slices_S2x4224x4096_S2x4096x4096_0_128_0) shapeCasts_S2x4096x4096_S8192x4096)⟩, ⟨S256x4096, (shapeCast S256x4096 (extractStridedSlice S2x128x4096 ![0, 0, 0] (both gr gi) slices_S2x4224x4096_S2x128x4096_0_0_0) shapeCasts_S2x128x4096_S256x4096)⟩] concatenates_S8192x4096_S256x4096_S8448x4096_d0) bitsLt_bf16_f32

/-- A stack a time later, zeros at the end. -/
def after (g : FVec Ideal S4224x2x4x512 .f32) : FVec Ideal S4224x2x4x512 .f32 :=
  concatenate S4224x2x4x512 0 [⟨S4223x2x4x512, (extractStridedSlice S4223x2x4x512 ![1, 0, 0, 0] g slices_S4224x2x4x512_S4223x2x4x512_1_0_0_0)⟩, ⟨S1x2x4x512, (broadcastInDim S1x2x4x512 ![] bcast_S_S1x2x4x512 (constant S_ .f32 0x00000000#32))⟩] concatenates_S4223x2x4x512_S1x2x4x512_S4224x2x4x512_d0

/-- The second result of the decays' gradients at every time. -/
def fold8 (dr di : FVec Ideal S4224x2x4x512 .f32) : FVec Ideal S2x8x4096 .f32 :=
  transpose S2x8x4096 [1, 0, 2] (Host.reduceAdd (shapeCast S528x8x2x4096 (shapeCast S4224x2x4096 (concatenate S4224x2x4x2x512 3 [⟨S4224x2x4x1x512, (broadcastInDim S4224x2x4x1x512 ![0, 1, 2, 4] bcast_S4224x2x4x512_S4224x2x4x1x512_0_1_2_4 dr)⟩, ⟨S4224x2x4x1x512, (broadcastInDim S4224x2x4x1x512 ![0, 1, 2, 4] bcast_S4224x2x4x512_S4224x2x4x1x512_0_1_2_4 di)⟩] concatenates_S4224x2x4x1x512_S4224x2x4x1x512_S4224x2x4x2x512_d3) shapeCasts_S4224x2x4x2x512_S4224x2x4096) shapeCasts_S4224x2x4096_S528x8x2x4096) (constant S_ .f32 0x00000000#32) reducesTo_S528x8x2x4096_S8x2x4096_d0 h_S_) transposes_S8x2x4096_S2x8x4096_1_0_2

/-- The sums over the rows eight apart. -/
def outD (gr gi : FVec Ideal S4224x2x4x512 .f32) (x : FVec Ideal S8448x4096 .f32) : FVec Ideal S2x8x4096 .f32 :=
  fold8 (addf (mulf (after gi) (seqIm x)) (mulf (after gr) (seqRe x))) (addf (mulf (after gi) (seqRe x)) (mulf (Host.negf (after gr)) (seqIm x)))

theorem after_apply (g : FVec Ideal S4224x2x4x512 .f32) (T : Fin 4224) (e : Fin 2) (j : Fin 4) (p : Fin 512) :
    (after g (ix4 T e j p) : EReal) = if h : T.val + 1 < 4224 then g (ix4 ⟨T.val + 1, h⟩ e j p) else 0 := by
  pointwise [after]
  by_cases h : T.val < 4223
  · rw [dif_pos h, dif_pos (by omega)]
    exact congrArg g (ix4_congr (Nat.add_comm _ _) rfl rfl rfl)
  · rw [dif_neg h, dif_neg (by omega)]

theorem bix_congr {e e' : Fin 2} {T T' : Fin 4224} {z : Fin 4096} (he : e.val = e'.val) (hT : T.val = T'.val) :
    (ix3 e T z : S2x4224x4096.Idx) = ix3 e' T' z := by
  rw [Fin.ext he, Fin.ext hT]

theorem both_apply (gr gi : FVec Ideal S4224x2x4x512 .f32) (e : Fin 2) (T : Fin 4224) (z : Fin 4096) :
    (both gr gi (ix3 e T z) : EReal) = if z.val % 1024 < 512 then gr (ix4 T e (ck z) (ch z)) else gi (ix4 T e (ck z) (ch z)) := by
  pointwise [both]
  by_cases h : z.val % 1024 < 512
  · rw [dif_pos (by omega), if_pos h]; rfl
  · rw [dif_neg (by omega), if_neg h]; rfl

set_option maxRecDepth 200000 in
theorem outG_apply (gr gi : FVec Ideal S4224x2x4x512 .f32) (y : Fin 8448) (z : Fin 4096) :
    (outG gr gi (ix2 y z) : EReal) = both gr gi (ix3 ⟨min (ex y) 1, by omega⟩ ⟨min (tm y) 4223, by omega⟩ z) := by
  pointwise [outG]
  unfold ex tm
  by_cases h : y.val < 8192
  · rw [dif_pos h]
    refine congrArg (both gr gi) (bix_congr ?_ ?_)
    · dsimp only; rw [if_pos h]; omega
    · dsimp only; rw [if_pos h]; omega
  · rw [dif_neg h]
    refine congrArg (both gr gi) (bix_congr ?_ ?_)
    · dsimp only; rw [if_neg h]; omega
    · dsimp only; rw [if_neg h]; omega

theorem fold8_apply (dr di : FVec Ideal S4224x2x4x512 .f32) (e : Fin 2) (r : Fin 8) (z : Fin 4096) :
    (fold8 dr di (ix3 e r z) : EReal) = if z.val % 1024 < 512 then ∑ k : Fin 528, dr (ix4 (⟨8 * k.val + r.val, by omega⟩ : Fin 4224) e (ck z) (ch z))
      else ∑ k : Fin 528, di (ix4 (⟨8 * k.val + r.val, by omega⟩ : Fin 4224) e (ck z) (ch z)) := by
  pointwise [fold8]
  by_cases h : z.val % 1024 < 512
  · rw [if_pos h]
    refine Finset.sum_congr rfl fun k _ => ?_
    rw [dif_pos (by omega)]
    exact congrArg dr (ix4_congr (by dsimp only; omega) rfl rfl rfl)
  · rw [if_neg h]
    refine Finset.sum_congr rfl fun k _ => ?_
    rw [dif_neg (by omega)]
    exact congrArg di (ix4_congr (by dsimp only; omega) rfl rfl rfl)

theorem acast_apply (a : FVec Ideal S2048 .f32) (e : Fin 2) (j : Fin 4) (p : Fin 512) :
    broadcastInDim S2x4x512 ![0, 1, 2] bcast_S1x4x512_S2x4x512_0_1_2 (arow a) (ix3 e j p) = a (ix1 (chan j p)) := by
  pointwise []
  exact arow_apply a _ j p

end Cert.ScanRefIdeal.Value

end
-- ==== Proof.ScanRefRun.lean ====
/- The reference's loop: the carried values and the stacks after every trip. -/
module

public import proofs.«01_k».proof.Proof.ScanRef
public import proofs.«01_k».proof.Proof.Gen.ScanRefIdeal.Run

@[expose] public section

set_option maxRecDepth 65536

noncomputable section

namespace Cert.ScanRefIdeal.Value

open Cert.ScanRefIdeal Cert.ScanRefIdeal.Gen Cert.ScanMath Cert.ScanSpec Cert.Reals
open Idealize.ShloMosaic Idealize.ShloMosaic.TcCoe Idealize.ShloMosaic.Tactic Idealize.ShloMosaic.StableHlo

section

variable (ar ai : FVec Ideal S2048 .f32) (ct : FVec Ideal S8448x4096 .f32)

/-- What holds after `n` trips. -/
structure Inv (n : ℕ) (V0 : Valuation τ sig (Elt Ideal)) : Prop where
  n_6 : V0 (Proc.devRef .tc main_v22_6) = constantI S_ 32 (BitVec.ofNat 32 n)
  c_0 : V0 (Proc.devRef .tc main_v22_0) = seqRe ct
  c_1 : V0 (Proc.devRef .tc main_v22_1) = seqIm ct
  c_2 : V0 (Proc.devRef .tc main_v22_2) = arow ar
  c_3 : V0 (Proc.devRef .tc main_v22_3) = arow ai
  c_4 : V0 (Proc.devRef .tc main_v22_4) = arow ar
  c_5 : V0 (Proc.devRef .tc main_v22_5) = arow ai
  p_7 : ∀ (e : Fin 2) (j : Fin 4) (p : Fin 512), ((V0 (Proc.devRef .tc main_v22_7) : FVec Ideal S2x4x512 .f32) (ix3 e j p) : EReal) = re' (aa ar ai j p * G (aa ar ai j p) (cc ct e.val j p) n)
  p_8 : ∀ (e : Fin 2) (j : Fin 4) (p : Fin 512), ((V0 (Proc.devRef .tc main_v22_8) : FVec Ideal S2x4x512 .f32) (ix3 e j p) : EReal) = im' (aa ar ai j p * G (aa ar ai j p) (cc ct e.val j p) n)
  p_9 : ∀ (T : Fin 4224) (e : Fin 2) (j : Fin 4) (p : Fin 512), 4224 ≤ T.val + n → ((V0 (Proc.devRef .tc main_v22_9) : FVec Ideal S4224x2x4x512 .f32) (ix4 T e j p) : EReal) = re' (G (aa ar ai j p) (cc ct e.val j p) (4224 - T.val))
  p_10 : ∀ (T : Fin 4224) (e : Fin 2) (j : Fin 4) (p : Fin 512), 4224 ≤ T.val + n → ((V0 (Proc.devRef .tc main_v22_10) : FVec Ideal S4224x2x4x512 .f32) (ix4 T e j p) : EReal) = im' (G (aa ar ai j p) (cc ct e.val j p) (4224 - T.val))

variable {ar ai ct} {n : ℕ} {V0 : Valuation τ sig (Elt Ideal)}

theorem v67_is (h : Inv ar ai ct n V0) : res_main_while0b_v67 V0 = time n := by
  unfold res_main_while0b_v67 time; rw [h.n_6]
theorem v70_is (h : Inv ar ai ct n V0) : res_main_while0b_v70 V0 = addf (V0 (Proc.devRef .tc main_v22_7) : FVec Ideal S2x4x512 .f32) (get n (seqRe ct)) := by
  unfold res_main_while0b_v70 get; rw [v67_is h, h.c_0]; rfl
theorem v71_is (h : Inv ar ai ct n V0) : res_main_while0b_v71 V0 = addf (V0 (Proc.devRef .tc main_v22_8) : FVec Ideal S2x4x512 .f32) (get n (seqIm ct)) := by
  unfold res_main_while0b_v71 get; rw [v67_is h, h.c_1]; rfl
theorem step9_is (h : Inv ar ai ct n V0) : step_main_v22_9 V0 = put n (V0 (Proc.devRef .tc main_v22_9) : FVec Ideal S4224x2x4x512 .f32) (res_main_while0b_v70 V0) := by
  unfold step_main_v22_9 put; rw [v67_is h, id_eq]; rfl
theorem step10_is (h : Inv ar ai ct n V0) : step_main_v22_10 V0 = put n (V0 (Proc.devRef .tc main_v22_10) : FVec Ideal S4224x2x4x512 .f32) (res_main_while0b_v71 V0) := by
  unfold step_main_v22_10 put; rw [v67_is h, id_eq]; rfl

variable (har : ∀ y, IsReal (ar y)) (hai : ∀ y, IsReal (ai y)) (hct : ∀ y, IsReal (ct y))

include hct in
theorem v70_apply (h : Inv ar ai ct n V0) (hn : n < 4224) (e : Fin 2) (j : Fin 4) (p : Fin 512) :
    ((res_main_while0b_v70 V0 : FVec Ideal S2x4x512 .f32) (ix3 e j p) : EReal) = re' (G (aa ar ai j p) (cc ct e.val j p) (n + 1)) := by
  rw [v70_is h]
  refine Eq.trans (congrArg₂ (fun a b : EReal => a + b) (h.p_7 e j p) (((get_apply n hn (seqRe ct) e j p).trans (seqRe_apply ct _ e j p)).trans (cc_re hct e.val j p n))) ?_
  rw [re_add, add_comm]; rfl
include hct in
theorem v71_apply (h : Inv ar ai ct n V0) (hn : n < 4224) (e : Fin 2) (j : Fin 4) (p : Fin 512) :
    ((res_main_while0b_v71 V0 : FVec Ideal S2x4x512 .f32) (ix3 e j p) : EReal) = im' (G (aa ar ai j p) (cc ct e.val j p) (n + 1)) := by
  rw [v71_is h]
  refine Eq.trans (congrArg₂ (fun a b : EReal => a + b) (h.p_8 e j p) (((get_apply n hn (seqIm ct) e j p).trans (seqIm_apply ct _ e j p)).trans (cc_im hct e.val j p n))) ?_
  rw [im_add, add_comm]; rfl

theorem back_re {r i : EReal} (hr : IsReal r) (hi : IsReal i) (g : ℂ) : i * im' g + r * re' g = re' (Cert.ScanIdeal.Hand.dec r i * g) := by
  obtain ⟨x, rfl⟩ := hr
  obtain ⟨y, rfl⟩ := hi
  simp only [re', im', Cert.ScanIdeal.Hand.dec, Complex.mul_re, EReal.toReal_coe]
  norm_cast; ring
theorem back_im {r i : EReal} (hr : IsReal r) (hi : IsReal i) (g : ℂ) : r * im' g + i * (-re' g) = im' (Cert.ScanIdeal.Hand.dec r i * g) := by
  obtain ⟨x, rfl⟩ := hr
  obtain ⟨y, rfl⟩ := hi
  simp only [re', im', Cert.ScanIdeal.Hand.dec, Complex.mul_im, EReal.toReal_coe]
  norm_cast; ring

include har hai hct in
/-- One step of the reference's loop keeps the invariant. -/
theorem inv_step (h : Inv ar ai ct n V0) (hn : n < 4224) : Inv ar ai ct (n + 1) (STEP V0) where
  n_6 := by
    refine (STEP_main_v22_6 V0).trans ?_
    unfold step_main_v22_6; rw [h.n_6]; funext i; show BitVec.ofNat 32 n + 1#32 = BitVec.ofNat 32 (n + 1); simp only [BitVec.ofNat_add]
  c_0 := (STEP_main_v22_0 V0).trans h.c_0
  c_1 := (STEP_main_v22_1 V0).trans h.c_1
  c_2 := (STEP_main_v22_2 V0).trans h.c_2
  c_3 := (STEP_main_v22_3 V0).trans h.c_3
  c_4 := (STEP_main_v22_4 V0).trans h.c_4
  c_5 := (STEP_main_v22_5 V0).trans h.c_5
  p_7 := fun e j p => by
    refine Eq.trans (congrFun (STEP_main_v22_7 V0) (ix3 e j p)) ?_
    unfold step_main_v22_7
    rw [h.c_5, h.c_2]
    refine Eq.trans (congrArg₂ (fun a b : EReal => a + b) (congrArg₂ (fun a b : EReal => a * b) (acast_apply ai e j p) (v71_apply hct h hn e j p))
      (congrArg₂ (fun a b : EReal => a * b) (acast_apply ar e j p) (v70_apply hct h hn e j p))) ?_
    exact back_re (har _) (hai _) _
  p_8 := fun e j p => by
    refine Eq.trans (congrFun (STEP_main_v22_8 V0) (ix3 e j p)) ?_
    unfold step_main_v22_8
    rw [h.c_4, h.c_3]
    refine Eq.trans (congrArg₂ (fun a b : EReal => a + b) (congrArg₂ (fun a b : EReal => a * b) (acast_apply ar e j p) (v71_apply hct h hn e j p))
      (congrArg₂ (fun a b : EReal => a * -b) (acast_apply ai e j p) (v70_apply hct h hn e j p))) ?_
    exact back_im (har _) (hai _) _
  p_9 := fun T e j p hT => by
    refine Eq.trans (congrFun (STEP_main_v22_9 V0) (ix4 T e j p)) ?_
    rw [step9_is h]
    refine Eq.trans (put_apply n hn _ _ T e j p) ?_
    split
    · rw [show 4224 - T.val = n + 1 by omega]
      exact v70_apply hct h hn e j p
    · exact h.p_9 T e j p (by omega)
  p_10 := fun T e j p hT => by
    refine Eq.trans (congrFun (STEP_main_v22_10 V0) (ix4 T e j p)) ?_
    rw [step10_is h]
    refine Eq.trans (put_apply n hn _ _ T e j p) ?_
    split
    · rw [show 4224 - T.val = n + 1 by omega]
      exact v71_apply hct h hn e j p
    · exact h.p_10 T e j p (by omega)

end

section

variable (m : (ℓ : Loc nD τ sig) → Buf (Elt Ideal) ℓ) (c : Dev nD)

set_option maxHeartbeats 1000000 in
/-- The invariant holds where the loop begins. -/
theorem inv_entry : Inv (m ((c.tc : Thread nD τ).loc main_arg1)) (m ((c.tc : Thread nD τ).loc main_arg2)) (m ((c.tc : Thread nD τ).loc main_arg3)) 0 (entryContents preI m c) where
  n_6 := by simp only [entryContents, afterL_cons, afterL_nil]; after_reads_simp; rfl
  c_0 := by simp only [entryContents, afterL_cons, afterL_nil]; after_reads_simp; rfl
  c_1 := by simp only [entryContents, afterL_cons, afterL_nil]; after_reads_simp; rfl
  c_2 := by simp only [entryContents, afterL_cons, afterL_nil]; after_reads_simp; rfl
  c_3 := by simp only [entryContents, afterL_cons, afterL_nil]; after_reads_simp; rfl
  c_4 := by simp only [entryContents, afterL_cons, afterL_nil]; after_reads_simp; rfl
  c_5 := by simp only [entryContents, afterL_cons, afterL_nil]; after_reads_simp; rfl
  p_7 := fun e j p => by
    have e0 : entryContents preI m c (Proc.devRef .tc main_v22_7) = (broadcastInDim S2x4x512 ![] bcast_S_S2x4x512 (constant (F := Ideal) S_ .f32 0x00000000#32) : FVec Ideal S2x4x512 .f32) := by
      simp only [entryContents, afterL_cons, afterL_nil]; after_reads_simp; rfl
    rw [e0]
    refine Eq.trans (Cert.ScanIdeal.Hand.zero_f32 : _) ?_
    rw [show G _ _ 0 = 0 from rfl, mul_zero, re_zero]
  p_8 := fun e j p => by
    have e0 : entryContents preI m c (Proc.devRef .tc main_v22_8) = (broadcastInDim S2x4x512 ![] bcast_S_S2x4x512 (constant (F := Ideal) S_ .f32 0x00000000#32) : FVec Ideal S2x4x512 .f32) := by
      simp only [entryContents, afterL_cons, afterL_nil]; after_reads_simp; rfl
    rw [e0]
    refine Eq.trans (Cert.ScanIdeal.Hand.zero_f32 : _) ?_
    rw [show G _ _ 0 = 0 from rfl, mul_zero, im_zero]
  p_9 := fun T e j p hT => absurd T.isLt (by omega)
  p_10 := fun T e j p hT => absurd T.isLt (by omega)

variable {m c} (har : ∀ y, IsReal ((m ((c.tc : Thread nD τ).loc main_arg1) : FVec Ideal S2048 .f32) y)) (hai : ∀ y, IsReal ((m ((c.tc : Thread nD τ).loc main_arg2) : FVec Ideal S2048 .f32) y))
  (hct : ∀ y, IsReal ((m ((c.tc : Thread nD τ).loc main_arg3) : FVec Ideal S8448x4096 .f32) y))

include har hai hct in
/-- The invariant after `n` steps. -/
theorem inv_iter : ∀ n, n ≤ 4224 → Inv (m ((c.tc : Thread nD τ).loc main_arg1)) (m ((c.tc : Thread nD τ).loc main_arg2)) (m ((c.tc : Thread nD τ).loc main_arg3)) n (STEP^[n] (entryContents preI m c))
  | 0, _ => inv_entry m c
  | n + 1, hn => by
    rw [Function.iterate_succ_apply']
    exact inv_step har hai hct (inv_iter n (by omega)) (by omega)

theorem out63_is (V0 : Valuation τ sig (Elt Ideal)) : (out_main_v63 V0 : FVec Ideal S8448x4096 .bf16) = outG (V0 (Proc.devRef .tc main_v22_9)) (V0 (Proc.devRef .tc main_v22_10)) := by
  unfold out_main_v63 outG both; rfl
theorem out65_is (V0 : Valuation τ sig (Elt Ideal)) : (out_main_v65 V0 : FVec Ideal S2x8x4096 .f32) = outD (V0 (Proc.devRef .tc main_v22_9)) (V0 (Proc.devRef .tc main_v22_10)) (V0 (Proc.devRef .tc main_arg0)) := by
  unfold out_main_v65 outD fold8 after seqRe seqIm seqs; rfl

include har hai hct in
/-- The reference's first result. -/
theorem ref_g : (out_main_v63 (STEP^[4224] (entryContents preI m c)) : FVec Ideal S8448x4096 .bf16)
    = resG (m ((c.tc : Thread nD τ).loc main_arg1)) (m ((c.tc : Thread nD τ).loc main_arg2)) (m ((c.tc : Thread nD τ).loc main_arg3)) := by
  have h := inv_iter har hai hct 4224 (Nat.le_refl _)
  rw [out63_is]
  generalize (STEP^[4224] (entryContents preI m c)) = V0 at h
  funext y
  obtain ⟨r, z, rfl⟩ : ∃ (r : Fin 8448) (z : Fin 4096), y = ix2 r z := ⟨y 0, y 1, by funext a; fin_cases a <;> rfl⟩
  refine ((outG_apply _ _ r z).trans (both_apply _ _ _ _ z)).trans ?_
  have hx : min (ex r) 1 = ex r := by have := r.isLt; unfold ex; split <;> omega
  have ht : min (tm r) 4223 = tm r := by have := r.isLt; unfold tm; split <;> omega
  unfold resG
  show (if z.val % 1024 < 512 then _ else _) = if z.val % 1024 < 512 then _ else _
  split
  · refine (h.p_9 _ _ _ _ (Nat.le_add_left _ _)).trans ?_
    dsimp only
    rw [hx, ht]; rfl
  · refine (h.p_10 _ _ _ _ (Nat.le_add_left _ _)).trans ?_
    dsimp only
    rw [hx, ht]; rfl

/-- The stack a time later, from the recurrence. -/
theorem after_re {V0 : Valuation τ sig (Elt Ideal)} {ar ai : FVec Ideal S2048 .f32} {ct : FVec Ideal S8448x4096 .f32} (h : Inv ar ai ct 4224 V0)
    (T : Fin 4224) (e : Fin 2) (j : Fin 4) (p : Fin 512) :
    (after (V0 (Proc.devRef .tc main_v22_9)) (ix4 T e j p) : EReal) = re' (G (aa ar ai j p) (cc ct e.val j p) (4223 - T.val)) := by
  refine (after_apply _ T e j p).trans ?_
  split
  · refine (h.p_9 _ _ _ _ (Nat.le_add_left _ _)).trans ?_
    dsimp only
    rw [show 4224 - (T.val + 1) = 4223 - T.val by omega]
  · rw [show 4223 - T.val = 0 by omega]; exact re_zero.symm
theorem after_im {V0 : Valuation τ sig (Elt Ideal)} {ar ai : FVec Ideal S2048 .f32} {ct : FVec Ideal S8448x4096 .f32} (h : Inv ar ai ct 4224 V0)
    (T : Fin 4224) (e : Fin 2) (j : Fin 4) (p : Fin 512) :
    (after (V0 (Proc.devRef .tc main_v22_10)) (ix4 T e j p) : EReal) = im' (G (aa ar ai j p) (cc ct e.val j p) (4223 - T.val)) := by
  refine (after_apply _ T e j p).trans ?_
  split
  · refine (h.p_10 _ _ _ _ (Nat.le_add_left _ _)).trans ?_
    dsimp only
    rw [show 4224 - (T.val + 1) = 4223 - T.val by omega]
  · rw [show 4223 - T.val = 0 by omega]; exact im_zero.symm

/-- A sum over the blocks of eight, the last block first. -/
theorem sum_rev (f : ℕ → EReal) (r : Fin 8) : ∑ k : Fin 528, f (4223 - (8 * k.val + r.val)) = ∑ k ∈ Finset.range 528, f (8 * k + 7 - r.val) := by
  rw [Fin.sum_univ_eq_sum_range (fun k => f (4223 - (8 * k + r.val))) 528, ← Finset.sum_range_reflect]
  refine Finset.sum_congr rfl fun k hk => ?_
  have := Finset.mem_range.mp hk
  exact congrArg f (by omega)

theorem seqRe_back (x : FVec Ideal S8448x4096 .f32) (T : Fin 4224) (e : Fin 2) (j : Fin 4) (p : Fin 512) :
    (seqRe x (ix4 T e j p) : EReal) = xr x e.val j p (4223 - T.val) := by
  rw [seqRe_apply]; unfold xr; rw [show 4223 - (4223 - T.val) = T.val by omega]
theorem seqIm_back (x : FVec Ideal S8448x4096 .f32) (T : Fin 4224) (e : Fin 2) (j : Fin 4) (p : Fin 512) :
    (seqIm x (ix4 T e j p) : EReal) = xi x e.val j p (4223 - T.val) := by
  rw [seqIm_apply]; unfold xi; rw [show 4223 - (4223 - T.val) = T.val by omega]

include har hai hct in
/-- The reference's second result. -/
theorem ref_d : (out_main_v65 (STEP^[4224] (entryContents preI m c)) : FVec Ideal S2x8x4096 .f32)
    = resD (m ((c.tc : Thread nD τ).loc main_arg1)) (m ((c.tc : Thread nD τ).loc main_arg2)) (m ((c.tc : Thread nD τ).loc main_arg3)) (m ((c.tc : Thread nD τ).loc main_arg0)) := by
  have h := inv_iter har hai hct 4224 (Nat.le_refl _)
  rw [out65_is, iter_main_arg0 m c 4224]
  generalize (STEP^[4224] (entryContents preI m c)) = V0 at h
  funext y
  obtain ⟨e, r, z, rfl⟩ : ∃ (e : Fin 2) (r : Fin 8) (z : Fin 4096), y = ix3 e r z := ⟨y 0, y 1, y 2, by funext a; fin_cases a <;> rfl⟩
  unfold outD
  refine (fold8_apply _ _ e r z).trans ?_
  unfold resD
  show (if z.val % 1024 < 512 then _ else _) = if z.val % 1024 < 512 then _ else _
  split
  · refine Eq.trans ?_ (sum_rev (fun n => Cert.ScanIdeal.Hand.dRe _ _ _ _ _ n) r)
    refine Finset.sum_congr rfl fun k _ => ?_
    refine Eq.trans (congrArg₂ (fun a b : EReal => a + b) (congrArg₂ (fun a b : EReal => a * b) (after_im h _ e _ _) (seqIm_back _ _ e _ _))
      (congrArg₂ (fun a b : EReal => a * b) (after_re h _ e _ _) (seqRe_back _ _ e _ _))) ?_
    refine (add_comm _ _).trans (congrArg₂ (fun a b : EReal => a + b) (mul_comm _ _) (mul_comm _ _))
  · refine Eq.trans ?_ (sum_rev (fun n => Cert.ScanIdeal.Hand.dIm _ _ _ _ _ n) r)
    refine Finset.sum_congr rfl fun k _ => ?_
    refine Eq.trans (congrArg₂ (fun a b : EReal => a + b) (congrArg₂ (fun a b : EReal => a * b) (after_im h _ e _ _) (seqRe_back _ _ e _ _))
      (congrArg₂ (fun a b : EReal => -a * b) (after_re h _ e _ _) (seqIm_back _ _ e _ _))) ?_
    refine Eq.trans (congrArg₂ (fun a b : EReal => a + b) (mul_comm _ _) ((EReal.neg_mul _ _).trans (congrArg Neg.neg (mul_comm _ _)))) ?_
    rfl

end

end Cert.ScanRefIdeal.Value

end
-- ==== Proof.ScanPair.lean ====
/- The scan's claims: the kernel as printed runs as its idealized text does, and the two final arrays are the reference's. -/
module

public import proofs.«01_k».proof.Defs
public import proofs.«01_k».proof.Proof.ScanFinal
public import proofs.«01_k».proof.Proof.ScanRefRun
public import proofs.«01_k».proof.Proof.Gen.Scan
public import proofs.«01_k».proof.Proof.Gen.Pre_finite_scan
public import Idealize.ShloMosaic.Lib.Claim
public import Idealize.ShloMosaic.Lib.ReduceAll

@[expose] public section

set_option maxRecDepth 16384

noncomputable section

namespace Cert.Proof

open Idealize.ShloMosaic Idealize.SL.Sem Cert.Reals

section
open Cert.Pre_finite_scan

/-- What the precondition says: every element of the decays and of the cotangents is a real number. -/
theorem isReal_of_finite_scan (x : FVec Ideal S8448x4096 .f32) (ar ai : FVec Ideal S2048 .f32) (ct : FVec Ideal S8448x4096 .f32)
    (h : ∀ i, fn x ar ai ct i = 1#1) : (∀ i, IsReal (ar i)) ∧ (∀ i, IsReal (ai i)) ∧ (∀ i, IsReal (ct i)) := by
  have key : ∀ a b : BitVec 1, IntOp.andi a b = 1#1 → a = 1#1 ∧ b = 1#1 := by decide
  haveI : Subsingleton S_.Idx := ⟨fun a b => funext fun k => k.elim0⟩
  have h0 := h (fun i => i.elim0)
  dsimp only [fn] at h0
  obtain ⟨h1, h4⟩ := key _ _ h0
  obtain ⟨h2, h3⟩ := key _ _ h1
  exact ⟨fun i => isReal_of_lt ar i _ (by rfl) (Host.reduce_andi_all _ _ _ _ _ h2 i),
    fun i => isReal_of_lt ai i _ (by rfl) (Host.reduce_andi_all _ _ _ _ _ h3 i),
    fun i => isReal_of_lt ct i _ (by rfl) (Host.reduce_andi_all _ _ _ _ _ h4 i)⟩

end

set_option maxHeartbeats 4000000 in
set_option smartUnfolding false in
/-- The kernel as printed has the idealized text, so its run is that one at the float values of bits. -/
theorem scanFrame : Cert.quiescent_Scan := fun m ρ _ => Cert.ScanIdeal.Hand.frame (F := Bits) m ρ

set_option maxHeartbeats 4000000 in
/-- The call leaves what the reference leaves, for finite decays and cotangents. -/
theorem scan : Cert.algebraic_ScanIdeal_ScanRefIdeal_pre_finite_scan := by
  pair_intro
  · run_from Cert.ScanIdeal.Hand.run_main m g
    · exact Cert.ScanIdeal.Gen.V_main_arg0 m c
    · exact Cert.ScanIdeal.Gen.V_main_arg1 m c
    · exact Cert.ScanIdeal.Gen.V_main_arg2 m c
    · exact Cert.ScanIdeal.Gen.V_main_arg3 m c
  · have agree := hagree
    clear hagree
    run_from Cert.ScanRefIdeal.Value.run m' g'
    · obtain ⟨h0, h1, h2, h3⟩ := agree c
      obtain ⟨r1, r2, r3⟩ := isReal_of_finite_scan _ _ _ _ fun i => congrFun (hpre c) i
      refine (Cert.ScanRefIdeal.Value.ref_g (m := m') (c := c) (by rw [h1]; exact r1) (by rw [h2]; exact r2) (by rw [h3]; exact r3)).trans ?_
      rw [h1, h2, h3]
      exact (Cert.ScanIdeal.Hand.final_g m c r1 r2 r3).symm
    · obtain ⟨h0, h1, h2, h3⟩ := agree c
      obtain ⟨r1, r2, r3⟩ := isReal_of_finite_scan _ _ _ _ fun i => congrFun (hpre c) i
      refine (Cert.ScanRefIdeal.Value.ref_d (m := m') (c := c) (by rw [h1]; exact r1) (by rw [h2]; exact r2) (by rw [h3]; exact r3)).trans ?_
      rw [h0, h1, h2, h3]
      exact (Cert.ScanIdeal.Hand.final_d m c r1 r2 r3).symm

end Cert.Proof

end
-- ==== Proof.Query.lean ====
/- The gradient of the query weights: the normalised rows' product with the gradient, summed over the rows in blocks. -/
module

public import proofs.«01_k».proof.Proof.Gen.QueryIdeal.Frame
public import proofs.«01_k».proof.Proof.Gen.QueryRefIdeal.Run
public import proofs.«01_k».proof.Proof.Lift
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QueryRefIdeal.Value

open Cert.QueryRefIdeal Cert.QueryRefIdeal.Gen
open Cert.LiftRefIdeal.Value (nrm)

/-- The reference's result: the normalised rows' product with the gradient, summed over the rows. -/
def ref (h : FVec Ideal S8192x1024 .f32) (g : FVec Ideal S1024 .f32) (d : FVec Ideal S8192x1024 .f32) : FVec Ideal S1x1024x1024 .bf16 :=
  truncf .bf16 (broadcastInDim S1x1024x1024 ![1, 2] bcast_S1024x1024_S1x1024x1024_1_2 (transpose S1024x1024 [1, 0] (Host.dotGeneral dot_S8192x1024_S8192x1024_S1024x1024_0_0_1_1_n_n none d (mulf (mulf h (broadcastInDim S8192x1024 ![0, 1] bcast_S8192x1_S8192x1024_0_1 (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g)))) transposes_S1024x1024_S1024x1024_1_0)) bitsLt_bf16_f32

theorem ref_apply (h : FVec Ideal S8192x1024 .f32) (g : FVec Ideal S1024 .f32) (d : FVec Ideal S8192x1024 .f32) (j : S1x1024x1024.Idx) :
    ref h g d j = ∑ k : Fin 8192, nrm (fun i => h (ix2 k i)) (h (ix2 k (j 1))) (g (ix1 (j 1))) * d (ix2 k (j 2)) := by
  pointwise [ref, nrm]
  exact Finset.sum_congr rfl fun k _ => mul_comm (_ : EReal) _

end Cert.QueryRefIdeal.Value

namespace Cert.QueryIdeal.Value

open Cert.QueryIdeal Cert.QueryIdeal.Gen
open Cert.LiftRefIdeal.Value (nrm nrm_congr)
open Cert.QueryRefIdeal.Value (ref ref_apply)

variable (m : (ℓ : Loc nD τ sig) → Buf (Elt Ideal) ℓ)

theorem zero_apply (j) : k0_pay1 (F := Ideal) j = 0 := by pointwise [k0_pay1]

theorem step_apply (x0 : FVec Ideal S2048x1024 .f32) (x1 : FVec Ideal S1x1024 .f32) (x2 : FVec Ideal S2048x1024 .bf16) (acc : FVec Ideal S1024x1024 .f32) (j) :
    k0_pay2 x0 x1 x2 acc j = acc j + ∑ k : Fin 2048, nrm (fun i => x0 (ix2 k i)) (x0 (ix2 k (j 0))) (x1 (ix2 0 (j 0))) * x2 (ix2 k (j 1)) := by
  pointwise [k0_pay2, nrm]

theorem out_apply (acc : FVec Ideal S1024x1024 .f32) (j) : (k0_pay3 (F := Ideal) acc j : EReal) = acc (ix2 (j 1) (j 2)) := by pointwise [k0_pay3]

theorem idx : ∀ t : Fin cfg0.N, win0_0.index t = ![t.val, 0] ∧ win0_1.index t = ![0, 0] ∧ win0_2.index t = ![t.val, 0]
    ∧ win0_3.index t = ![0, 0, 0] :=
  (by decide +kernel : ∀ t : Fin grid0.N, _)

/-- At the point that writes its block back, the block is the rounded accumulator. -/
theorem out_eq (c : Dev nD) (t : Fin cfg0.N) (h : t.val % 4 = 3) :
    (outsAt0 m c t.val t.isLt).1 = k0_pay3 (outsAt0 m c t.val t.isLt).2 := by
  rw [outsAt0_C m c t (by omega) h]
  frame_out

theorem V_g (c : Dev nD) (j : Fin 1024) :
    ((V m c main_v0 : FVec Ideal S1x1024 .f32) (ix2 0 j) : EReal) = (m ((c : Thread nD τ).loc main_arg1) : FVec Ideal S1024 .f32) (ix1 j) := by
  entry_read
  pointwise

/-- The last operand of the call: the cast of the gradient. -/
theorem V_ct (c : Dev nD) : V m c main_v1 = (truncf (F := Ideal) .bf16 (m ((c : Thread nD τ).loc main_arg3) : FVec Ideal S8192x1024 .f32) bitsLt_bf16_f32 : FVec Ideal S8192x1024 .bf16) := by
  entry_read
  rfl

theorem final (c : Dev nD) : (dats m 0 c).arrAt 3 (cfgs 0).N
    = ref (m ((c : Thread nD τ).loc main_arg0)) (m ((c : Thread nD τ).loc main_arg1)) (m ((c : Thread nD τ).loc main_arg3)) := by
  refine (dats m 0 c).arrAt_eq_of_covers 3 _ (by decide +kernel) fun t hf y => ?_
  blk_simp
  rw [after0_3, out_eq m c t ((flush0_3 t).mp hf), out_apply,
    Pipeline.eq_sum_fin_of_reset_step_apply_of_flush (fun n h => (outsAt0 m c n h).2) 4 (fun _ => 0) _
    (fun t h j => by rw [outsAt0_A m c t h (by omega)]; frame_out; rw [step_apply, zero_apply])
    (fun t h j => by
      by_cases h3 : t.val % 4 = 3
      · rw [outsAt0_C m c t h h3]; frame_out; rw [step_apply]; rw [read_unread_whole]
      · rw [outsAt0_B m c t h h3]; frame_out; rw [step_apply]; rw [read_unread_whole])
    t ((flush0_3 t).mp hf) _, zero_add, ref_apply]
  refine Fin.sum_mul_add_congr fun s k hl => congrArg₂ (· * ·) (nrm_congr (fun i => ?_) ?_ ?_) ?_
  · blk_point [iblk, V_main_arg0, idx t, idx ⟨_, Pipeline.run_point_lt_of_flush t ((flush0_3 t).mp hf) s⟩]
  · blk_point [iblk, V_main_arg0, idx t, idx ⟨_, Pipeline.run_point_lt_of_flush t ((flush0_3 t).mp hf) s⟩]
  · blk_point [iblk, V_g, idx t, idx ⟨_, Pipeline.run_point_lt_of_flush t ((flush0_3 t).mp hf) s⟩]
  · blk_point [iblk, V_ct, idx t, idx ⟨_, Pipeline.run_point_lt_of_flush t ((flush0_3 t).mp hf) s⟩]

end Cert.QueryIdeal.Value

end
-- ==== Proof.Entry.lean ====
/- The gradient of the first layer's input weights, 512 wide: the normalised rows' product with the gradient, summed over
   the rows in blocks. -/
module

public import proofs.«01_k».proof.Proof.Gen.EntryIdeal.Frame
public import proofs.«01_k».proof.Proof.Gen.EntryRefIdeal.Run
public import proofs.«01_k».proof.Proof.Lift
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.EntryRefIdeal.Value

open Cert.EntryRefIdeal Cert.EntryRefIdeal.Gen
open Cert.LiftRefIdeal.Value (nrm)

/-- The reference's result: the normalised rows' product with the gradient, summed over the rows. -/
def ref (h : FVec Ideal S8448x1024 .f32) (g : FVec Ideal S1024 .f32) (d : FVec Ideal S8448x512 .f32) : FVec Ideal S1x1024x512 .bf16 :=
  truncf .bf16 (broadcastInDim S1x1024x512 ![1, 2] bcast_S1024x512_S1x1024x512_1_2 (transpose S1024x512 [1, 0] (Host.dotGeneral dot_S8448x512_S8448x1024_S512x1024_0_0_1_1_n_n none d (mulf (mulf h (broadcastInDim S8448x1024 ![0, 1] bcast_S8448x1_S8448x1024_0_1 (Host.rsqrt (addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1024 ![0, 1] bcast_S1x1024_S8448x1024_0_1 (broadcastInDim S1x1024 ![1] bcast_S1024_S1x1024_1 g)))) transposes_S512x1024_S1024x512_1_0)) bitsLt_bf16_f32

theorem ref_apply (h : FVec Ideal S8448x1024 .f32) (g : FVec Ideal S1024 .f32) (d : FVec Ideal S8448x512 .f32) (j : S1x1024x512.Idx) :
    ref h g d j = ∑ k : Fin 8448, nrm (fun i => h (ix2 k i)) (h (ix2 k (j 1))) (g (ix1 (j 1))) * d (ix2 k (j 2)) := by
  pointwise [ref, nrm]
  exact Finset.sum_congr rfl fun k _ => mul_comm (_ : EReal) _

end Cert.EntryRefIdeal.Value

namespace Cert.EntryIdeal.Value

open Cert.EntryIdeal Cert.EntryIdeal.Gen
open Cert.LiftRefIdeal.Value (nrm nrm_congr)
open Cert.EntryRefIdeal.Value (ref ref_apply)

variable (m : (ℓ : Loc nD τ sig) → Buf (Elt Ideal) ℓ)

theorem zero_apply (j) : k0_pay1 (F := Ideal) j = 0 := by pointwise [k0_pay1]

theorem step_apply (x0 : FVec Ideal S2816x1024 .f32) (x1 : FVec Ideal S1x1024 .f32) (x2 : FVec Ideal S2816x512 .bf16) (acc : FVec Ideal S1024x512 .f32) (j) :
    k0_pay2 x0 x1 x2 acc j = acc j + ∑ k : Fin 2816, nrm (fun i => x0 (ix2 k i)) (x0 (ix2 k (j 0))) (x1 (ix2 0 (j 0))) * x2 (ix2 k (j 1)) := by
  pointwise [k0_pay2, nrm]

theorem out_apply (acc : FVec Ideal S1024x512 .f32) (j) : (k0_pay3 (F := Ideal) acc j : EReal) = acc (ix2 (j 1) (j 2)) := by pointwise [k0_pay3]

theorem idx : ∀ t : Fin cfg0.N, win0_0.index t = ![t.val, 0] ∧ win0_1.index t = ![0, 0] ∧ win0_2.index t = ![t.val, 0]
    ∧ win0_3.index t = ![0, 0, 0] :=
  (by decide +kernel : ∀ t : Fin grid0.N, _)

/-- At the point that writes its block back, the block is the rounded accumulator. -/
theorem out_eq (c : Dev nD) (t : Fin cfg0.N) (h : t.val % 3 = 2) :
    (outsAt0 m c t.val t.isLt).1 = k0_pay3 (outsAt0 m c t.val t.isLt).2 := by
  rw [outsAt0_C m c t (by omega) h]
  frame_out

theorem V_g (c : Dev nD) (j : Fin 1024) :
    ((V m c main_v0 : FVec Ideal S1x1024 .f32) (ix2 0 j) : EReal) = (m ((c : Thread nD τ).loc main_arg1) : FVec Ideal S1024 .f32) (ix1 j) := by
  entry_read
  pointwise

/-- The last operand of the call: the cast of the gradient. -/
theorem V_ct (c : Dev nD) : V m c main_v1 = (truncf (F := Ideal) .bf16 (m ((c : Thread nD τ).loc main_arg3) : FVec Ideal S8448x512 .f32) bitsLt_bf16_f32 : FVec Ideal S8448x512 .bf16) := by
  entry_read
  rfl

theorem final (c : Dev nD) : (dats m 0 c).arrAt 3 (cfgs 0).N
    = ref (m ((c : Thread nD τ).loc main_arg0)) (m ((c : Thread nD τ).loc main_arg1)) (m ((c : Thread nD τ).loc main_arg3)) := by
  refine (dats m 0 c).arrAt_eq_of_covers 3 _ (by decide +kernel) fun t hf y => ?_
  blk_simp
  rw [after0_3, out_eq m c t ((flush0_3 t).mp hf), out_apply,
    Pipeline.eq_sum_fin_of_reset_step_apply_of_flush (fun n h => (outsAt0 m c n h).2) 3 (fun _ => 0) _
    (fun t h j => by rw [outsAt0_A m c t h (by omega)]; frame_out; rw [step_apply, zero_apply])
    (fun t h j => by
      by_cases h3 : t.val % 3 = 2
      · rw [outsAt0_C m c t h h3]; frame_out; rw [step_apply]; rw [read_unread_whole]
      · rw [outsAt0_B m c t h h3]; frame_out; rw [step_apply]; rw [read_unread_whole])
    t ((flush0_3 t).mp hf) _, zero_add, ref_apply]
  refine Fin.sum_mul_add_congr fun s k hl => congrArg₂ (· * ·) (nrm_congr (fun i => ?_) ?_ ?_) ?_
  · blk_point [iblk, V_main_arg0, idx t, idx ⟨_, Pipeline.run_point_lt_of_flush t ((flush0_3 t).mp hf) s⟩]
  · blk_point [iblk, V_main_arg0, idx t, idx ⟨_, Pipeline.run_point_lt_of_flush t ((flush0_3 t).mp hf) s⟩]
  · blk_point [iblk, V_g, idx t, idx ⟨_, Pipeline.run_point_lt_of_flush t ((flush0_3 t).mp hf) s⟩]
  · blk_point [iblk, V_ct, idx t, idx ⟨_, Pipeline.run_point_lt_of_flush t ((flush0_3 t).mp hf) s⟩]

end Cert.EntryIdeal.Value

end
-- ==== Proof.Merge.lean ====
/- The gradient of the attention's output weights: the attention's rows' product with the gradient, summed over the rows
   in blocks. -/
module

public import proofs.«01_k».proof.Proof.Gen.MergeIdeal.Frame
public import proofs.«01_k».proof.Proof.Gen.MergeRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeRefIdeal.Value

open Cert.MergeRefIdeal Cert.MergeRefIdeal.Gen

/-- The reference's result: the rows' product with the gradient, summed over the rows. -/
def ref (o : FVec Ideal S8192x1024 .f32) (d : FVec Ideal S8192x1024 .f32) : FVec Ideal S1x1024x1024 .bf16 :=
  truncf .bf16 (broadcastInDim S1x1024x1024 ![1, 2] bcast_S1024x1024_S1x1024x1024_1_2 (transpose S1024x1024 [1, 0] (Host.dotGeneral dot_S8192x1024_S8192x1024_S1024x1024_0_0_1_1_n_n none d o) transposes_S1024x1024_S1024x1024_1_0)) bitsLt_bf16_f32

theorem ref_apply (o : FVec Ideal S8192x1024 .f32) (d : FVec Ideal S8192x1024 .f32) (j : S1x1024x1024.Idx) :
    ref o d j = ∑ k : Fin 8192, o (ix2 k (j 1)) * d (ix2 k (j 2)) := by
  pointwise [ref]
  exact Finset.sum_congr rfl fun k _ => mul_comm (_ : EReal) _

end Cert.MergeRefIdeal.Value

namespace Cert.MergeIdeal.Value

open Cert.MergeIdeal Cert.MergeIdeal.Gen
open Cert.MergeRefIdeal.Value (ref ref_apply)

variable (m : (ℓ : Loc nD τ sig) → Buf (Elt Ideal) ℓ)

theorem zero_apply (j) : k0_pay1 (F := Ideal) j = 0 := by pointwise [k0_pay1]

theorem step_apply (x0 : FVec Ideal S2048x1024 .bf16) (x1 : FVec Ideal S2048x1024 .f32) (acc : FVec Ideal S1024x1024 .f32) (j) :
    k0_pay2 x0 x1 acc j = acc j + ∑ k : Fin 2048, x0 (ix2 k (j 0)) * x1 (ix2 k (j 1)) := by pointwise [k0_pay2]

theorem out_apply (acc : FVec Ideal S1024x1024 .f32) (j) : (k0_pay3 (F := Ideal) acc j : EReal) = acc (ix2 (j 1) (j 2)) := by pointwise [k0_pay3]

theorem idx : ∀ t : Fin cfg0.N, win0_0.index t = ![t.val, 0] ∧ win0_1.index t = ![t.val, 0] ∧ win0_2.index t = ![0, 0, 0] :=
  (by decide +kernel : ∀ t : Fin grid0.N, _)

/-- At the point that writes its block back, the block is the rounded accumulator. -/
theorem out_eq (c : Dev nD) (t : Fin cfg0.N) (h : t.val % 4 = 3) :
    (outsAt0 m c t.val t.isLt).1 = k0_pay3 (outsAt0 m c t.val t.isLt).2 := by
  rw [outsAt0_C m c t (by omega) h]
  frame_out

/-- The first operand of the call: the cast of the attention's rows. -/
theorem V_o (c : Dev nD) : V m c main_v0 = (truncf (F := Ideal) .bf16 (m ((c : Thread nD τ).loc main_arg0) : FVec Ideal S8192x1024 .f32) bitsLt_bf16_f32 : FVec Ideal S8192x1024 .bf16) := by
  entry_read
  rfl

theorem final (c : Dev nD) : (dats m 0 c).arrAt 2 (cfgs 0).N
    = ref (m ((c : Thread nD τ).loc main_arg0)) (m ((c : Thread nD τ).loc main_arg2)) := by
  refine (dats m 0 c).arrAt_eq_of_covers 2 _ (by decide +kernel) fun t hf y => ?_
  blk_simp
  rw [after0_2, out_eq m c t ((flush0_2 t).mp hf), out_apply,
    Pipeline.eq_sum_fin_of_reset_step_apply_of_flush (fun n h => (outsAt0 m c n h).2) 4 (fun _ => 0) _
    (fun t h j => by rw [outsAt0_A m c t h (by omega)]; frame_out; rw [step_apply, zero_apply])
    (fun t h j => by
      by_cases h3 : t.val % 4 = 3
      · rw [outsAt0_C m c t h h3]; frame_out; rw [step_apply]; rw [read_unread_whole]
      · rw [outsAt0_B m c t h h3]; frame_out; rw [step_apply]; rw [read_unread_whole])
    t ((flush0_2 t).mp hf) _, zero_add, ref_apply]
  refine Fin.sum_mul_add_congr fun s k hl => ?_
  blk_point [iblk, V_o, V_main_arg2, idx t, idx ⟨_, Pipeline.run_point_lt_of_flush t ((flush0_2 t).mp hf) s⟩]

end Cert.MergeIdeal.Value

end
-- ==== Proof.Heads.lean ====
/- The gradient of the attention's output: each row block of the gradient times the transposed output weights. -/
module

public import proofs.«01_k».proof.Proof.Gen.HeadsIdeal.Frame
public import proofs.«01_k».proof.Proof.Gen.HeadsRefIdeal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.HeadsRefIdeal.Value

open Cert.HeadsRefIdeal Cert.HeadsRefIdeal.Gen

/-- The reference's result. -/
def ref (w : FVec Ideal S1024x1024 .f32) (d : FVec Ideal S8192x1024 .f32) : FVec Ideal S8192x1024 .bf16 :=
  truncf .bf16 (Host.dotGeneral dot_S8192x1024_S1024x1024_S8192x1024_1_1_0_0_n_n none d w) bitsLt_bf16_f32

theorem ref_apply (w : FVec Ideal S1024x1024 .f32) (d : FVec Ideal S8192x1024 .f32) (j : S8192x1024.Idx) :
    ref w d j = ∑ k : Fin 1024, d (ix2 (j 0) k) * w (ix2 (j 1) k) := by
  pointwise [ref]

end Cert.HeadsRefIdeal.Value

namespace Cert.HeadsIdeal.Value

open Cert.HeadsIdeal Cert.HeadsIdeal.Gen
open Cert.HeadsRefIdeal.Value (ref ref_apply)

variable (m : (ℓ : Loc nD τ sig) → Buf (Elt Ideal) ℓ)

theorem pay_apply (x0 : FVec Ideal S256x1024 .f32) (x1 : FVec Ideal S1024x1024 .bf16) (j) :
    (k0_pay1 (F := Ideal) x0 x1 j : EReal) = ∑ k : Fin 1024, x0 (ix2 (j 0) k) * x1 (ix2 (j 1) k) := by pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- The second operand of the call: the cast of the weights. -/
theorem V_w (c : Dev nD) : V m c main_v0 = (truncf (F := Ideal) .bf16 (m ((c : Thread nD τ).loc main_arg1) : FVec Ideal S1024x1024 .f32) bitsLt_bf16_f32 : FVec Ideal S1024x1024 .bf16) := by
  entry_read
  rfl

theorem final (c : Dev nD) : (dats m 0 c).arrAt 2 (cfgs 0).N
    = ref (m ((c : Thread nD τ).loc main_arg1)) (m ((c : Thread nD τ).loc main_arg2)) := by
  refine (dats m 0 c).arrAt_eq_of_covers 2 _ (by decide +kernel) fun t hf y => ?_
  blk_simp
  rw [after0_2]
  frame_out
  refine (pay_apply _ _ _).trans ?_
  refine Eq.trans ?_ (ref_apply _ _ _).symm
  refine Fin.sum_fin_congr fun k => ?_
  blk_point [iblk, V_w, V_main_arg2, idx t]

end Cert.HeadsIdeal.Value

end
-- ==== Proof.Inlet.lean ====
/- The gradient through the state-space mixer's input: each row block multiplies its rows of the states' gradient with
   the transposed input matrices, adds the direct term, stores the sum, and carries it on through the input product and
   the normalisation; the weight vector's gradient is summed over the row blocks. The kernel holds the input matrices of
   eight groups as one block-diagonal matrix: the products off the diagonal are products with zero. -/
module

public import proofs.«01_k».proof.Proof.Gen.InletIdeal.Value
public import proofs.«01_k».proof.Proof.Gen.InletRefIdeal.Read
public import proofs.«01_k».proof.Proof.NormMath
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Reals

namespace Cert.InletRefIdeal.Value

open Cert.InletRefIdeal Cert.InletRefIdeal.Gen

/-- The gradient of the mixer's input, as the reference's run states it. -/
def duArr (ds : FVec Ideal S512 .f32) (br bi : FVec Ideal S32x64x16 .f32) (dy : FVec Ideal S8448x512 .f32) (gb : FVec Ideal S8448x4096 .f32) : FVec Ideal S8448x512 .f32 :=
  addf (mulf (broadcastInDim S8448x512 ![0, 1] bcast_S1x512_S8448x512_0_1 (broadcastInDim S1x512 ![1] bcast_S512_S1x512_1 ds)) dy) (shapeCast S8448x512 (addf (transpose S8448x32x16 [1, 0, 2] (Host.dotGeneral dot_S32x64x8448_S32x64x16_S32x8448x16_1_1_2_2_0_0 none (transpose S32x64x8448 [1, 2, 0] (shapeCast S8448x32x64 (shapeCast S8448x4x8x64 (extractStridedSlice S8448x4x1x8x64 ![0, 0, 1, 0, 0] (shapeCast S8448x4x2x8x64 gb shapeCasts_S8448x4096_S8448x4x2x8x64) slices_S8448x4x2x8x64_S8448x4x1x8x64_0_0_1_0_0) shapeCasts_S8448x4x1x8x64_S8448x4x8x64) shapeCasts_S8448x4x8x64_S8448x32x64) transposes_S8448x32x64_S32x64x8448_1_2_0) bi) transposes_S32x8448x16_S8448x32x16_1_0_2) (transpose S8448x32x16 [1, 0, 2] (Host.dotGeneral dot_S32x64x8448_S32x64x16_S32x8448x16_1_1_2_2_0_0 none (transpose S32x64x8448 [1, 2, 0] (shapeCast S8448x32x64 (shapeCast S8448x4x8x64 (extractStridedSlice S8448x4x1x8x64 ![0, 0, 0, 0, 0] (shapeCast S8448x4x2x8x64 gb shapeCasts_S8448x4096_S8448x4x2x8x64) slices_S8448x4x2x8x64_S8448x4x1x8x64_0_0_0_0_0) shapeCasts_S8448x4x1x8x64_S8448x4x8x64) shapeCasts_S8448x4x8x64_S8448x32x64) transposes_S8448x32x64_S32x64x8448_1_2_0) br) transposes_S32x8448x16_S8448x32x16_1_0_2)) shapeCasts_S8448x32x16_S8448x512)

/-- The sum over a group's 64 states of the states' gradient times one factor's matrix: the group is number `a` of the
    eight in block `s`, and its part of the gradient starts `o` columns into the block. -/
def part (b : FVec Ideal S32x64x16 .f32) (gb : FVec Ideal S8448x4096 .f32) (o : Nat) (ho : o ≤ 512) (r : Fin 8448) (s : Fin 4) (a : Fin 8) (e : Fin 16) : EReal :=
  ∑ p : Fin 64, gb (ix2 r ⟨s.val * 1024 + o + a.val * 64 + p.val, by omega⟩) * b (ix3 ⟨s.val * 8 + a.val, by omega⟩ p e)

/-- The gradient of the mixer's input at channel `e` of group `a` of the eight in block `s`. -/
theorem duArr_apply (ds : FVec Ideal S512 .f32) (br bi : FVec Ideal S32x64x16 .f32) (dy : FVec Ideal S8448x512 .f32) (gb : FVec Ideal S8448x4096 .f32)
    (r : Fin 8448) (k : Fin 512) (s : Fin 4) (a : Fin 8) (e : Fin 16) (hk : k.val = s.val * 128 + a.val * 16 + e.val) :
    duArr ds br bi dy gb (ix2 r k) = ds (ix1 k) * dy (ix2 r k) + (part bi gb 512 (by omega) r s a e + part br gb 0 (by omega) r s a e) := by
  have hb : s.val * 128 + a.val * 16 + e.val < 512 := by omega
  obtain rfl : k = ⟨s.val * 128 + a.val * 16 + e.val, hb⟩ := Fin.ext hk
  have e1 : ∀ h, (⟨(s.val * 128 + a.val * 16 + e.val) / 16, h⟩ : Fin 32) = ⟨s.val * 8 + a.val, by omega⟩ := fun _ => Fin.ext (by show (s.val * 128 + a.val * 16 + e.val) / 16 = s.val * 8 + a.val; omega)
  pointwise [duArr, part]
  simp only [e1]

/-- The gradient of the normalised rows at an index: the gradient of the product's rows times the transposed weights. -/
def dn (d : FVec Ideal S8448x512 .f32) (w : FVec Ideal S1024x512 .f32) (r : Fin 8448) (j : Fin 1024) : EReal :=
  ∑ k : Fin 512, d (ix2 r k) * w (ix2 j k)

/-- The mean square of a row and the constant. -/
def var (h : FVec Ideal S8448x1024 .f32) (r : Fin 8448) : EReal :=
  Ideal.div (∑ x : Fin 1024, h (ix2 r x) * h (ix2 r x)) (Ideal.ofBits .f32 0x44800000#32) + Ideal.ofBits .f32 0x358637BD#32

/-- The gradient of the rows. -/
def ref1 (h : FVec Ideal S8448x1024 .f32) (g : FVec Ideal S1024 .f32) (w : FVec Ideal S1024x512 .f32) (ct : FVec Ideal S8448x1024 .f32) (d : FVec Ideal S8448x512 .f32) : FVec Ideal S8448x1024 .f32 :=
  fun j => dh (fun x => h (ix2 (j 0) x)) (fun x => dn d w (j 0) x * g (ix1 x)) (Ideal.rsqrt (var h (j 0))) (var h (j 0)) (ct j) (j 1)

/-- The gradient of the weight vector. -/
def ref2 (h : FVec Ideal S8448x1024 .f32) (w : FVec Ideal S1024x512 .f32) (d : FVec Ideal S8448x512 .f32) : FVec Ideal S1x1024 .f32 :=
  fun j => ∑ r : Fin 8448, h (ix2 r (j 1)) * Ideal.rsqrt (var h r) * dn d w r (j 1)

/-- The second result's term, as the reference's run states it. -/
theorem res1_term (h : FVec Ideal S8448x1024 .f32) (g : FVec Ideal S1024 .f32) (w : FVec Ideal S1024x512 .f32) (ct : FVec Ideal S8448x1024 .f32) (d : FVec Ideal S8448x512 .f32) :
    addf (addf (addf ct (mulf (mulf (Host.dotGeneral dot_S8448x512_S1024x512_S8448x1024_1_1_0_0_n_n none d w) (broadcastInDim S8448x1024 ![0, 1] bcast_S1x1024_S8448x1024_0_1 (broadcastInDim S1x1024 ![1] bcast_S1024_S1x1024_1 g))) (broadcastInDim S8448x1024 ![0, 1] bcast_S8448x1_S8448x1024_0_1 (Host.rsqrt (addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32))))))) (mulf h (broadcastInDim S8448x1024 ![0] bcast_S8448_S8448x1024_0 (Host.reduceAdd (Host.divf (mulf (shapeCast S8448x1 (Host.reduceAdd (mulf h (mulf (Host.dotGeneral dot_S8448x512_S1024x512_S8448x1024_1_1_0_0_n_n none d w) (broadcastInDim S8448x1024 ![0, 1] bcast_S1x1024_S8448x1024_0_1 (broadcastInDim S1x1024 ![1] bcast_S1024_S1x1024_1 g)))) (constant S_ .f32 0x00000000#32) reducesTo_S8448x1024_S8448_d1 h_S_) shapeCasts_S8448_S8448x1) (mulf (broadcastInDim S8448x1 ![] bcast_S_S8448x1 (constant S_ .f32 0xBF000000#32)) (Host.divf (Host.rsqrt (addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))) (addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1 ![] bcast_S_S8448x1 (constant S_ .f32 0x44800000#32))) (constant S_ .f32 0x00000000#32) reducesTo_S8448x1_S8448_d1 h_S_)))) (mulf (broadcastInDim S8448x1024 ![0] bcast_S8448_S8448x1024_0 (Host.reduceAdd (Host.divf (mulf (shapeCast S8448x1 (Host.reduceAdd (mulf h (mulf (Host.dotGeneral dot_S8448x512_S1024x512_S8448x1024_1_1_0_0_n_n none d w) (broadcastInDim S8448x1024 ![0, 1] bcast_S1x1024_S8448x1024_0_1 (broadcastInDim S1x1024 ![1] bcast_S1024_S1x1024_1 g)))) (constant S_ .f32 0x00000000#32) reducesTo_S8448x1024_S8448_d1 h_S_) shapeCasts_S8448_S8448x1) (mulf (broadcastInDim S8448x1 ![] bcast_S_S8448x1 (constant S_ .f32 0xBF000000#32)) (Host.divf (Host.rsqrt (addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))) (addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (broadcastInDim S8448x1 ![] bcast_S_S8448x1 (constant S_ .f32 0x44800000#32))) (constant S_ .f32 0x00000000#32) reducesTo_S8448x1_S8448_d1 h_S_)) h) = ref1 h g w ct d := by
  funext j
  pointwise [ref1, dn, var, dh]
  simp only [Finset.univ_unique, Finset.sum_singleton]

/-- The third result's term, as the reference's run states it. -/
theorem res2_term (h : FVec Ideal S8448x1024 .f32) (w : FVec Ideal S1024x512 .f32) (d : FVec Ideal S8448x512 .f32) :
    broadcastInDim S1x1024 ![1] bcast_S1024_S1x1024_1 (Host.reduceAdd (shapeCast S1x1024 (Host.reduceAdd (mulf (mulf h (broadcastInDim S8448x1024 ![0, 1] bcast_S8448x1_S8448x1024_0_1 (Host.rsqrt (addf (Host.divf (broadcastInDim S8448x1 ![0] bcast_S8448_S8448x1_0 (Host.reduceAdd (mulf h h) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (Host.dotGeneral dot_S8448x512_S1024x512_S8448x1024_1_1_0_0_n_n none d w)) (constant S_ .f32 0x00000000#32) reducesTo_S8448x1024_S1024_d0 h_S_) shapeCasts_S1024_S1x1024) (constant S_ .f32 0x00000000#32) reducesTo_S1x1024_S1024_d0 h_S_)
      = ref2 h w d := by
  funext j
  pointwise [ref2, dn, var]
  simp only [Finset.univ_unique, Finset.sum_singleton]

variable (m : (ℓ : Loc nD τ sig) → Buf (Elt Ideal) ℓ)

theorem res1_eq (c : Dev nD) : (res_out1 m c : FVec Ideal S8448x1024 .f32)
    = ref1 (m ((c : Thread nD τ).loc main_arg0)) (m ((c : Thread nD τ).loc main_arg1)) (m ((c : Thread nD τ).loc main_arg2)) (m ((c : Thread nD τ).loc main_arg6))
      (duArr (m ((c : Thread nD τ).loc main_arg3)) (m ((c : Thread nD τ).loc main_arg4)) (m ((c : Thread nD τ).loc main_arg5)) (m ((c : Thread nD τ).loc main_arg7)) (m ((c : Thread nD τ).loc main_arg8))) :=
  res1_term _ _ _ _ _

end Cert.InletRefIdeal.Value

namespace Cert.InletIdeal.Value

open Cert.InletIdeal Cert.InletIdeal.Gen
open Cert.InletRefIdeal.Value (dn var ref1 ref2 duArr part duArr_apply)

/-- The identity matrix, as the program builds it. -/
def eye : FVec Ideal S8x8 .f32 :=
  uitofp .f32 (cmpi .eq (addi (iotaInDim S8x8 32 0) (broadcastInDim S8x8 ![] bcast_S_S8x8 (constantI S_ 32 0#32))) (iotaInDim S8x8 32 1))

theorem eye_apply (a b : Fin 8) : eye (ix2 a b) = if b = a then 1 else 0 := by
  have h : ∀ a b : Fin 8, IntOp.cmpi .eq (IntOp.addi (BitVec.ofNat 32 a.val) 0#32) (BitVec.ofNat 32 b.val) = if b = a then 1#1 else 0#1 := by decide
  pointwise [eye]
  rw [h]
  split <;> simp [FloatOps.uitofp]

/-- The block-diagonal matrices of one of the two factors, as the program builds them. -/
def half (E : FVec Ideal S8x8 .f32) (b : FVec Ideal S32x64x16 .f32) : FVec Ideal S4x128x512 .f32 :=
  shapeCast S4x128x512 (mulf (broadcastInDim S4x8x16x8x64 ![0, 1, 2, 3, 4] bcast_S4x8x16x1x64_S4x8x16x8x64_0_1_2_3_4 (broadcastInDim S4x8x16x1x64 ![0, 1, 2, 4] bcast_S4x8x16x64_S4x8x16x1x64_0_1_2_4 (transpose S4x8x16x64 [0, 1, 3, 2] (shapeCast S4x8x64x16 b shapeCasts_S32x64x16_S4x8x64x16) transposes_S4x8x64x16_S4x8x16x64_0_1_3_2)))
    (broadcastInDim S4x8x16x8x64 ![0, 1, 2, 3, 4] bcast_S1x8x1x8x1_S4x8x16x8x64_0_1_2_3_4 (broadcastInDim S1x8x1x8x1 ![1, 3] bcast_S8x8_S1x8x1x8x1_1_3 E))) shapeCasts_S4x8x16x8x64_S4x128x512

theorem half_apply (E : FVec Ideal S8x8 .f32) (b : FVec Ideal S32x64x16 .f32) (s : Fin 4) (a : Fin 8) (e : Fin 16) (x : Fin 8) (p : Fin 64) :
    half E b (ix3 s ⟨a.val * 16 + e.val, by omega⟩ ⟨x.val * 64 + p.val, by omega⟩) = b (ix3 ⟨s.val * 8 + a.val, by omega⟩ p e) * E (ix2 a x) := by
  pointwise [half]

/-- The two factors' matrices side by side. -/
def both (br bi : FVec Ideal S32x64x16 .f32) : FVec Ideal S4x128x1024 .f32 :=
  concatenate S4x128x1024 2 [⟨S4x128x512, half eye br⟩, ⟨S4x128x512, half eye bi⟩] concatenates_S4x128x512_S4x128x512_S4x128x1024_d2

theorem both_left (br bi : FVec Ideal S32x64x16 .f32) (s : Fin 4) (q : Fin 128) (l : Fin 512) :
    both br bi (ix3 s q ⟨l.val, by omega⟩) = half eye br (ix3 s q l) := by
  pointwise [both]

theorem both_right (br bi : FVec Ideal S32x64x16 .f32) (s : Fin 4) (q : Fin 128) (l : Fin 512) :
    both br bi (ix3 s q ⟨512 + l.val, by omega⟩) = half eye bi (ix3 s q l) := by
  pointwise [both]

/-- A sum of products with the identity's row: only the term on the diagonal is left. -/
theorem sum_diag (G : Fin 8 → Fin 64 → EReal) (B : Fin 64 → EReal) (a : Fin 8) :
    ∑ x : Fin 8, ∑ p : Fin 64, G x p * (B p * eye (ix2 a x)) = ∑ p : Fin 64, G a p * B p := by
  rw [Finset.sum_eq_single a]
  · simp only [eye_apply, if_true, mul_one]
  · intro x _ hx
    simp only [eye_apply, if_neg hx, mul_zero, Finset.sum_const_zero]
  · intro h; exact absurd (Finset.mem_univ a) h

/-- A sum over the 512 columns of one factor, group by group. -/
theorem sum_groups (G : Fin 512 → EReal) (b : FVec Ideal S32x64x16 .f32) (s : Fin 4) (a : Fin 8) (e : Fin 16) :
    ∑ l : Fin 512, G l * half eye b (ix3 s ⟨a.val * 16 + e.val, by omega⟩ l)
      = ∑ p : Fin 64, G ⟨a.val * 64 + p.val, by omega⟩ * b (ix3 ⟨s.val * 8 + a.val, by omega⟩ p e) := by
  rw [← sum_diag (fun x p => G ⟨x.val * 64 + p.val, by omega⟩) (fun p => b (ix3 ⟨s.val * 8 + a.val, by omega⟩ p e)) a]
  exact (Fin.sum_mul_add_congr fun x p hl => by rw [half_apply]).symm

/-- A sum over the 1024 columns: the two factors' sums. -/
theorem sum_both (G : Fin 1024 → EReal) (br bi : FVec Ideal S32x64x16 .f32) (s : Fin 4) (q : Fin 128) :
    ∑ x : Fin 1024, G x * both br bi (ix3 s q x)
      = ∑ l : Fin 512, G ⟨l.val, by omega⟩ * half eye br (ix3 s q l) + ∑ l : Fin 512, G ⟨512 + l.val, by omega⟩ * half eye bi (ix3 s q l) := by
  rw [← Fin.sum_mul_add_congr (S := 2) (n := 512) (F := fun u l => G ⟨u.val * 512 + l.val, by omega⟩ * both br bi (ix3 s q ⟨u.val * 512 + l.val, by omega⟩)) fun u l hl => rfl, Fin.sum_univ_two]
  simp only [← both_left br bi, ← both_right br bi]
  simp only [Fin.val_zero, Fin.val_one, Nat.zero_mul, Nat.zero_add, Nat.one_mul]

/-- The 1024 products with the block-diagonal matrices come down to the two factors' 64 each. -/
theorem sum_part (gb : FVec Ideal S8448x4096 .f32) (br bi : FVec Ideal S32x64x16 .f32) (r : Fin 8448) (s : Fin 4) (a : Fin 8) (e : Fin 16) :
    ∑ x : Fin 1024, gb (ix2 r ⟨s.val * 1024 + x.val, by omega⟩) * both br bi (ix3 s ⟨a.val * 16 + e.val, by omega⟩ x)
      = part br gb 0 (by omega) r s a e + part bi gb 512 (by omega) r s a e := by
  rw [sum_both (fun x => gb (ix2 r ⟨s.val * 1024 + x.val, by omega⟩))]
  refine congrArg₂ (· + ·) ?_ ?_
  · rw [sum_groups (fun l => gb (ix2 r ⟨s.val * 1024 + l.val, by omega⟩))]
    refine Fin.sum_fin_congr fun p => congrArg (· * _) (congrArg gb (congrArg (ix2 r) (Fin.ext ?_)))
    show s.val * 1024 + (a.val * 64 + p.val) = s.val * 1024 + 0 + a.val * 64 + p.val; omega
  · rw [sum_groups (fun l => gb (ix2 r ⟨s.val * 1024 + (512 + l.val), by omega⟩))]
    refine Fin.sum_fin_congr fun p => congrArg (· * _) (congrArg gb (congrArg (ix2 r) (Fin.ext ?_)))
    show s.val * 1024 + (512 + (a.val * 64 + p.val)) = s.val * 1024 + 512 + a.val * 64 + p.val; omega

/-- A row block's rows of the gradient of the mixer's input. -/
def rows (x0 : FVec Ideal S256x4096 .bf16) (x3 : FVec Ideal S4x128x1024 .bf16) (x1 : FVec Ideal S256x512 .f32) (x2 : FVec Ideal S1x512 .f32) : FVec Ideal S256x512 .f32 :=
  k0_pay2 (View.ld x0 (Rect.unit (s := S256x4096) ![0, 0] S256x1024.size inb_S256x4096_S256x1024_0_0))
    (View.ld x3 (Rect.unit (s := S4x128x1024) ![0, 0, 0] S1x128x1024.size inb_S4x128x1024_S1x128x1024_0_0_0))
    (View.ld x0 (Rect.unit (s := S256x4096) ![0, 1024] S256x1024.size inb_S256x4096_S256x1024_0_1024))
    (View.ld x3 (Rect.unit (s := S4x128x1024) ![1, 0, 0] S1x128x1024.size inb_S4x128x1024_S1x128x1024_1_0_0))
    (View.ld x0 (Rect.unit (s := S256x4096) ![0, 2048] S256x1024.size inb_S256x4096_S256x1024_0_2048))
    (View.ld x3 (Rect.unit (s := S4x128x1024) ![2, 0, 0] S1x128x1024.size inb_S4x128x1024_S1x128x1024_2_0_0))
    (View.ld x0 (Rect.unit (s := S256x4096) ![0, 3072] S256x1024.size inb_S256x4096_S256x1024_0_3072))
    (View.ld x3 (Rect.unit (s := S4x128x1024) ![3, 0, 0] S1x128x1024.size inb_S4x128x1024_S1x128x1024_3_0_0)) x1 x2

theorem rows_apply (x0 : FVec Ideal S256x4096 .bf16) (x3 : FVec Ideal S4x128x1024 .bf16) (x1 : FVec Ideal S256x512 .f32) (x2 : FVec Ideal S1x512 .f32)
    (r : Fin 256) (k : Fin 512) (s : Fin 4) (q : Fin 128) (hk : k.val = s.val * 128 + q.val) :
    rows x0 x3 x1 x2 (ix2 r k)
      = (∑ x : Fin 1024, (x0 (ix2 r ⟨s.val * 1024 + x.val, by omega⟩) * x3 (ix3 s q x) : EReal)) + x1 (ix2 r k) * x2 (ix2 0 k) := by
  have hb : s.val * 128 + q.val < 512 := by omega
  obtain rfl : k = ⟨s.val * 128 + q.val, hb⟩ := Fin.ext hk
  pointwise [rows, k0_pay2]
  refine congrArg (· + _) ?_
  by_cases h1 : s.val * 128 + q.val < 128
  · rw [dif_pos h1]
    refine Fin.sum_fin_congr fun x => congrArg₂ (· * ·) (congrArg x0 (congrArg (ix2 r) (Fin.ext ?_))) (congrArg x3 (congrArg₂ (fun u v => ix3 u v x) (Fin.ext ?_) (Fin.ext ?_)))
    · show x.val = s.val * 1024 + x.val; omega
    · show 0 = s.val; omega
    · show s.val * 128 + q.val = q.val; omega
  rw [dif_neg h1]
  by_cases h2 : s.val * 128 + q.val - 128 < 128
  · rw [dif_pos h2]
    refine Fin.sum_fin_congr fun x => congrArg₂ (· * ·) (congrArg x0 (congrArg (ix2 r) (Fin.ext ?_))) (congrArg x3 (congrArg₂ (fun u v => ix3 u v x) (Fin.ext ?_) (Fin.ext ?_)))
    · show 1024 + x.val = s.val * 1024 + x.val; omega
    · show 1 = s.val; omega
    · show s.val * 128 + q.val - 128 = q.val; omega
  rw [dif_neg h2]
  by_cases h3 : s.val * 128 + q.val - 128 - 128 < 128
  · rw [dif_pos h3]
    refine Fin.sum_fin_congr fun x => congrArg₂ (· * ·) (congrArg x0 (congrArg (ix2 r) (Fin.ext ?_))) (congrArg x3 (congrArg₂ (fun u v => ix3 u v x) (Fin.ext ?_) (Fin.ext ?_)))
    · show 2048 + x.val = s.val * 1024 + x.val; omega
    · show 2 = s.val; omega
    · show s.val * 128 + q.val - 128 - 128 = q.val; omega
  rw [dif_neg h3]
  refine Fin.sum_fin_congr fun x => congrArg₂ (· * ·) (congrArg x0 (congrArg (ix2 r) (Fin.ext ?_))) (congrArg x3 (congrArg₂ (fun u v => ix3 u v x) (Fin.ext ?_) (Fin.ext ?_)))
  · show 3072 + x.val = s.val * 1024 + x.val; omega
  · show 3 = s.val; omega
  · show s.val * 128 + q.val - 128 - 128 - 128 = q.val; omega

/-- What a row block stores of the rows' gradient, from its rows `D` of the gradient of the normalised rows. -/
theorem pay8_apply (d : FVec Ideal S256x512 .f32) (x5 : FVec Ideal S256x1024 .f32) (x6 : FVec Ideal S1x1024 .f32) (x4 : FVec Ideal S1024x512 .bf16) (x7 : FVec Ideal S256x1024 .f32) (j) :
    k0_pay8 d x5 x6 x4 x7 j
      = dh (fun x => x5 (ix2 (j 0) x)) (fun x => (∑ k : Fin 512, d (ix2 (j 0) k) * x4 (ix2 x k)) * x6 (ix2 0 x))
        (Ideal.rsqrt (Ideal.div (∑ x : Fin 1024, x5 (ix2 (j 0) x) * x5 (ix2 (j 0) x)) (Ideal.ofBits .f32 0x44800000#32) + Ideal.ofBits .f32 0x358637BD#32))
        (Ideal.div (∑ x : Fin 1024, x5 (ix2 (j 0) x) * x5 (ix2 (j 0) x)) (Ideal.ofBits .f32 0x44800000#32) + Ideal.ofBits .f32 0x358637BD#32) (x7 j) (j 1) := by
  refine Eq.trans ?_ (dh_eq (fun x : Fin 1024 => x5 (ix2 (j 0) x)) (fun x => (∑ k : Fin 512, d (ix2 (j 0) k) * x4 (ix2 x k)) * x6 (ix2 0 x)) _ (x7 j) (j 1) (mean_square fun x : Fin 1024 => x5 (ix2 (j 0) x)))
  pointwise [k0_pay8, k0_pay6, k0_pay5, k0_pay4]

/-- What a row block adds to the weight vector's gradient. -/
theorem pay7_apply (d : FVec Ideal S256x512 .f32) (x5 : FVec Ideal S256x1024 .f32) (x4 : FVec Ideal S1024x512 .bf16) (acc : FVec Ideal S1x1024 .f32) (j) :
    k0_pay1 (k0_pay7 d x5 x4) acc j
      = acc j + ∑ r : Fin 256, (∑ k : Fin 512, d (ix2 r k) * x4 (ix2 (j 1) k)) * (x5 (ix2 r (j 1)) *
        Ideal.rsqrt (Ideal.div (∑ x : Fin 1024, x5 (ix2 r x) * x5 (ix2 r x)) (Ideal.ofBits .f32 0x44800000#32) + Ideal.ofBits .f32 0x358637BD#32)) := by
  pointwise [k0_pay1, k0_pay7, k0_pay6, k0_pay5, k0_pay4]

theorem zero_apply (j) : k0_pay9 (F := Ideal) j = 0 := by pointwise [k0_pay9]

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0, 0] ∧ win0_4.index t = ![0, 0] ∧ win0_5.index t = ![t.val, 0] ∧ win0_6.index t = ![0, 0] ∧ win0_7.index t = ![t.val, 0] ∧ win0_8.index t = ![t.val, 0] ∧ win0_9.index t = ![t.val, 0] ∧ win0_10.index t = ![0, 0] := by
  decide +kernel

theorem V_gb (c : Dev nD) : V m c main_v23 = (truncf (F := Ideal) .bf16 (m ((c : Thread nD τ).loc main_arg8) : FVec Ideal S8448x4096 .f32) bitsLt_bf16_f32 : FVec Ideal S8448x4096 .bf16) := by
  entry_read
  rfl

theorem V_w (c : Dev nD) : V m c main_v26 = (truncf (F := Ideal) .bf16 (m ((c : Thread nD τ).loc main_arg2) : FVec Ideal S1024x512 .f32) bitsLt_bf16_f32 : FVec Ideal S1024x512 .bf16) := by
  entry_read
  rfl

theorem V_ds (c : Dev nD) (j : Fin 512) :
    ((V m c main_v24 : FVec Ideal S1x512 .f32) (ix2 0 j) : EReal) = (m ((c : Thread nD τ).loc main_arg3) : FVec Ideal S512 .f32) (ix1 j) := by
  entry_read
  pointwise

theorem V_g (c : Dev nD) (j : Fin 1024) :
    ((V m c main_v27 : FVec Ideal S1x1024 .f32) (ix2 0 j) : EReal) = (m ((c : Thread nD τ).loc main_arg1) : FVec Ideal S1024 .f32) (ix1 j) := by
  entry_read
  pointwise

/-- The third operand: the two factors' block-diagonal matrices side by side. -/
theorem V_b (c : Dev nD) : V m c main_v25 = (truncf (F := Ideal) .bf16 (both (m ((c : Thread nD τ).loc main_arg4)) (m ((c : Thread nD τ).loc main_arg5))) bitsLt_bf16_f32 : FVec Ideal S4x128x1024 .bf16) := by
  entry_read
  rfl

/-- The row of the whole array that a point's row is. -/
def row (t : Fin cfg0.N) (r : Fin 256) : Fin 8448 := ⟨t.val * 256 + r.val, by have h1 : t.val < 33 := lt_of_lt_of_eq t.isLt N_0; omega⟩

theorem row_val (t : Fin cfg0.N) (r : Fin 256) : (row t r).val = t.val * 256 + r.val := rfl

/-- The gradient of the mixer's input, from the kernel's arguments. -/
def du (c : Dev nD) : FVec Ideal S8448x512 .f32 :=
  duArr (m ((c : Thread nD τ).loc main_arg3)) (m ((c : Thread nD τ).loc main_arg4)) (m ((c : Thread nD τ).loc main_arg5)) (m ((c : Thread nD τ).loc main_arg7)) (m ((c : Thread nD τ).loc main_arg8))

theorem blk_gb (c : Dev nD) (t : Fin cfg0.N) (r : Fin 256) (k : Fin 4096) :
    ((iblk m c 0 t : FVec Ideal S256x4096 .bf16) (ix2 r k) : EReal) = (m ((c : Thread nD τ).loc main_arg8) : FVec Ideal S8448x4096 .f32) (ix2 (row t r) k) := by
  blk_point [iblk, V_gb, idx t, row]

theorem blk_b (c : Dev nD) (t : Fin cfg0.N) (s : Fin 4) (q : Fin 128) (x : Fin 1024) :
    ((iblk m c 3 t : FVec Ideal S4x128x1024 .bf16) (ix3 s q x) : EReal) = both (m ((c : Thread nD τ).loc main_arg4)) (m ((c : Thread nD τ).loc main_arg5)) (ix3 s q x) := by
  refine Eq.trans (b := ((V m c main_v25 : FVec Ideal S4x128x1024 .bf16) (ix3 s q x) : EReal)) ?_ ?_
  · blk_point [iblk, idx t]
  · rw [V_b]
    generalize both (m ((c : Thread nD τ).loc main_arg4)) (m ((c : Thread nD τ).loc main_arg5)) = B
    rfl

/-- A point's rows are its rows of the gradient of the mixer's input. -/
theorem rows_at (c : Dev nD) (t : Fin cfg0.N) (r : Fin 256) (k : Fin 512) :
    rows (iblk m c 0 t) (iblk m c 3 t) (iblk m c 1 t) (iblk m c 2 t) (ix2 r k) = du m c (ix2 (row t r) k) := by
  obtain ⟨s, a, e, hk⟩ : ∃ (s : Fin 4) (a : Fin 8) (e : Fin 16), k.val = s.val * 128 + a.val * 16 + e.val :=
    ⟨⟨k.val / 128, by omega⟩, ⟨k.val / 16 % 8, by omega⟩, ⟨k.val % 16, by omega⟩, by show k.val = k.val / 128 * 128 + k.val / 16 % 8 * 16 + k.val % 16; omega⟩
  refine (rows_apply _ _ _ _ r k s ⟨a.val * 16 + e.val, by omega⟩ (by show k.val = s.val * 128 + (a.val * 16 + e.val); omega)).trans ?_
  refine Eq.trans ?_ (duArr_apply _ _ _ _ _ (row t r) k s a e hk).symm
  rw [add_comm]
  refine congrArg₂ (· + ·) ?_ ?_
  · rw [mul_comm]
    refine congrArg₂ (· * ·) ?_ ?_
    · blk_point [iblk, V_ds, idx t, row]
    · blk_point [iblk, V_main_arg7, idx t, row]
  · rw [add_comm (part _ _ 512 _ _ _ _ _), ← sum_part]
    exact Fin.sum_fin_congr fun x => congrArg₂ (fun u v : EReal => u * v) (blk_gb m c t r _) (blk_b m c t s _ x)

theorem rows_eq (c : Dev nD) (t : Fin cfg0.N) (j : S256x512.Idx) :
    rows (iblk m c 0 t) (iblk m c 3 t) (iblk m c 1 t) (iblk m c 2 t) j = du m c (ix2 (row t (j 0)) (j 1)) :=
  (congrArg _ (eq_ix2 j)).trans (rows_at m c t (j 0) (j 1))

/-- A point's product with the transposed weights is its rows of the gradient of the normalised rows. -/
theorem dn_eq (c : Dev nD) (t : Fin cfg0.N) (r : Fin 256) (x : Fin 1024) :
    ∑ k : Fin 512, (rows (iblk m c 0 t) (iblk m c 3 t) (iblk m c 1 t) (iblk m c 2 t) (ix2 r k) * (show FVec Ideal S1024x512 .bf16 from iblk m c 4 t) (ix2 x k) : EReal)
      = dn (du m c) (m ((c : Thread nD τ).loc main_arg2)) (row t r) x := by
  refine Fin.sum_fin_congr fun k => congrArg₂ (· * ·) (rows_at m c t r k) ?_
  blk_point [iblk, V_w, idx t]

theorem dh_congr {h h' T T' : Fin 1024 → EReal} {V V' ct ct' : EReal} {j j' : Fin 1024} (e1 : ∀ x, h x = h' x) (e2 : ∀ x, T x = T' x) (e3 : V = V') (e4 : ct = ct') (e5 : j = j') :
    dh h T (Ideal.rsqrt V) V ct j = dh h' T' (Ideal.rsqrt V') V' ct' j' := by
  obtain rfl : h = h' := funext e1
  obtain rfl : T = T' := funext e2
  subst e3 e4 e5; rfl

theorem var_eq (c : Dev nD) (t : Fin cfg0.N) (r : Fin 256) :
    Ideal.div (∑ x : Fin 1024, (show FVec Ideal S256x1024 .f32 from iblk m c 5 t) (ix2 r x) * (show FVec Ideal S256x1024 .f32 from iblk m c 5 t) (ix2 r x)) (Ideal.ofBits .f32 0x44800000#32) + Ideal.ofBits .f32 0x358637BD#32
      = var (m ((c : Thread nD τ).loc main_arg0)) (row t r) := by
  refine congrArg (fun s => Ideal.div s (Ideal.ofBits .f32 0x44800000#32) + Ideal.ofBits .f32 0x358637BD#32) (Fin.sum_fin_congr fun x => ?_)
  blk_point [iblk, V_main_arg0, idx t, row]

theorem final0 (c : Dev nD) :
    (dats m 0 c).arrAt 8 (cfgs 0).N = (truncf (F := Ideal) .bf16 (du m c) bitsLt_bf16_f32 : FVec Ideal S8448x512 .bf16) := by
  refine (dats m 0 c).arrAt_eq_of_covers 8 _ (by decide +kernel) fun t hf y => ?_
  blk_simp
  rw [after0_8]
  by_cases hA : t.val % 33 = 0
  on_goal 1 => rw [outsAt0_A m c t hA]
  on_goal 2 => rw [outsAt0_B m c t hA]
  all_goals
    frame_out
    refine (rows_eq m c t y).trans ?_
    have e0 : (((View.whole main_v28_0).slice (win0_8.rect t)).emb y 0) = row t (y 0) := Fin.ext (by refine Eq.trans ?_ (row_val t (y 0)).symm; blk_simp [idx t])
    have e1 : (((View.whole main_v28_0).slice (win0_8.rect t)).emb y 1) = (y 1) := Fin.ext (by blk_simp [idx t])
    refine congrArg (du m c) ?_
    rw [← e0, ← e1]
    exact (eq_ix2 _).symm

theorem final1 (c : Dev nD) :
    (dats m 0 c).arrAt 9 (cfgs 0).N = ref1 (m ((c : Thread nD τ).loc main_arg0)) (m ((c : Thread nD τ).loc main_arg1)) (m ((c : Thread nD τ).loc main_arg2)) (m ((c : Thread nD τ).loc main_arg6)) (du m c) := by
  refine (dats m 0 c).arrAt_eq_of_covers 9 _ (by decide +kernel) fun t hf y => ?_
  blk_simp
  rw [after0_9]
  by_cases hA : t.val % 33 = 0
  on_goal 1 => rw [outsAt0_A m c t hA]
  on_goal 2 => rw [outsAt0_B m c t hA]
  all_goals
    frame_out
    refine (pay8_apply _ _ _ _ _ y).trans ?_
    have e0 : (((View.whole main_v28_1).slice (win0_9.rect t)).emb y 0) = row t (y 0) := Fin.ext (by refine Eq.trans ?_ (row_val t (y 0)).symm; blk_simp [idx t])
    have e1 : (((View.whole main_v28_1).slice (win0_9.rect t)).emb y 1) = (y 1) := Fin.ext (by blk_simp [idx t])
    refine dh_congr (fun x => ?_) (fun x => congrArg₂ (· * ·) ((dn_eq m c t _ x).trans ?_) ?_) ((var_eq m c t (y 0)).trans ?_) ?_ ?_
    · blk_point [iblk, V_main_arg0, idx t]
    · exact congrArg₂ (dn _ _) e0.symm rfl
    · blk_point [iblk, V_g, idx t]
    · exact congrArg (var _) e0.symm
    · blk_point [iblk, V_main_arg6, idx t]
    · exact e1.symm

/-- What a row block adds to the weight vector's gradient, from the whole arrays. -/
def share (h : FVec Ideal S8448x1024 .f32) (w : FVec Ideal S1024x512 .f32) (d : FVec Ideal S8448x512 .f32) (t : Fin cfg0.N) (j : Fin 1024) : EReal :=
  ∑ r : Fin 256, dn d w (row t r) j * (h (ix2 (row t r) j) * Ideal.rsqrt (var h (row t r)))

theorem share_eq (c : Dev nD) (t : Fin cfg0.N) (acc : FVec Ideal S1x1024 .f32) (j) :
    k0_pay1 (k0_pay7 (rows (iblk m c 0 t) (iblk m c 3 t) (iblk m c 1 t) (iblk m c 2 t)) (iblk m c 5 t) (iblk m c 4 t)) acc j
      = acc j + share (m ((c : Thread nD τ).loc main_arg0)) (m ((c : Thread nD τ).loc main_arg2)) (du m c) t (j 1) := by
  refine (pay7_apply _ _ _ _ _).trans (congrArg (acc j + ·) (Fin.sum_fin_congr fun r => congrArg₂ (· * ·) (dn_eq m c t r _) (congrArg₂ (· * ·) ?_ (congrArg Ideal.rsqrt (var_eq m c t r)))))
  blk_point [iblk, V_main_arg0, idx t, row]

theorem final2 (c : Dev nD) :
    (dats m 0 c).arrAt 10 (cfgs 0).N = ref2 (m ((c : Thread nD τ).loc main_arg0)) (m ((c : Thread nD τ).loc main_arg2)) (du m c) := by
  refine (dats m 0 c).arrAt_eq_of_covers 10 _ (by decide +kernel) fun t hf y => ?_
  blk_simp
  rw [after0_10]
  rw [Pipeline.eq_sum_fin_of_reset_step_apply_of_flush (fun n h => (outsAt0 m c n h).2.2) 33 (fun _ => 0)
    (fun t j => share (m ((c : Thread nD τ).loc main_arg0)) (m ((c : Thread nD τ).loc main_arg2)) (du m c) t (j 1))
    (fun t h j => by
      rw [outsAt0_A m c t h]; frame_out
      refine (share_eq m c t _ _).trans ?_
      rw [zero_apply])
    (fun t h j => by
      rw [outsAt0_B m c t h]; frame_out
      exact share_eq m c t _ _)
    t ((flush0_10 t).mp hf) _, zero_add]
  have ht : t.val < 33 := t.isLt
  have e : ((win0_10.blk t).view.emb y 1) = y 1 := Fin.ext (by blk_simp [idx t])
  refine Fin.sum_mul_add_congr fun s k hl => ?_
  have hr : row ⟨33 * (t.val / 33) + s.val, Pipeline.run_point_lt_of_flush t ((flush0_10 t).mp hf) s⟩ k = ⟨s.val * 256 + k.val, hl⟩ :=
    Fin.ext (by rw [row_val]; show (33 * (t.val / 33) + s.val) * 256 + k.val = s.val * 256 + k.val; rw [Nat.div_eq_of_lt ht]; omega)
  rw [hr, e, mul_comm]

end Cert.InletIdeal.Value

end
-- ==== Proof.PairsMore.lean ====
/- The value claims of the projections' gradients: each kernel's final array beside the reference's run. -/
module

public import proofs.«01_k».proof.Defs
public import proofs.«01_k».proof.Proof.Query
public import proofs.«01_k».proof.Proof.Entry
public import proofs.«01_k».proof.Proof.Merge
public import proofs.«01_k».proof.Proof.Heads
public import proofs.«01_k».proof.Proof.Inlet
public import Idealize.ShloMosaic.Lib.Claim

@[expose] public section

set_option maxRecDepth 16384

noncomputable section

namespace Cert.Proof

open Idealize.ShloMosaic Idealize.SL.Sem

theorem query : Cert.algebraic_QueryIdeal_QueryRefIdeal := by
  pair_intro
  · run_from Cert.QueryIdeal.Gen.run_main m g
  · run_from Cert.QueryRefIdeal.Value.run m' g'
    exact (Cert.QueryIdeal.Value.final m c).symm

theorem entry : Cert.algebraic_EntryIdeal_EntryRefIdeal := by
  pair_intro
  · run_from Cert.EntryIdeal.Gen.run_main m g
  · run_from Cert.EntryRefIdeal.Value.run m' g'
    exact (Cert.EntryIdeal.Value.final m c).symm

theorem merge : Cert.algebraic_MergeIdeal_MergeRefIdeal := by
  pair_intro
  · run_from Cert.MergeIdeal.Gen.run_main m g
  · run_from Cert.MergeRefIdeal.Value.run m' g'
    exact (Cert.MergeIdeal.Value.final m c).symm

theorem heads : Cert.algebraic_HeadsIdeal_HeadsRefIdeal := by
  pair_intro
  · run_from Cert.HeadsIdeal.Gen.run_main m g
  · run_from Cert.HeadsRefIdeal.Value.run m' g'
    exact (Cert.HeadsIdeal.Value.final m c).symm

set_option maxHeartbeats 3200000 in
theorem inlet : Cert.algebraic_InletIdeal_InletRefIdeal := by
  pair_intro
  · run_from Cert.InletIdeal.Gen.run_main m g
  · have agree := hagree
    clear hagree
    run_from Cert.InletRefIdeal.Value.run m' g'
    · obtain ⟨h0, h1, h2, h3, h4, h5, h6, h7, h8⟩ := agree c
      rw [h3, h4, h5, h7, h8]
      exact (Cert.InletIdeal.Value.final0 m c).symm
    · obtain ⟨h0, h1, h2, h3, h4, h5, h6, h7, h8⟩ := agree c
      refine (Cert.InletRefIdeal.Value.res1_eq m' c).trans ?_
      rw [h0, h1, h2, h3, h4, h5, h6, h7, h8]
      exact (Cert.InletIdeal.Value.final1 m c).symm
    · obtain ⟨h0, h1, h2, h3, h4, h5, h6, h7, h8⟩ := agree c
      refine (Cert.InletRefIdeal.Value.res2_term _ _ (Cert.InletRefIdeal.Value.duArr _ _ _ _ _)).trans ?_
      rw [h0, h2, h3, h4, h5, h7, h8]
      exact (Cert.InletIdeal.Value.final2 m c).symm

end Cert.Proof

end
-- ==== Proof.lean ====
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Lift
public import proofs.«01_k».proof.Proof.Gen.Lift.Skeleton
public import proofs.«01_k».proof.Proof.Gen.Lift.Launch
public import proofs.«01_k».proof.Proof.Gen.Lift.Points
public import proofs.«01_k».proof.Proof.Gen.Lift.Frame
public import proofs.«01_k».proof.Proof.Gen.LiftIdeal
public import proofs.«01_k».proof.Proof.Gen.LiftIdeal.Skeleton
public import proofs.«01_k».proof.Proof.Gen.LiftIdeal.Launch
public import proofs.«01_k».proof.Proof.Gen.LiftIdeal.Points
public import proofs.«01_k».proof.Proof.Gen.LiftIdeal.Frame
public import proofs.«01_k».proof.Proof.Gen.LiftRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.GateFirst
public import proofs.«01_k».proof.Proof.Gen.GateFirst.Skeleton
public import proofs.«01_k».proof.Proof.Gen.GateFirst.Launch
public import proofs.«01_k».proof.Proof.Gen.GateFirst.Points
public import proofs.«01_k».proof.Proof.Gen.GateFirst.Frame
public import proofs.«01_k».proof.Proof.Gen.GateFirstIdeal
public import proofs.«01_k».proof.Proof.Gen.GateFirstIdeal.Skeleton
public import proofs.«01_k».proof.Proof.Gen.GateFirstIdeal.Launch
public import proofs.«01_k».proof.Proof.Gen.GateFirstIdeal.Points
public import proofs.«01_k».proof.Proof.Gen.GateFirstIdeal.Frame
public import proofs.«01_k».proof.Proof.Gen.GateFirstRefIdeal
public import proofs.«01_k».proof.Proof.Gen.DownFirst
public import proofs.«01_k».proof.Proof.Gen.DownFirst.Skeleton
public import proofs.«01_k».proof.Proof.Gen.DownFirst.Launch
public import proofs.«01_k».proof.Proof.Gen.DownFirst.Points
public import proofs.«01_k».proof.Proof.Gen.DownFirst.Frame
public import proofs.«01_k».proof.Proof.Gen.DownFirstIdeal
public import proofs.«01_k».proof.Proof.Gen.DownFirstIdeal.Skeleton
public import proofs.«01_k».proof.Proof.Gen.DownFirstIdeal.Launch
public import proofs.«01_k».proof.Proof.Gen.DownFirstIdeal.Points
public import proofs.«01_k».proof.Proof.Gen.DownFirstIdeal.Frame
public import proofs.«01_k».proof.Proof.Gen.DownFirstRefIdeal
public import proofs.«01_k».proof.Proof.Gen.NormFirst
public import proofs.«01_k».proof.Proof.Gen.NormFirst.Skeleton
public import proofs.«01_k».proof.Proof.Gen.NormFirst.Launch
public import proofs.«01_k».proof.Proof.Gen.NormFirst.Points
public import proofs.«01_k».proof.Proof.Gen.NormFirst.Frame
public import proofs.«01_k».proof.Proof.Gen.NormFirstIdeal
public import proofs.«01_k».proof.Proof.Gen.NormFirstIdeal.Skeleton
public import proofs.«01_k».proof.Proof.Gen.NormFirstIdeal.Launch
public import proofs.«01_k».proof.Proof.Gen.NormFirstIdeal.Points
public import proofs.«01_k».proof.Proof.Gen.NormFirstIdeal.Frame
public import proofs.«01_k».proof.Proof.Gen.NormFirstRefIdeal
public import proofs.«01_k».proof.Proof.Gen.UpFirst
public import proofs.«01_k».proof.Proof.Gen.UpFirst.Skeleton
public import proofs.«01_k».proof.Proof.Gen.UpFirst.Launch
public import proofs.«01_k».proof.Proof.Gen.UpFirst.Points
public import proofs.«01_k».proof.Proof.Gen.UpFirst.Frame
public import proofs.«01_k».proof.Proof.Gen.UpFirstIdeal
public import proofs.«01_k».proof.Proof.Gen.UpFirstIdeal.Skeleton
public import proofs.«01_k».proof.Proof.Gen.UpFirstIdeal.Launch
public import proofs.«01_k».proof.Proof.Gen.UpFirstIdeal.Points
public import proofs.«01_k».proof.Proof.Gen.UpFirstIdeal.Frame
public import proofs.«01_k».proof.Proof.Gen.UpFirstRefIdeal
public import proofs.«01_k».proof.Proof.Gen.LiftFirst
public import proofs.«01_k».proof.Proof.Gen.LiftFirst.Skeleton
public import proofs.«01_k».proof.Proof.Gen.LiftFirst.Launch
public import proofs.«01_k».proof.Proof.Gen.LiftFirst.Points
public import proofs.«01_k».proof.Proof.Gen.LiftFirst.Frame
public import proofs.«01_k».proof.Proof.Gen.LiftFirstIdeal
public import proofs.«01_k».proof.Proof.Gen.LiftFirstIdeal.Skeleton
public import proofs.«01_k».proof.Proof.Gen.LiftFirstIdeal.Launch
public import proofs.«01_k».proof.Proof.Gen.LiftFirstIdeal.Points
public import proofs.«01_k».proof.Proof.Gen.LiftFirstIdeal.Frame
public import proofs.«01_k».proof.Proof.Gen.LiftFirstRefIdeal
public import proofs.«01_k».proof.Proof.Gen.MixFirst
public import proofs.«01_k».proof.Proof.Gen.MixFirst.Skeleton
public import proofs.«01_k».proof.Proof.Gen.MixFirst.Launch
public import proofs.«01_k».proof.Proof.Gen.MixFirst.Points
public import proofs.«01_k».proof.Proof.Gen.MixFirst.Frame
public import proofs.«01_k».proof.Proof.Gen.MixFirstIdeal
public import proofs.«01_k».proof.Proof.Gen.MixFirstIdeal.Skeleton
public import proofs.«01_k».proof.Proof.Gen.MixFirstIdeal.Launch
public import proofs.«01_k».proof.Proof.Gen.MixFirstIdeal.Points
public import proofs.«01_k».proof.Proof.Gen.MixFirstIdeal.Frame
public import proofs.«01_k».proof.Proof.Gen.MixFirstRefIdeal
public import proofs.«01_k».proof.Proof.Gen.Scan
public import proofs.«01_k».proof.Proof.Gen.Scan.Skeleton
public import proofs.«01_k».proof.Proof.Gen.Scan.Loops
public import proofs.«01_k».proof.Proof.Gen.Scan.Launch
public import proofs.«01_k».proof.Proof.Gen.Scan.Points
public import proofs.«01_k».proof.Proof.Gen.Scan.Frame
public import proofs.«01_k».proof.Proof.Gen.ScanIdeal
public import proofs.«01_k».proof.Proof.Gen.ScanIdeal.Skeleton
public import proofs.«01_k».proof.Proof.Gen.ScanIdeal.Loops
public import proofs.«01_k».proof.Proof.Gen.ScanIdeal.Launch
public import proofs.«01_k».proof.Proof.Gen.ScanIdeal.Points
public import proofs.«01_k».proof.Proof.Gen.ScanIdeal.Frame
public import proofs.«01_k».proof.Proof.Gen.ScanRefIdeal
public import proofs.«01_k».proof.Proof.Gen.Inlet
public import proofs.«01_k».proof.Proof.Gen.Inlet.Skeleton
public import proofs.«01_k».proof.Proof.Gen.Inlet.Launch
public import proofs.«01_k».proof.Proof.Gen.Inlet.Points
public import proofs.«01_k».proof.Proof.Gen.Inlet.Frame
public import proofs.«01_k».proof.Proof.Gen.InletIdeal
public import proofs.«01_k».proof.Proof.Gen.InletIdeal.Skeleton
public import proofs.«01_k».proof.Proof.Gen.InletIdeal.Launch
public import proofs.«01_k».proof.Proof.Gen.InletIdeal.Points
public import proofs.«01_k».proof.Proof.Gen.InletIdeal.Frame
public import proofs.«01_k».proof.Proof.Gen.InletIdeal.Value
public import proofs.«01_k».proof.Proof.Gen.InletRefIdeal
public import proofs.«01_k».proof.Proof.Gen.InletRefIdeal.Run
public import proofs.«01_k».proof.Proof.Gen.InletRefIdeal.Read
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryRefIdeal
public import proofs.«01_k».proof.Proof.Gen.QueryRefIdeal.Run
public import proofs.«01_k».proof.Proof.Gen.Entry
public import proofs.«01_k».proof.Proof.Gen.Entry.Skeleton
public import proofs.«01_k».proof.Proof.Gen.Entry.Launch
public import proofs.«01_k».proof.Proof.Gen.Entry.Points
public import proofs.«01_k».proof.Proof.Gen.Entry.Frame
public import proofs.«01_k».proof.Proof.Gen.EntryIdeal
public import proofs.«01_k».proof.Proof.Gen.EntryIdeal.Skeleton
public import proofs.«01_k».proof.Proof.Gen.EntryIdeal.Launch
public import proofs.«01_k».proof.Proof.Gen.EntryIdeal.Points
public import proofs.«01_k».proof.Proof.Gen.EntryIdeal.Frame
public import proofs.«01_k».proof.Proof.Gen.EntryRefIdeal
public import proofs.«01_k».proof.Proof.Gen.EntryRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.Heads
public import proofs.«01_k».proof.Proof.Gen.Heads.Skeleton
public import proofs.«01_k».proof.Proof.Gen.Heads.Launch
public import proofs.«01_k».proof.Proof.Gen.Heads.Points
public import proofs.«01_k».proof.Proof.Gen.Heads.Frame
public import proofs.«01_k».proof.Proof.Gen.HeadsIdeal
public import proofs.«01_k».proof.Proof.Gen.HeadsIdeal.Skeleton
public import proofs.«01_k».proof.Proof.Gen.HeadsIdeal.Launch
public import proofs.«01_k».proof.Proof.Gen.HeadsIdeal.Points
public import proofs.«01_k».proof.Proof.Gen.HeadsIdeal.Frame
public import proofs.«01_k».proof.Proof.Gen.HeadsRefIdeal
public import proofs.«01_k».proof.Proof.Gen.HeadsRefIdeal.Run
public import proofs.«01_k».proof.Proof.Gen.Pre_finite3
public import proofs.«01_k».proof.Proof.Gen.Pre_finite_gate
public import proofs.«01_k».proof.Proof.Gen.Pre_finite3_first
public import proofs.«01_k».proof.Proof.Gen.Pre_finite_gate_first
public import proofs.«01_k».proof.Proof.Gen.Pre_finite_scan
public import proofs.«01_k».proof.Proof.Gen.GateIdeal.Value
public import proofs.«01_k».proof.Proof.Gen.GateRefIdeal.Run
public import proofs.«01_k».proof.Proof.Gen.GateRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.NormIdeal.Value
public import proofs.«01_k».proof.Proof.Gen.NormRefIdeal.Run
public import proofs.«01_k».proof.Proof.Gen.NormRefIdeal.Read
public import proofs.«01_k».proof.Proof.Gen.UpIdeal.Value
public import proofs.«01_k».proof.Proof.Gen.UpRefIdeal.Run
public import proofs.«01_k».proof.Proof.Gen.UpRefIdeal.Read
public import proofs.«01_k».proof.Proof.Gen.LiftIdeal.Value
public import proofs.«01_k».proof.Proof.Gen.LiftRefIdeal.Run
public import proofs.«01_k».proof.Proof.Gen.LiftRefIdeal.Read
public import proofs.«01_k».proof.Proof.Gen.MixIdeal.Value
public import proofs.«01_k».proof.Proof.Gen.MixRefIdeal.Run
public import proofs.«01_k».proof.Proof.Gen.MixRefIdeal.Read
public import proofs.«01_k».proof.Proof.Gen.GateFirstIdeal.Value
public import proofs.«01_k».proof.Proof.Gen.GateFirstRefIdeal.Run
public import proofs.«01_k».proof.Proof.Gen.GateFirstRefIdeal.Read
public import proofs.«01_k».proof.Proof.Gen.DownFirstIdeal.Value
public import proofs.«01_k».proof.Proof.Gen.DownFirstRefIdeal.Run
public import proofs.«01_k».proof.Proof.Gen.DownFirstRefIdeal.Read
public import proofs.«01_k».proof.Proof.Gen.NormFirstIdeal.Value
public import proofs.«01_k».proof.Proof.Gen.NormFirstRefIdeal.Run
public import proofs.«01_k».proof.Proof.Gen.NormFirstRefIdeal.Read
public import proofs.«01_k».proof.Proof.Gen.UpFirstIdeal.Value
public import proofs.«01_k».proof.Proof.Gen.UpFirstRefIdeal.Run
public import proofs.«01_k».proof.Proof.Gen.UpFirstRefIdeal.Read
public import proofs.«01_k».proof.Proof.Gen.LiftFirstIdeal.Value
public import proofs.«01_k».proof.Proof.Gen.LiftFirstRefIdeal.Run
public import proofs.«01_k».proof.Proof.Gen.LiftFirstRefIdeal.Read
public import proofs.«01_k».proof.Proof.Gen.MixFirstIdeal.Value
public import proofs.«01_k».proof.Proof.Gen.MixFirstRefIdeal.Run
public import proofs.«01_k».proof.Proof.Gen.MixFirstRefIdeal.Read
public import proofs.«01_k».proof.Proof.Gen.ScanRefIdeal.Run
public import proofs.«01_k».proof.Proof.Pairs
public import proofs.«01_k».proof.Proof.PairsFirst
public import proofs.«01_k».proof.Proof.ScanPair
public import proofs.«01_k».proof.Proof.PairsMore
public import Idealize.ShloMosaic.Lib.Claim
public import Idealize.ShloMosaic.Lib.Quiescent
public import Idealize.ShloMosaic.Adequacy
public import Idealize.ShloMosaic.Init

@[expose] public section

noncomputable section

-- The frames also say that every semaphore counter ends at zero.

namespace Cert.Proof

open Idealize.ShloMosaic Idealize.SL.Sem Cert.Gate

theorem claim : Cert.Claim := ⟨Cert.Gate.Gen.facts, Cert.GateIdeal.Gen.facts, Cert.GateRefIdeal.Gen.facts, Cert.Down.Gen.facts, Cert.DownIdeal.Gen.facts, Cert.DownRefIdeal.Gen.facts, Cert.Norm.Gen.facts, Cert.NormIdeal.Gen.facts, Cert.NormRefIdeal.Gen.facts, Cert.Up.Gen.facts, Cert.UpIdeal.Gen.facts, Cert.UpRefIdeal.Gen.facts, Cert.Lift.Gen.facts, Cert.LiftIdeal.Gen.facts, Cert.LiftRefIdeal.Gen.facts, Cert.Mix.Gen.facts, Cert.MixIdeal.Gen.facts, Cert.MixRefIdeal.Gen.facts, Cert.GateFirst.Gen.facts, Cert.GateFirstIdeal.Gen.facts, Cert.GateFirstRefIdeal.Gen.facts, Cert.DownFirst.Gen.facts, Cert.DownFirstIdeal.Gen.facts, Cert.DownFirstRefIdeal.Gen.facts, Cert.NormFirst.Gen.facts, Cert.NormFirstIdeal.Gen.facts, Cert.NormFirstRefIdeal.Gen.facts, Cert.UpFirst.Gen.facts, Cert.UpFirstIdeal.Gen.facts, Cert.UpFirstRefIdeal.Gen.facts, Cert.LiftFirst.Gen.facts, Cert.LiftFirstIdeal.Gen.facts, Cert.LiftFirstRefIdeal.Gen.facts, Cert.MixFirst.Gen.facts, Cert.MixFirstIdeal.Gen.facts, Cert.MixFirstRefIdeal.Gen.facts, Cert.Scan.Gen.facts, Cert.ScanIdeal.Gen.facts, Cert.ScanRefIdeal.Gen.facts, Cert.Query.Gen.facts, Cert.QueryIdeal.Gen.facts, Cert.QueryRefIdeal.Gen.facts, Cert.Entry.Gen.facts, Cert.EntryIdeal.Gen.facts, Cert.EntryRefIdeal.Gen.facts, Cert.Merge.Gen.facts, Cert.MergeIdeal.Gen.facts, Cert.MergeRefIdeal.Gen.facts, Cert.Heads.Gen.facts, Cert.HeadsIdeal.Gen.facts, Cert.HeadsRefIdeal.Gen.facts, Cert.Inlet.Gen.facts, Cert.InletIdeal.Gen.facts, Cert.InletRefIdeal.Gen.facts, Cert.Pre_finite3.Gen.facts, Cert.Pre_finite_gate.Gen.facts, Cert.Pre_finite3_first.Gen.facts, Cert.Pre_finite_gate_first.Gen.facts, Cert.Pre_finite_scan.Gen.facts,
  fun m ρ _ => Cert.Gate.Gen.frame m ρ,
  fun m ρ _ => Cert.GateIdeal.Gen.frame m ρ,
  fun m ρ _ => Cert.GateIdeal.Gen.frame m ρ,
  (by intro m g _; run_from Cert.GateRefIdeal.Value.run m g <;> first | simp | exact sem_eq_zero_of_no_sems (by decide) _),
  (by intro m g _; run_from Cert.GateRefIdeal.Value.run m g <;> first | simp | exact sem_eq_zero_of_no_sems (by decide) _),
  fun m ρ _ => Cert.Down.Gen.frame m ρ,
  fun m ρ _ => Cert.DownIdeal.Gen.frame m ρ,
  (by intro m g _; run_from Cert.DownRefIdeal.Value.run m g <;> first | simp | exact sem_eq_zero_of_no_sems (by decide) _),
  fun m ρ _ => Cert.Norm.Gen.frame m ρ,
  fun m ρ _ => Cert.NormIdeal.Gen.frame m ρ,
  (by intro m g _; run_from Cert.NormRefIdeal.Value.run m g <;> first | simp | exact sem_eq_zero_of_no_sems (by decide) _),
  fun m ρ _ => Cert.Up.Gen.frame m ρ,
  fun m ρ _ => Cert.UpIdeal.Gen.frame m ρ,
  (by intro m g _; run_from Cert.UpRefIdeal.Value.run m g <;> first | simp | exact sem_eq_zero_of_no_sems (by decide) _),
  fun m ρ _ => Cert.Lift.Gen.frame m ρ,
  fun m ρ _ => Cert.LiftIdeal.Gen.frame m ρ,
  (by intro m g _; run_from Cert.LiftRefIdeal.Value.run m g <;> first | simp | exact sem_eq_zero_of_no_sems (by decide) _),
  fun m ρ _ => Cert.Mix.Gen.frame m ρ,
  fun m ρ _ => Cert.MixIdeal.Gen.frame m ρ,
  fun m ρ _ => Cert.MixIdeal.Gen.frame m ρ,
  (by intro m g _; run_from Cert.MixRefIdeal.Value.run m g <;> first | simp | exact sem_eq_zero_of_no_sems (by decide) _),
  (by intro m g _; run_from Cert.MixRefIdeal.Value.run m g <;> first | simp | exact sem_eq_zero_of_no_sems (by decide) _),
  fun m ρ _ => Cert.GateFirst.Gen.frame m ρ,
  fun m ρ _ => Cert.GateFirstIdeal.Gen.frame m ρ,
  fun m ρ _ => Cert.GateFirstIdeal.Gen.frame m ρ,
  (by intro m g _; run_from Cert.GateFirstRefIdeal.Value.run m g <;> first | simp | exact sem_eq_zero_of_no_sems (by decide) _),
  (by intro m g _; run_from Cert.GateFirstRefIdeal.Value.run m g <;> first | simp | exact sem_eq_zero_of_no_sems (by decide) _),
  fun m ρ _ => Cert.DownFirst.Gen.frame m ρ,
  fun m ρ _ => Cert.DownFirstIdeal.Gen.frame m ρ,
  (by intro m g _; run_from Cert.DownFirstRefIdeal.Value.run m g <;> first | simp | exact sem_eq_zero_of_no_sems (by decide) _),
  fun m ρ _ => Cert.NormFirst.Gen.frame m ρ,
  fun m ρ _ => Cert.NormFirstIdeal.Gen.frame m ρ,
  (by intro m g _; run_from Cert.NormFirstRefIdeal.Value.run m g <;> first | simp | exact sem_eq_zero_of_no_sems (by decide) _),
  fun m ρ _ => Cert.UpFirst.Gen.frame m ρ,
  fun m ρ _ => Cert.UpFirstIdeal.Gen.frame m ρ,
  (by intro m g _; run_from Cert.UpFirstRefIdeal.Value.run m g <;> first | simp | exact sem_eq_zero_of_no_sems (by decide) _),
  fun m ρ _ => Cert.LiftFirst.Gen.frame m ρ,
  fun m ρ _ => Cert.LiftFirstIdeal.Gen.frame m ρ,
  (by intro m g _; run_from Cert.LiftFirstRefIdeal.Value.run m g <;> first | simp | exact sem_eq_zero_of_no_sems (by decide) _),
  fun m ρ _ => Cert.MixFirst.Gen.frame m ρ,
  fun m ρ _ => Cert.MixFirstIdeal.Gen.frame m ρ,
  fun m ρ _ => Cert.MixFirstIdeal.Gen.frame m ρ,
  (by intro m g _; run_from Cert.MixFirstRefIdeal.Value.run m g <;> first | simp | exact sem_eq_zero_of_no_sems (by decide) _),
  (by intro m g _; run_from Cert.MixFirstRefIdeal.Value.run m g <;> first | simp | exact sem_eq_zero_of_no_sems (by decide) _),
  scanFrame,
  fun m ρ _ => Cert.ScanIdeal.Hand.frame m ρ,
  fun m ρ _ => Cert.ScanIdeal.Hand.frame m ρ,
  (by intro m g _; run_from Cert.ScanRefIdeal.Value.run m g <;> first | simp | exact sem_eq_zero_of_no_sems (by decide) _),
  (by intro m g _; run_from Cert.ScanRefIdeal.Value.run m g <;> first | simp | exact sem_eq_zero_of_no_sems (by decide) _),
  fun m ρ _ => Cert.Query.Gen.frame m ρ,
  fun m ρ _ => Cert.QueryIdeal.Gen.frame m ρ,
  (by intro m g _; run_from Cert.QueryRefIdeal.Value.run m g <;> first | simp | exact sem_eq_zero_of_no_sems (by decide) _),
  fun m ρ _ => Cert.Entry.Gen.frame m ρ,
  fun m ρ _ => Cert.EntryIdeal.Gen.frame m ρ,
  (by intro m g _; run_from Cert.EntryRefIdeal.Value.run m g <;> first | simp | exact sem_eq_zero_of_no_sems (by decide) _),
  fun m ρ _ => Cert.Merge.Gen.frame m ρ,
  fun m ρ _ => Cert.MergeIdeal.Gen.frame m ρ,
  (by intro m g _; run_from Cert.MergeRefIdeal.Value.run m g <;> first | simp | exact sem_eq_zero_of_no_sems (by decide) _),
  fun m ρ _ => Cert.Heads.Gen.frame m ρ,
  fun m ρ _ => Cert.HeadsIdeal.Gen.frame m ρ,
  (by intro m g _; run_from Cert.HeadsRefIdeal.Value.run m g <;> first | simp | exact sem_eq_zero_of_no_sems (by decide) _),
  fun m ρ _ => Cert.Inlet.Gen.frame m ρ,
  fun m ρ _ => Cert.InletIdeal.Gen.frame m ρ,
  (by intro m g _; run_from Cert.InletRefIdeal.Value.run m g <;> first | simp | exact sem_eq_zero_of_no_sems (by decide) _),
  trivial,
  gate,
  trivial,
  down,
  trivial,
  norm,
  trivial,
  up,
  trivial,
  lift,
  trivial,
  mix,
  trivial,
  gateFirst,
  trivial,
  downFirst,
  trivial,
  normFirst,
  trivial,
  upFirst,
  trivial,
  liftFirst,
  trivial,
  mixFirst,
  trivial,
  scan,
  trivial,
  query,
  trivial,
  entry,
  trivial,
  merge,
  trivial,
  heads,
  trivial,
  inlet⟩

end Cert.Proof

end
